-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S100000x3 : Shape := ⟨2, ![100000, 3]⟩
abbrev S3200000 : Shape := ⟨1, ![3200000]⟩
abbrev S100000 : Shape := ⟨1, ![100000]⟩
abbrev S_ : Shape := ⟨0, ![]⟩

class Facts : Prop where
  bcast_S_S3200000 : S_.BroadcastsInDim S3200000 (![] : Fin 0 → Fin S3200000.rank)
  reducesTo_S3200000_S_d0 : S3200000.ReducesTo [0] S_
  h_S_ : 0 < S_.numel
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S100000x3 .f32) (main_arg1 : FVec F S3200000 .f32) (main_arg2 : FVec F S100000x3 .f32) (main_arg3 : FVec F S3200000 .f32) (main_arg4 : IVec S3200000 32) (main_arg5 : IVec S100000 32) (main_arg6 : IVec S100000 32) (main_arg7 : IVec S3200000 32) (main_arg8 : IVec S3200000 32) : IVec S_ 1 :=
  let main_c : IVec S_ 32 := constantI S_ 32 0#32
  let main_v0 : IVec S3200000 32 := broadcastInDim S3200000 ![] bcast_S_S3200000 main_c
  let main_v1 : IVec S3200000 1 := cmpi .sge main_arg4 main_v0
  let main_c_0 : IVec S_ 1 := constantI S_ 1 1#1
  let main_v2 : IVec S_ 1 := (fun x v => Host.reduce IntOp.andi x v reducesTo_S3200000_S_d0 h_S_) main_v1 main_c_0
  let main_c_1 : IVec S_ 32 := constantI S_ 32 512#32
  let main_v3 : IVec S3200000 32 := broadcastInDim S3200000 ![] bcast_S_S3200000 main_c_1
  let main_v4 : IVec S3200000 1 := cmpi .slt main_arg4 main_v3
  let main_c_2 : IVec S_ 1 := constantI S_ 1 1#1
  let main_v5 : IVec S_ 1 := (fun x v => Host.reduce IntOp.andi x v reducesTo_S3200000_S_d0 h_S_) main_v4 main_c_2
  let main_v6 : IVec S_ 1 := andi main_v2 main_v5
  let main_c_3 : IVec S_ 32 := constantI S_ 32 0#32
  let main_v7 : IVec S100000 32 := broadcastInDim S100000 ![] bcast_S_S100000 main_c_3
  let main_v8 : IVec S100000 1 := cmpi .sge main_arg5 main_v7
  let main_c_4 : IVec S_ 1 := constantI S_ 1 1#1
  let main_v9 : IVec S_ 1 := (fun x v => Host.reduce IntOp.andi x v reducesTo_S100000_S_d0 h_S_) main_v8 main_c_4
  let main_v10 : IVec S_ 1 := andi main_v6 main_v9
  let main_c_5 : IVec S_ 32 := constantI S_ 32 512#32
  let main_v11 : IVec S100000 32 := broadcastInDim S100000 ![] bcast_S_S100000 main_c_5
  let main_v12 : IVec S100000 1 := cmpi .slt main_arg5 main_v11
  let main_c_6 : IVec S_ 1 := constantI S_ 1 1#1
  let main_v13 : IVec S_ 1 := (fun x v => Host.reduce IntOp.andi x v reducesTo_S100000_S_d0 h_S_) main_v12 main_c_6
  let main_v14 : IVec S_ 1 := andi main_v10 main_v13
  main_v14
-- ==== Kernel.lean ====
abbrev S100000x3 : Shape := ⟨2, ![100000, 3]⟩
abbrev S3200000 : Shape := ⟨1, ![3200000]⟩
abbrev S100000 : Shape := ⟨1, ![100000]⟩
abbrev S300000 : Shape := ⟨1, ![300000]⟩
abbrev S_ : Shape := ⟨0, ![]⟩
abbrev S301056 : Shape := ⟨1, ![301056]⟩
abbrev S100352 : Shape := ⟨1, ![100352]⟩
abbrev S32x7x528 : Shape := ⟨3, ![32, 7, 528]⟩
abbrev S4000 : Shape := ⟨1, ![4000]⟩
abbrev S9408 : Shape := ⟨1, ![9408]⟩
abbrev S3136 : Shape := ⟨1, ![3136]⟩
abbrev S16x528 : Shape := ⟨2, ![16, 528]⟩
abbrev S7x528 : Shape := ⟨2, ![7, 528]⟩
abbrev S16 : Shape := ⟨1, ![16]⟩
abbrev S1x16 : Shape := ⟨2, ![1, 16]⟩
abbrev S1x7x528 : Shape := ⟨3, ![1, 7, 528]⟩
abbrev S8 : Shape := ⟨1, ![8]⟩
abbrev S7x512 : Shape := ⟨2, ![7, 512]⟩
abbrev S1x512 : Shape := ⟨2, ![1, 512]⟩
abbrev S1x1x512 : Shape := ⟨3, ![1, 1, 512]⟩
abbrev S1 : Shape := ⟨1, ![1]⟩
abbrev S1x1x1 : Shape := ⟨3, ![1, 1, 1]⟩

abbrev nBuf : Table → Nat
  | .hbm => 22
  | .local .tc .vmem => 2
  | .local .scVector .vmem => 17
  | _ => 0

abbrev bufTy : (tb : Table) → Fin (nBuf tb) → BufTy
  | .hbm, ⟨0, _⟩ => ⟨S100000x3, .f32⟩
  | .hbm, ⟨1, _⟩ => ⟨S3200000, .f32⟩
  | .hbm, ⟨2, _⟩ => ⟨S100000x3, .f32⟩
  | .hbm, ⟨3, _⟩ => ⟨S3200000, .f32⟩
  | .hbm, ⟨4, _⟩ => ⟨S3200000, .i32⟩
  | .hbm, ⟨5, _⟩ => ⟨S100000, .i32⟩
  | .hbm, ⟨6, _⟩ => ⟨S100000, .i32⟩
  | .hbm, ⟨7, _⟩ => ⟨S3200000, .i32⟩
  | .hbm, ⟨8, _⟩ => ⟨S3200000, .i32⟩
  | .hbm, ⟨9, _⟩ => ⟨S300000, .f32⟩
  | .hbm, ⟨10, _⟩ => ⟨S_, .i32⟩
  | .hbm, ⟨11, _⟩ => ⟨S_, .f32⟩
  | .hbm, ⟨12, _⟩ => ⟨S301056, .f32⟩
  | .hbm, ⟨13, _⟩ => ⟨S300000, .f32⟩
  | .hbm, ⟨14, _⟩ => ⟨S_, .i32⟩
  | .hbm, ⟨15, _⟩ => ⟨S_, .f32⟩
  | .hbm, ⟨16, _⟩ => ⟨S301056, .f32⟩
  | .hbm, ⟨17, _⟩ => ⟨S_, .i32⟩
  | .hbm, ⟨18, _⟩ => ⟨S_, .i32⟩
  | .hbm, ⟨19, _⟩ => ⟨S100352, .i32⟩
  | .hbm, ⟨20, _⟩ => ⟨S32x7x528, .f32⟩
  | .hbm, ⟨21, _⟩ => ⟨S8, .f32⟩
  | .local .tc .vmem, ⟨0, _⟩ => ⟨S32x7x528, .f32⟩
  | .local .tc .vmem, ⟨1, _⟩ => ⟨S8, .f32⟩
  | .local .scVector .vmem, ⟨0, _⟩ => ⟨S4000, .f32⟩
  | .local .scVector .vmem, ⟨1, _⟩ => ⟨S4000, .f32⟩
  | .local .scVector .vmem, ⟨2, _⟩ => ⟨S4000, .f32⟩
  | .local .scVector .vmem, ⟨3, _⟩ => ⟨S4000, .f32⟩
  | .local .scVector .vmem, ⟨4, _⟩ => ⟨S4000, .i32⟩
  | .local .scVector .vmem, ⟨5, _⟩ => ⟨S4000, .i32⟩
  | .local .scVector .vmem, ⟨6, _⟩ => ⟨S9408, .f32⟩
  | .local .scVector .vmem, ⟨7, _⟩ => ⟨S9408, .f32⟩
  | .local .scVector .vmem, ⟨8, _⟩ => ⟨S3136, .i32⟩
  | .local .scVector .vmem, ⟨9, _⟩ => ⟨S16x528, .f32⟩
  | .local .scVector .vmem, ⟨10, _⟩ => ⟨S16x528, .f32⟩
  | .local .scVector .vmem, ⟨11, _⟩ => ⟨S16x528, .f32⟩
  | .local .scVector .vmem, ⟨12, _⟩ => ⟨S16x528, .f32⟩
  | .local .scVector .vmem, ⟨13, _⟩ => ⟨S16x528, .f32⟩
  | .local .scVector .vmem, ⟨14, _⟩ => ⟨S16x528, .f32⟩
  | .local .scVector .vmem, ⟨15, _⟩ => ⟨S16x528, .f32⟩
  | .local .scVector .vmem, ⟨16, _⟩ => ⟨S7x528, .f32⟩
  | _, _ => ⟨S100000x3, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_c_1 : Ref sig .tc := ⟨.hbm, 17, rfl⟩
abbrev main_call2_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_arg1_scv : Ref sig .scVector := ⟨.hbm, 1, rfl⟩
abbrev main_arg3_scv : Ref sig .scVector := ⟨.hbm, 3, rfl⟩
abbrev main_arg4_scv : Ref sig .scVector := ⟨.hbm, 4, rfl⟩
abbrev main_v1_scv : Ref sig .scVector := ⟨.hbm, 12, rfl⟩
abbrev main_v3_scv : Ref sig .scVector := ⟨.hbm, 16, rfl⟩
abbrev main_v4_scv : Ref sig .scVector := ⟨.hbm, 19, rfl⟩
abbrev main_v5_scv : Ref sig .scVector := ⟨.hbm, 20, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev cc0_scratch15 : Ref sig .scVector := ⟨.vmem, 15, rfl⟩
abbrev cc0_scratch16 : Ref sig .scVector := ⟨.vmem, 16, rfl⟩
abbrev cc1_sem0_0 : DmaSem sig := 6
abbrev cc1_sem1_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v5 : BitVec 32 := Scalar.muli v1 c100000_i32
  let c0_i32 : BitVec 32 := 0#32
  let v6 : BitVec 32 := Scalar.addi v5 c0_i32
  ![v6.toNat]
@[reducible] def k0_t1_loop : Scf.Loop 32 :=
  let c0_i32_2 : BitVec 32 := 0#32
  let c16_i32 : BitVec 32 := 16#32
  let v13 : BitVec 32 := Scalar.addi c0_i32_2 c16_i32
  let c1_i32 : BitVec 32 := 1#32
  ⟨c0_i32_2, v13, c1_i32⟩
def k0_off2 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v438 : Index := Scalar.indexCast arg28
  let c0 : Index := 0#32
  ![v438.toNat, 0]
def k0_off3 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v440 : Index := Scalar.indexCast arg28
  let c16 : Index := 16#32
  ![v440.toNat, 16]
def k0_off4 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v442 : Index := Scalar.indexCast arg28
  let c32 : Index := 32#32
  ![v442.toNat, 32]
def k0_off5 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v444 : Index := Scalar.indexCast arg28
  let c48 : Index := 48#32
  ![v444.toNat, 48]
def k0_off6 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v446 : Index := Scalar.indexCast arg28
  let c64 : Index := 64#32
  ![v446.toNat, 64]
def k0_off7 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v448 : Index := Scalar.indexCast arg28
  let c80 : Index := 80#32
  ![v448.toNat, 80]
def k0_off8 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v450 : Index := Scalar.indexCast arg28
  let c96 : Index := 96#32
  ![v450.toNat, 96]
def k0_off9 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v452 : Index := Scalar.indexCast arg28
  let c112 : Index := 112#32
  ![v452.toNat, 112]
def k0_off10 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v454 : Index := Scalar.indexCast arg28
  let c128 : Index := 128#32
  ![v454.toNat, 128]
def k0_off11 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v456 : Index := Scalar.indexCast arg28
  let c144 : Index := 144#32
  ![v456.toNat, 144]
def k0_off12 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v458 : Index := Scalar.indexCast arg28
  let c160 : Index := 160#32
  ![v458.toNat, 160]
def k0_off13 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v460 : Index := Scalar.indexCast arg28
  let c176 : Index := 176#32
  ![v460.toNat, 176]
def k0_off14 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v462 : Index := Scalar.indexCast arg28
  let c192 : Index := 192#32
  ![v462.toNat, 192]
def k0_off15 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v464 : Index := Scalar.indexCast arg28
  let c208 : Index := 208#32
  ![v464.toNat, 208]
def k0_off16 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v466 : Index := Scalar.indexCast arg28
  let c224 : Index := 224#32
  ![v466.toNat, 224]
def k0_off17 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v468 : Index := Scalar.indexCast arg28
  let c240 : Index := 240#32
  ![v468.toNat, 240]
def k0_off18 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v470 : Index := Scalar.indexCast arg28
  let c256 : Index := 256#32
  ![v470.toNat, 256]
def k0_off19 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v472 : Index := Scalar.indexCast arg28
  let c272 : Index := 272#32
  ![v472.toNat, 272]
def k0_off20 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v474 : Index := Scalar.indexCast arg28
  let c288 : Index := 288#32
  ![v474.toNat, 288]
def k0_off21 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v476 : Index := Scalar.indexCast arg28
  let c304 : Index := 304#32
  ![v476.toNat, 304]
def k0_off22 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v478 : Index := Scalar.indexCast arg28
  let c320 : Index := 320#32
  ![v478.toNat, 320]
def k0_off23 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v480 : Index := Scalar.indexCast arg28
  let c336 : Index := 336#32
  ![v480.toNat, 336]
def k0_off24 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v482 : Index := Scalar.indexCast arg28
  let c352 : Index := 352#32
  ![v482.toNat, 352]
def k0_off25 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v484 : Index := Scalar.indexCast arg28
  let c368 : Index := 368#32
  ![v484.toNat, 368]
def k0_off26 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v486 : Index := Scalar.indexCast arg28
  let c384 : Index := 384#32
  ![v486.toNat, 384]
def k0_off27 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v488 : Index := Scalar.indexCast arg28
  let c400 : Index := 400#32
  ![v488.toNat, 400]
def k0_off28 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v490 : Index := Scalar.indexCast arg28
  let c416 : Index := 416#32
  ![v490.toNat, 416]
def k0_off29 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v492 : Index := Scalar.indexCast arg28
  let c432 : Index := 432#32
  ![v492.toNat, 432]
def k0_off30 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v494 : Index := Scalar.indexCast arg28
  let c448 : Index := 448#32
  ![v494.toNat, 448]
def k0_off31 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v496 : Index := Scalar.indexCast arg28
  let c464 : Index := 464#32
  ![v496.toNat, 464]
def k0_off32 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v498 : Index := Scalar.indexCast arg28
  let c480 : Index := 480#32
  ![v498.toNat, 480]
def k0_off33 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v500 : Index := Scalar.indexCast arg28
  let c496 : Index := 496#32
  ![v500.toNat, 496]
def k0_off34 (k0_t1 : Fin k0_t1_loop.trips) : Fin 2 → Nat :=
  let c0_i32_2 : BitVec 32 := 0#32
  let c1_i32 : BitVec 32 := 1#32
  let arg28 : BitVec 32 := Scf.iv c0_i32_2 c1_i32 k0_t1
  let v502 : Index := Scalar.indexCast arg28
  let c512 : Index := 512#32
  ![v502.toNat, 512]
@[reducible] def k0_t2_loop : Scf.Loop 32 :=
  let c0_i32_5 : BitVec 32 := 0#32
  let c16_i32_6 : BitVec 32 := 16#32
  let v15 : BitVec 32 := Scalar.addi c0_i32_5 c16_i32_6
  let c1_i32_7 : BitVec 32 := 1#32
  ⟨c0_i32_5, v15, c1_i32_7⟩
def k0_off35 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v438 : Index := Scalar.indexCast arg28
  let c0 : Index := 0#32
  ![v438.toNat, 0]
def k0_off36 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v440 : Index := Scalar.indexCast arg28
  let c16 : Index := 16#32
  ![v440.toNat, 16]
def k0_off37 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v442 : Index := Scalar.indexCast arg28
  let c32 : Index := 32#32
  ![v442.toNat, 32]
def k0_off38 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v444 : Index := Scalar.indexCast arg28
  let c48 : Index := 48#32
  ![v444.toNat, 48]
def k0_off39 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v446 : Index := Scalar.indexCast arg28
  let c64 : Index := 64#32
  ![v446.toNat, 64]
def k0_off40 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v448 : Index := Scalar.indexCast arg28
  let c80 : Index := 80#32
  ![v448.toNat, 80]
def k0_off41 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v450 : Index := Scalar.indexCast arg28
  let c96 : Index := 96#32
  ![v450.toNat, 96]
def k0_off42 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v452 : Index := Scalar.indexCast arg28
  let c112 : Index := 112#32
  ![v452.toNat, 112]
def k0_off43 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v454 : Index := Scalar.indexCast arg28
  let c128 : Index := 128#32
  ![v454.toNat, 128]
def k0_off44 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v456 : Index := Scalar.indexCast arg28
  let c144 : Index := 144#32
  ![v456.toNat, 144]
def k0_off45 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v458 : Index := Scalar.indexCast arg28
  let c160 : Index := 160#32
  ![v458.toNat, 160]
def k0_off46 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v460 : Index := Scalar.indexCast arg28
  let c176 : Index := 176#32
  ![v460.toNat, 176]
def k0_off47 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v462 : Index := Scalar.indexCast arg28
  let c192 : Index := 192#32
  ![v462.toNat, 192]
def k0_off48 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v464 : Index := Scalar.indexCast arg28
  let c208 : Index := 208#32
  ![v464.toNat, 208]
def k0_off49 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v466 : Index := Scalar.indexCast arg28
  let c224 : Index := 224#32
  ![v466.toNat, 224]
def k0_off50 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v468 : Index := Scalar.indexCast arg28
  let c240 : Index := 240#32
  ![v468.toNat, 240]
def k0_off51 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v470 : Index := Scalar.indexCast arg28
  let c256 : Index := 256#32
  ![v470.toNat, 256]
def k0_off52 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v472 : Index := Scalar.indexCast arg28
  let c272 : Index := 272#32
  ![v472.toNat, 272]
def k0_off53 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v474 : Index := Scalar.indexCast arg28
  let c288 : Index := 288#32
  ![v474.toNat, 288]
def k0_off54 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v476 : Index := Scalar.indexCast arg28
  let c304 : Index := 304#32
  ![v476.toNat, 304]
def k0_off55 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v478 : Index := Scalar.indexCast arg28
  let c320 : Index := 320#32
  ![v478.toNat, 320]
def k0_off56 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v480 : Index := Scalar.indexCast arg28
  let c336 : Index := 336#32
  ![v480.toNat, 336]
def k0_off57 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v482 : Index := Scalar.indexCast arg28
  let c352 : Index := 352#32
  ![v482.toNat, 352]
def k0_off58 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v484 : Index := Scalar.indexCast arg28
  let c368 : Index := 368#32
  ![v484.toNat, 368]
def k0_off59 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v486 : Index := Scalar.indexCast arg28
  let c384 : Index := 384#32
  ![v486.toNat, 384]
def k0_off60 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v488 : Index := Scalar.indexCast arg28
  let c400 : Index := 400#32
  ![v488.toNat, 400]
def k0_off61 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v490 : Index := Scalar.indexCast arg28
  let c416 : Index := 416#32
  ![v490.toNat, 416]
def k0_off62 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v492 : Index := Scalar.indexCast arg28
  let c432 : Index := 432#32
  ![v492.toNat, 432]
def k0_off63 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v494 : Index := Scalar.indexCast arg28
  let c448 : Index := 448#32
  ![v494.toNat, 448]
def k0_off64 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v496 : Index := Scalar.indexCast arg28
  let c464 : Index := 464#32
  ![v496.toNat, 464]
def k0_off65 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v498 : Index := Scalar.indexCast arg28
  let c480 : Index := 480#32
  ![v498.toNat, 480]
def k0_off66 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v500 : Index := Scalar.indexCast arg28
  let c496 : Index := 496#32
  ![v500.toNat, 496]
def k0_off67 (k0_t2 : Fin k0_t2_loop.trips) : Fin 2 → Nat :=
  let c0_i32_5 : BitVec 32 := 0#32
  let c1_i32_7 : BitVec 32 := 1#32
  let arg28 : BitVec 32 := Scf.iv c0_i32_5 c1_i32_7 k0_t2
  let v502 : Index := Scalar.indexCast arg28
  let c512 : Index := 512#32
  ![v502.toNat, 512]
@[reducible] def k0_t3_loop : Scf.Loop 32 :=
  let c0_i32_10 : BitVec 32 := 0#32
  let c16_i32_11 : BitVec 32 := 16#32
  let v17 : BitVec 32 := Scalar.addi c0_i32_10 c16_i32_11
  let c1_i32_12 : BitVec 32 := 1#32
  ⟨c0_i32_10, v17, c1_i32_12⟩
def k0_off68 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v438 : Index := Scalar.indexCast arg28
  let c0 : Index := 0#32
  ![v438.toNat, 0]
def k0_off69 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v440 : Index := Scalar.indexCast arg28
  let c16 : Index := 16#32
  ![v440.toNat, 16]
def k0_off70 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v442 : Index := Scalar.indexCast arg28
  let c32 : Index := 32#32
  ![v442.toNat, 32]
def k0_off71 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v444 : Index := Scalar.indexCast arg28
  let c48 : Index := 48#32
  ![v444.toNat, 48]
def k0_off72 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v446 : Index := Scalar.indexCast arg28
  let c64 : Index := 64#32
  ![v446.toNat, 64]
def k0_off73 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v448 : Index := Scalar.indexCast arg28
  let c80 : Index := 80#32
  ![v448.toNat, 80]
def k0_off74 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v450 : Index := Scalar.indexCast arg28
  let c96 : Index := 96#32
  ![v450.toNat, 96]
def k0_off75 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v452 : Index := Scalar.indexCast arg28
  let c112 : Index := 112#32
  ![v452.toNat, 112]
def k0_off76 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v454 : Index := Scalar.indexCast arg28
  let c128 : Index := 128#32
  ![v454.toNat, 128]
def k0_off77 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v456 : Index := Scalar.indexCast arg28
  let c144 : Index := 144#32
  ![v456.toNat, 144]
def k0_off78 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v458 : Index := Scalar.indexCast arg28
  let c160 : Index := 160#32
  ![v458.toNat, 160]
def k0_off79 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v460 : Index := Scalar.indexCast arg28
  let c176 : Index := 176#32
  ![v460.toNat, 176]
def k0_off80 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v462 : Index := Scalar.indexCast arg28
  let c192 : Index := 192#32
  ![v462.toNat, 192]
def k0_off81 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v464 : Index := Scalar.indexCast arg28
  let c208 : Index := 208#32
  ![v464.toNat, 208]
def k0_off82 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v466 : Index := Scalar.indexCast arg28
  let c224 : Index := 224#32
  ![v466.toNat, 224]
def k0_off83 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v468 : Index := Scalar.indexCast arg28
  let c240 : Index := 240#32
  ![v468.toNat, 240]
def k0_off84 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v470 : Index := Scalar.indexCast arg28
  let c256 : Index := 256#32
  ![v470.toNat, 256]
def k0_off85 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v472 : Index := Scalar.indexCast arg28
  let c272 : Index := 272#32
  ![v472.toNat, 272]
def k0_off86 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v474 : Index := Scalar.indexCast arg28
  let c288 : Index := 288#32
  ![v474.toNat, 288]
def k0_off87 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v476 : Index := Scalar.indexCast arg28
  let c304 : Index := 304#32
  ![v476.toNat, 304]
def k0_off88 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v478 : Index := Scalar.indexCast arg28
  let c320 : Index := 320#32
  ![v478.toNat, 320]
def k0_off89 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v480 : Index := Scalar.indexCast arg28
  let c336 : Index := 336#32
  ![v480.toNat, 336]
def k0_off90 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v482 : Index := Scalar.indexCast arg28
  let c352 : Index := 352#32
  ![v482.toNat, 352]
def k0_off91 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v484 : Index := Scalar.indexCast arg28
  let c368 : Index := 368#32
  ![v484.toNat, 368]
def k0_off92 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v486 : Index := Scalar.indexCast arg28
  let c384 : Index := 384#32
  ![v486.toNat, 384]
def k0_off93 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v488 : Index := Scalar.indexCast arg28
  let c400 : Index := 400#32
  ![v488.toNat, 400]
def k0_off94 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v490 : Index := Scalar.indexCast arg28
  let c416 : Index := 416#32
  ![v490.toNat, 416]
def k0_off95 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v492 : Index := Scalar.indexCast arg28
  let c432 : Index := 432#32
  ![v492.toNat, 432]
def k0_off96 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v494 : Index := Scalar.indexCast arg28
  let c448 : Index := 448#32
  ![v494.toNat, 448]
def k0_off97 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v496 : Index := Scalar.indexCast arg28
  let c464 : Index := 464#32
  ![v496.toNat, 464]
def k0_off98 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v498 : Index := Scalar.indexCast arg28
  let c480 : Index := 480#32
  ![v498.toNat, 480]
def k0_off99 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v500 : Index := Scalar.indexCast arg28
  let c496 : Index := 496#32
  ![v500.toNat, 496]
def k0_off100 (k0_t3 : Fin k0_t3_loop.trips) : Fin 2 → Nat :=
  let c0_i32_10 : BitVec 32 := 0#32
  let c1_i32_12 : BitVec 32 := 1#32
  let arg28 : BitVec 32 := Scf.iv c0_i32_10 c1_i32_12 k0_t3
  let v502 : Index := Scalar.indexCast arg28
  let c512 : Index := 512#32
  ![v502.toNat, 512]
@[reducible] def k0_t4_loop : Scf.Loop 32 :=
  let c0_i32_15 : BitVec 32 := 0#32
  let c16_i32_16 : BitVec 32 := 16#32
  let v19 : BitVec 32 := Scalar.addi c0_i32_15 c16_i32_16
  let c1_i32_17 : BitVec 32 := 1#32
  ⟨c0_i32_15, v19, c1_i32_17⟩
def k0_off101 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v438 : Index := Scalar.indexCast arg28
  let c0 : Index := 0#32
  ![v438.toNat, 0]
def k0_off102 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v440 : Index := Scalar.indexCast arg28
  let c16 : Index := 16#32
  ![v440.toNat, 16]
def k0_off103 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v442 : Index := Scalar.indexCast arg28
  let c32 : Index := 32#32
  ![v442.toNat, 32]
def k0_off104 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v444 : Index := Scalar.indexCast arg28
  let c48 : Index := 48#32
  ![v444.toNat, 48]
def k0_off105 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v446 : Index := Scalar.indexCast arg28
  let c64 : Index := 64#32
  ![v446.toNat, 64]
def k0_off106 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v448 : Index := Scalar.indexCast arg28
  let c80 : Index := 80#32
  ![v448.toNat, 80]
def k0_off107 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v450 : Index := Scalar.indexCast arg28
  let c96 : Index := 96#32
  ![v450.toNat, 96]
def k0_off108 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v452 : Index := Scalar.indexCast arg28
  let c112 : Index := 112#32
  ![v452.toNat, 112]
def k0_off109 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v454 : Index := Scalar.indexCast arg28
  let c128 : Index := 128#32
  ![v454.toNat, 128]
def k0_off110 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v456 : Index := Scalar.indexCast arg28
  let c144 : Index := 144#32
  ![v456.toNat, 144]
def k0_off111 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v458 : Index := Scalar.indexCast arg28
  let c160 : Index := 160#32
  ![v458.toNat, 160]
def k0_off112 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v460 : Index := Scalar.indexCast arg28
  let c176 : Index := 176#32
  ![v460.toNat, 176]
def k0_off113 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v462 : Index := Scalar.indexCast arg28
  let c192 : Index := 192#32
  ![v462.toNat, 192]
def k0_off114 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v464 : Index := Scalar.indexCast arg28
  let c208 : Index := 208#32
  ![v464.toNat, 208]
def k0_off115 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v466 : Index := Scalar.indexCast arg28
  let c224 : Index := 224#32
  ![v466.toNat, 224]
def k0_off116 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v468 : Index := Scalar.indexCast arg28
  let c240 : Index := 240#32
  ![v468.toNat, 240]
def k0_off117 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v470 : Index := Scalar.indexCast arg28
  let c256 : Index := 256#32
  ![v470.toNat, 256]
def k0_off118 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v472 : Index := Scalar.indexCast arg28
  let c272 : Index := 272#32
  ![v472.toNat, 272]
def k0_off119 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v474 : Index := Scalar.indexCast arg28
  let c288 : Index := 288#32
  ![v474.toNat, 288]
def k0_off120 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v476 : Index := Scalar.indexCast arg28
  let c304 : Index := 304#32
  ![v476.toNat, 304]
def k0_off121 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v478 : Index := Scalar.indexCast arg28
  let c320 : Index := 320#32
  ![v478.toNat, 320]
def k0_off122 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v480 : Index := Scalar.indexCast arg28
  let c336 : Index := 336#32
  ![v480.toNat, 336]
def k0_off123 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v482 : Index := Scalar.indexCast arg28
  let c352 : Index := 352#32
  ![v482.toNat, 352]
def k0_off124 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v484 : Index := Scalar.indexCast arg28
  let c368 : Index := 368#32
  ![v484.toNat, 368]
def k0_off125 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v486 : Index := Scalar.indexCast arg28
  let c384 : Index := 384#32
  ![v486.toNat, 384]
def k0_off126 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v488 : Index := Scalar.indexCast arg28
  let c400 : Index := 400#32
  ![v488.toNat, 400]
def k0_off127 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v490 : Index := Scalar.indexCast arg28
  let c416 : Index := 416#32
  ![v490.toNat, 416]
def k0_off128 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v492 : Index := Scalar.indexCast arg28
  let c432 : Index := 432#32
  ![v492.toNat, 432]
def k0_off129 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v494 : Index := Scalar.indexCast arg28
  let c448 : Index := 448#32
  ![v494.toNat, 448]
def k0_off130 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v496 : Index := Scalar.indexCast arg28
  let c464 : Index := 464#32
  ![v496.toNat, 464]
def k0_off131 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v498 : Index := Scalar.indexCast arg28
  let c480 : Index := 480#32
  ![v498.toNat, 480]
def k0_off132 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v500 : Index := Scalar.indexCast arg28
  let c496 : Index := 496#32
  ![v500.toNat, 496]
def k0_off133 (k0_t4 : Fin k0_t4_loop.trips) : Fin 2 → Nat :=
  let c0_i32_15 : BitVec 32 := 0#32
  let c1_i32_17 : BitVec 32 := 1#32
  let arg28 : BitVec 32 := Scf.iv c0_i32_15 c1_i32_17 k0_t4
  let v502 : Index := Scalar.indexCast arg28
  let c512 : Index := 512#32
  ![v502.toNat, 512]
@[reducible] def k0_t5_loop : Scf.Loop 32 :=
  let c0_i32_20 : BitVec 32 := 0#32
  let c16_i32_21 : BitVec 32 := 16#32
  let v21 : BitVec 32 := Scalar.addi c0_i32_20 c16_i32_21
  let c1_i32_22 : BitVec 32 := 1#32
  ⟨c0_i32_20, v21, c1_i32_22⟩
def k0_off134 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v438 : Index := Scalar.indexCast arg28
  let c0 : Index := 0#32
  ![v438.toNat, 0]
def k0_off135 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v440 : Index := Scalar.indexCast arg28
  let c16 : Index := 16#32
  ![v440.toNat, 16]
def k0_off136 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v442 : Index := Scalar.indexCast arg28
  let c32 : Index := 32#32
  ![v442.toNat, 32]
def k0_off137 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v444 : Index := Scalar.indexCast arg28
  let c48 : Index := 48#32
  ![v444.toNat, 48]
def k0_off138 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v446 : Index := Scalar.indexCast arg28
  let c64 : Index := 64#32
  ![v446.toNat, 64]
def k0_off139 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v448 : Index := Scalar.indexCast arg28
  let c80 : Index := 80#32
  ![v448.toNat, 80]
def k0_off140 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v450 : Index := Scalar.indexCast arg28
  let c96 : Index := 96#32
  ![v450.toNat, 96]
def k0_off141 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v452 : Index := Scalar.indexCast arg28
  let c112 : Index := 112#32
  ![v452.toNat, 112]
def k0_off142 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v454 : Index := Scalar.indexCast arg28
  let c128 : Index := 128#32
  ![v454.toNat, 128]
def k0_off143 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v456 : Index := Scalar.indexCast arg28
  let c144 : Index := 144#32
  ![v456.toNat, 144]
def k0_off144 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v458 : Index := Scalar.indexCast arg28
  let c160 : Index := 160#32
  ![v458.toNat, 160]
def k0_off145 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v460 : Index := Scalar.indexCast arg28
  let c176 : Index := 176#32
  ![v460.toNat, 176]
def k0_off146 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v462 : Index := Scalar.indexCast arg28
  let c192 : Index := 192#32
  ![v462.toNat, 192]
def k0_off147 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v464 : Index := Scalar.indexCast arg28
  let c208 : Index := 208#32
  ![v464.toNat, 208]
def k0_off148 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v466 : Index := Scalar.indexCast arg28
  let c224 : Index := 224#32
  ![v466.toNat, 224]
def k0_off149 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v468 : Index := Scalar.indexCast arg28
  let c240 : Index := 240#32
  ![v468.toNat, 240]
def k0_off150 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v470 : Index := Scalar.indexCast arg28
  let c256 : Index := 256#32
  ![v470.toNat, 256]
def k0_off151 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v472 : Index := Scalar.indexCast arg28
  let c272 : Index := 272#32
  ![v472.toNat, 272]
def k0_off152 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v474 : Index := Scalar.indexCast arg28
  let c288 : Index := 288#32
  ![v474.toNat, 288]
def k0_off153 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v476 : Index := Scalar.indexCast arg28
  let c304 : Index := 304#32
  ![v476.toNat, 304]
def k0_off154 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v478 : Index := Scalar.indexCast arg28
  let c320 : Index := 320#32
  ![v478.toNat, 320]
def k0_off155 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v480 : Index := Scalar.indexCast arg28
  let c336 : Index := 336#32
  ![v480.toNat, 336]
def k0_off156 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v482 : Index := Scalar.indexCast arg28
  let c352 : Index := 352#32
  ![v482.toNat, 352]
def k0_off157 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v484 : Index := Scalar.indexCast arg28
  let c368 : Index := 368#32
  ![v484.toNat, 368]
def k0_off158 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v486 : Index := Scalar.indexCast arg28
  let c384 : Index := 384#32
  ![v486.toNat, 384]
def k0_off159 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v488 : Index := Scalar.indexCast arg28
  let c400 : Index := 400#32
  ![v488.toNat, 400]
def k0_off160 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v490 : Index := Scalar.indexCast arg28
  let c416 : Index := 416#32
  ![v490.toNat, 416]
def k0_off161 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v492 : Index := Scalar.indexCast arg28
  let c432 : Index := 432#32
  ![v492.toNat, 432]
def k0_off162 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v494 : Index := Scalar.indexCast arg28
  let c448 : Index := 448#32
  ![v494.toNat, 448]
def k0_off163 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v496 : Index := Scalar.indexCast arg28
  let c464 : Index := 464#32
  ![v496.toNat, 464]
def k0_off164 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v498 : Index := Scalar.indexCast arg28
  let c480 : Index := 480#32
  ![v498.toNat, 480]
def k0_off165 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v500 : Index := Scalar.indexCast arg28
  let c496 : Index := 496#32
  ![v500.toNat, 496]
def k0_off166 (k0_t5 : Fin k0_t5_loop.trips) : Fin 2 → Nat :=
  let c0_i32_20 : BitVec 32 := 0#32
  let c1_i32_22 : BitVec 32 := 1#32
  let arg28 : BitVec 32 := Scf.iv c0_i32_20 c1_i32_22 k0_t5
  let v502 : Index := Scalar.indexCast arg28
  let c512 : Index := 512#32
  ![v502.toNat, 512]
@[reducible] def k0_t6_loop : Scf.Loop 32 :=
  let c0_i32_25 : BitVec 32 := 0#32
  let c16_i32_26 : BitVec 32 := 16#32
  let v23 : BitVec 32 := Scalar.addi c0_i32_25 c16_i32_26
  let c1_i32_27 : BitVec 32 := 1#32
  ⟨c0_i32_25, v23, c1_i32_27⟩
def k0_off167 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v438 : Index := Scalar.indexCast arg28
  let c0 : Index := 0#32
  ![v438.toNat, 0]
def k0_off168 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v440 : Index := Scalar.indexCast arg28
  let c16 : Index := 16#32
  ![v440.toNat, 16]
def k0_off169 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v442 : Index := Scalar.indexCast arg28
  let c32 : Index := 32#32
  ![v442.toNat, 32]
def k0_off170 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v444 : Index := Scalar.indexCast arg28
  let c48 : Index := 48#32
  ![v444.toNat, 48]
def k0_off171 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v446 : Index := Scalar.indexCast arg28
  let c64 : Index := 64#32
  ![v446.toNat, 64]
def k0_off172 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v448 : Index := Scalar.indexCast arg28
  let c80 : Index := 80#32
  ![v448.toNat, 80]
def k0_off173 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v450 : Index := Scalar.indexCast arg28
  let c96 : Index := 96#32
  ![v450.toNat, 96]
def k0_off174 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v452 : Index := Scalar.indexCast arg28
  let c112 : Index := 112#32
  ![v452.toNat, 112]
def k0_off175 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v454 : Index := Scalar.indexCast arg28
  let c128 : Index := 128#32
  ![v454.toNat, 128]
def k0_off176 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v456 : Index := Scalar.indexCast arg28
  let c144 : Index := 144#32
  ![v456.toNat, 144]
def k0_off177 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v458 : Index := Scalar.indexCast arg28
  let c160 : Index := 160#32
  ![v458.toNat, 160]
def k0_off178 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v460 : Index := Scalar.indexCast arg28
  let c176 : Index := 176#32
  ![v460.toNat, 176]
def k0_off179 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v462 : Index := Scalar.indexCast arg28
  let c192 : Index := 192#32
  ![v462.toNat, 192]
def k0_off180 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v464 : Index := Scalar.indexCast arg28
  let c208 : Index := 208#32
  ![v464.toNat, 208]
def k0_off181 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v466 : Index := Scalar.indexCast arg28
  let c224 : Index := 224#32
  ![v466.toNat, 224]
def k0_off182 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v468 : Index := Scalar.indexCast arg28
  let c240 : Index := 240#32
  ![v468.toNat, 240]
def k0_off183 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v470 : Index := Scalar.indexCast arg28
  let c256 : Index := 256#32
  ![v470.toNat, 256]
def k0_off184 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v472 : Index := Scalar.indexCast arg28
  let c272 : Index := 272#32
  ![v472.toNat, 272]
def k0_off185 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v474 : Index := Scalar.indexCast arg28
  let c288 : Index := 288#32
  ![v474.toNat, 288]
def k0_off186 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v476 : Index := Scalar.indexCast arg28
  let c304 : Index := 304#32
  ![v476.toNat, 304]
def k0_off187 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v478 : Index := Scalar.indexCast arg28
  let c320 : Index := 320#32
  ![v478.toNat, 320]
def k0_off188 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v480 : Index := Scalar.indexCast arg28
  let c336 : Index := 336#32
  ![v480.toNat, 336]
def k0_off189 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v482 : Index := Scalar.indexCast arg28
  let c352 : Index := 352#32
  ![v482.toNat, 352]
def k0_off190 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v484 : Index := Scalar.indexCast arg28
  let c368 : Index := 368#32
  ![v484.toNat, 368]
def k0_off191 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v486 : Index := Scalar.indexCast arg28
  let c384 : Index := 384#32
  ![v486.toNat, 384]
def k0_off192 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v488 : Index := Scalar.indexCast arg28
  let c400 : Index := 400#32
  ![v488.toNat, 400]
def k0_off193 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v490 : Index := Scalar.indexCast arg28
  let c416 : Index := 416#32
  ![v490.toNat, 416]
def k0_off194 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v492 : Index := Scalar.indexCast arg28
  let c432 : Index := 432#32
  ![v492.toNat, 432]
def k0_off195 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v494 : Index := Scalar.indexCast arg28
  let c448 : Index := 448#32
  ![v494.toNat, 448]
def k0_off196 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v496 : Index := Scalar.indexCast arg28
  let c464 : Index := 464#32
  ![v496.toNat, 464]
def k0_off197 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v498 : Index := Scalar.indexCast arg28
  let c480 : Index := 480#32
  ![v498.toNat, 480]
def k0_off198 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v500 : Index := Scalar.indexCast arg28
  let c496 : Index := 496#32
  ![v500.toNat, 496]
def k0_off199 (k0_t6 : Fin k0_t6_loop.trips) : Fin 2 → Nat :=
  let c0_i32_25 : BitVec 32 := 0#32
  let c1_i32_27 : BitVec 32 := 1#32
  let arg28 : BitVec 32 := Scf.iv c0_i32_25 c1_i32_27 k0_t6
  let v502 : Index := Scalar.indexCast arg28
  let c512 : Index := 512#32
  ![v502.toNat, 512]
@[reducible] def k0_t7_loop : Scf.Loop 32 :=
  let c0_i32_30 : BitVec 32 := 0#32
  let c16_i32_31 : BitVec 32 := 16#32
  let v25 : BitVec 32 := Scalar.addi c0_i32_30 c16_i32_31
  let c1_i32_32 : BitVec 32 := 1#32
  ⟨c0_i32_30, v25, c1_i32_32⟩
def k0_off200 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v438 : Index := Scalar.indexCast arg28
  let c0 : Index := 0#32
  ![v438.toNat, 0]
def k0_off201 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v440 : Index := Scalar.indexCast arg28
  let c16 : Index := 16#32
  ![v440.toNat, 16]
def k0_off202 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v442 : Index := Scalar.indexCast arg28
  let c32 : Index := 32#32
  ![v442.toNat, 32]
def k0_off203 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v444 : Index := Scalar.indexCast arg28
  let c48 : Index := 48#32
  ![v444.toNat, 48]
def k0_off204 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v446 : Index := Scalar.indexCast arg28
  let c64 : Index := 64#32
  ![v446.toNat, 64]
def k0_off205 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v448 : Index := Scalar.indexCast arg28
  let c80 : Index := 80#32
  ![v448.toNat, 80]
def k0_off206 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v450 : Index := Scalar.indexCast arg28
  let c96 : Index := 96#32
  ![v450.toNat, 96]
def k0_off207 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v452 : Index := Scalar.indexCast arg28
  let c112 : Index := 112#32
  ![v452.toNat, 112]
def k0_off208 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v454 : Index := Scalar.indexCast arg28
  let c128 : Index := 128#32
  ![v454.toNat, 128]
def k0_off209 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v456 : Index := Scalar.indexCast arg28
  let c144 : Index := 144#32
  ![v456.toNat, 144]
def k0_off210 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v458 : Index := Scalar.indexCast arg28
  let c160 : Index := 160#32
  ![v458.toNat, 160]
def k0_off211 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v460 : Index := Scalar.indexCast arg28
  let c176 : Index := 176#32
  ![v460.toNat, 176]
def k0_off212 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v462 : Index := Scalar.indexCast arg28
  let c192 : Index := 192#32
  ![v462.toNat, 192]
def k0_off213 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v464 : Index := Scalar.indexCast arg28
  let c208 : Index := 208#32
  ![v464.toNat, 208]
def k0_off214 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v466 : Index := Scalar.indexCast arg28
  let c224 : Index := 224#32
  ![v466.toNat, 224]
def k0_off215 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v468 : Index := Scalar.indexCast arg28
  let c240 : Index := 240#32
  ![v468.toNat, 240]
def k0_off216 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v470 : Index := Scalar.indexCast arg28
  let c256 : Index := 256#32
  ![v470.toNat, 256]
def k0_off217 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v472 : Index := Scalar.indexCast arg28
  let c272 : Index := 272#32
  ![v472.toNat, 272]
def k0_off218 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v474 : Index := Scalar.indexCast arg28
  let c288 : Index := 288#32
  ![v474.toNat, 288]
def k0_off219 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v476 : Index := Scalar.indexCast arg28
  let c304 : Index := 304#32
  ![v476.toNat, 304]
def k0_off220 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v478 : Index := Scalar.indexCast arg28
  let c320 : Index := 320#32
  ![v478.toNat, 320]
def k0_off221 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v480 : Index := Scalar.indexCast arg28
  let c336 : Index := 336#32
  ![v480.toNat, 336]
def k0_off222 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v482 : Index := Scalar.indexCast arg28
  let c352 : Index := 352#32
  ![v482.toNat, 352]
def k0_off223 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v484 : Index := Scalar.indexCast arg28
  let c368 : Index := 368#32
  ![v484.toNat, 368]
def k0_off224 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v486 : Index := Scalar.indexCast arg28
  let c384 : Index := 384#32
  ![v486.toNat, 384]
def k0_off225 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v488 : Index := Scalar.indexCast arg28
  let c400 : Index := 400#32
  ![v488.toNat, 400]
def k0_off226 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v490 : Index := Scalar.indexCast arg28
  let c416 : Index := 416#32
  ![v490.toNat, 416]
def k0_off227 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v492 : Index := Scalar.indexCast arg28
  let c432 : Index := 432#32
  ![v492.toNat, 432]
def k0_off228 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v494 : Index := Scalar.indexCast arg28
  let c448 : Index := 448#32
  ![v494.toNat, 448]
def k0_off229 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v496 : Index := Scalar.indexCast arg28
  let c464 : Index := 464#32
  ![v496.toNat, 464]
def k0_off230 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v498 : Index := Scalar.indexCast arg28
  let c480 : Index := 480#32
  ![v498.toNat, 480]
def k0_off231 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v500 : Index := Scalar.indexCast arg28
  let c496 : Index := 496#32
  ![v500.toNat, 496]
def k0_off232 (k0_t7 : Fin k0_t7_loop.trips) : Fin 2 → Nat :=
  let c0_i32_30 : BitVec 32 := 0#32
  let c1_i32_32 : BitVec 32 := 1#32
  let arg28 : BitVec 32 := Scf.iv c0_i32_30 c1_i32_32 k0_t7
  let v502 : Index := Scalar.indexCast arg28
  let c512 : Index := 512#32
  ![v502.toNat, 512]
def k0_off233 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v27 : BitVec 32 := Scalar.muli v1 c3136_i32
  let c3_i32 : BitVec 32 := 3#32
  let v28 : BitVec 32 := Scalar.muli v27 c3_i32
  ![v28.toNat]
def k0_off234 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v27 : BitVec 32 := Scalar.muli v1 c3136_i32
  ![v27.toNat]
@[reducible] def k0_t8_loop : Scf.Loop 32 :=
  let c0_i32_36 : BitVec 32 := 0#32
  let c49_i32 : BitVec 32 := 49#32
  let v30 : BitVec 32 := Scalar.addi c0_i32_36 c49_i32
  let c1_i32_37 : BitVec 32 := 1#32
  ⟨c0_i32_36, v30, c1_i32_37⟩
def k0_off235 (k0_t8 : Fin k0_t8_loop.trips) : Fin 1 → Nat :=
  let c0_i32_36 : BitVec 32 := 0#32
  let c1_i32_37 : BitVec 32 := 1#32
  let arg28 : BitVec 32 := Scf.iv c0_i32_36 c1_i32_37 k0_t8
  let c64_i32 : BitVec 32 := 64#32
  let v438 : BitVec 32 := Scalar.muli arg28 c64_i32
  let c0_i32_221 : BitVec 32 := 0#32
  let v439 : BitVec 32 := Scalar.addi v438 c0_i32_221
  let v440 : Index := Scalar.indexCast v439
  ![v440.toNat]

def k0_chk2 (v448 : IVec S16 32) : Prop :=
  (∀ a x, ((![v448] : Fin 1 → IVec S16 32) a x).toNat < S9408.size a)
theorem k0_idx2_inb : ∀ (v448 : IVec S16 32) (k0_hw2 : k0_chk2 v448), ∀ a x, ((![v448] : Fin 1 → IVec S16 32) a x).toNat < S9408.size a := fun v448 k0_hw2 => k0_hw2

def k0_chk3 (v451 : IVec S16 32) : Prop :=
  (∀ a x, ((![v451] : Fin 1 → IVec S16 32) a x).toNat < S9408.size a)
theorem k0_idx3_inb : ∀ (v451 : IVec S16 32) (k0_hw3 : k0_chk3 v451), ∀ a x, ((![v451] : Fin 1 → IVec S16 32) a x).toNat < S9408.size a := fun v451 k0_hw3 => k0_hw3

def k0_chk1 (v445 : IVec S16 32) : Prop :=
  (∀ a x, ((![v445] : Fin 1 → IVec S16 32) a x).toNat < S9408.size a) ∧
  (∀ a x, ((![v445] : Fin 1 → IVec S16 32) a x).toNat < S9408.size a)
theorem k0_idx1_inb : ∀ (v445 : IVec S16 32) (k0_hw1 : k0_chk1 v445), ∀ a x, ((![v445] : Fin 1 → IVec S16 32) a x).toNat < S9408.size a := fun v445 k0_hw1 => k0_hw1.1
theorem k0_idx4_inb : ∀ (v445 : IVec S16 32) (k0_hw1 : k0_chk1 v445), ∀ a x, ((![v445] : Fin 1 → IVec S16 32) a x).toNat < S9408.size a := fun v445 k0_hw1 => k0_hw1.2

def k0_chk4 (v455 : IVec S16 32) : Prop :=
  (∀ a x, ((![v455] : Fin 1 → IVec S16 32) a x).toNat < S9408.size a)
theorem k0_idx5_inb : ∀ (v455 : IVec S16 32) (k0_hw4 : k0_chk4 v455), ∀ a x, ((![v455] : Fin 1 → IVec S16 32) a x).toNat < S9408.size a := fun v455 k0_hw4 => k0_hw4

def k0_chk5 (v458 : IVec S16 32) : Prop :=
  (∀ a x, ((![v458] : Fin 1 → IVec S16 32) a x).toNat < S9408.size a)
theorem k0_idx6_inb : ∀ (v458 : IVec S16 32) (k0_hw5 : k0_chk5 v458), ∀ a x, ((![v458] : Fin 1 → IVec S16 32) a x).toNat < S9408.size a := fun v458 k0_hw5 => k0_hw5

def k0_chk6 (v2 : IVec S16 32) (v441 : IVec S16 32) : Prop :=
  (∀ a x, ((![v2, v441] : Fin 2 → IVec S16 32) a x).toNat < S16x528.size a) ∧
  (∀ a x, ((![v2, v441] : Fin 2 → IVec S16 32) a x).toNat < S16x528.size a) ∧
  (∀ a x, ((![v2, v441] : Fin 2 → IVec S16 32) a x).toNat < S16x528.size a) ∧
  (∀ a x, ((![v2, v441] : Fin 2 → IVec S16 32) a x).toNat < S16x528.size a)
theorem k0_idx7_inb : ∀ (v2 : IVec S16 32) (v441 : IVec S16 32) (k0_hw6 : k0_chk6 v2 v441), ∀ a x, ((![v2, v441] : Fin 2 → IVec S16 32) a x).toNat < S16x528.size a := fun v2 v441 k0_hw6 => k0_hw6.1
theorem k0_idx8_inb : ∀ (v2 : IVec S16 32) (v441 : IVec S16 32) (k0_hw6 : k0_chk6 v2 v441), ∀ a x, ((![v2, v441] : Fin 2 → IVec S16 32) a x).toNat < S16x528.size a := fun v2 v441 k0_hw6 => k0_hw6.2.1
theorem k0_idx9_inb : ∀ (v2 : IVec S16 32) (v441 : IVec S16 32) (k0_hw6 : k0_chk6 v2 v441), ∀ a x, ((![v2, v441] : Fin 2 → IVec S16 32) a x).toNat < S16x528.size a := fun v2 v441 k0_hw6 => k0_hw6.2.2.1
theorem k0_idx10_inb : ∀ (v2 : IVec S16 32) (v441 : IVec S16 32) (k0_hw6 : k0_chk6 v2 v441), ∀ a x, ((![v2, v441] : Fin 2 → IVec S16 32) a x).toNat < S16x528.size a := fun v2 v441 k0_hw6 => k0_hw6.2.2.2
def k0_off236 (k0_t8 : Fin k0_t8_loop.trips) : Fin 1 → Nat :=
  let c0_i32_36 : BitVec 32 := 0#32
  let c1_i32_37 : BitVec 32 := 1#32
  let arg28 : BitVec 32 := Scf.iv c0_i32_36 c1_i32_37 k0_t8
  let c64_i32 : BitVec 32 := 64#32
  let v438 : BitVec 32 := Scalar.muli arg28 c64_i32
  let c16_i32_227 : BitVec 32 := 16#32
  let v478 : BitVec 32 := Scalar.addi v438 c16_i32_227
  let v479 : Index := Scalar.indexCast v478
  ![v479.toNat]

def k0_chk8 (v487 : IVec S16 32) : Prop :=
  (∀ a x, ((![v487] : Fin 1 → IVec S16 32) a x).toNat < S9408.size a)
theorem k0_idx12_inb : ∀ (v487 : IVec S16 32) (k0_hw8 : k0_chk8 v487), ∀ a x, ((![v487] : Fin 1 → IVec S16 32) a x).toNat < S9408.size a := fun v487 k0_hw8 => k0_hw8

def k0_chk9 (v490 : IVec S16 32) : Prop :=
  (∀ a x, ((![v490] : Fin 1 → IVec S16 32) a x).toNat < S9408.size a)
theorem k0_idx13_inb : ∀ (v490 : IVec S16 32) (k0_hw9 : k0_chk9 v490), ∀ a x, ((![v490] : Fin 1 → IVec S16 32) a x).toNat < S9408.size a := fun v490 k0_hw9 => k0_hw9

def k0_chk7 (v484 : IVec S16 32) : Prop :=
  (∀ a x, ((![v484] : Fin 1 → IVec S16 32) a x).toNat < S9408.size a) ∧
  (∀ a x, ((![v484] : Fin 1 → IVec S16 32) a x).toNat < S9408.size a)
theorem k0_idx11_inb : ∀ (v484 : IVec S16 32) (k0_hw7 : k0_chk7 v484), ∀ a x, ((![v484] : Fin 1 → IVec S16 32) a x).toNat < S9408.size a := fun v484 k0_hw7 => k0_hw7.1
theorem k0_idx14_inb : ∀ (v484 : IVec S16 32) (k0_hw7 : k0_chk7 v484), ∀ a x, ((![v484] : Fin 1 → IVec S16 32) a x).toNat < S9408.size a := fun v484 k0_hw7 => k0_hw7.2

def k0_chk10 (v494 : IVec S16 32) : Prop :=
  (∀ a x, ((![v494] : Fin 1 → IVec S16 32) a x).toNat < S9408.size a)
theorem k0_idx15_inb : ∀ (v494 : IVec S16 32) (k0_hw10 : k0_chk10 v494), ∀ a x, ((![v494] : Fin 1 → IVec S16 32) a x).toNat < S9408.size a := fun v494 k0_hw10 => k0_hw10

def k0_chk11 (v497 : IVec S16 32) : Prop :=
  (∀ a x, ((![v497] : Fin 1 → IVec S16 32) a x).toNat < S9408.size a)
theorem k0_idx16_inb : ∀ (v497 : IVec S16 32) (k0_hw11 : k0_chk11 v497), ∀ a x, ((![v497] : Fin 1 → IVec S16 32) a x).toNat < S9408.size a := fun v497 k0_hw11 => k0_hw11

def k0_chk12 (v2 : IVec S16 32) (v480 : IVec S16 32) : Prop :=
  (∀ a x, ((![v2, v480] : Fin 2 → IVec S16 32) a x).toNat < S16x528.size a) ∧
  (∀ a x, ((![v2, v480] : Fin 2 → IVec S16 32) a x).toNat < S16x528.size a) ∧
  (∀ a x, ((![v2, v480] : Fin 2 → IVec S16 32) a x).toNat < S16x528.size a) ∧
  (∀ a x, ((![v2, v480] : Fin 2 → IVec S16 32) a x).toNat < S16x528.size a)
theorem k0_idx17_inb : ∀ (v2 : IVec S16 32) (v480 : IVec S16 32) (k0_hw12 : k0_chk12 v2 v480), ∀ a x, ((![v2, v480] : Fin 2 → IVec S16 32) a x).toNat < S16x528.size a := fun v2 v480 k0_hw12 => k0_hw12.1
theorem k0_idx18_inb : ∀ (v2 : IVec S16 32) (v480 : IVec S16 32) (k0_hw12 : k0_chk12 v2 v480), ∀ a x, ((![v2, v480] : Fin 2 → IVec S16 32) a x).toNat < S16x528.size a := fun v2 v480 k0_hw12 => k0_hw12.2.1
theorem k0_idx19_inb : ∀ (v2 : IVec S16 32) (v480 : IVec S16 32) (k0_hw12 : k0_chk12 v2 v480), ∀ a x, ((![v2, v480] : Fin 2 → IVec S16 32) a x).toNat < S16x528.size a := fun v2 v480 k0_hw12 => k0_hw12.2.2.1
theorem k0_idx20_inb : ∀ (v2 : IVec S16 32) (v480 : IVec S16 32) (k0_hw12 : k0_chk12 v2 v480), ∀ a x, ((![v2, v480] : Fin 2 → IVec S16 32) a x).toNat < S16x528.size a := fun v2 v480 k0_hw12 => k0_hw12.2.2.2
def k0_off237 (k0_t8 : Fin k0_t8_loop.trips) : Fin 1 → Nat :=
  let c0_i32_36 : BitVec 32 := 0#32
  let c1_i32_37 : BitVec 32 := 1#32
  let arg28 : BitVec 32 := Scf.iv c0_i32_36 c1_i32_37 k0_t8
  let c64_i32 : BitVec 32 := 64#32
  let v438 : BitVec 32 := Scalar.muli arg28 c64_i32
  let c32_i32 : BitVec 32 := 32#32
  let v517 : BitVec 32 := Scalar.addi v438 c32_i32
  let v518 : Index := Scalar.indexCast v517
  ![v518.toNat]

def k0_chk14 (v526 : IVec S16 32) : Prop :=
  (∀ a x, ((![v526] : Fin 1 → IVec S16 32) a x).toNat < S9408.size a)
theorem k0_idx22_inb : ∀ (v526 : IVec S16 32) (k0_hw14 : k0_chk14 v526), ∀ a x, ((![v526] : Fin 1 → IVec S16 32) a x).toNat < S9408.size a := fun v526 k0_hw14 => k0_hw14

def k0_chk15 (v529 : IVec S16 32) : Prop :=
  (∀ a x, ((![v529] : Fin 1 → IVec S16 32) a x).toNat < S9408.size a)
theorem k0_idx23_inb : ∀ (v529 : IVec S16 32) (k0_hw15 : k0_chk15 v529), ∀ a x, ((![v529] : Fin 1 → IVec S16 32) a x).toNat < S9408.size a := fun v529 k0_hw15 => k0_hw15

def k0_chk13 (v523 : IVec S16 32) : Prop :=
  (∀ a x, ((![v523] : Fin 1 → IVec S16 32) a x).toNat < S9408.size a) ∧
  (∀ a x, ((![v523] : Fin 1 → IVec S16 32) a x).toNat < S9408.size a)
theorem k0_idx21_inb : ∀ (v523 : IVec S16 32) (k0_hw13 : k0_chk13 v523), ∀ a x, ((![v523] : Fin 1 → IVec S16 32) a x).toNat < S9408.size a := fun v523 k0_hw13 => k0_hw13.1
theorem k0_idx24_inb : ∀ (v523 : IVec S16 32) (k0_hw13 : k0_chk13 v523), ∀ a x, ((![v523] : Fin 1 → IVec S16 32) a x).toNat < S9408.size a := fun v523 k0_hw13 => k0_hw13.2

def k0_chk16 (v533 : IVec S16 32) : Prop :=
  (∀ a x, ((![v533] : Fin 1 → IVec S16 32) a x).toNat < S9408.size a)
theorem k0_idx25_inb : ∀ (v533 : IVec S16 32) (k0_hw16 : k0_chk16 v533), ∀ a x, ((![v533] : Fin 1 → IVec S16 32) a x).toNat < S9408.size a := fun v533 k0_hw16 => k0_hw16

def k0_chk17 (v536 : IVec S16 32) : Prop :=
  (∀ a x, ((![v536] : Fin 1 → IVec S16 32) a x).toNat < S9408.size a)
theorem k0_idx26_inb : ∀ (v536 : IVec S16 32) (k0_hw17 : k0_chk17 v536), ∀ a x, ((![v536] : Fin 1 → IVec S16 32) a x).toNat < S9408.size a := fun v536 k0_hw17 => k0_hw17

def k0_chk18 (v2 : IVec S16 32) (v519 : IVec S16 32) : Prop :=
  (∀ a x, ((![v2, v519] : Fin 2 → IVec S16 32) a x).toNat < S16x528.size a) ∧
  (∀ a x, ((![v2, v519] : Fin 2 → IVec S16 32) a x).toNat < S16x528.size a) ∧
  (∀ a x, ((![v2, v519] : Fin 2 → IVec S16 32) a x).toNat < S16x528.size a) ∧
  (∀ a x, ((![v2, v519] : Fin 2 → IVec S16 32) a x).toNat < S16x528.size a)
theorem k0_idx27_inb : ∀ (v2 : IVec S16 32) (v519 : IVec S16 32) (k0_hw18 : k0_chk18 v2 v519), ∀ a x, ((![v2, v519] : Fin 2 → IVec S16 32) a x).toNat < S16x528.size a := fun v2 v519 k0_hw18 => k0_hw18.1
theorem k0_idx28_inb : ∀ (v2 : IVec S16 32) (v519 : IVec S16 32) (k0_hw18 : k0_chk18 v2 v519), ∀ a x, ((![v2, v519] : Fin 2 → IVec S16 32) a x).toNat < S16x528.size a := fun v2 v519 k0_hw18 => k0_hw18.2.1
theorem k0_idx29_inb : ∀ (v2 : IVec S16 32) (v519 : IVec S16 32) (k0_hw18 : k0_chk18 v2 v519), ∀ a x, ((![v2, v519] : Fin 2 → IVec S16 32) a x).toNat < S16x528.size a := fun v2 v519 k0_hw18 => k0_hw18.2.2.1
theorem k0_idx30_inb : ∀ (v2 : IVec S16 32) (v519 : IVec S16 32) (k0_hw18 : k0_chk18 v2 v519), ∀ a x, ((![v2, v519] : Fin 2 → IVec S16 32) a x).toNat < S16x528.size a := fun v2 v519 k0_hw18 => k0_hw18.2.2.2
def k0_off238 (k0_t8 : Fin k0_t8_loop.trips) : Fin 1 → Nat :=
  let c0_i32_36 : BitVec 32 := 0#32
  let c1_i32_37 : BitVec 32 := 1#32
  let arg28 : BitVec 32 := Scf.iv c0_i32_36 c1_i32_37 k0_t8
  let c64_i32 : BitVec 32 := 64#32
  let v438 : BitVec 32 := Scalar.muli arg28 c64_i32
  let c48_i32 : BitVec 32 := 48#32
  let v556 : BitVec 32 := Scalar.addi v438 c48_i32
  let v557 : Index := Scalar.indexCast v556
  ![v557.toNat]

def k0_chk20 (v565 : IVec S16 32) : Prop :=
  (∀ a x, ((![v565] : Fin 1 → IVec S16 32) a x).toNat < S9408.size a)
theorem k0_idx32_inb : ∀ (v565 : IVec S16 32) (k0_hw20 : k0_chk20 v565), ∀ a x, ((![v565] : Fin 1 → IVec S16 32) a x).toNat < S9408.size a := fun v565 k0_hw20 => k0_hw20

def k0_chk21 (v568 : IVec S16 32) : Prop :=
  (∀ a x, ((![v568] : Fin 1 → IVec S16 32) a x).toNat < S9408.size a)
theorem k0_idx33_inb : ∀ (v568 : IVec S16 32) (k0_hw21 : k0_chk21 v568), ∀ a x, ((![v568] : Fin 1 → IVec S16 32) a x).toNat < S9408.size a := fun v568 k0_hw21 => k0_hw21

def k0_chk19 (v562 : IVec S16 32) : Prop :=
  (∀ a x, ((![v562] : Fin 1 → IVec S16 32) a x).toNat < S9408.size a) ∧
  (∀ a x, ((![v562] : Fin 1 → IVec S16 32) a x).toNat < S9408.size a)
theorem k0_idx31_inb : ∀ (v562 : IVec S16 32) (k0_hw19 : k0_chk19 v562), ∀ a x, ((![v562] : Fin 1 → IVec S16 32) a x).toNat < S9408.size a := fun v562 k0_hw19 => k0_hw19.1
theorem k0_idx34_inb : ∀ (v562 : IVec S16 32) (k0_hw19 : k0_chk19 v562), ∀ a x, ((![v562] : Fin 1 → IVec S16 32) a x).toNat < S9408.size a := fun v562 k0_hw19 => k0_hw19.2

def k0_chk22 (v572 : IVec S16 32) : Prop :=
  (∀ a x, ((![v572] : Fin 1 → IVec S16 32) a x).toNat < S9408.size a)
theorem k0_idx35_inb : ∀ (v572 : IVec S16 32) (k0_hw22 : k0_chk22 v572), ∀ a x, ((![v572] : Fin 1 → IVec S16 32) a x).toNat < S9408.size a := fun v572 k0_hw22 => k0_hw22

def k0_chk23 (v575 : IVec S16 32) : Prop :=
  (∀ a x, ((![v575] : Fin 1 → IVec S16 32) a x).toNat < S9408.size a)
theorem k0_idx36_inb : ∀ (v575 : IVec S16 32) (k0_hw23 : k0_chk23 v575), ∀ a x, ((![v575] : Fin 1 → IVec S16 32) a x).toNat < S9408.size a := fun v575 k0_hw23 => k0_hw23

def k0_chk24 (v2 : IVec S16 32) (v558 : IVec S16 32) : Prop :=
  (∀ a x, ((![v2, v558] : Fin 2 → IVec S16 32) a x).toNat < S16x528.size a) ∧
  (∀ a x, ((![v2, v558] : Fin 2 → IVec S16 32) a x).toNat < S16x528.size a) ∧
  (∀ a x, ((![v2, v558] : Fin 2 → IVec S16 32) a x).toNat < S16x528.size a) ∧
  (∀ a x, ((![v2, v558] : Fin 2 → IVec S16 32) a x).toNat < S16x528.size a)
theorem k0_idx37_inb : ∀ (v2 : IVec S16 32) (v558 : IVec S16 32) (k0_hw24 : k0_chk24 v2 v558), ∀ a x, ((![v2, v558] : Fin 2 → IVec S16 32) a x).toNat < S16x528.size a := fun v2 v558 k0_hw24 => k0_hw24.1
theorem k0_idx38_inb : ∀ (v2 : IVec S16 32) (v558 : IVec S16 32) (k0_hw24 : k0_chk24 v2 v558), ∀ a x, ((![v2, v558] : Fin 2 → IVec S16 32) a x).toNat < S16x528.size a := fun v2 v558 k0_hw24 => k0_hw24.2.1
theorem k0_idx39_inb : ∀ (v2 : IVec S16 32) (v558 : IVec S16 32) (k0_hw24 : k0_chk24 v2 v558), ∀ a x, ((![v2, v558] : Fin 2 → IVec S16 32) a x).toNat < S16x528.size a := fun v2 v558 k0_hw24 => k0_hw24.2.2.1
theorem k0_idx40_inb : ∀ (v2 : IVec S16 32) (v558 : IVec S16 32) (k0_hw24 : k0_chk24 v2 v558), ∀ a x, ((![v2, v558] : Fin 2 → IVec S16 32) a x).toNat < S16x528.size a := fun v2 v558 k0_hw24 => k0_hw24.2.2.2
def k0_off239 (i : grid0.Coords) (c4000_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32_39 : BitVec 32 := 100000#32
  let v32 : BitVec 32 := Scalar.muli v1 c100000_i32_39
  let v33 : BitVec 32 := Scalar.addi v32 c4000_i32
  ![v33.toNat]
@[reducible] def k0_t9_loop : Scf.Loop 32 :=
  let c0_i32_41 : BitVec 32 := 0#32
  let c50_i32 : BitVec 32 := 50#32
  let v46 : BitVec 32 := Scalar.addi c0_i32_41 c50_i32
  let c1_i32_42 : BitVec 32 := 1#32
  ⟨c0_i32_41, v46, c1_i32_42⟩
def k0_off240 (k0_t9 : Fin k0_t9_loop.trips) : Fin 1 → Nat :=
  let c0_i32_41 : BitVec 32 := 0#32
  let c1_i32_42 : BitVec 32 := 1#32
  let arg28 : BitVec 32 := Scf.iv c0_i32_41 c1_i32_42 k0_t9
  let c80_i32 : BitVec 32 := 80#32
  let v438 : BitVec 32 := Scalar.muli arg28 c80_i32
  let c0_i32_221 : BitVec 32 := 0#32
  let v439 : BitVec 32 := Scalar.addi v438 c0_i32_221
  let v440 : Index := Scalar.indexCast v439
  ![v440.toNat]

def k0_chk25 (v2 : IVec S16 32) (v445 : IVec S16 32) : Prop :=
  (∀ a x, ((![v2, v445] : Fin 2 → IVec S16 32) a x).toNat < S16x528.size a) ∧
  (∀ a x, ((![v2, v445] : Fin 2 → IVec S16 32) a x).toNat < S16x528.size a) ∧
  (∀ a x, ((![v2, v445] : Fin 2 → IVec S16 32) a x).toNat < S16x528.size a)
theorem k0_idx41_inb : ∀ (v2 : IVec S16 32) (v445 : IVec S16 32) (k0_hw25 : k0_chk25 v2 v445), ∀ a x, ((![v2, v445] : Fin 2 → IVec S16 32) a x).toNat < S16x528.size a := fun v2 v445 k0_hw25 => k0_hw25.1
theorem k0_idx42_inb : ∀ (v2 : IVec S16 32) (v445 : IVec S16 32) (k0_hw25 : k0_chk25 v2 v445), ∀ a x, ((![v2, v445] : Fin 2 → IVec S16 32) a x).toNat < S16x528.size a := fun v2 v445 k0_hw25 => k0_hw25.2.1
theorem k0_idx43_inb : ∀ (v2 : IVec S16 32) (v445 : IVec S16 32) (k0_hw25 : k0_chk25 v2 v445), ∀ a x, ((![v2, v445] : Fin 2 → IVec S16 32) a x).toNat < S16x528.size a := fun v2 v445 k0_hw25 => k0_hw25.2.2
def k0_off241 (k0_t9 : Fin k0_t9_loop.trips) : Fin 1 → Nat :=
  let c0_i32_41 : BitVec 32 := 0#32
  let c1_i32_42 : BitVec 32 := 1#32
  let arg28 : BitVec 32 := Scf.iv c0_i32_41 c1_i32_42 k0_t9
  let c80_i32 : BitVec 32 := 80#32
  let v438 : BitVec 32 := Scalar.muli arg28 c80_i32
  let c16_i32_222 : BitVec 32 := 16#32
  let v450 : BitVec 32 := Scalar.addi v438 c16_i32_222
  let v451 : Index := Scalar.indexCast v450
  ![v451.toNat]

def k0_chk26 (v2 : IVec S16 32) (v456 : IVec S16 32) : Prop :=
  (∀ a x, ((![v2, v456] : Fin 2 → IVec S16 32) a x).toNat < S16x528.size a) ∧
  (∀ a x, ((![v2, v456] : Fin 2 → IVec S16 32) a x).toNat < S16x528.size a) ∧
  (∀ a x, ((![v2, v456] : Fin 2 → IVec S16 32) a x).toNat < S16x528.size a)
theorem k0_idx44_inb : ∀ (v2 : IVec S16 32) (v456 : IVec S16 32) (k0_hw26 : k0_chk26 v2 v456), ∀ a x, ((![v2, v456] : Fin 2 → IVec S16 32) a x).toNat < S16x528.size a := fun v2 v456 k0_hw26 => k0_hw26.1
theorem k0_idx45_inb : ∀ (v2 : IVec S16 32) (v456 : IVec S16 32) (k0_hw26 : k0_chk26 v2 v456), ∀ a x, ((![v2, v456] : Fin 2 → IVec S16 32) a x).toNat < S16x528.size a := fun v2 v456 k0_hw26 => k0_hw26.2.1
theorem k0_idx46_inb : ∀ (v2 : IVec S16 32) (v456 : IVec S16 32) (k0_hw26 : k0_chk26 v2 v456), ∀ a x, ((![v2, v456] : Fin 2 → IVec S16 32) a x).toNat < S16x528.size a := fun v2 v456 k0_hw26 => k0_hw26.2.2
def k0_off242 (k0_t9 : Fin k0_t9_loop.trips) : Fin 1 → Nat :=
  let c0_i32_41 : BitVec 32 := 0#32
  let c1_i32_42 : BitVec 32 := 1#32
  let arg28 : BitVec 32 := Scf.iv c0_i32_41 c1_i32_42 k0_t9
  let c80_i32 : BitVec 32 := 80#32
  let v438 : BitVec 32 := Scalar.muli arg28 c80_i32
  let c32_i32 : BitVec 32 := 32#32
  let v461 : BitVec 32 := Scalar.addi v438 c32_i32
  let v462 : Index := Scalar.indexCast v461
  ![v462.toNat]

def k0_chk27 (v2 : IVec S16 32) (v467 : IVec S16 32) : Prop :=
  (∀ a x, ((![v2, v467] : Fin 2 → IVec S16 32) a x).toNat < S16x528.size a) ∧
  (∀ a x, ((![v2, v467] : Fin 2 → IVec S16 32) a x).toNat < S16x528.size a) ∧
  (∀ a x, ((![v2, v467] : Fin 2 → IVec S16 32) a x).toNat < S16x528.size a)
theorem k0_idx47_inb : ∀ (v2 : IVec S16 32) (v467 : IVec S16 32) (k0_hw27 : k0_chk27 v2 v467), ∀ a x, ((![v2, v467] : Fin 2 → IVec S16 32) a x).toNat < S16x528.size a := fun v2 v467 k0_hw27 => k0_hw27.1
theorem k0_idx48_inb : ∀ (v2 : IVec S16 32) (v467 : IVec S16 32) (k0_hw27 : k0_chk27 v2 v467), ∀ a x, ((![v2, v467] : Fin 2 → IVec S16 32) a x).toNat < S16x528.size a := fun v2 v467 k0_hw27 => k0_hw27.2.1
theorem k0_idx49_inb : ∀ (v2 : IVec S16 32) (v467 : IVec S16 32) (k0_hw27 : k0_chk27 v2 v467), ∀ a x, ((![v2, v467] : Fin 2 → IVec S16 32) a x).toNat < S16x528.size a := fun v2 v467 k0_hw27 => k0_hw27.2.2
def k0_off243 (k0_t9 : Fin k0_t9_loop.trips) : Fin 1 → Nat :=
  let c0_i32_41 : BitVec 32 := 0#32
  let c1_i32_42 : BitVec 32 := 1#32
  let arg28 : BitVec 32 := Scf.iv c0_i32_41 c1_i32_42 k0_t9
  let c80_i32 : BitVec 32 := 80#32
  let v438 : BitVec 32 := Scalar.muli arg28 c80_i32
  let c48_i32 : BitVec 32 := 48#32
  let v472 : BitVec 32 := Scalar.addi v438 c48_i32
  let v473 : Index := Scalar.indexCast v472
  ![v473.toNat]

def k0_chk28 (v2 : IVec S16 32) (v478 : IVec S16 32) : Prop :=
  (∀ a x, ((![v2, v478] : Fin 2 → IVec S16 32) a x).toNat < S16x528.size a) ∧
  (∀ a x, ((![v2, v478] : Fin 2 → IVec S16 32) a x).toNat < S16x528.size a) ∧
  (∀ a x, ((![v2, v478] : Fin 2 → IVec S16 32) a x).toNat < S16x528.size a)
theorem k0_idx50_inb : ∀ (v2 : IVec S16 32) (v478 : IVec S16 32) (k0_hw28 : k0_chk28 v2 v478), ∀ a x, ((![v2, v478] : Fin 2 → IVec S16 32) a x).toNat < S16x528.size a := fun v2 v478 k0_hw28 => k0_hw28.1
theorem k0_idx51_inb : ∀ (v2 : IVec S16 32) (v478 : IVec S16 32) (k0_hw28 : k0_chk28 v2 v478), ∀ a x, ((![v2, v478] : Fin 2 → IVec S16 32) a x).toNat < S16x528.size a := fun v2 v478 k0_hw28 => k0_hw28.2.1
theorem k0_idx52_inb : ∀ (v2 : IVec S16 32) (v478 : IVec S16 32) (k0_hw28 : k0_chk28 v2 v478), ∀ a x, ((![v2, v478] : Fin 2 → IVec S16 32) a x).toNat < S16x528.size a := fun v2 v478 k0_hw28 => k0_hw28.2.2
def k0_off244 (k0_t9 : Fin k0_t9_loop.trips) : Fin 1 → Nat :=
  let c0_i32_41 : BitVec 32 := 0#32
  let c1_i32_42 : BitVec 32 := 1#32
  let arg28 : BitVec 32 := Scf.iv c0_i32_41 c1_i32_42 k0_t9
  let c80_i32 : BitVec 32 := 80#32
  let v438 : BitVec 32 := Scalar.muli arg28 c80_i32
  let c64_i32 : BitVec 32 := 64#32
  let v483 : BitVec 32 := Scalar.addi v438 c64_i32
  let v484 : Index := Scalar.indexCast v483
  ![v484.toNat]

def k0_chk29 (v2 : IVec S16 32) (v489 : IVec S16 32) : Prop :=
  (∀ a x, ((![v2, v489] : Fin 2 → IVec S16 32) a x).toNat < S16x528.size a) ∧
  (∀ a x, ((![v2, v489] : Fin 2 → IVec S16 32) a x).toNat < S16x528.size a) ∧
  (∀ a x, ((![v2, v489] : Fin 2 → IVec S16 32) a x).toNat < S16x528.size a)
theorem k0_idx53_inb : ∀ (v2 : IVec S16 32) (v489 : IVec S16 32) (k0_hw29 : k0_chk29 v2 v489), ∀ a x, ((![v2, v489] : Fin 2 → IVec S16 32) a x).toNat < S16x528.size a := fun v2 v489 k0_hw29 => k0_hw29.1
theorem k0_idx54_inb : ∀ (v2 : IVec S16 32) (v489 : IVec S16 32) (k0_hw29 : k0_chk29 v2 v489), ∀ a x, ((![v2, v489] : Fin 2 → IVec S16 32) a x).toNat < S16x528.size a := fun v2 v489 k0_hw29 => k0_hw29.2.1
theorem k0_idx55_inb : ∀ (v2 : IVec S16 32) (v489 : IVec S16 32) (k0_hw29 : k0_chk29 v2 v489), ∀ a x, ((![v2, v489] : Fin 2 → IVec S16 32) a x).toNat < S16x528.size a := fun v2 v489 k0_hw29 => k0_hw29.2.2
@[reducible] def k0_t10_loop : Scf.Loop 32 :=
  let c0_i32_46 : BitVec 32 := 0#32
  let c50_i32_47 : BitVec 32 := 50#32
  let v62 : BitVec 32 := Scalar.addi c0_i32_46 c50_i32_47
  let c1_i32_48 : BitVec 32 := 1#32
  ⟨c0_i32_46, v62, c1_i32_48⟩
def k0_off245 (k0_t10 : Fin k0_t10_loop.trips) : Fin 1 → Nat :=
  let c0_i32_46 : BitVec 32 := 0#32
  let c1_i32_48 : BitVec 32 := 1#32
  let arg28 : BitVec 32 := Scf.iv c0_i32_46 c1_i32_48 k0_t10
  let c80_i32 : BitVec 32 := 80#32
  let v438 : BitVec 32 := Scalar.muli arg28 c80_i32
  let c0_i32_221 : BitVec 32 := 0#32
  let v439 : BitVec 32 := Scalar.addi v438 c0_i32_221
  let v440 : Index := Scalar.indexCast v439
  ![v440.toNat]

def k0_chk30 (v2 : IVec S16 32) (v445 : IVec S16 32) : Prop :=
  (∀ a x, ((![v2, v445] : Fin 2 → IVec S16 32) a x).toNat < S16x528.size a) ∧
  (∀ a x, ((![v2, v445] : Fin 2 → IVec S16 32) a x).toNat < S16x528.size a) ∧
  (∀ a x, ((![v2, v445] : Fin 2 → IVec S16 32) a x).toNat < S16x528.size a)
theorem k0_idx56_inb : ∀ (v2 : IVec S16 32) (v445 : IVec S16 32) (k0_hw30 : k0_chk30 v2 v445), ∀ a x, ((![v2, v445] : Fin 2 → IVec S16 32) a x).toNat < S16x528.size a := fun v2 v445 k0_hw30 => k0_hw30.1
theorem k0_idx57_inb : ∀ (v2 : IVec S16 32) (v445 : IVec S16 32) (k0_hw30 : k0_chk30 v2 v445), ∀ a x, ((![v2, v445] : Fin 2 → IVec S16 32) a x).toNat < S16x528.size a := fun v2 v445 k0_hw30 => k0_hw30.2.1
theorem k0_idx58_inb : ∀ (v2 : IVec S16 32) (v445 : IVec S16 32) (k0_hw30 : k0_chk30 v2 v445), ∀ a x, ((![v2, v445] : Fin 2 → IVec S16 32) a x).toNat < S16x528.size a := fun v2 v445 k0_hw30 => k0_hw30.2.2
def k0_off246 (k0_t10 : Fin k0_t10_loop.trips) : Fin 1 → Nat :=
  let c0_i32_46 : BitVec 32 := 0#32
  let c1_i32_48 : BitVec 32 := 1#32
  let arg28 : BitVec 32 := Scf.iv c0_i32_46 c1_i32_48 k0_t10
  let c80_i32 : BitVec 32 := 80#32
  let v438 : BitVec 32 := Scalar.muli arg28 c80_i32
  let c16_i32_222 : BitVec 32 := 16#32
  let v450 : BitVec 32 := Scalar.addi v438 c16_i32_222
  let v451 : Index := Scalar.indexCast v450
  ![v451.toNat]

def k0_chk31 (v2 : IVec S16 32) (v456 : IVec S16 32) : Prop :=
  (∀ a x, ((![v2, v456] : Fin 2 → IVec S16 32) a x).toNat < S16x528.size a) ∧
  (∀ a x, ((![v2, v456] : Fin 2 → IVec S16 32) a x).toNat < S16x528.size a) ∧
  (∀ a x, ((![v2, v456] : Fin 2 → IVec S16 32) a x).toNat < S16x528.size a)
theorem k0_idx59_inb : ∀ (v2 : IVec S16 32) (v456 : IVec S16 32) (k0_hw31 : k0_chk31 v2 v456), ∀ a x, ((![v2, v456] : Fin 2 → IVec S16 32) a x).toNat < S16x528.size a := fun v2 v456 k0_hw31 => k0_hw31.1
theorem k0_idx60_inb : ∀ (v2 : IVec S16 32) (v456 : IVec S16 32) (k0_hw31 : k0_chk31 v2 v456), ∀ a x, ((![v2, v456] : Fin 2 → IVec S16 32) a x).toNat < S16x528.size a := fun v2 v456 k0_hw31 => k0_hw31.2.1
theorem k0_idx61_inb : ∀ (v2 : IVec S16 32) (v456 : IVec S16 32) (k0_hw31 : k0_chk31 v2 v456), ∀ a x, ((![v2, v456] : Fin 2 → IVec S16 32) a x).toNat < S16x528.size a := fun v2 v456 k0_hw31 => k0_hw31.2.2
def k0_off247 (k0_t10 : Fin k0_t10_loop.trips) : Fin 1 → Nat :=
  let c0_i32_46 : BitVec 32 := 0#32
  let c1_i32_48 : BitVec 32 := 1#32
  let arg28 : BitVec 32 := Scf.iv c0_i32_46 c1_i32_48 k0_t10
  let c80_i32 : BitVec 32 := 80#32
  let v438 : BitVec 32 := Scalar.muli arg28 c80_i32
  let c32_i32 : BitVec 32 := 32#32
  let v461 : BitVec 32 := Scalar.addi v438 c32_i32
  let v462 : Index := Scalar.indexCast v461
  ![v462.toNat]

def k0_chk32 (v2 : IVec S16 32) (v467 : IVec S16 32) : Prop :=
  (∀ a x, ((![v2, v467] : Fin 2 → IVec S16 32) a x).toNat < S16x528.size a) ∧
  (∀ a x, ((![v2, v467] : Fin 2 → IVec S16 32) a x).toNat < S16x528.size a) ∧
  (∀ a x, ((![v2, v467] : Fin 2 → IVec S16 32) a x).toNat < S16x528.size a)
theorem k0_idx62_inb : ∀ (v2 : IVec S16 32) (v467 : IVec S16 32) (k0_hw32 : k0_chk32 v2 v467), ∀ a x, ((![v2, v467] : Fin 2 → IVec S16 32) a x).toNat < S16x528.size a := fun v2 v467 k0_hw32 => k0_hw32.1
theorem k0_idx63_inb : ∀ (v2 : IVec S16 32) (v467 : IVec S16 32) (k0_hw32 : k0_chk32 v2 v467), ∀ a x, ((![v2, v467] : Fin 2 → IVec S16 32) a x).toNat < S16x528.size a := fun v2 v467 k0_hw32 => k0_hw32.2.1
theorem k0_idx64_inb : ∀ (v2 : IVec S16 32) (v467 : IVec S16 32) (k0_hw32 : k0_chk32 v2 v467), ∀ a x, ((![v2, v467] : Fin 2 → IVec S16 32) a x).toNat < S16x528.size a := fun v2 v467 k0_hw32 => k0_hw32.2.2
def k0_off248 (k0_t10 : Fin k0_t10_loop.trips) : Fin 1 → Nat :=
  let c0_i32_46 : BitVec 32 := 0#32
  let c1_i32_48 : BitVec 32 := 1#32
  let arg28 : BitVec 32 := Scf.iv c0_i32_46 c1_i32_48 k0_t10
  let c80_i32 : BitVec 32 := 80#32
  let v438 : BitVec 32 := Scalar.muli arg28 c80_i32
  let c48_i32 : BitVec 32 := 48#32
  let v472 : BitVec 32 := Scalar.addi v438 c48_i32
  let v473 : Index := Scalar.indexCast v472
  ![v473.toNat]

def k0_chk33 (v2 : IVec S16 32) (v478 : IVec S16 32) : Prop :=
  (∀ a x, ((![v2, v478] : Fin 2 → IVec S16 32) a x).toNat < S16x528.size a) ∧
  (∀ a x, ((![v2, v478] : Fin 2 → IVec S16 32) a x).toNat < S16x528.size a) ∧
  (∀ a x, ((![v2, v478] : Fin 2 → IVec S16 32) a x).toNat < S16x528.size a)
theorem k0_idx65_inb : ∀ (v2 : IVec S16 32) (v478 : IVec S16 32) (k0_hw33 : k0_chk33 v2 v478), ∀ a x, ((![v2, v478] : Fin 2 → IVec S16 32) a x).toNat < S16x528.size a := fun v2 v478 k0_hw33 => k0_hw33.1
theorem k0_idx66_inb : ∀ (v2 : IVec S16 32) (v478 : IVec S16 32) (k0_hw33 : k0_chk33 v2 v478), ∀ a x, ((![v2, v478] : Fin 2 → IVec S16 32) a x).toNat < S16x528.size a := fun v2 v478 k0_hw33 => k0_hw33.2.1
theorem k0_idx67_inb : ∀ (v2 : IVec S16 32) (v478 : IVec S16 32) (k0_hw33 : k0_chk33 v2 v478), ∀ a x, ((![v2, v478] : Fin 2 → IVec S16 32) a x).toNat < S16x528.size a := fun v2 v478 k0_hw33 => k0_hw33.2.2
def k0_off249 (k0_t10 : Fin k0_t10_loop.trips) : Fin 1 → Nat :=
  let c0_i32_46 : BitVec 32 := 0#32
  let c1_i32_48 : BitVec 32 := 1#32
  let arg28 : BitVec 32 := Scf.iv c0_i32_46 c1_i32_48 k0_t10
  let c80_i32 : BitVec 32 := 80#32
  let v438 : BitVec 32 := Scalar.muli arg28 c80_i32
  let c64_i32 : BitVec 32 := 64#32
  let v483 : BitVec 32 := Scalar.addi v438 c64_i32
  let v484 : Index := Scalar.indexCast v483
  ![v484.toNat]

def k0_chk34 (v2 : IVec S16 32) (v489 : IVec S16 32) : Prop :=
  (∀ a x, ((![v2, v489] : Fin 2 → IVec S16 32) a x).toNat < S16x528.size a) ∧
  (∀ a x, ((![v2, v489] : Fin 2 → IVec S16 32) a x).toNat < S16x528.size a) ∧
  (∀ a x, ((![v2, v489] : Fin 2 → IVec S16 32) a x).toNat < S16x528.size a)
theorem k0_idx68_inb : ∀ (v2 : IVec S16 32) (v489 : IVec S16 32) (k0_hw34 : k0_chk34 v2 v489), ∀ a x, ((![v2, v489] : Fin 2 → IVec S16 32) a x).toNat < S16x528.size a := fun v2 v489 k0_hw34 => k0_hw34.1
theorem k0_idx69_inb : ∀ (v2 : IVec S16 32) (v489 : IVec S16 32) (k0_hw34 : k0_chk34 v2 v489), ∀ a x, ((![v2, v489] : Fin 2 → IVec S16 32) a x).toNat < S16x528.size a := fun v2 v489 k0_hw34 => k0_hw34.2.1
theorem k0_idx70_inb : ∀ (v2 : IVec S16 32) (v489 : IVec S16 32) (k0_hw34 : k0_chk34 v2 v489), ∀ a x, ((![v2, v489] : Fin 2 → IVec S16 32) a x).toNat < S16x528.size a := fun v2 v489 k0_hw34 => k0_hw34.2.2
@[reducible] def k0_t11_loop : Scf.Loop 32 :=
  let c0_i32_52 : BitVec 32 := 0#32
  let c50_i32_53 : BitVec 32 := 50#32
  let v78 : BitVec 32 := Scalar.addi c0_i32_52 c50_i32_53
  let c1_i32_54 : BitVec 32 := 1#32
  ⟨c0_i32_52, v78, c1_i32_54⟩
def k0_off250 (k0_t11 : Fin k0_t11_loop.trips) : Fin 1 → Nat :=
  let c0_i32_52 : BitVec 32 := 0#32
  let c1_i32_54 : BitVec 32 := 1#32
  let arg28 : BitVec 32 := Scf.iv c0_i32_52 c1_i32_54 k0_t11
  let c80_i32 : BitVec 32 := 80#32
  let v438 : BitVec 32 := Scalar.muli arg28 c80_i32
  let c0_i32_221 : BitVec 32 := 0#32
  let v439 : BitVec 32 := Scalar.addi v438 c0_i32_221
  let v440 : Index := Scalar.indexCast v439
  ![v440.toNat]

def k0_chk35 (v2 : IVec S16 32) (v445 : IVec S16 32) : Prop :=
  (∀ a x, ((![v2, v445] : Fin 2 → IVec S16 32) a x).toNat < S16x528.size a) ∧
  (∀ a x, ((![v2, v445] : Fin 2 → IVec S16 32) a x).toNat < S16x528.size a) ∧
  (∀ a x, ((![v2, v445] : Fin 2 → IVec S16 32) a x).toNat < S16x528.size a)
theorem k0_idx71_inb : ∀ (v2 : IVec S16 32) (v445 : IVec S16 32) (k0_hw35 : k0_chk35 v2 v445), ∀ a x, ((![v2, v445] : Fin 2 → IVec S16 32) a x).toNat < S16x528.size a := fun v2 v445 k0_hw35 => k0_hw35.1
theorem k0_idx72_inb : ∀ (v2 : IVec S16 32) (v445 : IVec S16 32) (k0_hw35 : k0_chk35 v2 v445), ∀ a x, ((![v2, v445] : Fin 2 → IVec S16 32) a x).toNat < S16x528.size a := fun v2 v445 k0_hw35 => k0_hw35.2.1
theorem k0_idx73_inb : ∀ (v2 : IVec S16 32) (v445 : IVec S16 32) (k0_hw35 : k0_chk35 v2 v445), ∀ a x, ((![v2, v445] : Fin 2 → IVec S16 32) a x).toNat < S16x528.size a := fun v2 v445 k0_hw35 => k0_hw35.2.2
def k0_off251 (k0_t11 : Fin k0_t11_loop.trips) : Fin 1 → Nat :=
  let c0_i32_52 : BitVec 32 := 0#32
  let c1_i32_54 : BitVec 32 := 1#32
  let arg28 : BitVec 32 := Scf.iv c0_i32_52 c1_i32_54 k0_t11
  let c80_i32 : BitVec 32 := 80#32
  let v438 : BitVec 32 := Scalar.muli arg28 c80_i32
  let c16_i32_222 : BitVec 32 := 16#32
  let v450 : BitVec 32 := Scalar.addi v438 c16_i32_222
  let v451 : Index := Scalar.indexCast v450
  ![v451.toNat]

def k0_chk36 (v2 : IVec S16 32) (v456 : IVec S16 32) : Prop :=
  (∀ a x, ((![v2, v456] : Fin 2 → IVec S16 32) a x).toNat < S16x528.size a) ∧
  (∀ a x, ((![v2, v456] : Fin 2 → IVec S16 32) a x).toNat < S16x528.size a) ∧
  (∀ a x, ((![v2, v456] : Fin 2 → IVec S16 32) a x).toNat < S16x528.size a)
theorem k0_idx74_inb : ∀ (v2 : IVec S16 32) (v456 : IVec S16 32) (k0_hw36 : k0_chk36 v2 v456), ∀ a x, ((![v2, v456] : Fin 2 → IVec S16 32) a x).toNat < S16x528.size a := fun v2 v456 k0_hw36 => k0_hw36.1
theorem k0_idx75_inb : ∀ (v2 : IVec S16 32) (v456 : IVec S16 32) (k0_hw36 : k0_chk36 v2 v456), ∀ a x, ((![v2, v456] : Fin 2 → IVec S16 32) a x).toNat < S16x528.size a := fun v2 v456 k0_hw36 => k0_hw36.2.1
theorem k0_idx76_inb : ∀ (v2 : IVec S16 32) (v456 : IVec S16 32) (k0_hw36 : k0_chk36 v2 v456), ∀ a x, ((![v2, v456] : Fin 2 → IVec S16 32) a x).toNat < S16x528.size a := fun v2 v456 k0_hw36 => k0_hw36.2.2
def k0_off252 (k0_t11 : Fin k0_t11_loop.trips) : Fin 1 → Nat :=
  let c0_i32_52 : BitVec 32 := 0#32
  let c1_i32_54 : BitVec 32 := 1#32
  let arg28 : BitVec 32 := Scf.iv c0_i32_52 c1_i32_54 k0_t11
  let c80_i32 : BitVec 32 := 80#32
  let v438 : BitVec 32 := Scalar.muli arg28 c80_i32
  let c32_i32 : BitVec 32 := 32#32
  let v461 : BitVec 32 := Scalar.addi v438 c32_i32
  let v462 : Index := Scalar.indexCast v461
  ![v462.toNat]

def k0_chk37 (v2 : IVec S16 32) (v467 : IVec S16 32) : Prop :=
  (∀ a x, ((![v2, v467] : Fin 2 → IVec S16 32) a x).toNat < S16x528.size a) ∧
  (∀ a x, ((![v2, v467] : Fin 2 → IVec S16 32) a x).toNat < S16x528.size a) ∧
  (∀ a x, ((![v2, v467] : Fin 2 → IVec S16 32) a x).toNat < S16x528.size a)
theorem k0_idx77_inb : ∀ (v2 : IVec S16 32) (v467 : IVec S16 32) (k0_hw37 : k0_chk37 v2 v467), ∀ a x, ((![v2, v467] : Fin 2 → IVec S16 32) a x).toNat < S16x528.size a := fun v2 v467 k0_hw37 => k0_hw37.1
theorem k0_idx78_inb : ∀ (v2 : IVec S16 32) (v467 : IVec S16 32) (k0_hw37 : k0_chk37 v2 v467), ∀ a x, ((![v2, v467] : Fin 2 → IVec S16 32) a x).toNat < S16x528.size a := fun v2 v467 k0_hw37 => k0_hw37.2.1
theorem k0_idx79_inb : ∀ (v2 : IVec S16 32) (v467 : IVec S16 32) (k0_hw37 : k0_chk37 v2 v467), ∀ a x, ((![v2, v467] : Fin 2 → IVec S16 32) a x).toNat < S16x528.size a := fun v2 v467 k0_hw37 => k0_hw37.2.2
def k0_off253 (k0_t11 : Fin k0_t11_loop.trips) : Fin 1 → Nat :=
  let c0_i32_52 : BitVec 32 := 0#32
  let c1_i32_54 : BitVec 32 := 1#32
  let arg28 : BitVec 32 := Scf.iv c0_i32_52 c1_i32_54 k0_t11
  let c80_i32 : BitVec 32 := 80#32
  let v438 : BitVec 32 := Scalar.muli arg28 c80_i32
  let c48_i32 : BitVec 32 := 48#32
  let v472 : BitVec 32 := Scalar.addi v438 c48_i32
  let v473 : Index := Scalar.indexCast v472
  ![v473.toNat]

def k0_chk38 (v2 : IVec S16 32) (v478 : IVec S16 32) : Prop :=
  (∀ a x, ((![v2, v478] : Fin 2 → IVec S16 32) a x).toNat < S16x528.size a) ∧
  (∀ a x, ((![v2, v478] : Fin 2 → IVec S16 32) a x).toNat < S16x528.size a) ∧
  (∀ a x, ((![v2, v478] : Fin 2 → IVec S16 32) a x).toNat < S16x528.size a)
theorem k0_idx80_inb : ∀ (v2 : IVec S16 32) (v478 : IVec S16 32) (k0_hw38 : k0_chk38 v2 v478), ∀ a x, ((![v2, v478] : Fin 2 → IVec S16 32) a x).toNat < S16x528.size a := fun v2 v478 k0_hw38 => k0_hw38.1
theorem k0_idx81_inb : ∀ (v2 : IVec S16 32) (v478 : IVec S16 32) (k0_hw38 : k0_chk38 v2 v478), ∀ a x, ((![v2, v478] : Fin 2 → IVec S16 32) a x).toNat < S16x528.size a := fun v2 v478 k0_hw38 => k0_hw38.2.1
theorem k0_idx82_inb : ∀ (v2 : IVec S16 32) (v478 : IVec S16 32) (k0_hw38 : k0_chk38 v2 v478), ∀ a x, ((![v2, v478] : Fin 2 → IVec S16 32) a x).toNat < S16x528.size a := fun v2 v478 k0_hw38 => k0_hw38.2.2
def k0_off254 (k0_t11 : Fin k0_t11_loop.trips) : Fin 1 → Nat :=
  let c0_i32_52 : BitVec 32 := 0#32
  let c1_i32_54 : BitVec 32 := 1#32
  let arg28 : BitVec 32 := Scf.iv c0_i32_52 c1_i32_54 k0_t11
  let c80_i32 : BitVec 32 := 80#32
  let v438 : BitVec 32 := Scalar.muli arg28 c80_i32
  let c64_i32 : BitVec 32 := 64#32
  let v483 : BitVec 32 := Scalar.addi v438 c64_i32
  let v484 : Index := Scalar.indexCast v483
  ![v484.toNat]

def k0_chk39 (v2 : IVec S16 32) (v489 : IVec S16 32) : Prop :=
  (∀ a x, ((![v2, v489] : Fin 2 → IVec S16 32) a x).toNat < S16x528.size a) ∧
  (∀ a x, ((![v2, v489] : Fin 2 → IVec S16 32) a x).toNat < S16x528.size a) ∧
  (∀ a x, ((![v2, v489] : Fin 2 → IVec S16 32) a x).toNat < S16x528.size a)
theorem k0_idx83_inb : ∀ (v2 : IVec S16 32) (v489 : IVec S16 32) (k0_hw39 : k0_chk39 v2 v489), ∀ a x, ((![v2, v489] : Fin 2 → IVec S16 32) a x).toNat < S16x528.size a := fun v2 v489 k0_hw39 => k0_hw39.1
theorem k0_idx84_inb : ∀ (v2 : IVec S16 32) (v489 : IVec S16 32) (k0_hw39 : k0_chk39 v2 v489), ∀ a x, ((![v2, v489] : Fin 2 → IVec S16 32) a x).toNat < S16x528.size a := fun v2 v489 k0_hw39 => k0_hw39.2.1
theorem k0_idx85_inb : ∀ (v2 : IVec S16 32) (v489 : IVec S16 32) (k0_hw39 : k0_chk39 v2 v489), ∀ a x, ((![v2, v489] : Fin 2 → IVec S16 32) a x).toNat < S16x528.size a := fun v2 v489 k0_hw39 => k0_hw39.2.2
@[reducible] def k0_t12_loop : Scf.Loop 32 :=
  let c0_i32_58 : BitVec 32 := 0#32
  let c50_i32_59 : BitVec 32 := 50#32
  let v94 : BitVec 32 := Scalar.addi c0_i32_58 c50_i32_59
  let c1_i32_60 : BitVec 32 := 1#32
  ⟨c0_i32_58, v94, c1_i32_60⟩
def k0_off255 (k0_t12 : Fin k0_t12_loop.trips) : Fin 1 → Nat :=
  let c0_i32_58 : BitVec 32 := 0#32
  let c1_i32_60 : BitVec 32 := 1#32
  let arg28 : BitVec 32 := Scf.iv c0_i32_58 c1_i32_60 k0_t12
  let c80_i32 : BitVec 32 := 80#32
  let v438 : BitVec 32 := Scalar.muli arg28 c80_i32
  let c0_i32_221 : BitVec 32 := 0#32
  let v439 : BitVec 32 := Scalar.addi v438 c0_i32_221
  let v440 : Index := Scalar.indexCast v439
  ![v440.toNat]

def k0_chk40 (v2 : IVec S16 32) (v445 : IVec S16 32) : Prop :=
  (∀ a x, ((![v2, v445] : Fin 2 → IVec S16 32) a x).toNat < S16x528.size a) ∧
  (∀ a x, ((![v2, v445] : Fin 2 → IVec S16 32) a x).toNat < S16x528.size a) ∧
  (∀ a x, ((![v2, v445] : Fin 2 → IVec S16 32) a x).toNat < S16x528.size a)
theorem k0_idx86_inb : ∀ (v2 : IVec S16 32) (v445 : IVec S16 32) (k0_hw40 : k0_chk40 v2 v445), ∀ a x, ((![v2, v445] : Fin 2 → IVec S16 32) a x).toNat < S16x528.size a := fun v2 v445 k0_hw40 => k0_hw40.1
theorem k0_idx87_inb : ∀ (v2 : IVec S16 32) (v445 : IVec S16 32) (k0_hw40 : k0_chk40 v2 v445), ∀ a x, ((![v2, v445] : Fin 2 → IVec S16 32) a x).toNat < S16x528.size a := fun v2 v445 k0_hw40 => k0_hw40.2.1
theorem k0_idx88_inb : ∀ (v2 : IVec S16 32) (v445 : IVec S16 32) (k0_hw40 : k0_chk40 v2 v445), ∀ a x, ((![v2, v445] : Fin 2 → IVec S16 32) a x).toNat < S16x528.size a := fun v2 v445 k0_hw40 => k0_hw40.2.2
def k0_off256 (k0_t12 : Fin k0_t12_loop.trips) : Fin 1 → Nat :=
  let c0_i32_58 : BitVec 32 := 0#32
  let c1_i32_60 : BitVec 32 := 1#32
  let arg28 : BitVec 32 := Scf.iv c0_i32_58 c1_i32_60 k0_t12
  let c80_i32 : BitVec 32 := 80#32
  let v438 : BitVec 32 := Scalar.muli arg28 c80_i32
  let c16_i32_222 : BitVec 32 := 16#32
  let v450 : BitVec 32 := Scalar.addi v438 c16_i32_222
  let v451 : Index := Scalar.indexCast v450
  ![v451.toNat]

def k0_chk41 (v2 : IVec S16 32) (v456 : IVec S16 32) : Prop :=
  (∀ a x, ((![v2, v456] : Fin 2 → IVec S16 32) a x).toNat < S16x528.size a) ∧
  (∀ a x, ((![v2, v456] : Fin 2 → IVec S16 32) a x).toNat < S16x528.size a) ∧
  (∀ a x, ((![v2, v456] : Fin 2 → IVec S16 32) a x).toNat < S16x528.size a)
theorem k0_idx89_inb : ∀ (v2 : IVec S16 32) (v456 : IVec S16 32) (k0_hw41 : k0_chk41 v2 v456), ∀ a x, ((![v2, v456] : Fin 2 → IVec S16 32) a x).toNat < S16x528.size a := fun v2 v456 k0_hw41 => k0_hw41.1
theorem k0_idx90_inb : ∀ (v2 : IVec S16 32) (v456 : IVec S16 32) (k0_hw41 : k0_chk41 v2 v456), ∀ a x, ((![v2, v456] : Fin 2 → IVec S16 32) a x).toNat < S16x528.size a := fun v2 v456 k0_hw41 => k0_hw41.2.1
theorem k0_idx91_inb : ∀ (v2 : IVec S16 32) (v456 : IVec S16 32) (k0_hw41 : k0_chk41 v2 v456), ∀ a x, ((![v2, v456] : Fin 2 → IVec S16 32) a x).toNat < S16x528.size a := fun v2 v456 k0_hw41 => k0_hw41.2.2
def k0_off257 (k0_t12 : Fin k0_t12_loop.trips) : Fin 1 → Nat :=
  let c0_i32_58 : BitVec 32 := 0#32
  let c1_i32_60 : BitVec 32 := 1#32
  let arg28 : BitVec 32 := Scf.iv c0_i32_58 c1_i32_60 k0_t12
  let c80_i32 : BitVec 32 := 80#32
  let v438 : BitVec 32 := Scalar.muli arg28 c80_i32
  let c32_i32 : BitVec 32 := 32#32
  let v461 : BitVec 32 := Scalar.addi v438 c32_i32
  let v462 : Index := Scalar.indexCast v461
  ![v462.toNat]

def k0_chk42 (v2 : IVec S16 32) (v467 : IVec S16 32) : Prop :=
  (∀ a x, ((![v2, v467] : Fin 2 → IVec S16 32) a x).toNat < S16x528.size a) ∧
  (∀ a x, ((![v2, v467] : Fin 2 → IVec S16 32) a x).toNat < S16x528.size a) ∧
  (∀ a x, ((![v2, v467] : Fin 2 → IVec S16 32) a x).toNat < S16x528.size a)
theorem k0_idx92_inb : ∀ (v2 : IVec S16 32) (v467 : IVec S16 32) (k0_hw42 : k0_chk42 v2 v467), ∀ a x, ((![v2, v467] : Fin 2 → IVec S16 32) a x).toNat < S16x528.size a := fun v2 v467 k0_hw42 => k0_hw42.1
theorem k0_idx93_inb : ∀ (v2 : IVec S16 32) (v467 : IVec S16 32) (k0_hw42 : k0_chk42 v2 v467), ∀ a x, ((![v2, v467] : Fin 2 → IVec S16 32) a x).toNat < S16x528.size a := fun v2 v467 k0_hw42 => k0_hw42.2.1
theorem k0_idx94_inb : ∀ (v2 : IVec S16 32) (v467 : IVec S16 32) (k0_hw42 : k0_chk42 v2 v467), ∀ a x, ((![v2, v467] : Fin 2 → IVec S16 32) a x).toNat < S16x528.size a := fun v2 v467 k0_hw42 => k0_hw42.2.2
def k0_off258 (k0_t12 : Fin k0_t12_loop.trips) : Fin 1 → Nat :=
  let c0_i32_58 : BitVec 32 := 0#32
  let c1_i32_60 : BitVec 32 := 1#32
  let arg28 : BitVec 32 := Scf.iv c0_i32_58 c1_i32_60 k0_t12
  let c80_i32 : BitVec 32 := 80#32
  let v438 : BitVec 32 := Scalar.muli arg28 c80_i32
  let c48_i32 : BitVec 32 := 48#32
  let v472 : BitVec 32 := Scalar.addi v438 c48_i32
  let v473 : Index := Scalar.indexCast v472
  ![v473.toNat]

def k0_chk43 (v2 : IVec S16 32) (v478 : IVec S16 32) : Prop :=
  (∀ a x, ((![v2, v478] : Fin 2 → IVec S16 32) a x).toNat < S16x528.size a) ∧
  (∀ a x, ((![v2, v478] : Fin 2 → IVec S16 32) a x).toNat < S16x528.size a) ∧
  (∀ a x, ((![v2, v478] : Fin 2 → IVec S16 32) a x).toNat < S16x528.size a)
theorem k0_idx95_inb : ∀ (v2 : IVec S16 32) (v478 : IVec S16 32) (k0_hw43 : k0_chk43 v2 v478), ∀ a x, ((![v2, v478] : Fin 2 → IVec S16 32) a x).toNat < S16x528.size a := fun v2 v478 k0_hw43 => k0_hw43.1
theorem k0_idx96_inb : ∀ (v2 : IVec S16 32) (v478 : IVec S16 32) (k0_hw43 : k0_chk43 v2 v478), ∀ a x, ((![v2, v478] : Fin 2 → IVec S16 32) a x).toNat < S16x528.size a := fun v2 v478 k0_hw43 => k0_hw43.2.1
theorem k0_idx97_inb : ∀ (v2 : IVec S16 32) (v478 : IVec S16 32) (k0_hw43 : k0_chk43 v2 v478), ∀ a x, ((![v2, v478] : Fin 2 → IVec S16 32) a x).toNat < S16x528.size a := fun v2 v478 k0_hw43 => k0_hw43.2.2
def k0_off259 (k0_t12 : Fin k0_t12_loop.trips) : Fin 1 → Nat :=
  let c0_i32_58 : BitVec 32 := 0#32
  let c1_i32_60 : BitVec 32 := 1#32
  let arg28 : BitVec 32 := Scf.iv c0_i32_58 c1_i32_60 k0_t12
  let c80_i32 : BitVec 32 := 80#32
  let v438 : BitVec 32 := Scalar.muli arg28 c80_i32
  let c64_i32 : BitVec 32 := 64#32
  let v483 : BitVec 32 := Scalar.addi v438 c64_i32
  let v484 : Index := Scalar.indexCast v483
  ![v484.toNat]

def k0_chk44 (v2 : IVec S16 32) (v489 : IVec S16 32) : Prop :=
  (∀ a x, ((![v2, v489] : Fin 2 → IVec S16 32) a x).toNat < S16x528.size a) ∧
  (∀ a x, ((![v2, v489] : Fin 2 → IVec S16 32) a x).toNat < S16x528.size a) ∧
  (∀ a x, ((![v2, v489] : Fin 2 → IVec S16 32) a x).toNat < S16x528.size a)
theorem k0_idx98_inb : ∀ (v2 : IVec S16 32) (v489 : IVec S16 32) (k0_hw44 : k0_chk44 v2 v489), ∀ a x, ((![v2, v489] : Fin 2 → IVec S16 32) a x).toNat < S16x528.size a := fun v2 v489 k0_hw44 => k0_hw44.1
theorem k0_idx99_inb : ∀ (v2 : IVec S16 32) (v489 : IVec S16 32) (k0_hw44 : k0_chk44 v2 v489), ∀ a x, ((![v2, v489] : Fin 2 → IVec S16 32) a x).toNat < S16x528.size a := fun v2 v489 k0_hw44 => k0_hw44.2.1
theorem k0_idx100_inb : ∀ (v2 : IVec S16 32) (v489 : IVec S16 32) (k0_hw44 : k0_chk44 v2 v489), ∀ a x, ((![v2, v489] : Fin 2 → IVec S16 32) a x).toNat < S16x528.size a := fun v2 v489 k0_hw44 => k0_hw44.2.2
@[reducible] def k0_t13_loop : Scf.Loop 32 :=
  let c0_i32_64 : BitVec 32 := 0#32
  let c50_i32_65 : BitVec 32 := 50#32
  let v110 : BitVec 32 := Scalar.addi c0_i32_64 c50_i32_65
  let c1_i32_66 : BitVec 32 := 1#32
  ⟨c0_i32_64, v110, c1_i32_66⟩
def k0_off260 (k0_t13 : Fin k0_t13_loop.trips) : Fin 1 → Nat :=
  let c0_i32_64 : BitVec 32 := 0#32
  let c1_i32_66 : BitVec 32 := 1#32
  let arg28 : BitVec 32 := Scf.iv c0_i32_64 c1_i32_66 k0_t13
  let c80_i32 : BitVec 32 := 80#32
  let v438 : BitVec 32 := Scalar.muli arg28 c80_i32
  let c0_i32_221 : BitVec 32 := 0#32
  let v439 : BitVec 32 := Scalar.addi v438 c0_i32_221
  let v440 : Index := Scalar.indexCast v439
  ![v440.toNat]

def k0_chk45 (v2 : IVec S16 32) (v445 : IVec S16 32) : Prop :=
  (∀ a x, ((![v2, v445] : Fin 2 → IVec S16 32) a x).toNat < S16x528.size a) ∧
  (∀ a x, ((![v2, v445] : Fin 2 → IVec S16 32) a x).toNat < S16x528.size a) ∧
  (∀ a x, ((![v2, v445] : Fin 2 → IVec S16 32) a x).toNat < S16x528.size a)
theorem k0_idx101_inb : ∀ (v2 : IVec S16 32) (v445 : IVec S16 32) (k0_hw45 : k0_chk45 v2 v445), ∀ a x, ((![v2, v445] : Fin 2 → IVec S16 32) a x).toNat < S16x528.size a := fun v2 v445 k0_hw45 => k0_hw45.1
theorem k0_idx102_inb : ∀ (v2 : IVec S16 32) (v445 : IVec S16 32) (k0_hw45 : k0_chk45 v2 v445), ∀ a x, ((![v2, v445] : Fin 2 → IVec S16 32) a x).toNat < S16x528.size a := fun v2 v445 k0_hw45 => k0_hw45.2.1
theorem k0_idx103_inb : ∀ (v2 : IVec S16 32) (v445 : IVec S16 32) (k0_hw45 : k0_chk45 v2 v445), ∀ a x, ((![v2, v445] : Fin 2 → IVec S16 32) a x).toNat < S16x528.size a := fun v2 v445 k0_hw45 => k0_hw45.2.2
def k0_off261 (k0_t13 : Fin k0_t13_loop.trips) : Fin 1 → Nat :=
  let c0_i32_64 : BitVec 32 := 0#32
  let c1_i32_66 : BitVec 32 := 1#32
  let arg28 : BitVec 32 := Scf.iv c0_i32_64 c1_i32_66 k0_t13
  let c80_i32 : BitVec 32 := 80#32
  let v438 : BitVec 32 := Scalar.muli arg28 c80_i32
  let c16_i32_222 : BitVec 32 := 16#32
  let v450 : BitVec 32 := Scalar.addi v438 c16_i32_222
  let v451 : Index := Scalar.indexCast v450
  ![v451.toNat]

def k0_chk46 (v2 : IVec S16 32) (v456 : IVec S16 32) : Prop :=
  (∀ a x, ((![v2, v456] : Fin 2 → IVec S16 32) a x).toNat < S16x528.size a) ∧
  (∀ a x, ((![v2, v456] : Fin 2 → IVec S16 32) a x).toNat < S16x528.size a) ∧
  (∀ a x, ((![v2, v456] : Fin 2 → IVec S16 32) a x).toNat < S16x528.size a)
theorem k0_idx104_inb : ∀ (v2 : IVec S16 32) (v456 : IVec S16 32) (k0_hw46 : k0_chk46 v2 v456), ∀ a x, ((![v2, v456] : Fin 2 → IVec S16 32) a x).toNat < S16x528.size a := fun v2 v456 k0_hw46 => k0_hw46.1
theorem k0_idx105_inb : ∀ (v2 : IVec S16 32) (v456 : IVec S16 32) (k0_hw46 : k0_chk46 v2 v456), ∀ a x, ((![v2, v456] : Fin 2 → IVec S16 32) a x).toNat < S16x528.size a := fun v2 v456 k0_hw46 => k0_hw46.2.1
theorem k0_idx106_inb : ∀ (v2 : IVec S16 32) (v456 : IVec S16 32) (k0_hw46 : k0_chk46 v2 v456), ∀ a x, ((![v2, v456] : Fin 2 → IVec S16 32) a x).toNat < S16x528.size a := fun v2 v456 k0_hw46 => k0_hw46.2.2
def k0_off262 (k0_t13 : Fin k0_t13_loop.trips) : Fin 1 → Nat :=
  let c0_i32_64 : BitVec 32 := 0#32
  let c1_i32_66 : BitVec 32 := 1#32
  let arg28 : BitVec 32 := Scf.iv c0_i32_64 c1_i32_66 k0_t13
  let c80_i32 : BitVec 32 := 80#32
  let v438 : BitVec 32 := Scalar.muli arg28 c80_i32
  let c32_i32 : BitVec 32 := 32#32
  let v461 : BitVec 32 := Scalar.addi v438 c32_i32
  let v462 : Index := Scalar.indexCast v461
  ![v462.toNat]

def k0_chk47 (v2 : IVec S16 32) (v467 : IVec S16 32) : Prop :=
  (∀ a x, ((![v2, v467] : Fin 2 → IVec S16 32) a x).toNat < S16x528.size a) ∧
  (∀ a x, ((![v2, v467] : Fin 2 → IVec S16 32) a x).toNat < S16x528.size a) ∧
  (∀ a x, ((![v2, v467] : Fin 2 → IVec S16 32) a x).toNat < S16x528.size a)
theorem k0_idx107_inb : ∀ (v2 : IVec S16 32) (v467 : IVec S16 32) (k0_hw47 : k0_chk47 v2 v467), ∀ a x, ((![v2, v467] : Fin 2 → IVec S16 32) a x).toNat < S16x528.size a := fun v2 v467 k0_hw47 => k0_hw47.1
theorem k0_idx108_inb : ∀ (v2 : IVec S16 32) (v467 : IVec S16 32) (k0_hw47 : k0_chk47 v2 v467), ∀ a x, ((![v2, v467] : Fin 2 → IVec S16 32) a x).toNat < S16x528.size a := fun v2 v467 k0_hw47 => k0_hw47.2.1
theorem k0_idx109_inb : ∀ (v2 : IVec S16 32) (v467 : IVec S16 32) (k0_hw47 : k0_chk47 v2 v467), ∀ a x, ((![v2, v467] : Fin 2 → IVec S16 32) a x).toNat < S16x528.size a := fun v2 v467 k0_hw47 => k0_hw47.2.2
def k0_off263 (k0_t13 : Fin k0_t13_loop.trips) : Fin 1 → Nat :=
  let c0_i32_64 : BitVec 32 := 0#32
  let c1_i32_66 : BitVec 32 := 1#32
  let arg28 : BitVec 32 := Scf.iv c0_i32_64 c1_i32_66 k0_t13
  let c80_i32 : BitVec 32 := 80#32
  let v438 : BitVec 32 := Scalar.muli arg28 c80_i32
  let c48_i32 : BitVec 32 := 48#32
  let v472 : BitVec 32 := Scalar.addi v438 c48_i32
  let v473 : Index := Scalar.indexCast v472
  ![v473.toNat]

def k0_chk48 (v2 : IVec S16 32) (v478 : IVec S16 32) : Prop :=
  (∀ a x, ((![v2, v478] : Fin 2 → IVec S16 32) a x).toNat < S16x528.size a) ∧
  (∀ a x, ((![v2, v478] : Fin 2 → IVec S16 32) a x).toNat < S16x528.size a) ∧
  (∀ a x, ((![v2, v478] : Fin 2 → IVec S16 32) a x).toNat < S16x528.size a)
theorem k0_idx110_inb : ∀ (v2 : IVec S16 32) (v478 : IVec S16 32) (k0_hw48 : k0_chk48 v2 v478), ∀ a x, ((![v2, v478] : Fin 2 → IVec S16 32) a x).toNat < S16x528.size a := fun v2 v478 k0_hw48 => k0_hw48.1
theorem k0_idx111_inb : ∀ (v2 : IVec S16 32) (v478 : IVec S16 32) (k0_hw48 : k0_chk48 v2 v478), ∀ a x, ((![v2, v478] : Fin 2 → IVec S16 32) a x).toNat < S16x528.size a := fun v2 v478 k0_hw48 => k0_hw48.2.1
theorem k0_idx112_inb : ∀ (v2 : IVec S16 32) (v478 : IVec S16 32) (k0_hw48 : k0_chk48 v2 v478), ∀ a x, ((![v2, v478] : Fin 2 → IVec S16 32) a x).toNat < S16x528.size a := fun v2 v478 k0_hw48 => k0_hw48.2.2
def k0_off264 (k0_t13 : Fin k0_t13_loop.trips) : Fin 1 → Nat :=
  let c0_i32_64 : BitVec 32 := 0#32
  let c1_i32_66 : BitVec 32 := 1#32
  let arg28 : BitVec 32 := Scf.iv c0_i32_64 c1_i32_66 k0_t13
  let c80_i32 : BitVec 32 := 80#32
  let v438 : BitVec 32 := Scalar.muli arg28 c80_i32
  let c64_i32 : BitVec 32 := 64#32
  let v483 : BitVec 32 := Scalar.addi v438 c64_i32
  let v484 : Index := Scalar.indexCast v483
  ![v484.toNat]

def k0_chk49 (v2 : IVec S16 32) (v489 : IVec S16 32) : Prop :=
  (∀ a x, ((![v2, v489] : Fin 2 → IVec S16 32) a x).toNat < S16x528.size a) ∧
  (∀ a x, ((![v2, v489] : Fin 2 → IVec S16 32) a x).toNat < S16x528.size a) ∧
  (∀ a x, ((![v2, v489] : Fin 2 → IVec S16 32) a x).toNat < S16x528.size a)
theorem k0_idx113_inb : ∀ (v2 : IVec S16 32) (v489 : IVec S16 32) (k0_hw49 : k0_chk49 v2 v489), ∀ a x, ((![v2, v489] : Fin 2 → IVec S16 32) a x).toNat < S16x528.size a := fun v2 v489 k0_hw49 => k0_hw49.1
theorem k0_idx114_inb : ∀ (v2 : IVec S16 32) (v489 : IVec S16 32) (k0_hw49 : k0_chk49 v2 v489), ∀ a x, ((![v2, v489] : Fin 2 → IVec S16 32) a x).toNat < S16x528.size a := fun v2 v489 k0_hw49 => k0_hw49.2.1
theorem k0_idx115_inb : ∀ (v2 : IVec S16 32) (v489 : IVec S16 32) (k0_hw49 : k0_chk49 v2 v489), ∀ a x, ((![v2, v489] : Fin 2 → IVec S16 32) a x).toNat < S16x528.size a := fun v2 v489 k0_hw49 => k0_hw49.2.2
@[reducible] def k0_t14_loop : Scf.Loop 32 :=
  let c0_i32_70 : BitVec 32 := 0#32
  let c50_i32_71 : BitVec 32 := 50#32
  let v126 : BitVec 32 := Scalar.addi c0_i32_70 c50_i32_71
  let c1_i32_72 : BitVec 32 := 1#32
  ⟨c0_i32_70, v126, c1_i32_72⟩
def k0_off265 (k0_t14 : Fin k0_t14_loop.trips) : Fin 1 → Nat :=
  let c0_i32_70 : BitVec 32 := 0#32
  let c1_i32_72 : BitVec 32 := 1#32
  let arg28 : BitVec 32 := Scf.iv c0_i32_70 c1_i32_72 k0_t14
  let c80_i32 : BitVec 32 := 80#32
  let v438 : BitVec 32 := Scalar.muli arg28 c80_i32
  let c0_i32_221 : BitVec 32 := 0#32
  let v439 : BitVec 32 := Scalar.addi v438 c0_i32_221
  let v440 : Index := Scalar.indexCast v439
  ![v440.toNat]

def k0_chk50 (v2 : IVec S16 32) (v445 : IVec S16 32) : Prop :=
  (∀ a x, ((![v2, v445] : Fin 2 → IVec S16 32) a x).toNat < S16x528.size a) ∧
  (∀ a x, ((![v2, v445] : Fin 2 → IVec S16 32) a x).toNat < S16x528.size a) ∧
  (∀ a x, ((![v2, v445] : Fin 2 → IVec S16 32) a x).toNat < S16x528.size a)
theorem k0_idx116_inb : ∀ (v2 : IVec S16 32) (v445 : IVec S16 32) (k0_hw50 : k0_chk50 v2 v445), ∀ a x, ((![v2, v445] : Fin 2 → IVec S16 32) a x).toNat < S16x528.size a := fun v2 v445 k0_hw50 => k0_hw50.1
theorem k0_idx117_inb : ∀ (v2 : IVec S16 32) (v445 : IVec S16 32) (k0_hw50 : k0_chk50 v2 v445), ∀ a x, ((![v2, v445] : Fin 2 → IVec S16 32) a x).toNat < S16x528.size a := fun v2 v445 k0_hw50 => k0_hw50.2.1
theorem k0_idx118_inb : ∀ (v2 : IVec S16 32) (v445 : IVec S16 32) (k0_hw50 : k0_chk50 v2 v445), ∀ a x, ((![v2, v445] : Fin 2 → IVec S16 32) a x).toNat < S16x528.size a := fun v2 v445 k0_hw50 => k0_hw50.2.2
def k0_off266 (k0_t14 : Fin k0_t14_loop.trips) : Fin 1 → Nat :=
  let c0_i32_70 : BitVec 32 := 0#32
  let c1_i32_72 : BitVec 32 := 1#32
  let arg28 : BitVec 32 := Scf.iv c0_i32_70 c1_i32_72 k0_t14
  let c80_i32 : BitVec 32 := 80#32
  let v438 : BitVec 32 := Scalar.muli arg28 c80_i32
  let c16_i32_222 : BitVec 32 := 16#32
  let v450 : BitVec 32 := Scalar.addi v438 c16_i32_222
  let v451 : Index := Scalar.indexCast v450
  ![v451.toNat]

def k0_chk51 (v2 : IVec S16 32) (v456 : IVec S16 32) : Prop :=
  (∀ a x, ((![v2, v456] : Fin 2 → IVec S16 32) a x).toNat < S16x528.size a) ∧
  (∀ a x, ((![v2, v456] : Fin 2 → IVec S16 32) a x).toNat < S16x528.size a) ∧
  (∀ a x, ((![v2, v456] : Fin 2 → IVec S16 32) a x).toNat < S16x528.size a)
theorem k0_idx119_inb : ∀ (v2 : IVec S16 32) (v456 : IVec S16 32) (k0_hw51 : k0_chk51 v2 v456), ∀ a x, ((![v2, v456] : Fin 2 → IVec S16 32) a x).toNat < S16x528.size a := fun v2 v456 k0_hw51 => k0_hw51.1
theorem k0_idx120_inb : ∀ (v2 : IVec S16 32) (v456 : IVec S16 32) (k0_hw51 : k0_chk51 v2 v456), ∀ a x, ((![v2, v456] : Fin 2 → IVec S16 32) a x).toNat < S16x528.size a := fun v2 v456 k0_hw51 => k0_hw51.2.1
theorem k0_idx121_inb : ∀ (v2 : IVec S16 32) (v456 : IVec S16 32) (k0_hw51 : k0_chk51 v2 v456), ∀ a x, ((![v2, v456] : Fin 2 → IVec S16 32) a x).toNat < S16x528.size a := fun v2 v456 k0_hw51 => k0_hw51.2.2
def k0_off267 (k0_t14 : Fin k0_t14_loop.trips) : Fin 1 → Nat :=
  let c0_i32_70 : BitVec 32 := 0#32
  let c1_i32_72 : BitVec 32 := 1#32
  let arg28 : BitVec 32 := Scf.iv c0_i32_70 c1_i32_72 k0_t14
  let c80_i32 : BitVec 32 := 80#32
  let v438 : BitVec 32 := Scalar.muli arg28 c80_i32
  let c32_i32 : BitVec 32 := 32#32
  let v461 : BitVec 32 := Scalar.addi v438 c32_i32
  let v462 : Index := Scalar.indexCast v461
  ![v462.toNat]

def k0_chk52 (v2 : IVec S16 32) (v467 : IVec S16 32) : Prop :=
  (∀ a x, ((![v2, v467] : Fin 2 → IVec S16 32) a x).toNat < S16x528.size a) ∧
  (∀ a x, ((![v2, v467] : Fin 2 → IVec S16 32) a x).toNat < S16x528.size a) ∧
  (∀ a x, ((![v2, v467] : Fin 2 → IVec S16 32) a x).toNat < S16x528.size a)
theorem k0_idx122_inb : ∀ (v2 : IVec S16 32) (v467 : IVec S16 32) (k0_hw52 : k0_chk52 v2 v467), ∀ a x, ((![v2, v467] : Fin 2 → IVec S16 32) a x).toNat < S16x528.size a := fun v2 v467 k0_hw52 => k0_hw52.1
theorem k0_idx123_inb : ∀ (v2 : IVec S16 32) (v467 : IVec S16 32) (k0_hw52 : k0_chk52 v2 v467), ∀ a x, ((![v2, v467] : Fin 2 → IVec S16 32) a x).toNat < S16x528.size a := fun v2 v467 k0_hw52 => k0_hw52.2.1
theorem k0_idx124_inb : ∀ (v2 : IVec S16 32) (v467 : IVec S16 32) (k0_hw52 : k0_chk52 v2 v467), ∀ a x, ((![v2, v467] : Fin 2 → IVec S16 32) a x).toNat < S16x528.size a := fun v2 v467 k0_hw52 => k0_hw52.2.2
def k0_off268 (k0_t14 : Fin k0_t14_loop.trips) : Fin 1 → Nat :=
  let c0_i32_70 : BitVec 32 := 0#32
  let c1_i32_72 : BitVec 32 := 1#32
  let arg28 : BitVec 32 := Scf.iv c0_i32_70 c1_i32_72 k0_t14
  let c80_i32 : BitVec 32 := 80#32
  let v438 : BitVec 32 := Scalar.muli arg28 c80_i32
  let c48_i32 : BitVec 32 := 48#32
  let v472 : BitVec 32 := Scalar.addi v438 c48_i32
  let v473 : Index := Scalar.indexCast v472
  ![v473.toNat]

def k0_chk53 (v2 : IVec S16 32) (v478 : IVec S16 32) : Prop :=
  (∀ a x, ((![v2, v478] : Fin 2 → IVec S16 32) a x).toNat < S16x528.size a) ∧
  (∀ a x, ((![v2, v478] : Fin 2 → IVec S16 32) a x).toNat < S16x528.size a) ∧
  (∀ a x, ((![v2, v478] : Fin 2 → IVec S16 32) a x).toNat < S16x528.size a)
theorem k0_idx125_inb : ∀ (v2 : IVec S16 32) (v478 : IVec S16 32) (k0_hw53 : k0_chk53 v2 v478), ∀ a x, ((![v2, v478] : Fin 2 → IVec S16 32) a x).toNat < S16x528.size a := fun v2 v478 k0_hw53 => k0_hw53.1
theorem k0_idx126_inb : ∀ (v2 : IVec S16 32) (v478 : IVec S16 32) (k0_hw53 : k0_chk53 v2 v478), ∀ a x, ((![v2, v478] : Fin 2 → IVec S16 32) a x).toNat < S16x528.size a := fun v2 v478 k0_hw53 => k0_hw53.2.1
theorem k0_idx127_inb : ∀ (v2 : IVec S16 32) (v478 : IVec S16 32) (k0_hw53 : k0_chk53 v2 v478), ∀ a x, ((![v2, v478] : Fin 2 → IVec S16 32) a x).toNat < S16x528.size a := fun v2 v478 k0_hw53 => k0_hw53.2.2
def k0_off269 (k0_t14 : Fin k0_t14_loop.trips) : Fin 1 → Nat :=
  let c0_i32_70 : BitVec 32 := 0#32
  let c1_i32_72 : BitVec 32 := 1#32
  let arg28 : BitVec 32 := Scf.iv c0_i32_70 c1_i32_72 k0_t14
  let c80_i32 : BitVec 32 := 80#32
  let v438 : BitVec 32 := Scalar.muli arg28 c80_i32
  let c64_i32 : BitVec 32 := 64#32
  let v483 : BitVec 32 := Scalar.addi v438 c64_i32
  let v484 : Index := Scalar.indexCast v483
  ![v484.toNat]

def k0_chk54 (v2 : IVec S16 32) (v489 : IVec S16 32) : Prop :=
  (∀ a x, ((![v2, v489] : Fin 2 → IVec S16 32) a x).toNat < S16x528.size a) ∧
  (∀ a x, ((![v2, v489] : Fin 2 → IVec S16 32) a x).toNat < S16x528.size a) ∧
  (∀ a x, ((![v2, v489] : Fin 2 → IVec S16 32) a x).toNat < S16x528.size a)
theorem k0_idx128_inb : ∀ (v2 : IVec S16 32) (v489 : IVec S16 32) (k0_hw54 : k0_chk54 v2 v489), ∀ a x, ((![v2, v489] : Fin 2 → IVec S16 32) a x).toNat < S16x528.size a := fun v2 v489 k0_hw54 => k0_hw54.1
theorem k0_idx129_inb : ∀ (v2 : IVec S16 32) (v489 : IVec S16 32) (k0_hw54 : k0_chk54 v2 v489), ∀ a x, ((![v2, v489] : Fin 2 → IVec S16 32) a x).toNat < S16x528.size a := fun v2 v489 k0_hw54 => k0_hw54.2.1
theorem k0_idx130_inb : ∀ (v2 : IVec S16 32) (v489 : IVec S16 32) (k0_hw54 : k0_chk54 v2 v489), ∀ a x, ((![v2, v489] : Fin 2 → IVec S16 32) a x).toNat < S16x528.size a := fun v2 v489 k0_hw54 => k0_hw54.2.2
@[reducible] def k0_t15_loop : Scf.Loop 32 :=
  let c0_i32_76 : BitVec 32 := 0#32
  let c50_i32_77 : BitVec 32 := 50#32
  let v142 : BitVec 32 := Scalar.addi c0_i32_76 c50_i32_77
  let c1_i32_78 : BitVec 32 := 1#32
  ⟨c0_i32_76, v142, c1_i32_78⟩
def k0_off270 (k0_t15 : Fin k0_t15_loop.trips) : Fin 1 → Nat :=
  let c0_i32_76 : BitVec 32 := 0#32
  let c1_i32_78 : BitVec 32 := 1#32
  let arg28 : BitVec 32 := Scf.iv c0_i32_76 c1_i32_78 k0_t15
  let c80_i32 : BitVec 32 := 80#32
  let v438 : BitVec 32 := Scalar.muli arg28 c80_i32
  let c0_i32_221 : BitVec 32 := 0#32
  let v439 : BitVec 32 := Scalar.addi v438 c0_i32_221
  let v440 : Index := Scalar.indexCast v439
  ![v440.toNat]

def k0_chk55 (v2 : IVec S16 32) (v445 : IVec S16 32) : Prop :=
  (∀ a x, ((![v2, v445] : Fin 2 → IVec S16 32) a x).toNat < S16x528.size a) ∧
  (∀ a x, ((![v2, v445] : Fin 2 → IVec S16 32) a x).toNat < S16x528.size a) ∧
  (∀ a x, ((![v2, v445] : Fin 2 → IVec S16 32) a x).toNat < S16x528.size a)
theorem k0_idx131_inb : ∀ (v2 : IVec S16 32) (v445 : IVec S16 32) (k0_hw55 : k0_chk55 v2 v445), ∀ a x, ((![v2, v445] : Fin 2 → IVec S16 32) a x).toNat < S16x528.size a := fun v2 v445 k0_hw55 => k0_hw55.1
theorem k0_idx132_inb : ∀ (v2 : IVec S16 32) (v445 : IVec S16 32) (k0_hw55 : k0_chk55 v2 v445), ∀ a x, ((![v2, v445] : Fin 2 → IVec S16 32) a x).toNat < S16x528.size a := fun v2 v445 k0_hw55 => k0_hw55.2.1
theorem k0_idx133_inb : ∀ (v2 : IVec S16 32) (v445 : IVec S16 32) (k0_hw55 : k0_chk55 v2 v445), ∀ a x, ((![v2, v445] : Fin 2 → IVec S16 32) a x).toNat < S16x528.size a := fun v2 v445 k0_hw55 => k0_hw55.2.2
def k0_off271 (k0_t15 : Fin k0_t15_loop.trips) : Fin 1 → Nat :=
  let c0_i32_76 : BitVec 32 := 0#32
  let c1_i32_78 : BitVec 32 := 1#32
  let arg28 : BitVec 32 := Scf.iv c0_i32_76 c1_i32_78 k0_t15
  let c80_i32 : BitVec 32 := 80#32
  let v438 : BitVec 32 := Scalar.muli arg28 c80_i32
  let c16_i32_222 : BitVec 32 := 16#32
  let v450 : BitVec 32 := Scalar.addi v438 c16_i32_222
  let v451 : Index := Scalar.indexCast v450
  ![v451.toNat]

def k0_chk56 (v2 : IVec S16 32) (v456 : IVec S16 32) : Prop :=
  (∀ a x, ((![v2, v456] : Fin 2 → IVec S16 32) a x).toNat < S16x528.size a) ∧
  (∀ a x, ((![v2, v456] : Fin 2 → IVec S16 32) a x).toNat < S16x528.size a) ∧
  (∀ a x, ((![v2, v456] : Fin 2 → IVec S16 32) a x).toNat < S16x528.size a)
theorem k0_idx134_inb : ∀ (v2 : IVec S16 32) (v456 : IVec S16 32) (k0_hw56 : k0_chk56 v2 v456), ∀ a x, ((![v2, v456] : Fin 2 → IVec S16 32) a x).toNat < S16x528.size a := fun v2 v456 k0_hw56 => k0_hw56.1
theorem k0_idx135_inb : ∀ (v2 : IVec S16 32) (v456 : IVec S16 32) (k0_hw56 : k0_chk56 v2 v456), ∀ a x, ((![v2, v456] : Fin 2 → IVec S16 32) a x).toNat < S16x528.size a := fun v2 v456 k0_hw56 => k0_hw56.2.1
theorem k0_idx136_inb : ∀ (v2 : IVec S16 32) (v456 : IVec S16 32) (k0_hw56 : k0_chk56 v2 v456), ∀ a x, ((![v2, v456] : Fin 2 → IVec S16 32) a x).toNat < S16x528.size a := fun v2 v456 k0_hw56 => k0_hw56.2.2
def k0_off272 (k0_t15 : Fin k0_t15_loop.trips) : Fin 1 → Nat :=
  let c0_i32_76 : BitVec 32 := 0#32
  let c1_i32_78 : BitVec 32 := 1#32
  let arg28 : BitVec 32 := Scf.iv c0_i32_76 c1_i32_78 k0_t15
  let c80_i32 : BitVec 32 := 80#32
  let v438 : BitVec 32 := Scalar.muli arg28 c80_i32
  let c32_i32 : BitVec 32 := 32#32
  let v461 : BitVec 32 := Scalar.addi v438 c32_i32
  let v462 : Index := Scalar.indexCast v461
  ![v462.toNat]

def k0_chk57 (v2 : IVec S16 32) (v467 : IVec S16 32) : Prop :=
  (∀ a x, ((![v2, v467] : Fin 2 → IVec S16 32) a x).toNat < S16x528.size a) ∧
  (∀ a x, ((![v2, v467] : Fin 2 → IVec S16 32) a x).toNat < S16x528.size a) ∧
  (∀ a x, ((![v2, v467] : Fin 2 → IVec S16 32) a x).toNat < S16x528.size a)
theorem k0_idx137_inb : ∀ (v2 : IVec S16 32) (v467 : IVec S16 32) (k0_hw57 : k0_chk57 v2 v467), ∀ a x, ((![v2, v467] : Fin 2 → IVec S16 32) a x).toNat < S16x528.size a := fun v2 v467 k0_hw57 => k0_hw57.1
theorem k0_idx138_inb : ∀ (v2 : IVec S16 32) (v467 : IVec S16 32) (k0_hw57 : k0_chk57 v2 v467), ∀ a x, ((![v2, v467] : Fin 2 → IVec S16 32) a x).toNat < S16x528.size a := fun v2 v467 k0_hw57 => k0_hw57.2.1
theorem k0_idx139_inb : ∀ (v2 : IVec S16 32) (v467 : IVec S16 32) (k0_hw57 : k0_chk57 v2 v467), ∀ a x, ((![v2, v467] : Fin 2 → IVec S16 32) a x).toNat < S16x528.size a := fun v2 v467 k0_hw57 => k0_hw57.2.2
def k0_off273 (k0_t15 : Fin k0_t15_loop.trips) : Fin 1 → Nat :=
  let c0_i32_76 : BitVec 32 := 0#32
  let c1_i32_78 : BitVec 32 := 1#32
  let arg28 : BitVec 32 := Scf.iv c0_i32_76 c1_i32_78 k0_t15
  let c80_i32 : BitVec 32 := 80#32
  let v438 : BitVec 32 := Scalar.muli arg28 c80_i32
  let c48_i32 : BitVec 32 := 48#32
  let v472 : BitVec 32 := Scalar.addi v438 c48_i32
  let v473 : Index := Scalar.indexCast v472
  ![v473.toNat]

def k0_chk58 (v2 : IVec S16 32) (v478 : IVec S16 32) : Prop :=
  (∀ a x, ((![v2, v478] : Fin 2 → IVec S16 32) a x).toNat < S16x528.size a) ∧
  (∀ a x, ((![v2, v478] : Fin 2 → IVec S16 32) a x).toNat < S16x528.size a) ∧
  (∀ a x, ((![v2, v478] : Fin 2 → IVec S16 32) a x).toNat < S16x528.size a)
theorem k0_idx140_inb : ∀ (v2 : IVec S16 32) (v478 : IVec S16 32) (k0_hw58 : k0_chk58 v2 v478), ∀ a x, ((![v2, v478] : Fin 2 → IVec S16 32) a x).toNat < S16x528.size a := fun v2 v478 k0_hw58 => k0_hw58.1
theorem k0_idx141_inb : ∀ (v2 : IVec S16 32) (v478 : IVec S16 32) (k0_hw58 : k0_chk58 v2 v478), ∀ a x, ((![v2, v478] : Fin 2 → IVec S16 32) a x).toNat < S16x528.size a := fun v2 v478 k0_hw58 => k0_hw58.2.1
theorem k0_idx142_inb : ∀ (v2 : IVec S16 32) (v478 : IVec S16 32) (k0_hw58 : k0_chk58 v2 v478), ∀ a x, ((![v2, v478] : Fin 2 → IVec S16 32) a x).toNat < S16x528.size a := fun v2 v478 k0_hw58 => k0_hw58.2.2
def k0_off274 (k0_t15 : Fin k0_t15_loop.trips) : Fin 1 → Nat :=
  let c0_i32_76 : BitVec 32 := 0#32
  let c1_i32_78 : BitVec 32 := 1#32
  let arg28 : BitVec 32 := Scf.iv c0_i32_76 c1_i32_78 k0_t15
  let c80_i32 : BitVec 32 := 80#32
  let v438 : BitVec 32 := Scalar.muli arg28 c80_i32
  let c64_i32 : BitVec 32 := 64#32
  let v483 : BitVec 32 := Scalar.addi v438 c64_i32
  let v484 : Index := Scalar.indexCast v483
  ![v484.toNat]

def k0_chk59 (v2 : IVec S16 32) (v489 : IVec S16 32) : Prop :=
  (∀ a x, ((![v2, v489] : Fin 2 → IVec S16 32) a x).toNat < S16x528.size a) ∧
  (∀ a x, ((![v2, v489] : Fin 2 → IVec S16 32) a x).toNat < S16x528.size a) ∧
  (∀ a x, ((![v2, v489] : Fin 2 → IVec S16 32) a x).toNat < S16x528.size a)
theorem k0_idx143_inb : ∀ (v2 : IVec S16 32) (v489 : IVec S16 32) (k0_hw59 : k0_chk59 v2 v489), ∀ a x, ((![v2, v489] : Fin 2 → IVec S16 32) a x).toNat < S16x528.size a := fun v2 v489 k0_hw59 => k0_hw59.1
theorem k0_idx144_inb : ∀ (v2 : IVec S16 32) (v489 : IVec S16 32) (k0_hw59 : k0_chk59 v2 v489), ∀ a x, ((![v2, v489] : Fin 2 → IVec S16 32) a x).toNat < S16x528.size a := fun v2 v489 k0_hw59 => k0_hw59.2.1
theorem k0_idx145_inb : ∀ (v2 : IVec S16 32) (v489 : IVec S16 32) (k0_hw59 : k0_chk59 v2 v489), ∀ a x, ((![v2, v489] : Fin 2 → IVec S16 32) a x).toNat < S16x528.size a := fun v2 v489 k0_hw59 => k0_hw59.2.2
@[reducible] def k0_t16_loop : Scf.Loop 32 :=
  let c0_i32_82 : BitVec 32 := 0#32
  let c50_i32_83 : BitVec 32 := 50#32
  let v158 : BitVec 32 := Scalar.addi c0_i32_82 c50_i32_83
  let c1_i32_84 : BitVec 32 := 1#32
  ⟨c0_i32_82, v158, c1_i32_84⟩
def k0_off275 (k0_t16 : Fin k0_t16_loop.trips) : Fin 1 → Nat :=
  let c0_i32_82 : BitVec 32 := 0#32
  let c1_i32_84 : BitVec 32 := 1#32
  let arg28 : BitVec 32 := Scf.iv c0_i32_82 c1_i32_84 k0_t16
  let c80_i32 : BitVec 32 := 80#32
  let v438 : BitVec 32 := Scalar.muli arg28 c80_i32
  let c0_i32_221 : BitVec 32 := 0#32
  let v439 : BitVec 32 := Scalar.addi v438 c0_i32_221
  let v440 : Index := Scalar.indexCast v439
  ![v440.toNat]

def k0_chk60 (v2 : IVec S16 32) (v445 : IVec S16 32) : Prop :=
  (∀ a x, ((![v2, v445] : Fin 2 → IVec S16 32) a x).toNat < S16x528.size a) ∧
  (∀ a x, ((![v2, v445] : Fin 2 → IVec S16 32) a x).toNat < S16x528.size a) ∧
  (∀ a x, ((![v2, v445] : Fin 2 → IVec S16 32) a x).toNat < S16x528.size a)
theorem k0_idx146_inb : ∀ (v2 : IVec S16 32) (v445 : IVec S16 32) (k0_hw60 : k0_chk60 v2 v445), ∀ a x, ((![v2, v445] : Fin 2 → IVec S16 32) a x).toNat < S16x528.size a := fun v2 v445 k0_hw60 => k0_hw60.1
theorem k0_idx147_inb : ∀ (v2 : IVec S16 32) (v445 : IVec S16 32) (k0_hw60 : k0_chk60 v2 v445), ∀ a x, ((![v2, v445] : Fin 2 → IVec S16 32) a x).toNat < S16x528.size a := fun v2 v445 k0_hw60 => k0_hw60.2.1
theorem k0_idx148_inb : ∀ (v2 : IVec S16 32) (v445 : IVec S16 32) (k0_hw60 : k0_chk60 v2 v445), ∀ a x, ((![v2, v445] : Fin 2 → IVec S16 32) a x).toNat < S16x528.size a := fun v2 v445 k0_hw60 => k0_hw60.2.2
def k0_off276 (k0_t16 : Fin k0_t16_loop.trips) : Fin 1 → Nat :=
  let c0_i32_82 : BitVec 32 := 0#32
  let c1_i32_84 : BitVec 32 := 1#32
  let arg28 : BitVec 32 := Scf.iv c0_i32_82 c1_i32_84 k0_t16
  let c80_i32 : BitVec 32 := 80#32
  let v438 : BitVec 32 := Scalar.muli arg28 c80_i32
  let c16_i32_222 : BitVec 32 := 16#32
  let v450 : BitVec 32 := Scalar.addi v438 c16_i32_222
  let v451 : Index := Scalar.indexCast v450
  ![v451.toNat]

def k0_chk61 (v2 : IVec S16 32) (v456 : IVec S16 32) : Prop :=
  (∀ a x, ((![v2, v456] : Fin 2 → IVec S16 32) a x).toNat < S16x528.size a) ∧
  (∀ a x, ((![v2, v456] : Fin 2 → IVec S16 32) a x).toNat < S16x528.size a) ∧
  (∀ a x, ((![v2, v456] : Fin 2 → IVec S16 32) a x).toNat < S16x528.size a)
theorem k0_idx149_inb : ∀ (v2 : IVec S16 32) (v456 : IVec S16 32) (k0_hw61 : k0_chk61 v2 v456), ∀ a x, ((![v2, v456] : Fin 2 → IVec S16 32) a x).toNat < S16x528.size a := fun v2 v456 k0_hw61 => k0_hw61.1
theorem k0_idx150_inb : ∀ (v2 : IVec S16 32) (v456 : IVec S16 32) (k0_hw61 : k0_chk61 v2 v456), ∀ a x, ((![v2, v456] : Fin 2 → IVec S16 32) a x).toNat < S16x528.size a := fun v2 v456 k0_hw61 => k0_hw61.2.1
theorem k0_idx151_inb : ∀ (v2 : IVec S16 32) (v456 : IVec S16 32) (k0_hw61 : k0_chk61 v2 v456), ∀ a x, ((![v2, v456] : Fin 2 → IVec S16 32) a x).toNat < S16x528.size a := fun v2 v456 k0_hw61 => k0_hw61.2.2
def k0_off277 (k0_t16 : Fin k0_t16_loop.trips) : Fin 1 → Nat :=
  let c0_i32_82 : BitVec 32 := 0#32
  let c1_i32_84 : BitVec 32 := 1#32
  let arg28 : BitVec 32 := Scf.iv c0_i32_82 c1_i32_84 k0_t16
  let c80_i32 : BitVec 32 := 80#32
  let v438 : BitVec 32 := Scalar.muli arg28 c80_i32
  let c32_i32 : BitVec 32 := 32#32
  let v461 : BitVec 32 := Scalar.addi v438 c32_i32
  let v462 : Index := Scalar.indexCast v461
  ![v462.toNat]

def k0_chk62 (v2 : IVec S16 32) (v467 : IVec S16 32) : Prop :=
  (∀ a x, ((![v2, v467] : Fin 2 → IVec S16 32) a x).toNat < S16x528.size a) ∧
  (∀ a x, ((![v2, v467] : Fin 2 → IVec S16 32) a x).toNat < S16x528.size a) ∧
  (∀ a x, ((![v2, v467] : Fin 2 → IVec S16 32) a x).toNat < S16x528.size a)
theorem k0_idx152_inb : ∀ (v2 : IVec S16 32) (v467 : IVec S16 32) (k0_hw62 : k0_chk62 v2 v467), ∀ a x, ((![v2, v467] : Fin 2 → IVec S16 32) a x).toNat < S16x528.size a := fun v2 v467 k0_hw62 => k0_hw62.1
theorem k0_idx153_inb : ∀ (v2 : IVec S16 32) (v467 : IVec S16 32) (k0_hw62 : k0_chk62 v2 v467), ∀ a x, ((![v2, v467] : Fin 2 → IVec S16 32) a x).toNat < S16x528.size a := fun v2 v467 k0_hw62 => k0_hw62.2.1
theorem k0_idx154_inb : ∀ (v2 : IVec S16 32) (v467 : IVec S16 32) (k0_hw62 : k0_chk62 v2 v467), ∀ a x, ((![v2, v467] : Fin 2 → IVec S16 32) a x).toNat < S16x528.size a := fun v2 v467 k0_hw62 => k0_hw62.2.2
def k0_off278 (k0_t16 : Fin k0_t16_loop.trips) : Fin 1 → Nat :=
  let c0_i32_82 : BitVec 32 := 0#32
  let c1_i32_84 : BitVec 32 := 1#32
  let arg28 : BitVec 32 := Scf.iv c0_i32_82 c1_i32_84 k0_t16
  let c80_i32 : BitVec 32 := 80#32
  let v438 : BitVec 32 := Scalar.muli arg28 c80_i32
  let c48_i32 : BitVec 32 := 48#32
  let v472 : BitVec 32 := Scalar.addi v438 c48_i32
  let v473 : Index := Scalar.indexCast v472
  ![v473.toNat]

def k0_chk63 (v2 : IVec S16 32) (v478 : IVec S16 32) : Prop :=
  (∀ a x, ((![v2, v478] : Fin 2 → IVec S16 32) a x).toNat < S16x528.size a) ∧
  (∀ a x, ((![v2, v478] : Fin 2 → IVec S16 32) a x).toNat < S16x528.size a) ∧
  (∀ a x, ((![v2, v478] : Fin 2 → IVec S16 32) a x).toNat < S16x528.size a)
theorem k0_idx155_inb : ∀ (v2 : IVec S16 32) (v478 : IVec S16 32) (k0_hw63 : k0_chk63 v2 v478), ∀ a x, ((![v2, v478] : Fin 2 → IVec S16 32) a x).toNat < S16x528.size a := fun v2 v478 k0_hw63 => k0_hw63.1
theorem k0_idx156_inb : ∀ (v2 : IVec S16 32) (v478 : IVec S16 32) (k0_hw63 : k0_chk63 v2 v478), ∀ a x, ((![v2, v478] : Fin 2 → IVec S16 32) a x).toNat < S16x528.size a := fun v2 v478 k0_hw63 => k0_hw63.2.1
theorem k0_idx157_inb : ∀ (v2 : IVec S16 32) (v478 : IVec S16 32) (k0_hw63 : k0_chk63 v2 v478), ∀ a x, ((![v2, v478] : Fin 2 → IVec S16 32) a x).toNat < S16x528.size a := fun v2 v478 k0_hw63 => k0_hw63.2.2
def k0_off279 (k0_t16 : Fin k0_t16_loop.trips) : Fin 1 → Nat :=
  let c0_i32_82 : BitVec 32 := 0#32
  let c1_i32_84 : BitVec 32 := 1#32
  let arg28 : BitVec 32 := Scf.iv c0_i32_82 c1_i32_84 k0_t16
  let c80_i32 : BitVec 32 := 80#32
  let v438 : BitVec 32 := Scalar.muli arg28 c80_i32
  let c64_i32 : BitVec 32 := 64#32
  let v483 : BitVec 32 := Scalar.addi v438 c64_i32
  let v484 : Index := Scalar.indexCast v483
  ![v484.toNat]

def k0_chk64 (v2 : IVec S16 32) (v489 : IVec S16 32) : Prop :=
  (∀ a x, ((![v2, v489] : Fin 2 → IVec S16 32) a x).toNat < S16x528.size a) ∧
  (∀ a x, ((![v2, v489] : Fin 2 → IVec S16 32) a x).toNat < S16x528.size a) ∧
  (∀ a x, ((![v2, v489] : Fin 2 → IVec S16 32) a x).toNat < S16x528.size a)
theorem k0_idx158_inb : ∀ (v2 : IVec S16 32) (v489 : IVec S16 32) (k0_hw64 : k0_chk64 v2 v489), ∀ a x, ((![v2, v489] : Fin 2 → IVec S16 32) a x).toNat < S16x528.size a := fun v2 v489 k0_hw64 => k0_hw64.1
theorem k0_idx159_inb : ∀ (v2 : IVec S16 32) (v489 : IVec S16 32) (k0_hw64 : k0_chk64 v2 v489), ∀ a x, ((![v2, v489] : Fin 2 → IVec S16 32) a x).toNat < S16x528.size a := fun v2 v489 k0_hw64 => k0_hw64.2.1
theorem k0_idx160_inb : ∀ (v2 : IVec S16 32) (v489 : IVec S16 32) (k0_hw64 : k0_chk64 v2 v489), ∀ a x, ((![v2, v489] : Fin 2 → IVec S16 32) a x).toNat < S16x528.size a := fun v2 v489 k0_hw64 => k0_hw64.2.2
@[reducible] def k0_t17_loop : Scf.Loop 32 :=
  let c0_i32_88 : BitVec 32 := 0#32
  let c50_i32_89 : BitVec 32 := 50#32
  let v174 : BitVec 32 := Scalar.addi c0_i32_88 c50_i32_89
  let c1_i32_90 : BitVec 32 := 1#32
  ⟨c0_i32_88, v174, c1_i32_90⟩
def k0_off280 (k0_t17 : Fin k0_t17_loop.trips) : Fin 1 → Nat :=
  let c0_i32_88 : BitVec 32 := 0#32
  let c1_i32_90 : BitVec 32 := 1#32
  let arg28 : BitVec 32 := Scf.iv c0_i32_88 c1_i32_90 k0_t17
  let c80_i32 : BitVec 32 := 80#32
  let v438 : BitVec 32 := Scalar.muli arg28 c80_i32
  let c0_i32_221 : BitVec 32 := 0#32
  let v439 : BitVec 32 := Scalar.addi v438 c0_i32_221
  let v440 : Index := Scalar.indexCast v439
  ![v440.toNat]

def k0_chk65 (v2 : IVec S16 32) (v445 : IVec S16 32) : Prop :=
  (∀ a x, ((![v2, v445] : Fin 2 → IVec S16 32) a x).toNat < S16x528.size a) ∧
  (∀ a x, ((![v2, v445] : Fin 2 → IVec S16 32) a x).toNat < S16x528.size a) ∧
  (∀ a x, ((![v2, v445] : Fin 2 → IVec S16 32) a x).toNat < S16x528.size a)
theorem k0_idx161_inb : ∀ (v2 : IVec S16 32) (v445 : IVec S16 32) (k0_hw65 : k0_chk65 v2 v445), ∀ a x, ((![v2, v445] : Fin 2 → IVec S16 32) a x).toNat < S16x528.size a := fun v2 v445 k0_hw65 => k0_hw65.1
theorem k0_idx162_inb : ∀ (v2 : IVec S16 32) (v445 : IVec S16 32) (k0_hw65 : k0_chk65 v2 v445), ∀ a x, ((![v2, v445] : Fin 2 → IVec S16 32) a x).toNat < S16x528.size a := fun v2 v445 k0_hw65 => k0_hw65.2.1
theorem k0_idx163_inb : ∀ (v2 : IVec S16 32) (v445 : IVec S16 32) (k0_hw65 : k0_chk65 v2 v445), ∀ a x, ((![v2, v445] : Fin 2 → IVec S16 32) a x).toNat < S16x528.size a := fun v2 v445 k0_hw65 => k0_hw65.2.2
def k0_off281 (k0_t17 : Fin k0_t17_loop.trips) : Fin 1 → Nat :=
  let c0_i32_88 : BitVec 32 := 0#32
  let c1_i32_90 : BitVec 32 := 1#32
  let arg28 : BitVec 32 := Scf.iv c0_i32_88 c1_i32_90 k0_t17
  let c80_i32 : BitVec 32 := 80#32
  let v438 : BitVec 32 := Scalar.muli arg28 c80_i32
  let c16_i32_222 : BitVec 32 := 16#32
  let v450 : BitVec 32 := Scalar.addi v438 c16_i32_222
  let v451 : Index := Scalar.indexCast v450
  ![v451.toNat]

def k0_chk66 (v2 : IVec S16 32) (v456 : IVec S16 32) : Prop :=
  (∀ a x, ((![v2, v456] : Fin 2 → IVec S16 32) a x).toNat < S16x528.size a) ∧
  (∀ a x, ((![v2, v456] : Fin 2 → IVec S16 32) a x).toNat < S16x528.size a) ∧
  (∀ a x, ((![v2, v456] : Fin 2 → IVec S16 32) a x).toNat < S16x528.size a)
theorem k0_idx164_inb : ∀ (v2 : IVec S16 32) (v456 : IVec S16 32) (k0_hw66 : k0_chk66 v2 v456), ∀ a x, ((![v2, v456] : Fin 2 → IVec S16 32) a x).toNat < S16x528.size a := fun v2 v456 k0_hw66 => k0_hw66.1
theorem k0_idx165_inb : ∀ (v2 : IVec S16 32) (v456 : IVec S16 32) (k0_hw66 : k0_chk66 v2 v456), ∀ a x, ((![v2, v456] : Fin 2 → IVec S16 32) a x).toNat < S16x528.size a := fun v2 v456 k0_hw66 => k0_hw66.2.1
theorem k0_idx166_inb : ∀ (v2 : IVec S16 32) (v456 : IVec S16 32) (k0_hw66 : k0_chk66 v2 v456), ∀ a x, ((![v2, v456] : Fin 2 → IVec S16 32) a x).toNat < S16x528.size a := fun v2 v456 k0_hw66 => k0_hw66.2.2
def k0_off282 (k0_t17 : Fin k0_t17_loop.trips) : Fin 1 → Nat :=
  let c0_i32_88 : BitVec 32 := 0#32
  let c1_i32_90 : BitVec 32 := 1#32
  let arg28 : BitVec 32 := Scf.iv c0_i32_88 c1_i32_90 k0_t17
  let c80_i32 : BitVec 32 := 80#32
  let v438 : BitVec 32 := Scalar.muli arg28 c80_i32
  let c32_i32 : BitVec 32 := 32#32
  let v461 : BitVec 32 := Scalar.addi v438 c32_i32
  let v462 : Index := Scalar.indexCast v461
  ![v462.toNat]

def k0_chk67 (v2 : IVec S16 32) (v467 : IVec S16 32) : Prop :=
  (∀ a x, ((![v2, v467] : Fin 2 → IVec S16 32) a x).toNat < S16x528.size a) ∧
  (∀ a x, ((![v2, v467] : Fin 2 → IVec S16 32) a x).toNat < S16x528.size a) ∧
  (∀ a x, ((![v2, v467] : Fin 2 → IVec S16 32) a x).toNat < S16x528.size a)
theorem k0_idx167_inb : ∀ (v2 : IVec S16 32) (v467 : IVec S16 32) (k0_hw67 : k0_chk67 v2 v467), ∀ a x, ((![v2, v467] : Fin 2 → IVec S16 32) a x).toNat < S16x528.size a := fun v2 v467 k0_hw67 => k0_hw67.1
theorem k0_idx168_inb : ∀ (v2 : IVec S16 32) (v467 : IVec S16 32) (k0_hw67 : k0_chk67 v2 v467), ∀ a x, ((![v2, v467] : Fin 2 → IVec S16 32) a x).toNat < S16x528.size a := fun v2 v467 k0_hw67 => k0_hw67.2.1
theorem k0_idx169_inb : ∀ (v2 : IVec S16 32) (v467 : IVec S16 32) (k0_hw67 : k0_chk67 v2 v467), ∀ a x, ((![v2, v467] : Fin 2 → IVec S16 32) a x).toNat < S16x528.size a := fun v2 v467 k0_hw67 => k0_hw67.2.2
def k0_off283 (k0_t17 : Fin k0_t17_loop.trips) : Fin 1 → Nat :=
  let c0_i32_88 : BitVec 32 := 0#32
  let c1_i32_90 : BitVec 32 := 1#32
  let arg28 : BitVec 32 := Scf.iv c0_i32_88 c1_i32_90 k0_t17
  let c80_i32 : BitVec 32 := 80#32
  let v438 : BitVec 32 := Scalar.muli arg28 c80_i32
  let c48_i32 : BitVec 32 := 48#32
  let v472 : BitVec 32 := Scalar.addi v438 c48_i32
  let v473 : Index := Scalar.indexCast v472
  ![v473.toNat]

def k0_chk68 (v2 : IVec S16 32) (v478 : IVec S16 32) : Prop :=
  (∀ a x, ((![v2, v478] : Fin 2 → IVec S16 32) a x).toNat < S16x528.size a) ∧
  (∀ a x, ((![v2, v478] : Fin 2 → IVec S16 32) a x).toNat < S16x528.size a) ∧
  (∀ a x, ((![v2, v478] : Fin 2 → IVec S16 32) a x).toNat < S16x528.size a)
theorem k0_idx170_inb : ∀ (v2 : IVec S16 32) (v478 : IVec S16 32) (k0_hw68 : k0_chk68 v2 v478), ∀ a x, ((![v2, v478] : Fin 2 → IVec S16 32) a x).toNat < S16x528.size a := fun v2 v478 k0_hw68 => k0_hw68.1
theorem k0_idx171_inb : ∀ (v2 : IVec S16 32) (v478 : IVec S16 32) (k0_hw68 : k0_chk68 v2 v478), ∀ a x, ((![v2, v478] : Fin 2 → IVec S16 32) a x).toNat < S16x528.size a := fun v2 v478 k0_hw68 => k0_hw68.2.1
theorem k0_idx172_inb : ∀ (v2 : IVec S16 32) (v478 : IVec S16 32) (k0_hw68 : k0_chk68 v2 v478), ∀ a x, ((![v2, v478] : Fin 2 → IVec S16 32) a x).toNat < S16x528.size a := fun v2 v478 k0_hw68 => k0_hw68.2.2
def k0_off284 (k0_t17 : Fin k0_t17_loop.trips) : Fin 1 → Nat :=
  let c0_i32_88 : BitVec 32 := 0#32
  let c1_i32_90 : BitVec 32 := 1#32
  let arg28 : BitVec 32 := Scf.iv c0_i32_88 c1_i32_90 k0_t17
  let c80_i32 : BitVec 32 := 80#32
  let v438 : BitVec 32 := Scalar.muli arg28 c80_i32
  let c64_i32 : BitVec 32 := 64#32
  let v483 : BitVec 32 := Scalar.addi v438 c64_i32
  let v484 : Index := Scalar.indexCast v483
  ![v484.toNat]

def k0_chk69 (v2 : IVec S16 32) (v489 : IVec S16 32) : Prop :=
  (∀ a x, ((![v2, v489] : Fin 2 → IVec S16 32) a x).toNat < S16x528.size a) ∧
  (∀ a x, ((![v2, v489] : Fin 2 → IVec S16 32) a x).toNat < S16x528.size a) ∧
  (∀ a x, ((![v2, v489] : Fin 2 → IVec S16 32) a x).toNat < S16x528.size a)
theorem k0_idx173_inb : ∀ (v2 : IVec S16 32) (v489 : IVec S16 32) (k0_hw69 : k0_chk69 v2 v489), ∀ a x, ((![v2, v489] : Fin 2 → IVec S16 32) a x).toNat < S16x528.size a := fun v2 v489 k0_hw69 => k0_hw69.1
theorem k0_idx174_inb : ∀ (v2 : IVec S16 32) (v489 : IVec S16 32) (k0_hw69 : k0_chk69 v2 v489), ∀ a x, ((![v2, v489] : Fin 2 → IVec S16 32) a x).toNat < S16x528.size a := fun v2 v489 k0_hw69 => k0_hw69.2.1
theorem k0_idx175_inb : ∀ (v2 : IVec S16 32) (v489 : IVec S16 32) (k0_hw69 : k0_chk69 v2 v489), ∀ a x, ((![v2, v489] : Fin 2 → IVec S16 32) a x).toNat < S16x528.size a := fun v2 v489 k0_hw69 => k0_hw69.2.2
@[reducible] def k0_t18_loop : Scf.Loop 32 :=
  let c0_i32_94 : BitVec 32 := 0#32
  let c50_i32_95 : BitVec 32 := 50#32
  let v190 : BitVec 32 := Scalar.addi c0_i32_94 c50_i32_95
  let c1_i32_96 : BitVec 32 := 1#32
  ⟨c0_i32_94, v190, c1_i32_96⟩
def k0_off285 (k0_t18 : Fin k0_t18_loop.trips) : Fin 1 → Nat :=
  let c0_i32_94 : BitVec 32 := 0#32
  let c1_i32_96 : BitVec 32 := 1#32
  let arg28 : BitVec 32 := Scf.iv c0_i32_94 c1_i32_96 k0_t18
  let c80_i32 : BitVec 32 := 80#32
  let v438 : BitVec 32 := Scalar.muli arg28 c80_i32
  let c0_i32_221 : BitVec 32 := 0#32
  let v439 : BitVec 32 := Scalar.addi v438 c0_i32_221
  let v440 : Index := Scalar.indexCast v439
  ![v440.toNat]

def k0_chk70 (v2 : IVec S16 32) (v445 : IVec S16 32) : Prop :=
  (∀ a x, ((![v2, v445] : Fin 2 → IVec S16 32) a x).toNat < S16x528.size a) ∧
  (∀ a x, ((![v2, v445] : Fin 2 → IVec S16 32) a x).toNat < S16x528.size a) ∧
  (∀ a x, ((![v2, v445] : Fin 2 → IVec S16 32) a x).toNat < S16x528.size a)
theorem k0_idx176_inb : ∀ (v2 : IVec S16 32) (v445 : IVec S16 32) (k0_hw70 : k0_chk70 v2 v445), ∀ a x, ((![v2, v445] : Fin 2 → IVec S16 32) a x).toNat < S16x528.size a := fun v2 v445 k0_hw70 => k0_hw70.1
theorem k0_idx177_inb : ∀ (v2 : IVec S16 32) (v445 : IVec S16 32) (k0_hw70 : k0_chk70 v2 v445), ∀ a x, ((![v2, v445] : Fin 2 → IVec S16 32) a x).toNat < S16x528.size a := fun v2 v445 k0_hw70 => k0_hw70.2.1
theorem k0_idx178_inb : ∀ (v2 : IVec S16 32) (v445 : IVec S16 32) (k0_hw70 : k0_chk70 v2 v445), ∀ a x, ((![v2, v445] : Fin 2 → IVec S16 32) a x).toNat < S16x528.size a := fun v2 v445 k0_hw70 => k0_hw70.2.2
def k0_off286 (k0_t18 : Fin k0_t18_loop.trips) : Fin 1 → Nat :=
  let c0_i32_94 : BitVec 32 := 0#32
  let c1_i32_96 : BitVec 32 := 1#32
  let arg28 : BitVec 32 := Scf.iv c0_i32_94 c1_i32_96 k0_t18
  let c80_i32 : BitVec 32 := 80#32
  let v438 : BitVec 32 := Scalar.muli arg28 c80_i32
  let c16_i32_222 : BitVec 32 := 16#32
  let v450 : BitVec 32 := Scalar.addi v438 c16_i32_222
  let v451 : Index := Scalar.indexCast v450
  ![v451.toNat]

def k0_chk71 (v2 : IVec S16 32) (v456 : IVec S16 32) : Prop :=
  (∀ a x, ((![v2, v456] : Fin 2 → IVec S16 32) a x).toNat < S16x528.size a) ∧
  (∀ a x, ((![v2, v456] : Fin 2 → IVec S16 32) a x).toNat < S16x528.size a) ∧
  (∀ a x, ((![v2, v456] : Fin 2 → IVec S16 32) a x).toNat < S16x528.size a)
theorem k0_idx179_inb : ∀ (v2 : IVec S16 32) (v456 : IVec S16 32) (k0_hw71 : k0_chk71 v2 v456), ∀ a x, ((![v2, v456] : Fin 2 → IVec S16 32) a x).toNat < S16x528.size a := fun v2 v456 k0_hw71 => k0_hw71.1
theorem k0_idx180_inb : ∀ (v2 : IVec S16 32) (v456 : IVec S16 32) (k0_hw71 : k0_chk71 v2 v456), ∀ a x, ((![v2, v456] : Fin 2 → IVec S16 32) a x).toNat < S16x528.size a := fun v2 v456 k0_hw71 => k0_hw71.2.1
theorem k0_idx181_inb : ∀ (v2 : IVec S16 32) (v456 : IVec S16 32) (k0_hw71 : k0_chk71 v2 v456), ∀ a x, ((![v2, v456] : Fin 2 → IVec S16 32) a x).toNat < S16x528.size a := fun v2 v456 k0_hw71 => k0_hw71.2.2
def k0_off287 (k0_t18 : Fin k0_t18_loop.trips) : Fin 1 → Nat :=
  let c0_i32_94 : BitVec 32 := 0#32
  let c1_i32_96 : BitVec 32 := 1#32
  let arg28 : BitVec 32 := Scf.iv c0_i32_94 c1_i32_96 k0_t18
  let c80_i32 : BitVec 32 := 80#32
  let v438 : BitVec 32 := Scalar.muli arg28 c80_i32
  let c32_i32 : BitVec 32 := 32#32
  let v461 : BitVec 32 := Scalar.addi v438 c32_i32
  let v462 : Index := Scalar.indexCast v461
  ![v462.toNat]

def k0_chk72 (v2 : IVec S16 32) (v467 : IVec S16 32) : Prop :=
  (∀ a x, ((![v2, v467] : Fin 2 → IVec S16 32) a x).toNat < S16x528.size a) ∧
  (∀ a x, ((![v2, v467] : Fin 2 → IVec S16 32) a x).toNat < S16x528.size a) ∧
  (∀ a x, ((![v2, v467] : Fin 2 → IVec S16 32) a x).toNat < S16x528.size a)
theorem k0_idx182_inb : ∀ (v2 : IVec S16 32) (v467 : IVec S16 32) (k0_hw72 : k0_chk72 v2 v467), ∀ a x, ((![v2, v467] : Fin 2 → IVec S16 32) a x).toNat < S16x528.size a := fun v2 v467 k0_hw72 => k0_hw72.1
theorem k0_idx183_inb : ∀ (v2 : IVec S16 32) (v467 : IVec S16 32) (k0_hw72 : k0_chk72 v2 v467), ∀ a x, ((![v2, v467] : Fin 2 → IVec S16 32) a x).toNat < S16x528.size a := fun v2 v467 k0_hw72 => k0_hw72.2.1
theorem k0_idx184_inb : ∀ (v2 : IVec S16 32) (v467 : IVec S16 32) (k0_hw72 : k0_chk72 v2 v467), ∀ a x, ((![v2, v467] : Fin 2 → IVec S16 32) a x).toNat < S16x528.size a := fun v2 v467 k0_hw72 => k0_hw72.2.2
def k0_off288 (k0_t18 : Fin k0_t18_loop.trips) : Fin 1 → Nat :=
  let c0_i32_94 : BitVec 32 := 0#32
  let c1_i32_96 : BitVec 32 := 1#32
  let arg28 : BitVec 32 := Scf.iv c0_i32_94 c1_i32_96 k0_t18
  let c80_i32 : BitVec 32 := 80#32
  let v438 : BitVec 32 := Scalar.muli arg28 c80_i32
  let c48_i32 : BitVec 32 := 48#32
  let v472 : BitVec 32 := Scalar.addi v438 c48_i32
  let v473 : Index := Scalar.indexCast v472
  ![v473.toNat]

def k0_chk73 (v2 : IVec S16 32) (v478 : IVec S16 32) : Prop :=
  (∀ a x, ((![v2, v478] : Fin 2 → IVec S16 32) a x).toNat < S16x528.size a) ∧
  (∀ a x, ((![v2, v478] : Fin 2 → IVec S16 32) a x).toNat < S16x528.size a) ∧
  (∀ a x, ((![v2, v478] : Fin 2 → IVec S16 32) a x).toNat < S16x528.size a)
theorem k0_idx185_inb : ∀ (v2 : IVec S16 32) (v478 : IVec S16 32) (k0_hw73 : k0_chk73 v2 v478), ∀ a x, ((![v2, v478] : Fin 2 → IVec S16 32) a x).toNat < S16x528.size a := fun v2 v478 k0_hw73 => k0_hw73.1
theorem k0_idx186_inb : ∀ (v2 : IVec S16 32) (v478 : IVec S16 32) (k0_hw73 : k0_chk73 v2 v478), ∀ a x, ((![v2, v478] : Fin 2 → IVec S16 32) a x).toNat < S16x528.size a := fun v2 v478 k0_hw73 => k0_hw73.2.1
theorem k0_idx187_inb : ∀ (v2 : IVec S16 32) (v478 : IVec S16 32) (k0_hw73 : k0_chk73 v2 v478), ∀ a x, ((![v2, v478] : Fin 2 → IVec S16 32) a x).toNat < S16x528.size a := fun v2 v478 k0_hw73 => k0_hw73.2.2
def k0_off289 (k0_t18 : Fin k0_t18_loop.trips) : Fin 1 → Nat :=
  let c0_i32_94 : BitVec 32 := 0#32
  let c1_i32_96 : BitVec 32 := 1#32
  let arg28 : BitVec 32 := Scf.iv c0_i32_94 c1_i32_96 k0_t18
  let c80_i32 : BitVec 32 := 80#32
  let v438 : BitVec 32 := Scalar.muli arg28 c80_i32
  let c64_i32 : BitVec 32 := 64#32
  let v483 : BitVec 32 := Scalar.addi v438 c64_i32
  let v484 : Index := Scalar.indexCast v483
  ![v484.toNat]

def k0_chk74 (v2 : IVec S16 32) (v489 : IVec S16 32) : Prop :=
  (∀ a x, ((![v2, v489] : Fin 2 → IVec S16 32) a x).toNat < S16x528.size a) ∧
  (∀ a x, ((![v2, v489] : Fin 2 → IVec S16 32) a x).toNat < S16x528.size a) ∧
  (∀ a x, ((![v2, v489] : Fin 2 → IVec S16 32) a x).toNat < S16x528.size a)
theorem k0_idx188_inb : ∀ (v2 : IVec S16 32) (v489 : IVec S16 32) (k0_hw74 : k0_chk74 v2 v489), ∀ a x, ((![v2, v489] : Fin 2 → IVec S16 32) a x).toNat < S16x528.size a := fun v2 v489 k0_hw74 => k0_hw74.1
theorem k0_idx189_inb : ∀ (v2 : IVec S16 32) (v489 : IVec S16 32) (k0_hw74 : k0_chk74 v2 v489), ∀ a x, ((![v2, v489] : Fin 2 → IVec S16 32) a x).toNat < S16x528.size a := fun v2 v489 k0_hw74 => k0_hw74.2.1
theorem k0_idx190_inb : ∀ (v2 : IVec S16 32) (v489 : IVec S16 32) (k0_hw74 : k0_chk74 v2 v489), ∀ a x, ((![v2, v489] : Fin 2 → IVec S16 32) a x).toNat < S16x528.size a := fun v2 v489 k0_hw74 => k0_hw74.2.2
@[reducible] def k0_t19_loop : Scf.Loop 32 :=
  let c0_i32_100 : BitVec 32 := 0#32
  let c50_i32_101 : BitVec 32 := 50#32
  let v206 : BitVec 32 := Scalar.addi c0_i32_100 c50_i32_101
  let c1_i32_102 : BitVec 32 := 1#32
  ⟨c0_i32_100, v206, c1_i32_102⟩
def k0_off290 (k0_t19 : Fin k0_t19_loop.trips) : Fin 1 → Nat :=
  let c0_i32_100 : BitVec 32 := 0#32
  let c1_i32_102 : BitVec 32 := 1#32
  let arg28 : BitVec 32 := Scf.iv c0_i32_100 c1_i32_102 k0_t19
  let c80_i32 : BitVec 32 := 80#32
  let v438 : BitVec 32 := Scalar.muli arg28 c80_i32
  let c0_i32_221 : BitVec 32 := 0#32
  let v439 : BitVec 32 := Scalar.addi v438 c0_i32_221
  let v440 : Index := Scalar.indexCast v439
  ![v440.toNat]

def k0_chk75 (v2 : IVec S16 32) (v445 : IVec S16 32) : Prop :=
  (∀ a x, ((![v2, v445] : Fin 2 → IVec S16 32) a x).toNat < S16x528.size a) ∧
  (∀ a x, ((![v2, v445] : Fin 2 → IVec S16 32) a x).toNat < S16x528.size a) ∧
  (∀ a x, ((![v2, v445] : Fin 2 → IVec S16 32) a x).toNat < S16x528.size a)
theorem k0_idx191_inb : ∀ (v2 : IVec S16 32) (v445 : IVec S16 32) (k0_hw75 : k0_chk75 v2 v445), ∀ a x, ((![v2, v445] : Fin 2 → IVec S16 32) a x).toNat < S16x528.size a := fun v2 v445 k0_hw75 => k0_hw75.1
theorem k0_idx192_inb : ∀ (v2 : IVec S16 32) (v445 : IVec S16 32) (k0_hw75 : k0_chk75 v2 v445), ∀ a x, ((![v2, v445] : Fin 2 → IVec S16 32) a x).toNat < S16x528.size a := fun v2 v445 k0_hw75 => k0_hw75.2.1
theorem k0_idx193_inb : ∀ (v2 : IVec S16 32) (v445 : IVec S16 32) (k0_hw75 : k0_chk75 v2 v445), ∀ a x, ((![v2, v445] : Fin 2 → IVec S16 32) a x).toNat < S16x528.size a := fun v2 v445 k0_hw75 => k0_hw75.2.2
def k0_off291 (k0_t19 : Fin k0_t19_loop.trips) : Fin 1 → Nat :=
  let c0_i32_100 : BitVec 32 := 0#32
  let c1_i32_102 : BitVec 32 := 1#32
  let arg28 : BitVec 32 := Scf.iv c0_i32_100 c1_i32_102 k0_t19
  let c80_i32 : BitVec 32 := 80#32
  let v438 : BitVec 32 := Scalar.muli arg28 c80_i32
  let c16_i32_222 : BitVec 32 := 16#32
  let v450 : BitVec 32 := Scalar.addi v438 c16_i32_222
  let v451 : Index := Scalar.indexCast v450
  ![v451.toNat]

def k0_chk76 (v2 : IVec S16 32) (v456 : IVec S16 32) : Prop :=
  (∀ a x, ((![v2, v456] : Fin 2 → IVec S16 32) a x).toNat < S16x528.size a) ∧
  (∀ a x, ((![v2, v456] : Fin 2 → IVec S16 32) a x).toNat < S16x528.size a) ∧
  (∀ a x, ((![v2, v456] : Fin 2 → IVec S16 32) a x).toNat < S16x528.size a)
theorem k0_idx194_inb : ∀ (v2 : IVec S16 32) (v456 : IVec S16 32) (k0_hw76 : k0_chk76 v2 v456), ∀ a x, ((![v2, v456] : Fin 2 → IVec S16 32) a x).toNat < S16x528.size a := fun v2 v456 k0_hw76 => k0_hw76.1
theorem k0_idx195_inb : ∀ (v2 : IVec S16 32) (v456 : IVec S16 32) (k0_hw76 : k0_chk76 v2 v456), ∀ a x, ((![v2, v456] : Fin 2 → IVec S16 32) a x).toNat < S16x528.size a := fun v2 v456 k0_hw76 => k0_hw76.2.1
theorem k0_idx196_inb : ∀ (v2 : IVec S16 32) (v456 : IVec S16 32) (k0_hw76 : k0_chk76 v2 v456), ∀ a x, ((![v2, v456] : Fin 2 → IVec S16 32) a x).toNat < S16x528.size a := fun v2 v456 k0_hw76 => k0_hw76.2.2
def k0_off292 (k0_t19 : Fin k0_t19_loop.trips) : Fin 1 → Nat :=
  let c0_i32_100 : BitVec 32 := 0#32
  let c1_i32_102 : BitVec 32 := 1#32
  let arg28 : BitVec 32 := Scf.iv c0_i32_100 c1_i32_102 k0_t19
  let c80_i32 : BitVec 32 := 80#32
  let v438 : BitVec 32 := Scalar.muli arg28 c80_i32
  let c32_i32 : BitVec 32 := 32#32
  let v461 : BitVec 32 := Scalar.addi v438 c32_i32
  let v462 : Index := Scalar.indexCast v461
  ![v462.toNat]

def k0_chk77 (v2 : IVec S16 32) (v467 : IVec S16 32) : Prop :=
  (∀ a x, ((![v2, v467] : Fin 2 → IVec S16 32) a x).toNat < S16x528.size a) ∧
  (∀ a x, ((![v2, v467] : Fin 2 → IVec S16 32) a x).toNat < S16x528.size a) ∧
  (∀ a x, ((![v2, v467] : Fin 2 → IVec S16 32) a x).toNat < S16x528.size a)
theorem k0_idx197_inb : ∀ (v2 : IVec S16 32) (v467 : IVec S16 32) (k0_hw77 : k0_chk77 v2 v467), ∀ a x, ((![v2, v467] : Fin 2 → IVec S16 32) a x).toNat < S16x528.size a := fun v2 v467 k0_hw77 => k0_hw77.1
theorem k0_idx198_inb : ∀ (v2 : IVec S16 32) (v467 : IVec S16 32) (k0_hw77 : k0_chk77 v2 v467), ∀ a x, ((![v2, v467] : Fin 2 → IVec S16 32) a x).toNat < S16x528.size a := fun v2 v467 k0_hw77 => k0_hw77.2.1
theorem k0_idx199_inb : ∀ (v2 : IVec S16 32) (v467 : IVec S16 32) (k0_hw77 : k0_chk77 v2 v467), ∀ a x, ((![v2, v467] : Fin 2 → IVec S16 32) a x).toNat < S16x528.size a := fun v2 v467 k0_hw77 => k0_hw77.2.2
def k0_off293 (k0_t19 : Fin k0_t19_loop.trips) : Fin 1 → Nat :=
  let c0_i32_100 : BitVec 32 := 0#32
  let c1_i32_102 : BitVec 32 := 1#32
  let arg28 : BitVec 32 := Scf.iv c0_i32_100 c1_i32_102 k0_t19
  let c80_i32 : BitVec 32 := 80#32
  let v438 : BitVec 32 := Scalar.muli arg28 c80_i32
  let c48_i32 : BitVec 32 := 48#32
  let v472 : BitVec 32 := Scalar.addi v438 c48_i32
  let v473 : Index := Scalar.indexCast v472
  ![v473.toNat]

def k0_chk78 (v2 : IVec S16 32) (v478 : IVec S16 32) : Prop :=
  (∀ a x, ((![v2, v478] : Fin 2 → IVec S16 32) a x).toNat < S16x528.size a) ∧
  (∀ a x, ((![v2, v478] : Fin 2 → IVec S16 32) a x).toNat < S16x528.size a) ∧
  (∀ a x, ((![v2, v478] : Fin 2 → IVec S16 32) a x).toNat < S16x528.size a)
theorem k0_idx200_inb : ∀ (v2 : IVec S16 32) (v478 : IVec S16 32) (k0_hw78 : k0_chk78 v2 v478), ∀ a x, ((![v2, v478] : Fin 2 → IVec S16 32) a x).toNat < S16x528.size a := fun v2 v478 k0_hw78 => k0_hw78.1
theorem k0_idx201_inb : ∀ (v2 : IVec S16 32) (v478 : IVec S16 32) (k0_hw78 : k0_chk78 v2 v478), ∀ a x, ((![v2, v478] : Fin 2 → IVec S16 32) a x).toNat < S16x528.size a := fun v2 v478 k0_hw78 => k0_hw78.2.1
theorem k0_idx202_inb : ∀ (v2 : IVec S16 32) (v478 : IVec S16 32) (k0_hw78 : k0_chk78 v2 v478), ∀ a x, ((![v2, v478] : Fin 2 → IVec S16 32) a x).toNat < S16x528.size a := fun v2 v478 k0_hw78 => k0_hw78.2.2
def k0_off294 (k0_t19 : Fin k0_t19_loop.trips) : Fin 1 → Nat :=
  let c0_i32_100 : BitVec 32 := 0#32
  let c1_i32_102 : BitVec 32 := 1#32
  let arg28 : BitVec 32 := Scf.iv c0_i32_100 c1_i32_102 k0_t19
  let c80_i32 : BitVec 32 := 80#32
  let v438 : BitVec 32 := Scalar.muli arg28 c80_i32
  let c64_i32 : BitVec 32 := 64#32
  let v483 : BitVec 32 := Scalar.addi v438 c64_i32
  let v484 : Index := Scalar.indexCast v483
  ![v484.toNat]

def k0_chk79 (v2 : IVec S16 32) (v489 : IVec S16 32) : Prop :=
  (∀ a x, ((![v2, v489] : Fin 2 → IVec S16 32) a x).toNat < S16x528.size a) ∧
  (∀ a x, ((![v2, v489] : Fin 2 → IVec S16 32) a x).toNat < S16x528.size a) ∧
  (∀ a x, ((![v2, v489] : Fin 2 → IVec S16 32) a x).toNat < S16x528.size a)
theorem k0_idx203_inb : ∀ (v2 : IVec S16 32) (v489 : IVec S16 32) (k0_hw79 : k0_chk79 v2 v489), ∀ a x, ((![v2, v489] : Fin 2 → IVec S16 32) a x).toNat < S16x528.size a := fun v2 v489 k0_hw79 => k0_hw79.1
theorem k0_idx204_inb : ∀ (v2 : IVec S16 32) (v489 : IVec S16 32) (k0_hw79 : k0_chk79 v2 v489), ∀ a x, ((![v2, v489] : Fin 2 → IVec S16 32) a x).toNat < S16x528.size a := fun v2 v489 k0_hw79 => k0_hw79.2.1
theorem k0_idx205_inb : ∀ (v2 : IVec S16 32) (v489 : IVec S16 32) (k0_hw79 : k0_chk79 v2 v489), ∀ a x, ((![v2, v489] : Fin 2 → IVec S16 32) a x).toNat < S16x528.size a := fun v2 v489 k0_hw79 => k0_hw79.2.2
@[reducible] def k0_t20_loop : Scf.Loop 32 :=
  let c0_i32_106 : BitVec 32 := 0#32
  let c50_i32_107 : BitVec 32 := 50#32
  let v222 : BitVec 32 := Scalar.addi c0_i32_106 c50_i32_107
  let c1_i32_108 : BitVec 32 := 1#32
  ⟨c0_i32_106, v222, c1_i32_108⟩
def k0_off295 (k0_t20 : Fin k0_t20_loop.trips) : Fin 1 → Nat :=
  let c0_i32_106 : BitVec 32 := 0#32
  let c1_i32_108 : BitVec 32 := 1#32
  let arg28 : BitVec 32 := Scf.iv c0_i32_106 c1_i32_108 k0_t20
  let c80_i32 : BitVec 32 := 80#32
  let v438 : BitVec 32 := Scalar.muli arg28 c80_i32
  let c0_i32_221 : BitVec 32 := 0#32
  let v439 : BitVec 32 := Scalar.addi v438 c0_i32_221
  let v440 : Index := Scalar.indexCast v439
  ![v440.toNat]

def k0_chk80 (v2 : IVec S16 32) (v445 : IVec S16 32) : Prop :=
  (∀ a x, ((![v2, v445] : Fin 2 → IVec S16 32) a x).toNat < S16x528.size a) ∧
  (∀ a x, ((![v2, v445] : Fin 2 → IVec S16 32) a x).toNat < S16x528.size a) ∧
  (∀ a x, ((![v2, v445] : Fin 2 → IVec S16 32) a x).toNat < S16x528.size a)
theorem k0_idx206_inb : ∀ (v2 : IVec S16 32) (v445 : IVec S16 32) (k0_hw80 : k0_chk80 v2 v445), ∀ a x, ((![v2, v445] : Fin 2 → IVec S16 32) a x).toNat < S16x528.size a := fun v2 v445 k0_hw80 => k0_hw80.1
theorem k0_idx207_inb : ∀ (v2 : IVec S16 32) (v445 : IVec S16 32) (k0_hw80 : k0_chk80 v2 v445), ∀ a x, ((![v2, v445] : Fin 2 → IVec S16 32) a x).toNat < S16x528.size a := fun v2 v445 k0_hw80 => k0_hw80.2.1
theorem k0_idx208_inb : ∀ (v2 : IVec S16 32) (v445 : IVec S16 32) (k0_hw80 : k0_chk80 v2 v445), ∀ a x, ((![v2, v445] : Fin 2 → IVec S16 32) a x).toNat < S16x528.size a := fun v2 v445 k0_hw80 => k0_hw80.2.2
def k0_off296 (k0_t20 : Fin k0_t20_loop.trips) : Fin 1 → Nat :=
  let c0_i32_106 : BitVec 32 := 0#32
  let c1_i32_108 : BitVec 32 := 1#32
  let arg28 : BitVec 32 := Scf.iv c0_i32_106 c1_i32_108 k0_t20
  let c80_i32 : BitVec 32 := 80#32
  let v438 : BitVec 32 := Scalar.muli arg28 c80_i32
  let c16_i32_222 : BitVec 32 := 16#32
  let v450 : BitVec 32 := Scalar.addi v438 c16_i32_222
  let v451 : Index := Scalar.indexCast v450
  ![v451.toNat]

def k0_chk81 (v2 : IVec S16 32) (v456 : IVec S16 32) : Prop :=
  (∀ a x, ((![v2, v456] : Fin 2 → IVec S16 32) a x).toNat < S16x528.size a) ∧
  (∀ a x, ((![v2, v456] : Fin 2 → IVec S16 32) a x).toNat < S16x528.size a) ∧
  (∀ a x, ((![v2, v456] : Fin 2 → IVec S16 32) a x).toNat < S16x528.size a)
theorem k0_idx209_inb : ∀ (v2 : IVec S16 32) (v456 : IVec S16 32) (k0_hw81 : k0_chk81 v2 v456), ∀ a x, ((![v2, v456] : Fin 2 → IVec S16 32) a x).toNat < S16x528.size a := fun v2 v456 k0_hw81 => k0_hw81.1
theorem k0_idx210_inb : ∀ (v2 : IVec S16 32) (v456 : IVec S16 32) (k0_hw81 : k0_chk81 v2 v456), ∀ a x, ((![v2, v456] : Fin 2 → IVec S16 32) a x).toNat < S16x528.size a := fun v2 v456 k0_hw81 => k0_hw81.2.1
theorem k0_idx211_inb : ∀ (v2 : IVec S16 32) (v456 : IVec S16 32) (k0_hw81 : k0_chk81 v2 v456), ∀ a x, ((![v2, v456] : Fin 2 → IVec S16 32) a x).toNat < S16x528.size a := fun v2 v456 k0_hw81 => k0_hw81.2.2
def k0_off297 (k0_t20 : Fin k0_t20_loop.trips) : Fin 1 → Nat :=
  let c0_i32_106 : BitVec 32 := 0#32
  let c1_i32_108 : BitVec 32 := 1#32
  let arg28 : BitVec 32 := Scf.iv c0_i32_106 c1_i32_108 k0_t20
  let c80_i32 : BitVec 32 := 80#32
  let v438 : BitVec 32 := Scalar.muli arg28 c80_i32
  let c32_i32 : BitVec 32 := 32#32
  let v461 : BitVec 32 := Scalar.addi v438 c32_i32
  let v462 : Index := Scalar.indexCast v461
  ![v462.toNat]

def k0_chk82 (v2 : IVec S16 32) (v467 : IVec S16 32) : Prop :=
  (∀ a x, ((![v2, v467] : Fin 2 → IVec S16 32) a x).toNat < S16x528.size a) ∧
  (∀ a x, ((![v2, v467] : Fin 2 → IVec S16 32) a x).toNat < S16x528.size a) ∧
  (∀ a x, ((![v2, v467] : Fin 2 → IVec S16 32) a x).toNat < S16x528.size a)
theorem k0_idx212_inb : ∀ (v2 : IVec S16 32) (v467 : IVec S16 32) (k0_hw82 : k0_chk82 v2 v467), ∀ a x, ((![v2, v467] : Fin 2 → IVec S16 32) a x).toNat < S16x528.size a := fun v2 v467 k0_hw82 => k0_hw82.1
theorem k0_idx213_inb : ∀ (v2 : IVec S16 32) (v467 : IVec S16 32) (k0_hw82 : k0_chk82 v2 v467), ∀ a x, ((![v2, v467] : Fin 2 → IVec S16 32) a x).toNat < S16x528.size a := fun v2 v467 k0_hw82 => k0_hw82.2.1
theorem k0_idx214_inb : ∀ (v2 : IVec S16 32) (v467 : IVec S16 32) (k0_hw82 : k0_chk82 v2 v467), ∀ a x, ((![v2, v467] : Fin 2 → IVec S16 32) a x).toNat < S16x528.size a := fun v2 v467 k0_hw82 => k0_hw82.2.2
def k0_off298 (k0_t20 : Fin k0_t20_loop.trips) : Fin 1 → Nat :=
  let c0_i32_106 : BitVec 32 := 0#32
  let c1_i32_108 : BitVec 32 := 1#32
  let arg28 : BitVec 32 := Scf.iv c0_i32_106 c1_i32_108 k0_t20
  let c80_i32 : BitVec 32 := 80#32
  let v438 : BitVec 32 := Scalar.muli arg28 c80_i32
  let c48_i32 : BitVec 32 := 48#32
  let v472 : BitVec 32 := Scalar.addi v438 c48_i32
  let v473 : Index := Scalar.indexCast v472
  ![v473.toNat]

def k0_chk83 (v2 : IVec S16 32) (v478 : IVec S16 32) : Prop :=
  (∀ a x, ((![v2, v478] : Fin 2 → IVec S16 32) a x).toNat < S16x528.size a) ∧
  (∀ a x, ((![v2, v478] : Fin 2 → IVec S16 32) a x).toNat < S16x528.size a) ∧
  (∀ a x, ((![v2, v478] : Fin 2 → IVec S16 32) a x).toNat < S16x528.size a)
theorem k0_idx215_inb : ∀ (v2 : IVec S16 32) (v478 : IVec S16 32) (k0_hw83 : k0_chk83 v2 v478), ∀ a x, ((![v2, v478] : Fin 2 → IVec S16 32) a x).toNat < S16x528.size a := fun v2 v478 k0_hw83 => k0_hw83.1
theorem k0_idx216_inb : ∀ (v2 : IVec S16 32) (v478 : IVec S16 32) (k0_hw83 : k0_chk83 v2 v478), ∀ a x, ((![v2, v478] : Fin 2 → IVec S16 32) a x).toNat < S16x528.size a := fun v2 v478 k0_hw83 => k0_hw83.2.1
theorem k0_idx217_inb : ∀ (v2 : IVec S16 32) (v478 : IVec S16 32) (k0_hw83 : k0_chk83 v2 v478), ∀ a x, ((![v2, v478] : Fin 2 → IVec S16 32) a x).toNat < S16x528.size a := fun v2 v478 k0_hw83 => k0_hw83.2.2
def k0_off299 (k0_t20 : Fin k0_t20_loop.trips) : Fin 1 → Nat :=
  let c0_i32_106 : BitVec 32 := 0#32
  let c1_i32_108 : BitVec 32 := 1#32
  let arg28 : BitVec 32 := Scf.iv c0_i32_106 c1_i32_108 k0_t20
  let c80_i32 : BitVec 32 := 80#32
  let v438 : BitVec 32 := Scalar.muli arg28 c80_i32
  let c64_i32 : BitVec 32 := 64#32
  let v483 : BitVec 32 := Scalar.addi v438 c64_i32
  let v484 : Index := Scalar.indexCast v483
  ![v484.toNat]

def k0_chk84 (v2 : IVec S16 32) (v489 : IVec S16 32) : Prop :=
  (∀ a x, ((![v2, v489] : Fin 2 → IVec S16 32) a x).toNat < S16x528.size a) ∧
  (∀ a x, ((![v2, v489] : Fin 2 → IVec S16 32) a x).toNat < S16x528.size a) ∧
  (∀ a x, ((![v2, v489] : Fin 2 → IVec S16 32) a x).toNat < S16x528.size a)
theorem k0_idx218_inb : ∀ (v2 : IVec S16 32) (v489 : IVec S16 32) (k0_hw84 : k0_chk84 v2 v489), ∀ a x, ((![v2, v489] : Fin 2 → IVec S16 32) a x).toNat < S16x528.size a := fun v2 v489 k0_hw84 => k0_hw84.1
theorem k0_idx219_inb : ∀ (v2 : IVec S16 32) (v489 : IVec S16 32) (k0_hw84 : k0_chk84 v2 v489), ∀ a x, ((![v2, v489] : Fin 2 → IVec S16 32) a x).toNat < S16x528.size a := fun v2 v489 k0_hw84 => k0_hw84.2.1
theorem k0_idx220_inb : ∀ (v2 : IVec S16 32) (v489 : IVec S16 32) (k0_hw84 : k0_chk84 v2 v489), ∀ a x, ((![v2, v489] : Fin 2 → IVec S16 32) a x).toNat < S16x528.size a := fun v2 v489 k0_hw84 => k0_hw84.2.2
@[reducible] def k0_t21_loop : Scf.Loop 32 :=
  let c0_i32_112 : BitVec 32 := 0#32
  let c50_i32_113 : BitVec 32 := 50#32
  let v238 : BitVec 32 := Scalar.addi c0_i32_112 c50_i32_113
  let c1_i32_114 : BitVec 32 := 1#32
  ⟨c0_i32_112, v238, c1_i32_114⟩
def k0_off300 (k0_t21 : Fin k0_t21_loop.trips) : Fin 1 → Nat :=
  let c0_i32_112 : BitVec 32 := 0#32
  let c1_i32_114 : BitVec 32 := 1#32
  let arg28 : BitVec 32 := Scf.iv c0_i32_112 c1_i32_114 k0_t21
  let c80_i32 : BitVec 32 := 80#32
  let v438 : BitVec 32 := Scalar.muli arg28 c80_i32
  let c0_i32_221 : BitVec 32 := 0#32
  let v439 : BitVec 32 := Scalar.addi v438 c0_i32_221
  let v440 : Index := Scalar.indexCast v439
  ![v440.toNat]

def k0_chk85 (v2 : IVec S16 32) (v445 : IVec S16 32) : Prop :=
  (∀ a x, ((![v2, v445] : Fin 2 → IVec S16 32) a x).toNat < S16x528.size a) ∧
  (∀ a x, ((![v2, v445] : Fin 2 → IVec S16 32) a x).toNat < S16x528.size a) ∧
  (∀ a x, ((![v2, v445] : Fin 2 → IVec S16 32) a x).toNat < S16x528.size a)
theorem k0_idx221_inb : ∀ (v2 : IVec S16 32) (v445 : IVec S16 32) (k0_hw85 : k0_chk85 v2 v445), ∀ a x, ((![v2, v445] : Fin 2 → IVec S16 32) a x).toNat < S16x528.size a := fun v2 v445 k0_hw85 => k0_hw85.1
theorem k0_idx222_inb : ∀ (v2 : IVec S16 32) (v445 : IVec S16 32) (k0_hw85 : k0_chk85 v2 v445), ∀ a x, ((![v2, v445] : Fin 2 → IVec S16 32) a x).toNat < S16x528.size a := fun v2 v445 k0_hw85 => k0_hw85.2.1
theorem k0_idx223_inb : ∀ (v2 : IVec S16 32) (v445 : IVec S16 32) (k0_hw85 : k0_chk85 v2 v445), ∀ a x, ((![v2, v445] : Fin 2 → IVec S16 32) a x).toNat < S16x528.size a := fun v2 v445 k0_hw85 => k0_hw85.2.2
def k0_off301 (k0_t21 : Fin k0_t21_loop.trips) : Fin 1 → Nat :=
  let c0_i32_112 : BitVec 32 := 0#32
  let c1_i32_114 : BitVec 32 := 1#32
  let arg28 : BitVec 32 := Scf.iv c0_i32_112 c1_i32_114 k0_t21
  let c80_i32 : BitVec 32 := 80#32
  let v438 : BitVec 32 := Scalar.muli arg28 c80_i32
  let c16_i32_222 : BitVec 32 := 16#32
  let v450 : BitVec 32 := Scalar.addi v438 c16_i32_222
  let v451 : Index := Scalar.indexCast v450
  ![v451.toNat]

def k0_chk86 (v2 : IVec S16 32) (v456 : IVec S16 32) : Prop :=
  (∀ a x, ((![v2, v456] : Fin 2 → IVec S16 32) a x).toNat < S16x528.size a) ∧
  (∀ a x, ((![v2, v456] : Fin 2 → IVec S16 32) a x).toNat < S16x528.size a) ∧
  (∀ a x, ((![v2, v456] : Fin 2 → IVec S16 32) a x).toNat < S16x528.size a)
theorem k0_idx224_inb : ∀ (v2 : IVec S16 32) (v456 : IVec S16 32) (k0_hw86 : k0_chk86 v2 v456), ∀ a x, ((![v2, v456] : Fin 2 → IVec S16 32) a x).toNat < S16x528.size a := fun v2 v456 k0_hw86 => k0_hw86.1
theorem k0_idx225_inb : ∀ (v2 : IVec S16 32) (v456 : IVec S16 32) (k0_hw86 : k0_chk86 v2 v456), ∀ a x, ((![v2, v456] : Fin 2 → IVec S16 32) a x).toNat < S16x528.size a := fun v2 v456 k0_hw86 => k0_hw86.2.1
theorem k0_idx226_inb : ∀ (v2 : IVec S16 32) (v456 : IVec S16 32) (k0_hw86 : k0_chk86 v2 v456), ∀ a x, ((![v2, v456] : Fin 2 → IVec S16 32) a x).toNat < S16x528.size a := fun v2 v456 k0_hw86 => k0_hw86.2.2
def k0_off302 (k0_t21 : Fin k0_t21_loop.trips) : Fin 1 → Nat :=
  let c0_i32_112 : BitVec 32 := 0#32
  let c1_i32_114 : BitVec 32 := 1#32
  let arg28 : BitVec 32 := Scf.iv c0_i32_112 c1_i32_114 k0_t21
  let c80_i32 : BitVec 32 := 80#32
  let v438 : BitVec 32 := Scalar.muli arg28 c80_i32
  let c32_i32 : BitVec 32 := 32#32
  let v461 : BitVec 32 := Scalar.addi v438 c32_i32
  let v462 : Index := Scalar.indexCast v461
  ![v462.toNat]

def k0_chk87 (v2 : IVec S16 32) (v467 : IVec S16 32) : Prop :=
  (∀ a x, ((![v2, v467] : Fin 2 → IVec S16 32) a x).toNat < S16x528.size a) ∧
  (∀ a x, ((![v2, v467] : Fin 2 → IVec S16 32) a x).toNat < S16x528.size a) ∧
  (∀ a x, ((![v2, v467] : Fin 2 → IVec S16 32) a x).toNat < S16x528.size a)
theorem k0_idx227_inb : ∀ (v2 : IVec S16 32) (v467 : IVec S16 32) (k0_hw87 : k0_chk87 v2 v467), ∀ a x, ((![v2, v467] : Fin 2 → IVec S16 32) a x).toNat < S16x528.size a := fun v2 v467 k0_hw87 => k0_hw87.1
theorem k0_idx228_inb : ∀ (v2 : IVec S16 32) (v467 : IVec S16 32) (k0_hw87 : k0_chk87 v2 v467), ∀ a x, ((![v2, v467] : Fin 2 → IVec S16 32) a x).toNat < S16x528.size a := fun v2 v467 k0_hw87 => k0_hw87.2.1
theorem k0_idx229_inb : ∀ (v2 : IVec S16 32) (v467 : IVec S16 32) (k0_hw87 : k0_chk87 v2 v467), ∀ a x, ((![v2, v467] : Fin 2 → IVec S16 32) a x).toNat < S16x528.size a := fun v2 v467 k0_hw87 => k0_hw87.2.2
def k0_off303 (k0_t21 : Fin k0_t21_loop.trips) : Fin 1 → Nat :=
  let c0_i32_112 : BitVec 32 := 0#32
  let c1_i32_114 : BitVec 32 := 1#32
  let arg28 : BitVec 32 := Scf.iv c0_i32_112 c1_i32_114 k0_t21
  let c80_i32 : BitVec 32 := 80#32
  let v438 : BitVec 32 := Scalar.muli arg28 c80_i32
  let c48_i32 : BitVec 32 := 48#32
  let v472 : BitVec 32 := Scalar.addi v438 c48_i32
  let v473 : Index := Scalar.indexCast v472
  ![v473.toNat]

def k0_chk88 (v2 : IVec S16 32) (v478 : IVec S16 32) : Prop :=
  (∀ a x, ((![v2, v478] : Fin 2 → IVec S16 32) a x).toNat < S16x528.size a) ∧
  (∀ a x, ((![v2, v478] : Fin 2 → IVec S16 32) a x).toNat < S16x528.size a) ∧
  (∀ a x, ((![v2, v478] : Fin 2 → IVec S16 32) a x).toNat < S16x528.size a)
theorem k0_idx230_inb : ∀ (v2 : IVec S16 32) (v478 : IVec S16 32) (k0_hw88 : k0_chk88 v2 v478), ∀ a x, ((![v2, v478] : Fin 2 → IVec S16 32) a x).toNat < S16x528.size a := fun v2 v478 k0_hw88 => k0_hw88.1
theorem k0_idx231_inb : ∀ (v2 : IVec S16 32) (v478 : IVec S16 32) (k0_hw88 : k0_chk88 v2 v478), ∀ a x, ((![v2, v478] : Fin 2 → IVec S16 32) a x).toNat < S16x528.size a := fun v2 v478 k0_hw88 => k0_hw88.2.1
theorem k0_idx232_inb : ∀ (v2 : IVec S16 32) (v478 : IVec S16 32) (k0_hw88 : k0_chk88 v2 v478), ∀ a x, ((![v2, v478] : Fin 2 → IVec S16 32) a x).toNat < S16x528.size a := fun v2 v478 k0_hw88 => k0_hw88.2.2
def k0_off304 (k0_t21 : Fin k0_t21_loop.trips) : Fin 1 → Nat :=
  let c0_i32_112 : BitVec 32 := 0#32
  let c1_i32_114 : BitVec 32 := 1#32
  let arg28 : BitVec 32 := Scf.iv c0_i32_112 c1_i32_114 k0_t21
  let c80_i32 : BitVec 32 := 80#32
  let v438 : BitVec 32 := Scalar.muli arg28 c80_i32
  let c64_i32 : BitVec 32 := 64#32
  let v483 : BitVec 32 := Scalar.addi v438 c64_i32
  let v484 : Index := Scalar.indexCast v483
  ![v484.toNat]

def k0_chk89 (v2 : IVec S16 32) (v489 : IVec S16 32) : Prop :=
  (∀ a x, ((![v2, v489] : Fin 2 → IVec S16 32) a x).toNat < S16x528.size a) ∧
  (∀ a x, ((![v2, v489] : Fin 2 → IVec S16 32) a x).toNat < S16x528.size a) ∧
  (∀ a x, ((![v2, v489] : Fin 2 → IVec S16 32) a x).toNat < S16x528.size a)
theorem k0_idx233_inb : ∀ (v2 : IVec S16 32) (v489 : IVec S16 32) (k0_hw89 : k0_chk89 v2 v489), ∀ a x, ((![v2, v489] : Fin 2 → IVec S16 32) a x).toNat < S16x528.size a := fun v2 v489 k0_hw89 => k0_hw89.1
theorem k0_idx234_inb : ∀ (v2 : IVec S16 32) (v489 : IVec S16 32) (k0_hw89 : k0_chk89 v2 v489), ∀ a x, ((![v2, v489] : Fin 2 → IVec S16 32) a x).toNat < S16x528.size a := fun v2 v489 k0_hw89 => k0_hw89.2.1
theorem k0_idx235_inb : ∀ (v2 : IVec S16 32) (v489 : IVec S16 32) (k0_hw89 : k0_chk89 v2 v489), ∀ a x, ((![v2, v489] : Fin 2 → IVec S16 32) a x).toNat < S16x528.size a := fun v2 v489 k0_hw89 => k0_hw89.2.2
@[reducible] def k0_t22_loop : Scf.Loop 32 :=
  let c0_i32_118 : BitVec 32 := 0#32
  let c50_i32_119 : BitVec 32 := 50#32
  let v254 : BitVec 32 := Scalar.addi c0_i32_118 c50_i32_119
  let c1_i32_120 : BitVec 32 := 1#32
  ⟨c0_i32_118, v254, c1_i32_120⟩
def k0_off305 (k0_t22 : Fin k0_t22_loop.trips) : Fin 1 → Nat :=
  let c0_i32_118 : BitVec 32 := 0#32
  let c1_i32_120 : BitVec 32 := 1#32
  let arg28 : BitVec 32 := Scf.iv c0_i32_118 c1_i32_120 k0_t22
  let c80_i32 : BitVec 32 := 80#32
  let v438 : BitVec 32 := Scalar.muli arg28 c80_i32
  let c0_i32_221 : BitVec 32 := 0#32
  let v439 : BitVec 32 := Scalar.addi v438 c0_i32_221
  let v440 : Index := Scalar.indexCast v439
  ![v440.toNat]

def k0_chk90 (v2 : IVec S16 32) (v445 : IVec S16 32) : Prop :=
  (∀ a x, ((![v2, v445] : Fin 2 → IVec S16 32) a x).toNat < S16x528.size a) ∧
  (∀ a x, ((![v2, v445] : Fin 2 → IVec S16 32) a x).toNat < S16x528.size a) ∧
  (∀ a x, ((![v2, v445] : Fin 2 → IVec S16 32) a x).toNat < S16x528.size a)
theorem k0_idx236_inb : ∀ (v2 : IVec S16 32) (v445 : IVec S16 32) (k0_hw90 : k0_chk90 v2 v445), ∀ a x, ((![v2, v445] : Fin 2 → IVec S16 32) a x).toNat < S16x528.size a := fun v2 v445 k0_hw90 => k0_hw90.1
theorem k0_idx237_inb : ∀ (v2 : IVec S16 32) (v445 : IVec S16 32) (k0_hw90 : k0_chk90 v2 v445), ∀ a x, ((![v2, v445] : Fin 2 → IVec S16 32) a x).toNat < S16x528.size a := fun v2 v445 k0_hw90 => k0_hw90.2.1
theorem k0_idx238_inb : ∀ (v2 : IVec S16 32) (v445 : IVec S16 32) (k0_hw90 : k0_chk90 v2 v445), ∀ a x, ((![v2, v445] : Fin 2 → IVec S16 32) a x).toNat < S16x528.size a := fun v2 v445 k0_hw90 => k0_hw90.2.2
def k0_off306 (k0_t22 : Fin k0_t22_loop.trips) : Fin 1 → Nat :=
  let c0_i32_118 : BitVec 32 := 0#32
  let c1_i32_120 : BitVec 32 := 1#32
  let arg28 : BitVec 32 := Scf.iv c0_i32_118 c1_i32_120 k0_t22
  let c80_i32 : BitVec 32 := 80#32
  let v438 : BitVec 32 := Scalar.muli arg28 c80_i32
  let c16_i32_222 : BitVec 32 := 16#32
  let v450 : BitVec 32 := Scalar.addi v438 c16_i32_222
  let v451 : Index := Scalar.indexCast v450
  ![v451.toNat]

def k0_chk91 (v2 : IVec S16 32) (v456 : IVec S16 32) : Prop :=
  (∀ a x, ((![v2, v456] : Fin 2 → IVec S16 32) a x).toNat < S16x528.size a) ∧
  (∀ a x, ((![v2, v456] : Fin 2 → IVec S16 32) a x).toNat < S16x528.size a) ∧
  (∀ a x, ((![v2, v456] : Fin 2 → IVec S16 32) a x).toNat < S16x528.size a)
theorem k0_idx239_inb : ∀ (v2 : IVec S16 32) (v456 : IVec S16 32) (k0_hw91 : k0_chk91 v2 v456), ∀ a x, ((![v2, v456] : Fin 2 → IVec S16 32) a x).toNat < S16x528.size a := fun v2 v456 k0_hw91 => k0_hw91.1
theorem k0_idx240_inb : ∀ (v2 : IVec S16 32) (v456 : IVec S16 32) (k0_hw91 : k0_chk91 v2 v456), ∀ a x, ((![v2, v456] : Fin 2 → IVec S16 32) a x).toNat < S16x528.size a := fun v2 v456 k0_hw91 => k0_hw91.2.1
theorem k0_idx241_inb : ∀ (v2 : IVec S16 32) (v456 : IVec S16 32) (k0_hw91 : k0_chk91 v2 v456), ∀ a x, ((![v2, v456] : Fin 2 → IVec S16 32) a x).toNat < S16x528.size a := fun v2 v456 k0_hw91 => k0_hw91.2.2
def k0_off307 (k0_t22 : Fin k0_t22_loop.trips) : Fin 1 → Nat :=
  let c0_i32_118 : BitVec 32 := 0#32
  let c1_i32_120 : BitVec 32 := 1#32
  let arg28 : BitVec 32 := Scf.iv c0_i32_118 c1_i32_120 k0_t22
  let c80_i32 : BitVec 32 := 80#32
  let v438 : BitVec 32 := Scalar.muli arg28 c80_i32
  let c32_i32 : BitVec 32 := 32#32
  let v461 : BitVec 32 := Scalar.addi v438 c32_i32
  let v462 : Index := Scalar.indexCast v461
  ![v462.toNat]

def k0_chk92 (v2 : IVec S16 32) (v467 : IVec S16 32) : Prop :=
  (∀ a x, ((![v2, v467] : Fin 2 → IVec S16 32) a x).toNat < S16x528.size a) ∧
  (∀ a x, ((![v2, v467] : Fin 2 → IVec S16 32) a x).toNat < S16x528.size a) ∧
  (∀ a x, ((![v2, v467] : Fin 2 → IVec S16 32) a x).toNat < S16x528.size a)
theorem k0_idx242_inb : ∀ (v2 : IVec S16 32) (v467 : IVec S16 32) (k0_hw92 : k0_chk92 v2 v467), ∀ a x, ((![v2, v467] : Fin 2 → IVec S16 32) a x).toNat < S16x528.size a := fun v2 v467 k0_hw92 => k0_hw92.1
theorem k0_idx243_inb : ∀ (v2 : IVec S16 32) (v467 : IVec S16 32) (k0_hw92 : k0_chk92 v2 v467), ∀ a x, ((![v2, v467] : Fin 2 → IVec S16 32) a x).toNat < S16x528.size a := fun v2 v467 k0_hw92 => k0_hw92.2.1
theorem k0_idx244_inb : ∀ (v2 : IVec S16 32) (v467 : IVec S16 32) (k0_hw92 : k0_chk92 v2 v467), ∀ a x, ((![v2, v467] : Fin 2 → IVec S16 32) a x).toNat < S16x528.size a := fun v2 v467 k0_hw92 => k0_hw92.2.2
def k0_off308 (k0_t22 : Fin k0_t22_loop.trips) : Fin 1 → Nat :=
  let c0_i32_118 : BitVec 32 := 0#32
  let c1_i32_120 : BitVec 32 := 1#32
  let arg28 : BitVec 32 := Scf.iv c0_i32_118 c1_i32_120 k0_t22
  let c80_i32 : BitVec 32 := 80#32
  let v438 : BitVec 32 := Scalar.muli arg28 c80_i32
  let c48_i32 : BitVec 32 := 48#32
  let v472 : BitVec 32 := Scalar.addi v438 c48_i32
  let v473 : Index := Scalar.indexCast v472
  ![v473.toNat]

def k0_chk93 (v2 : IVec S16 32) (v478 : IVec S16 32) : Prop :=
  (∀ a x, ((![v2, v478] : Fin 2 → IVec S16 32) a x).toNat < S16x528.size a) ∧
  (∀ a x, ((![v2, v478] : Fin 2 → IVec S16 32) a x).toNat < S16x528.size a) ∧
  (∀ a x, ((![v2, v478] : Fin 2 → IVec S16 32) a x).toNat < S16x528.size a)
theorem k0_idx245_inb : ∀ (v2 : IVec S16 32) (v478 : IVec S16 32) (k0_hw93 : k0_chk93 v2 v478), ∀ a x, ((![v2, v478] : Fin 2 → IVec S16 32) a x).toNat < S16x528.size a := fun v2 v478 k0_hw93 => k0_hw93.1
theorem k0_idx246_inb : ∀ (v2 : IVec S16 32) (v478 : IVec S16 32) (k0_hw93 : k0_chk93 v2 v478), ∀ a x, ((![v2, v478] : Fin 2 → IVec S16 32) a x).toNat < S16x528.size a := fun v2 v478 k0_hw93 => k0_hw93.2.1
theorem k0_idx247_inb : ∀ (v2 : IVec S16 32) (v478 : IVec S16 32) (k0_hw93 : k0_chk93 v2 v478), ∀ a x, ((![v2, v478] : Fin 2 → IVec S16 32) a x).toNat < S16x528.size a := fun v2 v478 k0_hw93 => k0_hw93.2.2
def k0_off309 (k0_t22 : Fin k0_t22_loop.trips) : Fin 1 → Nat :=
  let c0_i32_118 : BitVec 32 := 0#32
  let c1_i32_120 : BitVec 32 := 1#32
  let arg28 : BitVec 32 := Scf.iv c0_i32_118 c1_i32_120 k0_t22
  let c80_i32 : BitVec 32 := 80#32
  let v438 : BitVec 32 := Scalar.muli arg28 c80_i32
  let c64_i32 : BitVec 32 := 64#32
  let v483 : BitVec 32 := Scalar.addi v438 c64_i32
  let v484 : Index := Scalar.indexCast v483
  ![v484.toNat]

def k0_chk94 (v2 : IVec S16 32) (v489 : IVec S16 32) : Prop :=
  (∀ a x, ((![v2, v489] : Fin 2 → IVec S16 32) a x).toNat < S16x528.size a) ∧
  (∀ a x, ((![v2, v489] : Fin 2 → IVec S16 32) a x).toNat < S16x528.size a) ∧
  (∀ a x, ((![v2, v489] : Fin 2 → IVec S16 32) a x).toNat < S16x528.size a)
theorem k0_idx248_inb : ∀ (v2 : IVec S16 32) (v489 : IVec S16 32) (k0_hw94 : k0_chk94 v2 v489), ∀ a x, ((![v2, v489] : Fin 2 → IVec S16 32) a x).toNat < S16x528.size a := fun v2 v489 k0_hw94 => k0_hw94.1
theorem k0_idx249_inb : ∀ (v2 : IVec S16 32) (v489 : IVec S16 32) (k0_hw94 : k0_chk94 v2 v489), ∀ a x, ((![v2, v489] : Fin 2 → IVec S16 32) a x).toNat < S16x528.size a := fun v2 v489 k0_hw94 => k0_hw94.2.1
theorem k0_idx250_inb : ∀ (v2 : IVec S16 32) (v489 : IVec S16 32) (k0_hw94 : k0_chk94 v2 v489), ∀ a x, ((![v2, v489] : Fin 2 → IVec S16 32) a x).toNat < S16x528.size a := fun v2 v489 k0_hw94 => k0_hw94.2.2
@[reducible] def k0_t23_loop : Scf.Loop 32 :=
  let c0_i32_124 : BitVec 32 := 0#32
  let c50_i32_125 : BitVec 32 := 50#32
  let v270 : BitVec 32 := Scalar.addi c0_i32_124 c50_i32_125
  let c1_i32_126 : BitVec 32 := 1#32
  ⟨c0_i32_124, v270, c1_i32_126⟩
def k0_off310 (k0_t23 : Fin k0_t23_loop.trips) : Fin 1 → Nat :=
  let c0_i32_124 : BitVec 32 := 0#32
  let c1_i32_126 : BitVec 32 := 1#32
  let arg28 : BitVec 32 := Scf.iv c0_i32_124 c1_i32_126 k0_t23
  let c80_i32 : BitVec 32 := 80#32
  let v438 : BitVec 32 := Scalar.muli arg28 c80_i32
  let c0_i32_221 : BitVec 32 := 0#32
  let v439 : BitVec 32 := Scalar.addi v438 c0_i32_221
  let v440 : Index := Scalar.indexCast v439
  ![v440.toNat]

def k0_chk95 (v2 : IVec S16 32) (v445 : IVec S16 32) : Prop :=
  (∀ a x, ((![v2, v445] : Fin 2 → IVec S16 32) a x).toNat < S16x528.size a) ∧
  (∀ a x, ((![v2, v445] : Fin 2 → IVec S16 32) a x).toNat < S16x528.size a) ∧
  (∀ a x, ((![v2, v445] : Fin 2 → IVec S16 32) a x).toNat < S16x528.size a)
theorem k0_idx251_inb : ∀ (v2 : IVec S16 32) (v445 : IVec S16 32) (k0_hw95 : k0_chk95 v2 v445), ∀ a x, ((![v2, v445] : Fin 2 → IVec S16 32) a x).toNat < S16x528.size a := fun v2 v445 k0_hw95 => k0_hw95.1
theorem k0_idx252_inb : ∀ (v2 : IVec S16 32) (v445 : IVec S16 32) (k0_hw95 : k0_chk95 v2 v445), ∀ a x, ((![v2, v445] : Fin 2 → IVec S16 32) a x).toNat < S16x528.size a := fun v2 v445 k0_hw95 => k0_hw95.2.1
theorem k0_idx253_inb : ∀ (v2 : IVec S16 32) (v445 : IVec S16 32) (k0_hw95 : k0_chk95 v2 v445), ∀ a x, ((![v2, v445] : Fin 2 → IVec S16 32) a x).toNat < S16x528.size a := fun v2 v445 k0_hw95 => k0_hw95.2.2
def k0_off311 (k0_t23 : Fin k0_t23_loop.trips) : Fin 1 → Nat :=
  let c0_i32_124 : BitVec 32 := 0#32
  let c1_i32_126 : BitVec 32 := 1#32
  let arg28 : BitVec 32 := Scf.iv c0_i32_124 c1_i32_126 k0_t23
  let c80_i32 : BitVec 32 := 80#32
  let v438 : BitVec 32 := Scalar.muli arg28 c80_i32
  let c16_i32_222 : BitVec 32 := 16#32
  let v450 : BitVec 32 := Scalar.addi v438 c16_i32_222
  let v451 : Index := Scalar.indexCast v450
  ![v451.toNat]

def k0_chk96 (v2 : IVec S16 32) (v456 : IVec S16 32) : Prop :=
  (∀ a x, ((![v2, v456] : Fin 2 → IVec S16 32) a x).toNat < S16x528.size a) ∧
  (∀ a x, ((![v2, v456] : Fin 2 → IVec S16 32) a x).toNat < S16x528.size a) ∧
  (∀ a x, ((![v2, v456] : Fin 2 → IVec S16 32) a x).toNat < S16x528.size a)
theorem k0_idx254_inb : ∀ (v2 : IVec S16 32) (v456 : IVec S16 32) (k0_hw96 : k0_chk96 v2 v456), ∀ a x, ((![v2, v456] : Fin 2 → IVec S16 32) a x).toNat < S16x528.size a := fun v2 v456 k0_hw96 => k0_hw96.1
theorem k0_idx255_inb : ∀ (v2 : IVec S16 32) (v456 : IVec S16 32) (k0_hw96 : k0_chk96 v2 v456), ∀ a x, ((![v2, v456] : Fin 2 → IVec S16 32) a x).toNat < S16x528.size a := fun v2 v456 k0_hw96 => k0_hw96.2.1
theorem k0_idx256_inb : ∀ (v2 : IVec S16 32) (v456 : IVec S16 32) (k0_hw96 : k0_chk96 v2 v456), ∀ a x, ((![v2, v456] : Fin 2 → IVec S16 32) a x).toNat < S16x528.size a := fun v2 v456 k0_hw96 => k0_hw96.2.2
def k0_off312 (k0_t23 : Fin k0_t23_loop.trips) : Fin 1 → Nat :=
  let c0_i32_124 : BitVec 32 := 0#32
  let c1_i32_126 : BitVec 32 := 1#32
  let arg28 : BitVec 32 := Scf.iv c0_i32_124 c1_i32_126 k0_t23
  let c80_i32 : BitVec 32 := 80#32
  let v438 : BitVec 32 := Scalar.muli arg28 c80_i32
  let c32_i32 : BitVec 32 := 32#32
  let v461 : BitVec 32 := Scalar.addi v438 c32_i32
  let v462 : Index := Scalar.indexCast v461
  ![v462.toNat]

def k0_chk97 (v2 : IVec S16 32) (v467 : IVec S16 32) : Prop :=
  (∀ a x, ((![v2, v467] : Fin 2 → IVec S16 32) a x).toNat < S16x528.size a) ∧
  (∀ a x, ((![v2, v467] : Fin 2 → IVec S16 32) a x).toNat < S16x528.size a) ∧
  (∀ a x, ((![v2, v467] : Fin 2 → IVec S16 32) a x).toNat < S16x528.size a)
theorem k0_idx257_inb : ∀ (v2 : IVec S16 32) (v467 : IVec S16 32) (k0_hw97 : k0_chk97 v2 v467), ∀ a x, ((![v2, v467] : Fin 2 → IVec S16 32) a x).toNat < S16x528.size a := fun v2 v467 k0_hw97 => k0_hw97.1
theorem k0_idx258_inb : ∀ (v2 : IVec S16 32) (v467 : IVec S16 32) (k0_hw97 : k0_chk97 v2 v467), ∀ a x, ((![v2, v467] : Fin 2 → IVec S16 32) a x).toNat < S16x528.size a := fun v2 v467 k0_hw97 => k0_hw97.2.1
theorem k0_idx259_inb : ∀ (v2 : IVec S16 32) (v467 : IVec S16 32) (k0_hw97 : k0_chk97 v2 v467), ∀ a x, ((![v2, v467] : Fin 2 → IVec S16 32) a x).toNat < S16x528.size a := fun v2 v467 k0_hw97 => k0_hw97.2.2
def k0_off313 (k0_t23 : Fin k0_t23_loop.trips) : Fin 1 → Nat :=
  let c0_i32_124 : BitVec 32 := 0#32
  let c1_i32_126 : BitVec 32 := 1#32
  let arg28 : BitVec 32 := Scf.iv c0_i32_124 c1_i32_126 k0_t23
  let c80_i32 : BitVec 32 := 80#32
  let v438 : BitVec 32 := Scalar.muli arg28 c80_i32
  let c48_i32 : BitVec 32 := 48#32
  let v472 : BitVec 32 := Scalar.addi v438 c48_i32
  let v473 : Index := Scalar.indexCast v472
  ![v473.toNat]

def k0_chk98 (v2 : IVec S16 32) (v478 : IVec S16 32) : Prop :=
  (∀ a x, ((![v2, v478] : Fin 2 → IVec S16 32) a x).toNat < S16x528.size a) ∧
  (∀ a x, ((![v2, v478] : Fin 2 → IVec S16 32) a x).toNat < S16x528.size a) ∧
  (∀ a x, ((![v2, v478] : Fin 2 → IVec S16 32) a x).toNat < S16x528.size a)
theorem k0_idx260_inb : ∀ (v2 : IVec S16 32) (v478 : IVec S16 32) (k0_hw98 : k0_chk98 v2 v478), ∀ a x, ((![v2, v478] : Fin 2 → IVec S16 32) a x).toNat < S16x528.size a := fun v2 v478 k0_hw98 => k0_hw98.1
theorem k0_idx261_inb : ∀ (v2 : IVec S16 32) (v478 : IVec S16 32) (k0_hw98 : k0_chk98 v2 v478), ∀ a x, ((![v2, v478] : Fin 2 → IVec S16 32) a x).toNat < S16x528.size a := fun v2 v478 k0_hw98 => k0_hw98.2.1
theorem k0_idx262_inb : ∀ (v2 : IVec S16 32) (v478 : IVec S16 32) (k0_hw98 : k0_chk98 v2 v478), ∀ a x, ((![v2, v478] : Fin 2 → IVec S16 32) a x).toNat < S16x528.size a := fun v2 v478 k0_hw98 => k0_hw98.2.2
def k0_off314 (k0_t23 : Fin k0_t23_loop.trips) : Fin 1 → Nat :=
  let c0_i32_124 : BitVec 32 := 0#32
  let c1_i32_126 : BitVec 32 := 1#32
  let arg28 : BitVec 32 := Scf.iv c0_i32_124 c1_i32_126 k0_t23
  let c80_i32 : BitVec 32 := 80#32
  let v438 : BitVec 32 := Scalar.muli arg28 c80_i32
  let c64_i32 : BitVec 32 := 64#32
  let v483 : BitVec 32 := Scalar.addi v438 c64_i32
  let v484 : Index := Scalar.indexCast v483
  ![v484.toNat]

def k0_chk99 (v2 : IVec S16 32) (v489 : IVec S16 32) : Prop :=
  (∀ a x, ((![v2, v489] : Fin 2 → IVec S16 32) a x).toNat < S16x528.size a) ∧
  (∀ a x, ((![v2, v489] : Fin 2 → IVec S16 32) a x).toNat < S16x528.size a) ∧
  (∀ a x, ((![v2, v489] : Fin 2 → IVec S16 32) a x).toNat < S16x528.size a)
theorem k0_idx263_inb : ∀ (v2 : IVec S16 32) (v489 : IVec S16 32) (k0_hw99 : k0_chk99 v2 v489), ∀ a x, ((![v2, v489] : Fin 2 → IVec S16 32) a x).toNat < S16x528.size a := fun v2 v489 k0_hw99 => k0_hw99.1
theorem k0_idx264_inb : ∀ (v2 : IVec S16 32) (v489 : IVec S16 32) (k0_hw99 : k0_chk99 v2 v489), ∀ a x, ((![v2, v489] : Fin 2 → IVec S16 32) a x).toNat < S16x528.size a := fun v2 v489 k0_hw99 => k0_hw99.2.1
theorem k0_idx265_inb : ∀ (v2 : IVec S16 32) (v489 : IVec S16 32) (k0_hw99 : k0_chk99 v2 v489), ∀ a x, ((![v2, v489] : Fin 2 → IVec S16 32) a x).toNat < S16x528.size a := fun v2 v489 k0_hw99 => k0_hw99.2.2
@[reducible] def k0_t24_loop : Scf.Loop 32 :=
  let c0_i32_130 : BitVec 32 := 0#32
  let c50_i32_131 : BitVec 32 := 50#32
  let v286 : BitVec 32 := Scalar.addi c0_i32_130 c50_i32_131
  let c1_i32_132 : BitVec 32 := 1#32
  ⟨c0_i32_130, v286, c1_i32_132⟩
def k0_off315 (k0_t24 : Fin k0_t24_loop.trips) : Fin 1 → Nat :=
  let c0_i32_130 : BitVec 32 := 0#32
  let c1_i32_132 : BitVec 32 := 1#32
  let arg28 : BitVec 32 := Scf.iv c0_i32_130 c1_i32_132 k0_t24
  let c80_i32 : BitVec 32 := 80#32
  let v438 : BitVec 32 := Scalar.muli arg28 c80_i32
  let c0_i32_221 : BitVec 32 := 0#32
  let v439 : BitVec 32 := Scalar.addi v438 c0_i32_221
  let v440 : Index := Scalar.indexCast v439
  ![v440.toNat]

def k0_chk100 (v2 : IVec S16 32) (v445 : IVec S16 32) : Prop :=
  (∀ a x, ((![v2, v445] : Fin 2 → IVec S16 32) a x).toNat < S16x528.size a) ∧
  (∀ a x, ((![v2, v445] : Fin 2 → IVec S16 32) a x).toNat < S16x528.size a) ∧
  (∀ a x, ((![v2, v445] : Fin 2 → IVec S16 32) a x).toNat < S16x528.size a)
theorem k0_idx266_inb : ∀ (v2 : IVec S16 32) (v445 : IVec S16 32) (k0_hw100 : k0_chk100 v2 v445), ∀ a x, ((![v2, v445] : Fin 2 → IVec S16 32) a x).toNat < S16x528.size a := fun v2 v445 k0_hw100 => k0_hw100.1
theorem k0_idx267_inb : ∀ (v2 : IVec S16 32) (v445 : IVec S16 32) (k0_hw100 : k0_chk100 v2 v445), ∀ a x, ((![v2, v445] : Fin 2 → IVec S16 32) a x).toNat < S16x528.size a := fun v2 v445 k0_hw100 => k0_hw100.2.1
theorem k0_idx268_inb : ∀ (v2 : IVec S16 32) (v445 : IVec S16 32) (k0_hw100 : k0_chk100 v2 v445), ∀ a x, ((![v2, v445] : Fin 2 → IVec S16 32) a x).toNat < S16x528.size a := fun v2 v445 k0_hw100 => k0_hw100.2.2
def k0_off316 (k0_t24 : Fin k0_t24_loop.trips) : Fin 1 → Nat :=
  let c0_i32_130 : BitVec 32 := 0#32
  let c1_i32_132 : BitVec 32 := 1#32
  let arg28 : BitVec 32 := Scf.iv c0_i32_130 c1_i32_132 k0_t24
  let c80_i32 : BitVec 32 := 80#32
  let v438 : BitVec 32 := Scalar.muli arg28 c80_i32
  let c16_i32_222 : BitVec 32 := 16#32
  let v450 : BitVec 32 := Scalar.addi v438 c16_i32_222
  let v451 : Index := Scalar.indexCast v450
  ![v451.toNat]

def k0_chk101 (v2 : IVec S16 32) (v456 : IVec S16 32) : Prop :=
  (∀ a x, ((![v2, v456] : Fin 2 → IVec S16 32) a x).toNat < S16x528.size a) ∧
  (∀ a x, ((![v2, v456] : Fin 2 → IVec S16 32) a x).toNat < S16x528.size a) ∧
  (∀ a x, ((![v2, v456] : Fin 2 → IVec S16 32) a x).toNat < S16x528.size a)
theorem k0_idx269_inb : ∀ (v2 : IVec S16 32) (v456 : IVec S16 32) (k0_hw101 : k0_chk101 v2 v456), ∀ a x, ((![v2, v456] : Fin 2 → IVec S16 32) a x).toNat < S16x528.size a := fun v2 v456 k0_hw101 => k0_hw101.1
theorem k0_idx270_inb : ∀ (v2 : IVec S16 32) (v456 : IVec S16 32) (k0_hw101 : k0_chk101 v2 v456), ∀ a x, ((![v2, v456] : Fin 2 → IVec S16 32) a x).toNat < S16x528.size a := fun v2 v456 k0_hw101 => k0_hw101.2.1
theorem k0_idx271_inb : ∀ (v2 : IVec S16 32) (v456 : IVec S16 32) (k0_hw101 : k0_chk101 v2 v456), ∀ a x, ((![v2, v456] : Fin 2 → IVec S16 32) a x).toNat < S16x528.size a := fun v2 v456 k0_hw101 => k0_hw101.2.2
def k0_off317 (k0_t24 : Fin k0_t24_loop.trips) : Fin 1 → Nat :=
  let c0_i32_130 : BitVec 32 := 0#32
  let c1_i32_132 : BitVec 32 := 1#32
  let arg28 : BitVec 32 := Scf.iv c0_i32_130 c1_i32_132 k0_t24
  let c80_i32 : BitVec 32 := 80#32
  let v438 : BitVec 32 := Scalar.muli arg28 c80_i32
  let c32_i32 : BitVec 32 := 32#32
  let v461 : BitVec 32 := Scalar.addi v438 c32_i32
  let v462 : Index := Scalar.indexCast v461
  ![v462.toNat]

def k0_chk102 (v2 : IVec S16 32) (v467 : IVec S16 32) : Prop :=
  (∀ a x, ((![v2, v467] : Fin 2 → IVec S16 32) a x).toNat < S16x528.size a) ∧
  (∀ a x, ((![v2, v467] : Fin 2 → IVec S16 32) a x).toNat < S16x528.size a) ∧
  (∀ a x, ((![v2, v467] : Fin 2 → IVec S16 32) a x).toNat < S16x528.size a)
theorem k0_idx272_inb : ∀ (v2 : IVec S16 32) (v467 : IVec S16 32) (k0_hw102 : k0_chk102 v2 v467), ∀ a x, ((![v2, v467] : Fin 2 → IVec S16 32) a x).toNat < S16x528.size a := fun v2 v467 k0_hw102 => k0_hw102.1
theorem k0_idx273_inb : ∀ (v2 : IVec S16 32) (v467 : IVec S16 32) (k0_hw102 : k0_chk102 v2 v467), ∀ a x, ((![v2, v467] : Fin 2 → IVec S16 32) a x).toNat < S16x528.size a := fun v2 v467 k0_hw102 => k0_hw102.2.1
theorem k0_idx274_inb : ∀ (v2 : IVec S16 32) (v467 : IVec S16 32) (k0_hw102 : k0_chk102 v2 v467), ∀ a x, ((![v2, v467] : Fin 2 → IVec S16 32) a x).toNat < S16x528.size a := fun v2 v467 k0_hw102 => k0_hw102.2.2
def k0_off318 (k0_t24 : Fin k0_t24_loop.trips) : Fin 1 → Nat :=
  let c0_i32_130 : BitVec 32 := 0#32
  let c1_i32_132 : BitVec 32 := 1#32
  let arg28 : BitVec 32 := Scf.iv c0_i32_130 c1_i32_132 k0_t24
  let c80_i32 : BitVec 32 := 80#32
  let v438 : BitVec 32 := Scalar.muli arg28 c80_i32
  let c48_i32 : BitVec 32 := 48#32
  let v472 : BitVec 32 := Scalar.addi v438 c48_i32
  let v473 : Index := Scalar.indexCast v472
  ![v473.toNat]

def k0_chk103 (v2 : IVec S16 32) (v478 : IVec S16 32) : Prop :=
  (∀ a x, ((![v2, v478] : Fin 2 → IVec S16 32) a x).toNat < S16x528.size a) ∧
  (∀ a x, ((![v2, v478] : Fin 2 → IVec S16 32) a x).toNat < S16x528.size a) ∧
  (∀ a x, ((![v2, v478] : Fin 2 → IVec S16 32) a x).toNat < S16x528.size a)
theorem k0_idx275_inb : ∀ (v2 : IVec S16 32) (v478 : IVec S16 32) (k0_hw103 : k0_chk103 v2 v478), ∀ a x, ((![v2, v478] : Fin 2 → IVec S16 32) a x).toNat < S16x528.size a := fun v2 v478 k0_hw103 => k0_hw103.1
theorem k0_idx276_inb : ∀ (v2 : IVec S16 32) (v478 : IVec S16 32) (k0_hw103 : k0_chk103 v2 v478), ∀ a x, ((![v2, v478] : Fin 2 → IVec S16 32) a x).toNat < S16x528.size a := fun v2 v478 k0_hw103 => k0_hw103.2.1
theorem k0_idx277_inb : ∀ (v2 : IVec S16 32) (v478 : IVec S16 32) (k0_hw103 : k0_chk103 v2 v478), ∀ a x, ((![v2, v478] : Fin 2 → IVec S16 32) a x).toNat < S16x528.size a := fun v2 v478 k0_hw103 => k0_hw103.2.2
def k0_off319 (k0_t24 : Fin k0_t24_loop.trips) : Fin 1 → Nat :=
  let c0_i32_130 : BitVec 32 := 0#32
  let c1_i32_132 : BitVec 32 := 1#32
  let arg28 : BitVec 32 := Scf.iv c0_i32_130 c1_i32_132 k0_t24
  let c80_i32 : BitVec 32 := 80#32
  let v438 : BitVec 32 := Scalar.muli arg28 c80_i32
  let c64_i32 : BitVec 32 := 64#32
  let v483 : BitVec 32 := Scalar.addi v438 c64_i32
  let v484 : Index := Scalar.indexCast v483
  ![v484.toNat]

def k0_chk104 (v2 : IVec S16 32) (v489 : IVec S16 32) : Prop :=
  (∀ a x, ((![v2, v489] : Fin 2 → IVec S16 32) a x).toNat < S16x528.size a) ∧
  (∀ a x, ((![v2, v489] : Fin 2 → IVec S16 32) a x).toNat < S16x528.size a) ∧
  (∀ a x, ((![v2, v489] : Fin 2 → IVec S16 32) a x).toNat < S16x528.size a)
theorem k0_idx278_inb : ∀ (v2 : IVec S16 32) (v489 : IVec S16 32) (k0_hw104 : k0_chk104 v2 v489), ∀ a x, ((![v2, v489] : Fin 2 → IVec S16 32) a x).toNat < S16x528.size a := fun v2 v489 k0_hw104 => k0_hw104.1
theorem k0_idx279_inb : ∀ (v2 : IVec S16 32) (v489 : IVec S16 32) (k0_hw104 : k0_chk104 v2 v489), ∀ a x, ((![v2, v489] : Fin 2 → IVec S16 32) a x).toNat < S16x528.size a := fun v2 v489 k0_hw104 => k0_hw104.2.1
theorem k0_idx280_inb : ∀ (v2 : IVec S16 32) (v489 : IVec S16 32) (k0_hw104 : k0_chk104 v2 v489), ∀ a x, ((![v2, v489] : Fin 2 → IVec S16 32) a x).toNat < S16x528.size a := fun v2 v489 k0_hw104 => k0_hw104.2.2
@[reducible] def k0_t25_loop : Scf.Loop 32 :=
  let c0_i32_136 : BitVec 32 := 0#32
  let c50_i32_137 : BitVec 32 := 50#32
  let v302 : BitVec 32 := Scalar.addi c0_i32_136 c50_i32_137
  let c1_i32_138 : BitVec 32 := 1#32
  ⟨c0_i32_136, v302, c1_i32_138⟩
def k0_off320 (k0_t25 : Fin k0_t25_loop.trips) : Fin 1 → Nat :=
  let c0_i32_136 : BitVec 32 := 0#32
  let c1_i32_138 : BitVec 32 := 1#32
  let arg28 : BitVec 32 := Scf.iv c0_i32_136 c1_i32_138 k0_t25
  let c80_i32 : BitVec 32 := 80#32
  let v438 : BitVec 32 := Scalar.muli arg28 c80_i32
  let c0_i32_221 : BitVec 32 := 0#32
  let v439 : BitVec 32 := Scalar.addi v438 c0_i32_221
  let v440 : Index := Scalar.indexCast v439
  ![v440.toNat]

def k0_chk105 (v2 : IVec S16 32) (v445 : IVec S16 32) : Prop :=
  (∀ a x, ((![v2, v445] : Fin 2 → IVec S16 32) a x).toNat < S16x528.size a) ∧
  (∀ a x, ((![v2, v445] : Fin 2 → IVec S16 32) a x).toNat < S16x528.size a) ∧
  (∀ a x, ((![v2, v445] : Fin 2 → IVec S16 32) a x).toNat < S16x528.size a)
theorem k0_idx281_inb : ∀ (v2 : IVec S16 32) (v445 : IVec S16 32) (k0_hw105 : k0_chk105 v2 v445), ∀ a x, ((![v2, v445] : Fin 2 → IVec S16 32) a x).toNat < S16x528.size a := fun v2 v445 k0_hw105 => k0_hw105.1
theorem k0_idx282_inb : ∀ (v2 : IVec S16 32) (v445 : IVec S16 32) (k0_hw105 : k0_chk105 v2 v445), ∀ a x, ((![v2, v445] : Fin 2 → IVec S16 32) a x).toNat < S16x528.size a := fun v2 v445 k0_hw105 => k0_hw105.2.1
theorem k0_idx283_inb : ∀ (v2 : IVec S16 32) (v445 : IVec S16 32) (k0_hw105 : k0_chk105 v2 v445), ∀ a x, ((![v2, v445] : Fin 2 → IVec S16 32) a x).toNat < S16x528.size a := fun v2 v445 k0_hw105 => k0_hw105.2.2
def k0_off321 (k0_t25 : Fin k0_t25_loop.trips) : Fin 1 → Nat :=
  let c0_i32_136 : BitVec 32 := 0#32
  let c1_i32_138 : BitVec 32 := 1#32
  let arg28 : BitVec 32 := Scf.iv c0_i32_136 c1_i32_138 k0_t25
  let c80_i32 : BitVec 32 := 80#32
  let v438 : BitVec 32 := Scalar.muli arg28 c80_i32
  let c16_i32_222 : BitVec 32 := 16#32
  let v450 : BitVec 32 := Scalar.addi v438 c16_i32_222
  let v451 : Index := Scalar.indexCast v450
  ![v451.toNat]

def k0_chk106 (v2 : IVec S16 32) (v456 : IVec S16 32) : Prop :=
  (∀ a x, ((![v2, v456] : Fin 2 → IVec S16 32) a x).toNat < S16x528.size a) ∧
  (∀ a x, ((![v2, v456] : Fin 2 → IVec S16 32) a x).toNat < S16x528.size a) ∧
  (∀ a x, ((![v2, v456] : Fin 2 → IVec S16 32) a x).toNat < S16x528.size a)
theorem k0_idx284_inb : ∀ (v2 : IVec S16 32) (v456 : IVec S16 32) (k0_hw106 : k0_chk106 v2 v456), ∀ a x, ((![v2, v456] : Fin 2 → IVec S16 32) a x).toNat < S16x528.size a := fun v2 v456 k0_hw106 => k0_hw106.1
theorem k0_idx285_inb : ∀ (v2 : IVec S16 32) (v456 : IVec S16 32) (k0_hw106 : k0_chk106 v2 v456), ∀ a x, ((![v2, v456] : Fin 2 → IVec S16 32) a x).toNat < S16x528.size a := fun v2 v456 k0_hw106 => k0_hw106.2.1
theorem k0_idx286_inb : ∀ (v2 : IVec S16 32) (v456 : IVec S16 32) (k0_hw106 : k0_chk106 v2 v456), ∀ a x, ((![v2, v456] : Fin 2 → IVec S16 32) a x).toNat < S16x528.size a := fun v2 v456 k0_hw106 => k0_hw106.2.2
def k0_off322 (k0_t25 : Fin k0_t25_loop.trips) : Fin 1 → Nat :=
  let c0_i32_136 : BitVec 32 := 0#32
  let c1_i32_138 : BitVec 32 := 1#32
  let arg28 : BitVec 32 := Scf.iv c0_i32_136 c1_i32_138 k0_t25
  let c80_i32 : BitVec 32 := 80#32
  let v438 : BitVec 32 := Scalar.muli arg28 c80_i32
  let c32_i32 : BitVec 32 := 32#32
  let v461 : BitVec 32 := Scalar.addi v438 c32_i32
  let v462 : Index := Scalar.indexCast v461
  ![v462.toNat]

def k0_chk107 (v2 : IVec S16 32) (v467 : IVec S16 32) : Prop :=
  (∀ a x, ((![v2, v467] : Fin 2 → IVec S16 32) a x).toNat < S16x528.size a) ∧
  (∀ a x, ((![v2, v467] : Fin 2 → IVec S16 32) a x).toNat < S16x528.size a) ∧
  (∀ a x, ((![v2, v467] : Fin 2 → IVec S16 32) a x).toNat < S16x528.size a)
theorem k0_idx287_inb : ∀ (v2 : IVec S16 32) (v467 : IVec S16 32) (k0_hw107 : k0_chk107 v2 v467), ∀ a x, ((![v2, v467] : Fin 2 → IVec S16 32) a x).toNat < S16x528.size a := fun v2 v467 k0_hw107 => k0_hw107.1
theorem k0_idx288_inb : ∀ (v2 : IVec S16 32) (v467 : IVec S16 32) (k0_hw107 : k0_chk107 v2 v467), ∀ a x, ((![v2, v467] : Fin 2 → IVec S16 32) a x).toNat < S16x528.size a := fun v2 v467 k0_hw107 => k0_hw107.2.1
theorem k0_idx289_inb : ∀ (v2 : IVec S16 32) (v467 : IVec S16 32) (k0_hw107 : k0_chk107 v2 v467), ∀ a x, ((![v2, v467] : Fin 2 → IVec S16 32) a x).toNat < S16x528.size a := fun v2 v467 k0_hw107 => k0_hw107.2.2
def k0_off323 (k0_t25 : Fin k0_t25_loop.trips) : Fin 1 → Nat :=
  let c0_i32_136 : BitVec 32 := 0#32
  let c1_i32_138 : BitVec 32 := 1#32
  let arg28 : BitVec 32 := Scf.iv c0_i32_136 c1_i32_138 k0_t25
  let c80_i32 : BitVec 32 := 80#32
  let v438 : BitVec 32 := Scalar.muli arg28 c80_i32
  let c48_i32 : BitVec 32 := 48#32
  let v472 : BitVec 32 := Scalar.addi v438 c48_i32
  let v473 : Index := Scalar.indexCast v472
  ![v473.toNat]

def k0_chk108 (v2 : IVec S16 32) (v478 : IVec S16 32) : Prop :=
  (∀ a x, ((![v2, v478] : Fin 2 → IVec S16 32) a x).toNat < S16x528.size a) ∧
  (∀ a x, ((![v2, v478] : Fin 2 → IVec S16 32) a x).toNat < S16x528.size a) ∧
  (∀ a x, ((![v2, v478] : Fin 2 → IVec S16 32) a x).toNat < S16x528.size a)
theorem k0_idx290_inb : ∀ (v2 : IVec S16 32) (v478 : IVec S16 32) (k0_hw108 : k0_chk108 v2 v478), ∀ a x, ((![v2, v478] : Fin 2 → IVec S16 32) a x).toNat < S16x528.size a := fun v2 v478 k0_hw108 => k0_hw108.1
theorem k0_idx291_inb : ∀ (v2 : IVec S16 32) (v478 : IVec S16 32) (k0_hw108 : k0_chk108 v2 v478), ∀ a x, ((![v2, v478] : Fin 2 → IVec S16 32) a x).toNat < S16x528.size a := fun v2 v478 k0_hw108 => k0_hw108.2.1
theorem k0_idx292_inb : ∀ (v2 : IVec S16 32) (v478 : IVec S16 32) (k0_hw108 : k0_chk108 v2 v478), ∀ a x, ((![v2, v478] : Fin 2 → IVec S16 32) a x).toNat < S16x528.size a := fun v2 v478 k0_hw108 => k0_hw108.2.2
def k0_off324 (k0_t25 : Fin k0_t25_loop.trips) : Fin 1 → Nat :=
  let c0_i32_136 : BitVec 32 := 0#32
  let c1_i32_138 : BitVec 32 := 1#32
  let arg28 : BitVec 32 := Scf.iv c0_i32_136 c1_i32_138 k0_t25
  let c80_i32 : BitVec 32 := 80#32
  let v438 : BitVec 32 := Scalar.muli arg28 c80_i32
  let c64_i32 : BitVec 32 := 64#32
  let v483 : BitVec 32 := Scalar.addi v438 c64_i32
  let v484 : Index := Scalar.indexCast v483
  ![v484.toNat]

def k0_chk109 (v2 : IVec S16 32) (v489 : IVec S16 32) : Prop :=
  (∀ a x, ((![v2, v489] : Fin 2 → IVec S16 32) a x).toNat < S16x528.size a) ∧
  (∀ a x, ((![v2, v489] : Fin 2 → IVec S16 32) a x).toNat < S16x528.size a) ∧
  (∀ a x, ((![v2, v489] : Fin 2 → IVec S16 32) a x).toNat < S16x528.size a)
theorem k0_idx293_inb : ∀ (v2 : IVec S16 32) (v489 : IVec S16 32) (k0_hw109 : k0_chk109 v2 v489), ∀ a x, ((![v2, v489] : Fin 2 → IVec S16 32) a x).toNat < S16x528.size a := fun v2 v489 k0_hw109 => k0_hw109.1
theorem k0_idx294_inb : ∀ (v2 : IVec S16 32) (v489 : IVec S16 32) (k0_hw109 : k0_chk109 v2 v489), ∀ a x, ((![v2, v489] : Fin 2 → IVec S16 32) a x).toNat < S16x528.size a := fun v2 v489 k0_hw109 => k0_hw109.2.1
theorem k0_idx295_inb : ∀ (v2 : IVec S16 32) (v489 : IVec S16 32) (k0_hw109 : k0_chk109 v2 v489), ∀ a x, ((![v2, v489] : Fin 2 → IVec S16 32) a x).toNat < S16x528.size a := fun v2 v489 k0_hw109 => k0_hw109.2.2
@[reducible] def k0_t26_loop : Scf.Loop 32 :=
  let c0_i32_142 : BitVec 32 := 0#32
  let c50_i32_143 : BitVec 32 := 50#32
  let v318 : BitVec 32 := Scalar.addi c0_i32_142 c50_i32_143
  let c1_i32_144 : BitVec 32 := 1#32
  ⟨c0_i32_142, v318, c1_i32_144⟩
def k0_off325 (k0_t26 : Fin k0_t26_loop.trips) : Fin 1 → Nat :=
  let c0_i32_142 : BitVec 32 := 0#32
  let c1_i32_144 : BitVec 32 := 1#32
  let arg28 : BitVec 32 := Scf.iv c0_i32_142 c1_i32_144 k0_t26
  let c80_i32 : BitVec 32 := 80#32
  let v438 : BitVec 32 := Scalar.muli arg28 c80_i32
  let c0_i32_221 : BitVec 32 := 0#32
  let v439 : BitVec 32 := Scalar.addi v438 c0_i32_221
  let v440 : Index := Scalar.indexCast v439
  ![v440.toNat]

def k0_chk110 (v2 : IVec S16 32) (v445 : IVec S16 32) : Prop :=
  (∀ a x, ((![v2, v445] : Fin 2 → IVec S16 32) a x).toNat < S16x528.size a) ∧
  (∀ a x, ((![v2, v445] : Fin 2 → IVec S16 32) a x).toNat < S16x528.size a) ∧
  (∀ a x, ((![v2, v445] : Fin 2 → IVec S16 32) a x).toNat < S16x528.size a)
theorem k0_idx296_inb : ∀ (v2 : IVec S16 32) (v445 : IVec S16 32) (k0_hw110 : k0_chk110 v2 v445), ∀ a x, ((![v2, v445] : Fin 2 → IVec S16 32) a x).toNat < S16x528.size a := fun v2 v445 k0_hw110 => k0_hw110.1
theorem k0_idx297_inb : ∀ (v2 : IVec S16 32) (v445 : IVec S16 32) (k0_hw110 : k0_chk110 v2 v445), ∀ a x, ((![v2, v445] : Fin 2 → IVec S16 32) a x).toNat < S16x528.size a := fun v2 v445 k0_hw110 => k0_hw110.2.1
theorem k0_idx298_inb : ∀ (v2 : IVec S16 32) (v445 : IVec S16 32) (k0_hw110 : k0_chk110 v2 v445), ∀ a x, ((![v2, v445] : Fin 2 → IVec S16 32) a x).toNat < S16x528.size a := fun v2 v445 k0_hw110 => k0_hw110.2.2
def k0_off326 (k0_t26 : Fin k0_t26_loop.trips) : Fin 1 → Nat :=
  let c0_i32_142 : BitVec 32 := 0#32
  let c1_i32_144 : BitVec 32 := 1#32
  let arg28 : BitVec 32 := Scf.iv c0_i32_142 c1_i32_144 k0_t26
  let c80_i32 : BitVec 32 := 80#32
  let v438 : BitVec 32 := Scalar.muli arg28 c80_i32
  let c16_i32_222 : BitVec 32 := 16#32
  let v450 : BitVec 32 := Scalar.addi v438 c16_i32_222
  let v451 : Index := Scalar.indexCast v450
  ![v451.toNat]

def k0_chk111 (v2 : IVec S16 32) (v456 : IVec S16 32) : Prop :=
  (∀ a x, ((![v2, v456] : Fin 2 → IVec S16 32) a x).toNat < S16x528.size a) ∧
  (∀ a x, ((![v2, v456] : Fin 2 → IVec S16 32) a x).toNat < S16x528.size a) ∧
  (∀ a x, ((![v2, v456] : Fin 2 → IVec S16 32) a x).toNat < S16x528.size a)
theorem k0_idx299_inb : ∀ (v2 : IVec S16 32) (v456 : IVec S16 32) (k0_hw111 : k0_chk111 v2 v456), ∀ a x, ((![v2, v456] : Fin 2 → IVec S16 32) a x).toNat < S16x528.size a := fun v2 v456 k0_hw111 => k0_hw111.1
theorem k0_idx300_inb : ∀ (v2 : IVec S16 32) (v456 : IVec S16 32) (k0_hw111 : k0_chk111 v2 v456), ∀ a x, ((![v2, v456] : Fin 2 → IVec S16 32) a x).toNat < S16x528.size a := fun v2 v456 k0_hw111 => k0_hw111.2.1
theorem k0_idx301_inb : ∀ (v2 : IVec S16 32) (v456 : IVec S16 32) (k0_hw111 : k0_chk111 v2 v456), ∀ a x, ((![v2, v456] : Fin 2 → IVec S16 32) a x).toNat < S16x528.size a := fun v2 v456 k0_hw111 => k0_hw111.2.2
def k0_off327 (k0_t26 : Fin k0_t26_loop.trips) : Fin 1 → Nat :=
  let c0_i32_142 : BitVec 32 := 0#32
  let c1_i32_144 : BitVec 32 := 1#32
  let arg28 : BitVec 32 := Scf.iv c0_i32_142 c1_i32_144 k0_t26
  let c80_i32 : BitVec 32 := 80#32
  let v438 : BitVec 32 := Scalar.muli arg28 c80_i32
  let c32_i32 : BitVec 32 := 32#32
  let v461 : BitVec 32 := Scalar.addi v438 c32_i32
  let v462 : Index := Scalar.indexCast v461
  ![v462.toNat]

def k0_chk112 (v2 : IVec S16 32) (v467 : IVec S16 32) : Prop :=
  (∀ a x, ((![v2, v467] : Fin 2 → IVec S16 32) a x).toNat < S16x528.size a) ∧
  (∀ a x, ((![v2, v467] : Fin 2 → IVec S16 32) a x).toNat < S16x528.size a) ∧
  (∀ a x, ((![v2, v467] : Fin 2 → IVec S16 32) a x).toNat < S16x528.size a)
theorem k0_idx302_inb : ∀ (v2 : IVec S16 32) (v467 : IVec S16 32) (k0_hw112 : k0_chk112 v2 v467), ∀ a x, ((![v2, v467] : Fin 2 → IVec S16 32) a x).toNat < S16x528.size a := fun v2 v467 k0_hw112 => k0_hw112.1
theorem k0_idx303_inb : ∀ (v2 : IVec S16 32) (v467 : IVec S16 32) (k0_hw112 : k0_chk112 v2 v467), ∀ a x, ((![v2, v467] : Fin 2 → IVec S16 32) a x).toNat < S16x528.size a := fun v2 v467 k0_hw112 => k0_hw112.2.1
theorem k0_idx304_inb : ∀ (v2 : IVec S16 32) (v467 : IVec S16 32) (k0_hw112 : k0_chk112 v2 v467), ∀ a x, ((![v2, v467] : Fin 2 → IVec S16 32) a x).toNat < S16x528.size a := fun v2 v467 k0_hw112 => k0_hw112.2.2
def k0_off328 (k0_t26 : Fin k0_t26_loop.trips) : Fin 1 → Nat :=
  let c0_i32_142 : BitVec 32 := 0#32
  let c1_i32_144 : BitVec 32 := 1#32
  let arg28 : BitVec 32 := Scf.iv c0_i32_142 c1_i32_144 k0_t26
  let c80_i32 : BitVec 32 := 80#32
  let v438 : BitVec 32 := Scalar.muli arg28 c80_i32
  let c48_i32 : BitVec 32 := 48#32
  let v472 : BitVec 32 := Scalar.addi v438 c48_i32
  let v473 : Index := Scalar.indexCast v472
  ![v473.toNat]

def k0_chk113 (v2 : IVec S16 32) (v478 : IVec S16 32) : Prop :=
  (∀ a x, ((![v2, v478] : Fin 2 → IVec S16 32) a x).toNat < S16x528.size a) ∧
  (∀ a x, ((![v2, v478] : Fin 2 → IVec S16 32) a x).toNat < S16x528.size a) ∧
  (∀ a x, ((![v2, v478] : Fin 2 → IVec S16 32) a x).toNat < S16x528.size a)
theorem k0_idx305_inb : ∀ (v2 : IVec S16 32) (v478 : IVec S16 32) (k0_hw113 : k0_chk113 v2 v478), ∀ a x, ((![v2, v478] : Fin 2 → IVec S16 32) a x).toNat < S16x528.size a := fun v2 v478 k0_hw113 => k0_hw113.1
theorem k0_idx306_inb : ∀ (v2 : IVec S16 32) (v478 : IVec S16 32) (k0_hw113 : k0_chk113 v2 v478), ∀ a x, ((![v2, v478] : Fin 2 → IVec S16 32) a x).toNat < S16x528.size a := fun v2 v478 k0_hw113 => k0_hw113.2.1
theorem k0_idx307_inb : ∀ (v2 : IVec S16 32) (v478 : IVec S16 32) (k0_hw113 : k0_chk113 v2 v478), ∀ a x, ((![v2, v478] : Fin 2 → IVec S16 32) a x).toNat < S16x528.size a := fun v2 v478 k0_hw113 => k0_hw113.2.2
def k0_off329 (k0_t26 : Fin k0_t26_loop.trips) : Fin 1 → Nat :=
  let c0_i32_142 : BitVec 32 := 0#32
  let c1_i32_144 : BitVec 32 := 1#32
  let arg28 : BitVec 32 := Scf.iv c0_i32_142 c1_i32_144 k0_t26
  let c80_i32 : BitVec 32 := 80#32
  let v438 : BitVec 32 := Scalar.muli arg28 c80_i32
  let c64_i32 : BitVec 32 := 64#32
  let v483 : BitVec 32 := Scalar.addi v438 c64_i32
  let v484 : Index := Scalar.indexCast v483
  ![v484.toNat]

def k0_chk114 (v2 : IVec S16 32) (v489 : IVec S16 32) : Prop :=
  (∀ a x, ((![v2, v489] : Fin 2 → IVec S16 32) a x).toNat < S16x528.size a) ∧
  (∀ a x, ((![v2, v489] : Fin 2 → IVec S16 32) a x).toNat < S16x528.size a) ∧
  (∀ a x, ((![v2, v489] : Fin 2 → IVec S16 32) a x).toNat < S16x528.size a)
theorem k0_idx308_inb : ∀ (v2 : IVec S16 32) (v489 : IVec S16 32) (k0_hw114 : k0_chk114 v2 v489), ∀ a x, ((![v2, v489] : Fin 2 → IVec S16 32) a x).toNat < S16x528.size a := fun v2 v489 k0_hw114 => k0_hw114.1
theorem k0_idx309_inb : ∀ (v2 : IVec S16 32) (v489 : IVec S16 32) (k0_hw114 : k0_chk114 v2 v489), ∀ a x, ((![v2, v489] : Fin 2 → IVec S16 32) a x).toNat < S16x528.size a := fun v2 v489 k0_hw114 => k0_hw114.2.1
theorem k0_idx310_inb : ∀ (v2 : IVec S16 32) (v489 : IVec S16 32) (k0_hw114 : k0_chk114 v2 v489), ∀ a x, ((![v2, v489] : Fin 2 → IVec S16 32) a x).toNat < S16x528.size a := fun v2 v489 k0_hw114 => k0_hw114.2.2
@[reducible] def k0_t27_loop : Scf.Loop 32 :=
  let c0_i32_148 : BitVec 32 := 0#32
  let c50_i32_149 : BitVec 32 := 50#32
  let v334 : BitVec 32 := Scalar.addi c0_i32_148 c50_i32_149
  let c1_i32_150 : BitVec 32 := 1#32
  ⟨c0_i32_148, v334, c1_i32_150⟩
def k0_off330 (k0_t27 : Fin k0_t27_loop.trips) : Fin 1 → Nat :=
  let c0_i32_148 : BitVec 32 := 0#32
  let c1_i32_150 : BitVec 32 := 1#32
  let arg28 : BitVec 32 := Scf.iv c0_i32_148 c1_i32_150 k0_t27
  let c80_i32 : BitVec 32 := 80#32
  let v438 : BitVec 32 := Scalar.muli arg28 c80_i32
  let c0_i32_221 : BitVec 32 := 0#32
  let v439 : BitVec 32 := Scalar.addi v438 c0_i32_221
  let v440 : Index := Scalar.indexCast v439
  ![v440.toNat]

def k0_chk115 (v2 : IVec S16 32) (v445 : IVec S16 32) : Prop :=
  (∀ a x, ((![v2, v445] : Fin 2 → IVec S16 32) a x).toNat < S16x528.size a) ∧
  (∀ a x, ((![v2, v445] : Fin 2 → IVec S16 32) a x).toNat < S16x528.size a) ∧
  (∀ a x, ((![v2, v445] : Fin 2 → IVec S16 32) a x).toNat < S16x528.size a)
theorem k0_idx311_inb : ∀ (v2 : IVec S16 32) (v445 : IVec S16 32) (k0_hw115 : k0_chk115 v2 v445), ∀ a x, ((![v2, v445] : Fin 2 → IVec S16 32) a x).toNat < S16x528.size a := fun v2 v445 k0_hw115 => k0_hw115.1
theorem k0_idx312_inb : ∀ (v2 : IVec S16 32) (v445 : IVec S16 32) (k0_hw115 : k0_chk115 v2 v445), ∀ a x, ((![v2, v445] : Fin 2 → IVec S16 32) a x).toNat < S16x528.size a := fun v2 v445 k0_hw115 => k0_hw115.2.1
theorem k0_idx313_inb : ∀ (v2 : IVec S16 32) (v445 : IVec S16 32) (k0_hw115 : k0_chk115 v2 v445), ∀ a x, ((![v2, v445] : Fin 2 → IVec S16 32) a x).toNat < S16x528.size a := fun v2 v445 k0_hw115 => k0_hw115.2.2
def k0_off331 (k0_t27 : Fin k0_t27_loop.trips) : Fin 1 → Nat :=
  let c0_i32_148 : BitVec 32 := 0#32
  let c1_i32_150 : BitVec 32 := 1#32
  let arg28 : BitVec 32 := Scf.iv c0_i32_148 c1_i32_150 k0_t27
  let c80_i32 : BitVec 32 := 80#32
  let v438 : BitVec 32 := Scalar.muli arg28 c80_i32
  let c16_i32_222 : BitVec 32 := 16#32
  let v450 : BitVec 32 := Scalar.addi v438 c16_i32_222
  let v451 : Index := Scalar.indexCast v450
  ![v451.toNat]

def k0_chk116 (v2 : IVec S16 32) (v456 : IVec S16 32) : Prop :=
  (∀ a x, ((![v2, v456] : Fin 2 → IVec S16 32) a x).toNat < S16x528.size a) ∧
  (∀ a x, ((![v2, v456] : Fin 2 → IVec S16 32) a x).toNat < S16x528.size a) ∧
  (∀ a x, ((![v2, v456] : Fin 2 → IVec S16 32) a x).toNat < S16x528.size a)
theorem k0_idx314_inb : ∀ (v2 : IVec S16 32) (v456 : IVec S16 32) (k0_hw116 : k0_chk116 v2 v456), ∀ a x, ((![v2, v456] : Fin 2 → IVec S16 32) a x).toNat < S16x528.size a := fun v2 v456 k0_hw116 => k0_hw116.1
theorem k0_idx315_inb : ∀ (v2 : IVec S16 32) (v456 : IVec S16 32) (k0_hw116 : k0_chk116 v2 v456), ∀ a x, ((![v2, v456] : Fin 2 → IVec S16 32) a x).toNat < S16x528.size a := fun v2 v456 k0_hw116 => k0_hw116.2.1
theorem k0_idx316_inb : ∀ (v2 : IVec S16 32) (v456 : IVec S16 32) (k0_hw116 : k0_chk116 v2 v456), ∀ a x, ((![v2, v456] : Fin 2 → IVec S16 32) a x).toNat < S16x528.size a := fun v2 v456 k0_hw116 => k0_hw116.2.2
def k0_off332 (k0_t27 : Fin k0_t27_loop.trips) : Fin 1 → Nat :=
  let c0_i32_148 : BitVec 32 := 0#32
  let c1_i32_150 : BitVec 32 := 1#32
  let arg28 : BitVec 32 := Scf.iv c0_i32_148 c1_i32_150 k0_t27
  let c80_i32 : BitVec 32 := 80#32
  let v438 : BitVec 32 := Scalar.muli arg28 c80_i32
  let c32_i32 : BitVec 32 := 32#32
  let v461 : BitVec 32 := Scalar.addi v438 c32_i32
  let v462 : Index := Scalar.indexCast v461
  ![v462.toNat]

def k0_chk117 (v2 : IVec S16 32) (v467 : IVec S16 32) : Prop :=
  (∀ a x, ((![v2, v467] : Fin 2 → IVec S16 32) a x).toNat < S16x528.size a) ∧
  (∀ a x, ((![v2, v467] : Fin 2 → IVec S16 32) a x).toNat < S16x528.size a) ∧
  (∀ a x, ((![v2, v467] : Fin 2 → IVec S16 32) a x).toNat < S16x528.size a)
theorem k0_idx317_inb : ∀ (v2 : IVec S16 32) (v467 : IVec S16 32) (k0_hw117 : k0_chk117 v2 v467), ∀ a x, ((![v2, v467] : Fin 2 → IVec S16 32) a x).toNat < S16x528.size a := fun v2 v467 k0_hw117 => k0_hw117.1
theorem k0_idx318_inb : ∀ (v2 : IVec S16 32) (v467 : IVec S16 32) (k0_hw117 : k0_chk117 v2 v467), ∀ a x, ((![v2, v467] : Fin 2 → IVec S16 32) a x).toNat < S16x528.size a := fun v2 v467 k0_hw117 => k0_hw117.2.1
theorem k0_idx319_inb : ∀ (v2 : IVec S16 32) (v467 : IVec S16 32) (k0_hw117 : k0_chk117 v2 v467), ∀ a x, ((![v2, v467] : Fin 2 → IVec S16 32) a x).toNat < S16x528.size a := fun v2 v467 k0_hw117 => k0_hw117.2.2
def k0_off333 (k0_t27 : Fin k0_t27_loop.trips) : Fin 1 → Nat :=
  let c0_i32_148 : BitVec 32 := 0#32
  let c1_i32_150 : BitVec 32 := 1#32
  let arg28 : BitVec 32 := Scf.iv c0_i32_148 c1_i32_150 k0_t27
  let c80_i32 : BitVec 32 := 80#32
  let v438 : BitVec 32 := Scalar.muli arg28 c80_i32
  let c48_i32 : BitVec 32 := 48#32
  let v472 : BitVec 32 := Scalar.addi v438 c48_i32
  let v473 : Index := Scalar.indexCast v472
  ![v473.toNat]

def k0_chk118 (v2 : IVec S16 32) (v478 : IVec S16 32) : Prop :=
  (∀ a x, ((![v2, v478] : Fin 2 → IVec S16 32) a x).toNat < S16x528.size a) ∧
  (∀ a x, ((![v2, v478] : Fin 2 → IVec S16 32) a x).toNat < S16x528.size a) ∧
  (∀ a x, ((![v2, v478] : Fin 2 → IVec S16 32) a x).toNat < S16x528.size a)
theorem k0_idx320_inb : ∀ (v2 : IVec S16 32) (v478 : IVec S16 32) (k0_hw118 : k0_chk118 v2 v478), ∀ a x, ((![v2, v478] : Fin 2 → IVec S16 32) a x).toNat < S16x528.size a := fun v2 v478 k0_hw118 => k0_hw118.1
theorem k0_idx321_inb : ∀ (v2 : IVec S16 32) (v478 : IVec S16 32) (k0_hw118 : k0_chk118 v2 v478), ∀ a x, ((![v2, v478] : Fin 2 → IVec S16 32) a x).toNat < S16x528.size a := fun v2 v478 k0_hw118 => k0_hw118.2.1
theorem k0_idx322_inb : ∀ (v2 : IVec S16 32) (v478 : IVec S16 32) (k0_hw118 : k0_chk118 v2 v478), ∀ a x, ((![v2, v478] : Fin 2 → IVec S16 32) a x).toNat < S16x528.size a := fun v2 v478 k0_hw118 => k0_hw118.2.2
def k0_off334 (k0_t27 : Fin k0_t27_loop.trips) : Fin 1 → Nat :=
  let c0_i32_148 : BitVec 32 := 0#32
  let c1_i32_150 : BitVec 32 := 1#32
  let arg28 : BitVec 32 := Scf.iv c0_i32_148 c1_i32_150 k0_t27
  let c80_i32 : BitVec 32 := 80#32
  let v438 : BitVec 32 := Scalar.muli arg28 c80_i32
  let c64_i32 : BitVec 32 := 64#32
  let v483 : BitVec 32 := Scalar.addi v438 c64_i32
  let v484 : Index := Scalar.indexCast v483
  ![v484.toNat]

def k0_chk119 (v2 : IVec S16 32) (v489 : IVec S16 32) : Prop :=
  (∀ a x, ((![v2, v489] : Fin 2 → IVec S16 32) a x).toNat < S16x528.size a) ∧
  (∀ a x, ((![v2, v489] : Fin 2 → IVec S16 32) a x).toNat < S16x528.size a) ∧
  (∀ a x, ((![v2, v489] : Fin 2 → IVec S16 32) a x).toNat < S16x528.size a)
theorem k0_idx323_inb : ∀ (v2 : IVec S16 32) (v489 : IVec S16 32) (k0_hw119 : k0_chk119 v2 v489), ∀ a x, ((![v2, v489] : Fin 2 → IVec S16 32) a x).toNat < S16x528.size a := fun v2 v489 k0_hw119 => k0_hw119.1
theorem k0_idx324_inb : ∀ (v2 : IVec S16 32) (v489 : IVec S16 32) (k0_hw119 : k0_chk119 v2 v489), ∀ a x, ((![v2, v489] : Fin 2 → IVec S16 32) a x).toNat < S16x528.size a := fun v2 v489 k0_hw119 => k0_hw119.2.1
theorem k0_idx325_inb : ∀ (v2 : IVec S16 32) (v489 : IVec S16 32) (k0_hw119 : k0_chk119 v2 v489), ∀ a x, ((![v2, v489] : Fin 2 → IVec S16 32) a x).toNat < S16x528.size a := fun v2 v489 k0_hw119 => k0_hw119.2.2
@[reducible] def k0_t28_loop : Scf.Loop 32 :=
  let c0_i32_154 : BitVec 32 := 0#32
  let c50_i32_155 : BitVec 32 := 50#32
  let v350 : BitVec 32 := Scalar.addi c0_i32_154 c50_i32_155
  let c1_i32_156 : BitVec 32 := 1#32
  ⟨c0_i32_154, v350, c1_i32_156⟩
def k0_off335 (k0_t28 : Fin k0_t28_loop.trips) : Fin 1 → Nat :=
  let c0_i32_154 : BitVec 32 := 0#32
  let c1_i32_156 : BitVec 32 := 1#32
  let arg28 : BitVec 32 := Scf.iv c0_i32_154 c1_i32_156 k0_t28
  let c80_i32 : BitVec 32 := 80#32
  let v438 : BitVec 32 := Scalar.muli arg28 c80_i32
  let c0_i32_221 : BitVec 32 := 0#32
  let v439 : BitVec 32 := Scalar.addi v438 c0_i32_221
  let v440 : Index := Scalar.indexCast v439
  ![v440.toNat]

def k0_chk120 (v2 : IVec S16 32) (v445 : IVec S16 32) : Prop :=
  (∀ a x, ((![v2, v445] : Fin 2 → IVec S16 32) a x).toNat < S16x528.size a) ∧
  (∀ a x, ((![v2, v445] : Fin 2 → IVec S16 32) a x).toNat < S16x528.size a) ∧
  (∀ a x, ((![v2, v445] : Fin 2 → IVec S16 32) a x).toNat < S16x528.size a)
theorem k0_idx326_inb : ∀ (v2 : IVec S16 32) (v445 : IVec S16 32) (k0_hw120 : k0_chk120 v2 v445), ∀ a x, ((![v2, v445] : Fin 2 → IVec S16 32) a x).toNat < S16x528.size a := fun v2 v445 k0_hw120 => k0_hw120.1
theorem k0_idx327_inb : ∀ (v2 : IVec S16 32) (v445 : IVec S16 32) (k0_hw120 : k0_chk120 v2 v445), ∀ a x, ((![v2, v445] : Fin 2 → IVec S16 32) a x).toNat < S16x528.size a := fun v2 v445 k0_hw120 => k0_hw120.2.1
theorem k0_idx328_inb : ∀ (v2 : IVec S16 32) (v445 : IVec S16 32) (k0_hw120 : k0_chk120 v2 v445), ∀ a x, ((![v2, v445] : Fin 2 → IVec S16 32) a x).toNat < S16x528.size a := fun v2 v445 k0_hw120 => k0_hw120.2.2
def k0_off336 (k0_t28 : Fin k0_t28_loop.trips) : Fin 1 → Nat :=
  let c0_i32_154 : BitVec 32 := 0#32
  let c1_i32_156 : BitVec 32 := 1#32
  let arg28 : BitVec 32 := Scf.iv c0_i32_154 c1_i32_156 k0_t28
  let c80_i32 : BitVec 32 := 80#32
  let v438 : BitVec 32 := Scalar.muli arg28 c80_i32
  let c16_i32_222 : BitVec 32 := 16#32
  let v450 : BitVec 32 := Scalar.addi v438 c16_i32_222
  let v451 : Index := Scalar.indexCast v450
  ![v451.toNat]

def k0_chk121 (v2 : IVec S16 32) (v456 : IVec S16 32) : Prop :=
  (∀ a x, ((![v2, v456] : Fin 2 → IVec S16 32) a x).toNat < S16x528.size a) ∧
  (∀ a x, ((![v2, v456] : Fin 2 → IVec S16 32) a x).toNat < S16x528.size a) ∧
  (∀ a x, ((![v2, v456] : Fin 2 → IVec S16 32) a x).toNat < S16x528.size a)
theorem k0_idx329_inb : ∀ (v2 : IVec S16 32) (v456 : IVec S16 32) (k0_hw121 : k0_chk121 v2 v456), ∀ a x, ((![v2, v456] : Fin 2 → IVec S16 32) a x).toNat < S16x528.size a := fun v2 v456 k0_hw121 => k0_hw121.1
theorem k0_idx330_inb : ∀ (v2 : IVec S16 32) (v456 : IVec S16 32) (k0_hw121 : k0_chk121 v2 v456), ∀ a x, ((![v2, v456] : Fin 2 → IVec S16 32) a x).toNat < S16x528.size a := fun v2 v456 k0_hw121 => k0_hw121.2.1
theorem k0_idx331_inb : ∀ (v2 : IVec S16 32) (v456 : IVec S16 32) (k0_hw121 : k0_chk121 v2 v456), ∀ a x, ((![v2, v456] : Fin 2 → IVec S16 32) a x).toNat < S16x528.size a := fun v2 v456 k0_hw121 => k0_hw121.2.2
def k0_off337 (k0_t28 : Fin k0_t28_loop.trips) : Fin 1 → Nat :=
  let c0_i32_154 : BitVec 32 := 0#32
  let c1_i32_156 : BitVec 32 := 1#32
  let arg28 : BitVec 32 := Scf.iv c0_i32_154 c1_i32_156 k0_t28
  let c80_i32 : BitVec 32 := 80#32
  let v438 : BitVec 32 := Scalar.muli arg28 c80_i32
  let c32_i32 : BitVec 32 := 32#32
  let v461 : BitVec 32 := Scalar.addi v438 c32_i32
  let v462 : Index := Scalar.indexCast v461
  ![v462.toNat]

def k0_chk122 (v2 : IVec S16 32) (v467 : IVec S16 32) : Prop :=
  (∀ a x, ((![v2, v467] : Fin 2 → IVec S16 32) a x).toNat < S16x528.size a) ∧
  (∀ a x, ((![v2, v467] : Fin 2 → IVec S16 32) a x).toNat < S16x528.size a) ∧
  (∀ a x, ((![v2, v467] : Fin 2 → IVec S16 32) a x).toNat < S16x528.size a)
theorem k0_idx332_inb : ∀ (v2 : IVec S16 32) (v467 : IVec S16 32) (k0_hw122 : k0_chk122 v2 v467), ∀ a x, ((![v2, v467] : Fin 2 → IVec S16 32) a x).toNat < S16x528.size a := fun v2 v467 k0_hw122 => k0_hw122.1
theorem k0_idx333_inb : ∀ (v2 : IVec S16 32) (v467 : IVec S16 32) (k0_hw122 : k0_chk122 v2 v467), ∀ a x, ((![v2, v467] : Fin 2 → IVec S16 32) a x).toNat < S16x528.size a := fun v2 v467 k0_hw122 => k0_hw122.2.1
theorem k0_idx334_inb : ∀ (v2 : IVec S16 32) (v467 : IVec S16 32) (k0_hw122 : k0_chk122 v2 v467), ∀ a x, ((![v2, v467] : Fin 2 → IVec S16 32) a x).toNat < S16x528.size a := fun v2 v467 k0_hw122 => k0_hw122.2.2
def k0_off338 (k0_t28 : Fin k0_t28_loop.trips) : Fin 1 → Nat :=
  let c0_i32_154 : BitVec 32 := 0#32
  let c1_i32_156 : BitVec 32 := 1#32
  let arg28 : BitVec 32 := Scf.iv c0_i32_154 c1_i32_156 k0_t28
  let c80_i32 : BitVec 32 := 80#32
  let v438 : BitVec 32 := Scalar.muli arg28 c80_i32
  let c48_i32 : BitVec 32 := 48#32
  let v472 : BitVec 32 := Scalar.addi v438 c48_i32
  let v473 : Index := Scalar.indexCast v472
  ![v473.toNat]

def k0_chk123 (v2 : IVec S16 32) (v478 : IVec S16 32) : Prop :=
  (∀ a x, ((![v2, v478] : Fin 2 → IVec S16 32) a x).toNat < S16x528.size a) ∧
  (∀ a x, ((![v2, v478] : Fin 2 → IVec S16 32) a x).toNat < S16x528.size a) ∧
  (∀ a x, ((![v2, v478] : Fin 2 → IVec S16 32) a x).toNat < S16x528.size a)
theorem k0_idx335_inb : ∀ (v2 : IVec S16 32) (v478 : IVec S16 32) (k0_hw123 : k0_chk123 v2 v478), ∀ a x, ((![v2, v478] : Fin 2 → IVec S16 32) a x).toNat < S16x528.size a := fun v2 v478 k0_hw123 => k0_hw123.1
theorem k0_idx336_inb : ∀ (v2 : IVec S16 32) (v478 : IVec S16 32) (k0_hw123 : k0_chk123 v2 v478), ∀ a x, ((![v2, v478] : Fin 2 → IVec S16 32) a x).toNat < S16x528.size a := fun v2 v478 k0_hw123 => k0_hw123.2.1
theorem k0_idx337_inb : ∀ (v2 : IVec S16 32) (v478 : IVec S16 32) (k0_hw123 : k0_chk123 v2 v478), ∀ a x, ((![v2, v478] : Fin 2 → IVec S16 32) a x).toNat < S16x528.size a := fun v2 v478 k0_hw123 => k0_hw123.2.2
def k0_off339 (k0_t28 : Fin k0_t28_loop.trips) : Fin 1 → Nat :=
  let c0_i32_154 : BitVec 32 := 0#32
  let c1_i32_156 : BitVec 32 := 1#32
  let arg28 : BitVec 32 := Scf.iv c0_i32_154 c1_i32_156 k0_t28
  let c80_i32 : BitVec 32 := 80#32
  let v438 : BitVec 32 := Scalar.muli arg28 c80_i32
  let c64_i32 : BitVec 32 := 64#32
  let v483 : BitVec 32 := Scalar.addi v438 c64_i32
  let v484 : Index := Scalar.indexCast v483
  ![v484.toNat]

def k0_chk124 (v2 : IVec S16 32) (v489 : IVec S16 32) : Prop :=
  (∀ a x, ((![v2, v489] : Fin 2 → IVec S16 32) a x).toNat < S16x528.size a) ∧
  (∀ a x, ((![v2, v489] : Fin 2 → IVec S16 32) a x).toNat < S16x528.size a) ∧
  (∀ a x, ((![v2, v489] : Fin 2 → IVec S16 32) a x).toNat < S16x528.size a)
theorem k0_idx338_inb : ∀ (v2 : IVec S16 32) (v489 : IVec S16 32) (k0_hw124 : k0_chk124 v2 v489), ∀ a x, ((![v2, v489] : Fin 2 → IVec S16 32) a x).toNat < S16x528.size a := fun v2 v489 k0_hw124 => k0_hw124.1
theorem k0_idx339_inb : ∀ (v2 : IVec S16 32) (v489 : IVec S16 32) (k0_hw124 : k0_chk124 v2 v489), ∀ a x, ((![v2, v489] : Fin 2 → IVec S16 32) a x).toNat < S16x528.size a := fun v2 v489 k0_hw124 => k0_hw124.2.1
theorem k0_idx340_inb : ∀ (v2 : IVec S16 32) (v489 : IVec S16 32) (k0_hw124 : k0_chk124 v2 v489), ∀ a x, ((![v2, v489] : Fin 2 → IVec S16 32) a x).toNat < S16x528.size a := fun v2 v489 k0_hw124 => k0_hw124.2.2
@[reducible] def k0_t29_loop : Scf.Loop 32 :=
  let c0_i32_160 : BitVec 32 := 0#32
  let c50_i32_161 : BitVec 32 := 50#32
  let v366 : BitVec 32 := Scalar.addi c0_i32_160 c50_i32_161
  let c1_i32_162 : BitVec 32 := 1#32
  ⟨c0_i32_160, v366, c1_i32_162⟩
def k0_off340 (k0_t29 : Fin k0_t29_loop.trips) : Fin 1 → Nat :=
  let c0_i32_160 : BitVec 32 := 0#32
  let c1_i32_162 : BitVec 32 := 1#32
  let arg28 : BitVec 32 := Scf.iv c0_i32_160 c1_i32_162 k0_t29
  let c80_i32 : BitVec 32 := 80#32
  let v438 : BitVec 32 := Scalar.muli arg28 c80_i32
  let c0_i32_221 : BitVec 32 := 0#32
  let v439 : BitVec 32 := Scalar.addi v438 c0_i32_221
  let v440 : Index := Scalar.indexCast v439
  ![v440.toNat]

def k0_chk125 (v2 : IVec S16 32) (v445 : IVec S16 32) : Prop :=
  (∀ a x, ((![v2, v445] : Fin 2 → IVec S16 32) a x).toNat < S16x528.size a) ∧
  (∀ a x, ((![v2, v445] : Fin 2 → IVec S16 32) a x).toNat < S16x528.size a) ∧
  (∀ a x, ((![v2, v445] : Fin 2 → IVec S16 32) a x).toNat < S16x528.size a)
theorem k0_idx341_inb : ∀ (v2 : IVec S16 32) (v445 : IVec S16 32) (k0_hw125 : k0_chk125 v2 v445), ∀ a x, ((![v2, v445] : Fin 2 → IVec S16 32) a x).toNat < S16x528.size a := fun v2 v445 k0_hw125 => k0_hw125.1
theorem k0_idx342_inb : ∀ (v2 : IVec S16 32) (v445 : IVec S16 32) (k0_hw125 : k0_chk125 v2 v445), ∀ a x, ((![v2, v445] : Fin 2 → IVec S16 32) a x).toNat < S16x528.size a := fun v2 v445 k0_hw125 => k0_hw125.2.1
theorem k0_idx343_inb : ∀ (v2 : IVec S16 32) (v445 : IVec S16 32) (k0_hw125 : k0_chk125 v2 v445), ∀ a x, ((![v2, v445] : Fin 2 → IVec S16 32) a x).toNat < S16x528.size a := fun v2 v445 k0_hw125 => k0_hw125.2.2
def k0_off341 (k0_t29 : Fin k0_t29_loop.trips) : Fin 1 → Nat :=
  let c0_i32_160 : BitVec 32 := 0#32
  let c1_i32_162 : BitVec 32 := 1#32
  let arg28 : BitVec 32 := Scf.iv c0_i32_160 c1_i32_162 k0_t29
  let c80_i32 : BitVec 32 := 80#32
  let v438 : BitVec 32 := Scalar.muli arg28 c80_i32
  let c16_i32_222 : BitVec 32 := 16#32
  let v450 : BitVec 32 := Scalar.addi v438 c16_i32_222
  let v451 : Index := Scalar.indexCast v450
  ![v451.toNat]

def k0_chk126 (v2 : IVec S16 32) (v456 : IVec S16 32) : Prop :=
  (∀ a x, ((![v2, v456] : Fin 2 → IVec S16 32) a x).toNat < S16x528.size a) ∧
  (∀ a x, ((![v2, v456] : Fin 2 → IVec S16 32) a x).toNat < S16x528.size a) ∧
  (∀ a x, ((![v2, v456] : Fin 2 → IVec S16 32) a x).toNat < S16x528.size a)
theorem k0_idx344_inb : ∀ (v2 : IVec S16 32) (v456 : IVec S16 32) (k0_hw126 : k0_chk126 v2 v456), ∀ a x, ((![v2, v456] : Fin 2 → IVec S16 32) a x).toNat < S16x528.size a := fun v2 v456 k0_hw126 => k0_hw126.1
theorem k0_idx345_inb : ∀ (v2 : IVec S16 32) (v456 : IVec S16 32) (k0_hw126 : k0_chk126 v2 v456), ∀ a x, ((![v2, v456] : Fin 2 → IVec S16 32) a x).toNat < S16x528.size a := fun v2 v456 k0_hw126 => k0_hw126.2.1
theorem k0_idx346_inb : ∀ (v2 : IVec S16 32) (v456 : IVec S16 32) (k0_hw126 : k0_chk126 v2 v456), ∀ a x, ((![v2, v456] : Fin 2 → IVec S16 32) a x).toNat < S16x528.size a := fun v2 v456 k0_hw126 => k0_hw126.2.2
def k0_off342 (k0_t29 : Fin k0_t29_loop.trips) : Fin 1 → Nat :=
  let c0_i32_160 : BitVec 32 := 0#32
  let c1_i32_162 : BitVec 32 := 1#32
  let arg28 : BitVec 32 := Scf.iv c0_i32_160 c1_i32_162 k0_t29
  let c80_i32 : BitVec 32 := 80#32
  let v438 : BitVec 32 := Scalar.muli arg28 c80_i32
  let c32_i32 : BitVec 32 := 32#32
  let v461 : BitVec 32 := Scalar.addi v438 c32_i32
  let v462 : Index := Scalar.indexCast v461
  ![v462.toNat]

def k0_chk127 (v2 : IVec S16 32) (v467 : IVec S16 32) : Prop :=
  (∀ a x, ((![v2, v467] : Fin 2 → IVec S16 32) a x).toNat < S16x528.size a) ∧
  (∀ a x, ((![v2, v467] : Fin 2 → IVec S16 32) a x).toNat < S16x528.size a) ∧
  (∀ a x, ((![v2, v467] : Fin 2 → IVec S16 32) a x).toNat < S16x528.size a)
theorem k0_idx347_inb : ∀ (v2 : IVec S16 32) (v467 : IVec S16 32) (k0_hw127 : k0_chk127 v2 v467), ∀ a x, ((![v2, v467] : Fin 2 → IVec S16 32) a x).toNat < S16x528.size a := fun v2 v467 k0_hw127 => k0_hw127.1
theorem k0_idx348_inb : ∀ (v2 : IVec S16 32) (v467 : IVec S16 32) (k0_hw127 : k0_chk127 v2 v467), ∀ a x, ((![v2, v467] : Fin 2 → IVec S16 32) a x).toNat < S16x528.size a := fun v2 v467 k0_hw127 => k0_hw127.2.1
theorem k0_idx349_inb : ∀ (v2 : IVec S16 32) (v467 : IVec S16 32) (k0_hw127 : k0_chk127 v2 v467), ∀ a x, ((![v2, v467] : Fin 2 → IVec S16 32) a x).toNat < S16x528.size a := fun v2 v467 k0_hw127 => k0_hw127.2.2
def k0_off343 (k0_t29 : Fin k0_t29_loop.trips) : Fin 1 → Nat :=
  let c0_i32_160 : BitVec 32 := 0#32
  let c1_i32_162 : BitVec 32 := 1#32
  let arg28 : BitVec 32 := Scf.iv c0_i32_160 c1_i32_162 k0_t29
  let c80_i32 : BitVec 32 := 80#32
  let v438 : BitVec 32 := Scalar.muli arg28 c80_i32
  let c48_i32 : BitVec 32 := 48#32
  let v472 : BitVec 32 := Scalar.addi v438 c48_i32
  let v473 : Index := Scalar.indexCast v472
  ![v473.toNat]

def k0_chk128 (v2 : IVec S16 32) (v478 : IVec S16 32) : Prop :=
  (∀ a x, ((![v2, v478] : Fin 2 → IVec S16 32) a x).toNat < S16x528.size a) ∧
  (∀ a x, ((![v2, v478] : Fin 2 → IVec S16 32) a x).toNat < S16x528.size a) ∧
  (∀ a x, ((![v2, v478] : Fin 2 → IVec S16 32) a x).toNat < S16x528.size a)
theorem k0_idx350_inb : ∀ (v2 : IVec S16 32) (v478 : IVec S16 32) (k0_hw128 : k0_chk128 v2 v478), ∀ a x, ((![v2, v478] : Fin 2 → IVec S16 32) a x).toNat < S16x528.size a := fun v2 v478 k0_hw128 => k0_hw128.1
theorem k0_idx351_inb : ∀ (v2 : IVec S16 32) (v478 : IVec S16 32) (k0_hw128 : k0_chk128 v2 v478), ∀ a x, ((![v2, v478] : Fin 2 → IVec S16 32) a x).toNat < S16x528.size a := fun v2 v478 k0_hw128 => k0_hw128.2.1
theorem k0_idx352_inb : ∀ (v2 : IVec S16 32) (v478 : IVec S16 32) (k0_hw128 : k0_chk128 v2 v478), ∀ a x, ((![v2, v478] : Fin 2 → IVec S16 32) a x).toNat < S16x528.size a := fun v2 v478 k0_hw128 => k0_hw128.2.2
def k0_off344 (k0_t29 : Fin k0_t29_loop.trips) : Fin 1 → Nat :=
  let c0_i32_160 : BitVec 32 := 0#32
  let c1_i32_162 : BitVec 32 := 1#32
  let arg28 : BitVec 32 := Scf.iv c0_i32_160 c1_i32_162 k0_t29
  let c80_i32 : BitVec 32 := 80#32
  let v438 : BitVec 32 := Scalar.muli arg28 c80_i32
  let c64_i32 : BitVec 32 := 64#32
  let v483 : BitVec 32 := Scalar.addi v438 c64_i32
  let v484 : Index := Scalar.indexCast v483
  ![v484.toNat]

def k0_chk129 (v2 : IVec S16 32) (v489 : IVec S16 32) : Prop :=
  (∀ a x, ((![v2, v489] : Fin 2 → IVec S16 32) a x).toNat < S16x528.size a) ∧
  (∀ a x, ((![v2, v489] : Fin 2 → IVec S16 32) a x).toNat < S16x528.size a) ∧
  (∀ a x, ((![v2, v489] : Fin 2 → IVec S16 32) a x).toNat < S16x528.size a)
theorem k0_idx353_inb : ∀ (v2 : IVec S16 32) (v489 : IVec S16 32) (k0_hw129 : k0_chk129 v2 v489), ∀ a x, ((![v2, v489] : Fin 2 → IVec S16 32) a x).toNat < S16x528.size a := fun v2 v489 k0_hw129 => k0_hw129.1
theorem k0_idx354_inb : ∀ (v2 : IVec S16 32) (v489 : IVec S16 32) (k0_hw129 : k0_chk129 v2 v489), ∀ a x, ((![v2, v489] : Fin 2 → IVec S16 32) a x).toNat < S16x528.size a := fun v2 v489 k0_hw129 => k0_hw129.2.1
theorem k0_idx355_inb : ∀ (v2 : IVec S16 32) (v489 : IVec S16 32) (k0_hw129 : k0_chk129 v2 v489), ∀ a x, ((![v2, v489] : Fin 2 → IVec S16 32) a x).toNat < S16x528.size a := fun v2 v489 k0_hw129 => k0_hw129.2.2
@[reducible] def k0_t30_loop : Scf.Loop 32 :=
  let c0_i32_166 : BitVec 32 := 0#32
  let c50_i32_167 : BitVec 32 := 50#32
  let v382 : BitVec 32 := Scalar.addi c0_i32_166 c50_i32_167
  let c1_i32_168 : BitVec 32 := 1#32
  ⟨c0_i32_166, v382, c1_i32_168⟩
def k0_off345 (k0_t30 : Fin k0_t30_loop.trips) : Fin 1 → Nat :=
  let c0_i32_166 : BitVec 32 := 0#32
  let c1_i32_168 : BitVec 32 := 1#32
  let arg28 : BitVec 32 := Scf.iv c0_i32_166 c1_i32_168 k0_t30
  let c80_i32 : BitVec 32 := 80#32
  let v438 : BitVec 32 := Scalar.muli arg28 c80_i32
  let c0_i32_221 : BitVec 32 := 0#32
  let v439 : BitVec 32 := Scalar.addi v438 c0_i32_221
  let v440 : Index := Scalar.indexCast v439
  ![v440.toNat]

def k0_chk130 (v2 : IVec S16 32) (v445 : IVec S16 32) : Prop :=
  (∀ a x, ((![v2, v445] : Fin 2 → IVec S16 32) a x).toNat < S16x528.size a) ∧
  (∀ a x, ((![v2, v445] : Fin 2 → IVec S16 32) a x).toNat < S16x528.size a) ∧
  (∀ a x, ((![v2, v445] : Fin 2 → IVec S16 32) a x).toNat < S16x528.size a)
theorem k0_idx356_inb : ∀ (v2 : IVec S16 32) (v445 : IVec S16 32) (k0_hw130 : k0_chk130 v2 v445), ∀ a x, ((![v2, v445] : Fin 2 → IVec S16 32) a x).toNat < S16x528.size a := fun v2 v445 k0_hw130 => k0_hw130.1
theorem k0_idx357_inb : ∀ (v2 : IVec S16 32) (v445 : IVec S16 32) (k0_hw130 : k0_chk130 v2 v445), ∀ a x, ((![v2, v445] : Fin 2 → IVec S16 32) a x).toNat < S16x528.size a := fun v2 v445 k0_hw130 => k0_hw130.2.1
theorem k0_idx358_inb : ∀ (v2 : IVec S16 32) (v445 : IVec S16 32) (k0_hw130 : k0_chk130 v2 v445), ∀ a x, ((![v2, v445] : Fin 2 → IVec S16 32) a x).toNat < S16x528.size a := fun v2 v445 k0_hw130 => k0_hw130.2.2
def k0_off346 (k0_t30 : Fin k0_t30_loop.trips) : Fin 1 → Nat :=
  let c0_i32_166 : BitVec 32 := 0#32
  let c1_i32_168 : BitVec 32 := 1#32
  let arg28 : BitVec 32 := Scf.iv c0_i32_166 c1_i32_168 k0_t30
  let c80_i32 : BitVec 32 := 80#32
  let v438 : BitVec 32 := Scalar.muli arg28 c80_i32
  let c16_i32_222 : BitVec 32 := 16#32
  let v450 : BitVec 32 := Scalar.addi v438 c16_i32_222
  let v451 : Index := Scalar.indexCast v450
  ![v451.toNat]

def k0_chk131 (v2 : IVec S16 32) (v456 : IVec S16 32) : Prop :=
  (∀ a x, ((![v2, v456] : Fin 2 → IVec S16 32) a x).toNat < S16x528.size a) ∧
  (∀ a x, ((![v2, v456] : Fin 2 → IVec S16 32) a x).toNat < S16x528.size a) ∧
  (∀ a x, ((![v2, v456] : Fin 2 → IVec S16 32) a x).toNat < S16x528.size a)
theorem k0_idx359_inb : ∀ (v2 : IVec S16 32) (v456 : IVec S16 32) (k0_hw131 : k0_chk131 v2 v456), ∀ a x, ((![v2, v456] : Fin 2 → IVec S16 32) a x).toNat < S16x528.size a := fun v2 v456 k0_hw131 => k0_hw131.1
theorem k0_idx360_inb : ∀ (v2 : IVec S16 32) (v456 : IVec S16 32) (k0_hw131 : k0_chk131 v2 v456), ∀ a x, ((![v2, v456] : Fin 2 → IVec S16 32) a x).toNat < S16x528.size a := fun v2 v456 k0_hw131 => k0_hw131.2.1
theorem k0_idx361_inb : ∀ (v2 : IVec S16 32) (v456 : IVec S16 32) (k0_hw131 : k0_chk131 v2 v456), ∀ a x, ((![v2, v456] : Fin 2 → IVec S16 32) a x).toNat < S16x528.size a := fun v2 v456 k0_hw131 => k0_hw131.2.2
def k0_off347 (k0_t30 : Fin k0_t30_loop.trips) : Fin 1 → Nat :=
  let c0_i32_166 : BitVec 32 := 0#32
  let c1_i32_168 : BitVec 32 := 1#32
  let arg28 : BitVec 32 := Scf.iv c0_i32_166 c1_i32_168 k0_t30
  let c80_i32 : BitVec 32 := 80#32
  let v438 : BitVec 32 := Scalar.muli arg28 c80_i32
  let c32_i32 : BitVec 32 := 32#32
  let v461 : BitVec 32 := Scalar.addi v438 c32_i32
  let v462 : Index := Scalar.indexCast v461
  ![v462.toNat]

def k0_chk132 (v2 : IVec S16 32) (v467 : IVec S16 32) : Prop :=
  (∀ a x, ((![v2, v467] : Fin 2 → IVec S16 32) a x).toNat < S16x528.size a) ∧
  (∀ a x, ((![v2, v467] : Fin 2 → IVec S16 32) a x).toNat < S16x528.size a) ∧
  (∀ a x, ((![v2, v467] : Fin 2 → IVec S16 32) a x).toNat < S16x528.size a)
theorem k0_idx362_inb : ∀ (v2 : IVec S16 32) (v467 : IVec S16 32) (k0_hw132 : k0_chk132 v2 v467), ∀ a x, ((![v2, v467] : Fin 2 → IVec S16 32) a x).toNat < S16x528.size a := fun v2 v467 k0_hw132 => k0_hw132.1
theorem k0_idx363_inb : ∀ (v2 : IVec S16 32) (v467 : IVec S16 32) (k0_hw132 : k0_chk132 v2 v467), ∀ a x, ((![v2, v467] : Fin 2 → IVec S16 32) a x).toNat < S16x528.size a := fun v2 v467 k0_hw132 => k0_hw132.2.1
theorem k0_idx364_inb : ∀ (v2 : IVec S16 32) (v467 : IVec S16 32) (k0_hw132 : k0_chk132 v2 v467), ∀ a x, ((![v2, v467] : Fin 2 → IVec S16 32) a x).toNat < S16x528.size a := fun v2 v467 k0_hw132 => k0_hw132.2.2
def k0_off348 (k0_t30 : Fin k0_t30_loop.trips) : Fin 1 → Nat :=
  let c0_i32_166 : BitVec 32 := 0#32
  let c1_i32_168 : BitVec 32 := 1#32
  let arg28 : BitVec 32 := Scf.iv c0_i32_166 c1_i32_168 k0_t30
  let c80_i32 : BitVec 32 := 80#32
  let v438 : BitVec 32 := Scalar.muli arg28 c80_i32
  let c48_i32 : BitVec 32 := 48#32
  let v472 : BitVec 32 := Scalar.addi v438 c48_i32
  let v473 : Index := Scalar.indexCast v472
  ![v473.toNat]

def k0_chk133 (v2 : IVec S16 32) (v478 : IVec S16 32) : Prop :=
  (∀ a x, ((![v2, v478] : Fin 2 → IVec S16 32) a x).toNat < S16x528.size a) ∧
  (∀ a x, ((![v2, v478] : Fin 2 → IVec S16 32) a x).toNat < S16x528.size a) ∧
  (∀ a x, ((![v2, v478] : Fin 2 → IVec S16 32) a x).toNat < S16x528.size a)
theorem k0_idx365_inb : ∀ (v2 : IVec S16 32) (v478 : IVec S16 32) (k0_hw133 : k0_chk133 v2 v478), ∀ a x, ((![v2, v478] : Fin 2 → IVec S16 32) a x).toNat < S16x528.size a := fun v2 v478 k0_hw133 => k0_hw133.1
theorem k0_idx366_inb : ∀ (v2 : IVec S16 32) (v478 : IVec S16 32) (k0_hw133 : k0_chk133 v2 v478), ∀ a x, ((![v2, v478] : Fin 2 → IVec S16 32) a x).toNat < S16x528.size a := fun v2 v478 k0_hw133 => k0_hw133.2.1
theorem k0_idx367_inb : ∀ (v2 : IVec S16 32) (v478 : IVec S16 32) (k0_hw133 : k0_chk133 v2 v478), ∀ a x, ((![v2, v478] : Fin 2 → IVec S16 32) a x).toNat < S16x528.size a := fun v2 v478 k0_hw133 => k0_hw133.2.2
def k0_off349 (k0_t30 : Fin k0_t30_loop.trips) : Fin 1 → Nat :=
  let c0_i32_166 : BitVec 32 := 0#32
  let c1_i32_168 : BitVec 32 := 1#32
  let arg28 : BitVec 32 := Scf.iv c0_i32_166 c1_i32_168 k0_t30
  let c80_i32 : BitVec 32 := 80#32
  let v438 : BitVec 32 := Scalar.muli arg28 c80_i32
  let c64_i32 : BitVec 32 := 64#32
  let v483 : BitVec 32 := Scalar.addi v438 c64_i32
  let v484 : Index := Scalar.indexCast v483
  ![v484.toNat]

def k0_chk134 (v2 : IVec S16 32) (v489 : IVec S16 32) : Prop :=
  (∀ a x, ((![v2, v489] : Fin 2 → IVec S16 32) a x).toNat < S16x528.size a) ∧
  (∀ a x, ((![v2, v489] : Fin 2 → IVec S16 32) a x).toNat < S16x528.size a) ∧
  (∀ a x, ((![v2, v489] : Fin 2 → IVec S16 32) a x).toNat < S16x528.size a)
theorem k0_idx368_inb : ∀ (v2 : IVec S16 32) (v489 : IVec S16 32) (k0_hw134 : k0_chk134 v2 v489), ∀ a x, ((![v2, v489] : Fin 2 → IVec S16 32) a x).toNat < S16x528.size a := fun v2 v489 k0_hw134 => k0_hw134.1
theorem k0_idx369_inb : ∀ (v2 : IVec S16 32) (v489 : IVec S16 32) (k0_hw134 : k0_chk134 v2 v489), ∀ a x, ((![v2, v489] : Fin 2 → IVec S16 32) a x).toNat < S16x528.size a := fun v2 v489 k0_hw134 => k0_hw134.2.1
theorem k0_idx370_inb : ∀ (v2 : IVec S16 32) (v489 : IVec S16 32) (k0_hw134 : k0_chk134 v2 v489), ∀ a x, ((![v2, v489] : Fin 2 → IVec S16 32) a x).toNat < S16x528.size a := fun v2 v489 k0_hw134 => k0_hw134.2.2
@[reducible] def k0_t31_loop : Scf.Loop 32 :=
  let c0_i32_172 : BitVec 32 := 0#32
  let c50_i32_173 : BitVec 32 := 50#32
  let v398 : BitVec 32 := Scalar.addi c0_i32_172 c50_i32_173
  let c1_i32_174 : BitVec 32 := 1#32
  ⟨c0_i32_172, v398, c1_i32_174⟩
def k0_off350 (k0_t31 : Fin k0_t31_loop.trips) : Fin 1 → Nat :=
  let c0_i32_172 : BitVec 32 := 0#32
  let c1_i32_174 : BitVec 32 := 1#32
  let arg28 : BitVec 32 := Scf.iv c0_i32_172 c1_i32_174 k0_t31
  let c80_i32 : BitVec 32 := 80#32
  let v438 : BitVec 32 := Scalar.muli arg28 c80_i32
  let c0_i32_221 : BitVec 32 := 0#32
  let v439 : BitVec 32 := Scalar.addi v438 c0_i32_221
  let v440 : Index := Scalar.indexCast v439
  ![v440.toNat]

def k0_chk135 (v2 : IVec S16 32) (v445 : IVec S16 32) : Prop :=
  (∀ a x, ((![v2, v445] : Fin 2 → IVec S16 32) a x).toNat < S16x528.size a) ∧
  (∀ a x, ((![v2, v445] : Fin 2 → IVec S16 32) a x).toNat < S16x528.size a) ∧
  (∀ a x, ((![v2, v445] : Fin 2 → IVec S16 32) a x).toNat < S16x528.size a)
theorem k0_idx371_inb : ∀ (v2 : IVec S16 32) (v445 : IVec S16 32) (k0_hw135 : k0_chk135 v2 v445), ∀ a x, ((![v2, v445] : Fin 2 → IVec S16 32) a x).toNat < S16x528.size a := fun v2 v445 k0_hw135 => k0_hw135.1
theorem k0_idx372_inb : ∀ (v2 : IVec S16 32) (v445 : IVec S16 32) (k0_hw135 : k0_chk135 v2 v445), ∀ a x, ((![v2, v445] : Fin 2 → IVec S16 32) a x).toNat < S16x528.size a := fun v2 v445 k0_hw135 => k0_hw135.2.1
theorem k0_idx373_inb : ∀ (v2 : IVec S16 32) (v445 : IVec S16 32) (k0_hw135 : k0_chk135 v2 v445), ∀ a x, ((![v2, v445] : Fin 2 → IVec S16 32) a x).toNat < S16x528.size a := fun v2 v445 k0_hw135 => k0_hw135.2.2
def k0_off351 (k0_t31 : Fin k0_t31_loop.trips) : Fin 1 → Nat :=
  let c0_i32_172 : BitVec 32 := 0#32
  let c1_i32_174 : BitVec 32 := 1#32
  let arg28 : BitVec 32 := Scf.iv c0_i32_172 c1_i32_174 k0_t31
  let c80_i32 : BitVec 32 := 80#32
  let v438 : BitVec 32 := Scalar.muli arg28 c80_i32
  let c16_i32_222 : BitVec 32 := 16#32
  let v450 : BitVec 32 := Scalar.addi v438 c16_i32_222
  let v451 : Index := Scalar.indexCast v450
  ![v451.toNat]

def k0_chk136 (v2 : IVec S16 32) (v456 : IVec S16 32) : Prop :=
  (∀ a x, ((![v2, v456] : Fin 2 → IVec S16 32) a x).toNat < S16x528.size a) ∧
  (∀ a x, ((![v2, v456] : Fin 2 → IVec S16 32) a x).toNat < S16x528.size a) ∧
  (∀ a x, ((![v2, v456] : Fin 2 → IVec S16 32) a x).toNat < S16x528.size a)
theorem k0_idx374_inb : ∀ (v2 : IVec S16 32) (v456 : IVec S16 32) (k0_hw136 : k0_chk136 v2 v456), ∀ a x, ((![v2, v456] : Fin 2 → IVec S16 32) a x).toNat < S16x528.size a := fun v2 v456 k0_hw136 => k0_hw136.1
theorem k0_idx375_inb : ∀ (v2 : IVec S16 32) (v456 : IVec S16 32) (k0_hw136 : k0_chk136 v2 v456), ∀ a x, ((![v2, v456] : Fin 2 → IVec S16 32) a x).toNat < S16x528.size a := fun v2 v456 k0_hw136 => k0_hw136.2.1
theorem k0_idx376_inb : ∀ (v2 : IVec S16 32) (v456 : IVec S16 32) (k0_hw136 : k0_chk136 v2 v456), ∀ a x, ((![v2, v456] : Fin 2 → IVec S16 32) a x).toNat < S16x528.size a := fun v2 v456 k0_hw136 => k0_hw136.2.2
def k0_off352 (k0_t31 : Fin k0_t31_loop.trips) : Fin 1 → Nat :=
  let c0_i32_172 : BitVec 32 := 0#32
  let c1_i32_174 : BitVec 32 := 1#32
  let arg28 : BitVec 32 := Scf.iv c0_i32_172 c1_i32_174 k0_t31
  let c80_i32 : BitVec 32 := 80#32
  let v438 : BitVec 32 := Scalar.muli arg28 c80_i32
  let c32_i32 : BitVec 32 := 32#32
  let v461 : BitVec 32 := Scalar.addi v438 c32_i32
  let v462 : Index := Scalar.indexCast v461
  ![v462.toNat]

def k0_chk137 (v2 : IVec S16 32) (v467 : IVec S16 32) : Prop :=
  (∀ a x, ((![v2, v467] : Fin 2 → IVec S16 32) a x).toNat < S16x528.size a) ∧
  (∀ a x, ((![v2, v467] : Fin 2 → IVec S16 32) a x).toNat < S16x528.size a) ∧
  (∀ a x, ((![v2, v467] : Fin 2 → IVec S16 32) a x).toNat < S16x528.size a)
theorem k0_idx377_inb : ∀ (v2 : IVec S16 32) (v467 : IVec S16 32) (k0_hw137 : k0_chk137 v2 v467), ∀ a x, ((![v2, v467] : Fin 2 → IVec S16 32) a x).toNat < S16x528.size a := fun v2 v467 k0_hw137 => k0_hw137.1
theorem k0_idx378_inb : ∀ (v2 : IVec S16 32) (v467 : IVec S16 32) (k0_hw137 : k0_chk137 v2 v467), ∀ a x, ((![v2, v467] : Fin 2 → IVec S16 32) a x).toNat < S16x528.size a := fun v2 v467 k0_hw137 => k0_hw137.2.1
theorem k0_idx379_inb : ∀ (v2 : IVec S16 32) (v467 : IVec S16 32) (k0_hw137 : k0_chk137 v2 v467), ∀ a x, ((![v2, v467] : Fin 2 → IVec S16 32) a x).toNat < S16x528.size a := fun v2 v467 k0_hw137 => k0_hw137.2.2
def k0_off353 (k0_t31 : Fin k0_t31_loop.trips) : Fin 1 → Nat :=
  let c0_i32_172 : BitVec 32 := 0#32
  let c1_i32_174 : BitVec 32 := 1#32
  let arg28 : BitVec 32 := Scf.iv c0_i32_172 c1_i32_174 k0_t31
  let c80_i32 : BitVec 32 := 80#32
  let v438 : BitVec 32 := Scalar.muli arg28 c80_i32
  let c48_i32 : BitVec 32 := 48#32
  let v472 : BitVec 32 := Scalar.addi v438 c48_i32
  let v473 : Index := Scalar.indexCast v472
  ![v473.toNat]

def k0_chk138 (v2 : IVec S16 32) (v478 : IVec S16 32) : Prop :=
  (∀ a x, ((![v2, v478] : Fin 2 → IVec S16 32) a x).toNat < S16x528.size a) ∧
  (∀ a x, ((![v2, v478] : Fin 2 → IVec S16 32) a x).toNat < S16x528.size a) ∧
  (∀ a x, ((![v2, v478] : Fin 2 → IVec S16 32) a x).toNat < S16x528.size a)
theorem k0_idx380_inb : ∀ (v2 : IVec S16 32) (v478 : IVec S16 32) (k0_hw138 : k0_chk138 v2 v478), ∀ a x, ((![v2, v478] : Fin 2 → IVec S16 32) a x).toNat < S16x528.size a := fun v2 v478 k0_hw138 => k0_hw138.1
theorem k0_idx381_inb : ∀ (v2 : IVec S16 32) (v478 : IVec S16 32) (k0_hw138 : k0_chk138 v2 v478), ∀ a x, ((![v2, v478] : Fin 2 → IVec S16 32) a x).toNat < S16x528.size a := fun v2 v478 k0_hw138 => k0_hw138.2.1
theorem k0_idx382_inb : ∀ (v2 : IVec S16 32) (v478 : IVec S16 32) (k0_hw138 : k0_chk138 v2 v478), ∀ a x, ((![v2, v478] : Fin 2 → IVec S16 32) a x).toNat < S16x528.size a := fun v2 v478 k0_hw138 => k0_hw138.2.2
def k0_off354 (k0_t31 : Fin k0_t31_loop.trips) : Fin 1 → Nat :=
  let c0_i32_172 : BitVec 32 := 0#32
  let c1_i32_174 : BitVec 32 := 1#32
  let arg28 : BitVec 32 := Scf.iv c0_i32_172 c1_i32_174 k0_t31
  let c80_i32 : BitVec 32 := 80#32
  let v438 : BitVec 32 := Scalar.muli arg28 c80_i32
  let c64_i32 : BitVec 32 := 64#32
  let v483 : BitVec 32 := Scalar.addi v438 c64_i32
  let v484 : Index := Scalar.indexCast v483
  ![v484.toNat]

def k0_chk139 (v2 : IVec S16 32) (v489 : IVec S16 32) : Prop :=
  (∀ a x, ((![v2, v489] : Fin 2 → IVec S16 32) a x).toNat < S16x528.size a) ∧
  (∀ a x, ((![v2, v489] : Fin 2 → IVec S16 32) a x).toNat < S16x528.size a) ∧
  (∀ a x, ((![v2, v489] : Fin 2 → IVec S16 32) a x).toNat < S16x528.size a)
theorem k0_idx383_inb : ∀ (v2 : IVec S16 32) (v489 : IVec S16 32) (k0_hw139 : k0_chk139 v2 v489), ∀ a x, ((![v2, v489] : Fin 2 → IVec S16 32) a x).toNat < S16x528.size a := fun v2 v489 k0_hw139 => k0_hw139.1
theorem k0_idx384_inb : ∀ (v2 : IVec S16 32) (v489 : IVec S16 32) (k0_hw139 : k0_chk139 v2 v489), ∀ a x, ((![v2, v489] : Fin 2 → IVec S16 32) a x).toNat < S16x528.size a := fun v2 v489 k0_hw139 => k0_hw139.2.1
theorem k0_idx385_inb : ∀ (v2 : IVec S16 32) (v489 : IVec S16 32) (k0_hw139 : k0_chk139 v2 v489), ∀ a x, ((![v2, v489] : Fin 2 → IVec S16 32) a x).toNat < S16x528.size a := fun v2 v489 k0_hw139 => k0_hw139.2.2
@[reducible] def k0_t32_loop : Scf.Loop 32 :=
  let c0_i32_178 : BitVec 32 := 0#32
  let c50_i32_179 : BitVec 32 := 50#32
  let v414 : BitVec 32 := Scalar.addi c0_i32_178 c50_i32_179
  let c1_i32_180 : BitVec 32 := 1#32
  ⟨c0_i32_178, v414, c1_i32_180⟩
def k0_off355 (k0_t32 : Fin k0_t32_loop.trips) : Fin 1 → Nat :=
  let c0_i32_178 : BitVec 32 := 0#32
  let c1_i32_180 : BitVec 32 := 1#32
  let arg28 : BitVec 32 := Scf.iv c0_i32_178 c1_i32_180 k0_t32
  let c80_i32 : BitVec 32 := 80#32
  let v438 : BitVec 32 := Scalar.muli arg28 c80_i32
  let c0_i32_221 : BitVec 32 := 0#32
  let v439 : BitVec 32 := Scalar.addi v438 c0_i32_221
  let v440 : Index := Scalar.indexCast v439
  ![v440.toNat]

def k0_chk140 (v2 : IVec S16 32) (v445 : IVec S16 32) : Prop :=
  (∀ a x, ((![v2, v445] : Fin 2 → IVec S16 32) a x).toNat < S16x528.size a) ∧
  (∀ a x, ((![v2, v445] : Fin 2 → IVec S16 32) a x).toNat < S16x528.size a) ∧
  (∀ a x, ((![v2, v445] : Fin 2 → IVec S16 32) a x).toNat < S16x528.size a)
theorem k0_idx386_inb : ∀ (v2 : IVec S16 32) (v445 : IVec S16 32) (k0_hw140 : k0_chk140 v2 v445), ∀ a x, ((![v2, v445] : Fin 2 → IVec S16 32) a x).toNat < S16x528.size a := fun v2 v445 k0_hw140 => k0_hw140.1
theorem k0_idx387_inb : ∀ (v2 : IVec S16 32) (v445 : IVec S16 32) (k0_hw140 : k0_chk140 v2 v445), ∀ a x, ((![v2, v445] : Fin 2 → IVec S16 32) a x).toNat < S16x528.size a := fun v2 v445 k0_hw140 => k0_hw140.2.1
theorem k0_idx388_inb : ∀ (v2 : IVec S16 32) (v445 : IVec S16 32) (k0_hw140 : k0_chk140 v2 v445), ∀ a x, ((![v2, v445] : Fin 2 → IVec S16 32) a x).toNat < S16x528.size a := fun v2 v445 k0_hw140 => k0_hw140.2.2
def k0_off356 (k0_t32 : Fin k0_t32_loop.trips) : Fin 1 → Nat :=
  let c0_i32_178 : BitVec 32 := 0#32
  let c1_i32_180 : BitVec 32 := 1#32
  let arg28 : BitVec 32 := Scf.iv c0_i32_178 c1_i32_180 k0_t32
  let c80_i32 : BitVec 32 := 80#32
  let v438 : BitVec 32 := Scalar.muli arg28 c80_i32
  let c16_i32_222 : BitVec 32 := 16#32
  let v450 : BitVec 32 := Scalar.addi v438 c16_i32_222
  let v451 : Index := Scalar.indexCast v450
  ![v451.toNat]

def k0_chk141 (v2 : IVec S16 32) (v456 : IVec S16 32) : Prop :=
  (∀ a x, ((![v2, v456] : Fin 2 → IVec S16 32) a x).toNat < S16x528.size a) ∧
  (∀ a x, ((![v2, v456] : Fin 2 → IVec S16 32) a x).toNat < S16x528.size a) ∧
  (∀ a x, ((![v2, v456] : Fin 2 → IVec S16 32) a x).toNat < S16x528.size a)
theorem k0_idx389_inb : ∀ (v2 : IVec S16 32) (v456 : IVec S16 32) (k0_hw141 : k0_chk141 v2 v456), ∀ a x, ((![v2, v456] : Fin 2 → IVec S16 32) a x).toNat < S16x528.size a := fun v2 v456 k0_hw141 => k0_hw141.1
theorem k0_idx390_inb : ∀ (v2 : IVec S16 32) (v456 : IVec S16 32) (k0_hw141 : k0_chk141 v2 v456), ∀ a x, ((![v2, v456] : Fin 2 → IVec S16 32) a x).toNat < S16x528.size a := fun v2 v456 k0_hw141 => k0_hw141.2.1
theorem k0_idx391_inb : ∀ (v2 : IVec S16 32) (v456 : IVec S16 32) (k0_hw141 : k0_chk141 v2 v456), ∀ a x, ((![v2, v456] : Fin 2 → IVec S16 32) a x).toNat < S16x528.size a := fun v2 v456 k0_hw141 => k0_hw141.2.2
def k0_off357 (k0_t32 : Fin k0_t32_loop.trips) : Fin 1 → Nat :=
  let c0_i32_178 : BitVec 32 := 0#32
  let c1_i32_180 : BitVec 32 := 1#32
  let arg28 : BitVec 32 := Scf.iv c0_i32_178 c1_i32_180 k0_t32
  let c80_i32 : BitVec 32 := 80#32
  let v438 : BitVec 32 := Scalar.muli arg28 c80_i32
  let c32_i32 : BitVec 32 := 32#32
  let v461 : BitVec 32 := Scalar.addi v438 c32_i32
  let v462 : Index := Scalar.indexCast v461
  ![v462.toNat]

def k0_chk142 (v2 : IVec S16 32) (v467 : IVec S16 32) : Prop :=
  (∀ a x, ((![v2, v467] : Fin 2 → IVec S16 32) a x).toNat < S16x528.size a) ∧
  (∀ a x, ((![v2, v467] : Fin 2 → IVec S16 32) a x).toNat < S16x528.size a) ∧
  (∀ a x, ((![v2, v467] : Fin 2 → IVec S16 32) a x).toNat < S16x528.size a)
theorem k0_idx392_inb : ∀ (v2 : IVec S16 32) (v467 : IVec S16 32) (k0_hw142 : k0_chk142 v2 v467), ∀ a x, ((![v2, v467] : Fin 2 → IVec S16 32) a x).toNat < S16x528.size a := fun v2 v467 k0_hw142 => k0_hw142.1
theorem k0_idx393_inb : ∀ (v2 : IVec S16 32) (v467 : IVec S16 32) (k0_hw142 : k0_chk142 v2 v467), ∀ a x, ((![v2, v467] : Fin 2 → IVec S16 32) a x).toNat < S16x528.size a := fun v2 v467 k0_hw142 => k0_hw142.2.1
theorem k0_idx394_inb : ∀ (v2 : IVec S16 32) (v467 : IVec S16 32) (k0_hw142 : k0_chk142 v2 v467), ∀ a x, ((![v2, v467] : Fin 2 → IVec S16 32) a x).toNat < S16x528.size a := fun v2 v467 k0_hw142 => k0_hw142.2.2
def k0_off358 (k0_t32 : Fin k0_t32_loop.trips) : Fin 1 → Nat :=
  let c0_i32_178 : BitVec 32 := 0#32
  let c1_i32_180 : BitVec 32 := 1#32
  let arg28 : BitVec 32 := Scf.iv c0_i32_178 c1_i32_180 k0_t32
  let c80_i32 : BitVec 32 := 80#32
  let v438 : BitVec 32 := Scalar.muli arg28 c80_i32
  let c48_i32 : BitVec 32 := 48#32
  let v472 : BitVec 32 := Scalar.addi v438 c48_i32
  let v473 : Index := Scalar.indexCast v472
  ![v473.toNat]

def k0_chk143 (v2 : IVec S16 32) (v478 : IVec S16 32) : Prop :=
  (∀ a x, ((![v2, v478] : Fin 2 → IVec S16 32) a x).toNat < S16x528.size a) ∧
  (∀ a x, ((![v2, v478] : Fin 2 → IVec S16 32) a x).toNat < S16x528.size a) ∧
  (∀ a x, ((![v2, v478] : Fin 2 → IVec S16 32) a x).toNat < S16x528.size a)
theorem k0_idx395_inb : ∀ (v2 : IVec S16 32) (v478 : IVec S16 32) (k0_hw143 : k0_chk143 v2 v478), ∀ a x, ((![v2, v478] : Fin 2 → IVec S16 32) a x).toNat < S16x528.size a := fun v2 v478 k0_hw143 => k0_hw143.1
theorem k0_idx396_inb : ∀ (v2 : IVec S16 32) (v478 : IVec S16 32) (k0_hw143 : k0_chk143 v2 v478), ∀ a x, ((![v2, v478] : Fin 2 → IVec S16 32) a x).toNat < S16x528.size a := fun v2 v478 k0_hw143 => k0_hw143.2.1
theorem k0_idx397_inb : ∀ (v2 : IVec S16 32) (v478 : IVec S16 32) (k0_hw143 : k0_chk143 v2 v478), ∀ a x, ((![v2, v478] : Fin 2 → IVec S16 32) a x).toNat < S16x528.size a := fun v2 v478 k0_hw143 => k0_hw143.2.2
def k0_off359 (k0_t32 : Fin k0_t32_loop.trips) : Fin 1 → Nat :=
  let c0_i32_178 : BitVec 32 := 0#32
  let c1_i32_180 : BitVec 32 := 1#32
  let arg28 : BitVec 32 := Scf.iv c0_i32_178 c1_i32_180 k0_t32
  let c80_i32 : BitVec 32 := 80#32
  let v438 : BitVec 32 := Scalar.muli arg28 c80_i32
  let c64_i32 : BitVec 32 := 64#32
  let v483 : BitVec 32 := Scalar.addi v438 c64_i32
  let v484 : Index := Scalar.indexCast v483
  ![v484.toNat]

def k0_chk144 (v2 : IVec S16 32) (v489 : IVec S16 32) : Prop :=
  (∀ a x, ((![v2, v489] : Fin 2 → IVec S16 32) a x).toNat < S16x528.size a) ∧
  (∀ a x, ((![v2, v489] : Fin 2 → IVec S16 32) a x).toNat < S16x528.size a) ∧
  (∀ a x, ((![v2, v489] : Fin 2 → IVec S16 32) a x).toNat < S16x528.size a)
theorem k0_idx398_inb : ∀ (v2 : IVec S16 32) (v489 : IVec S16 32) (k0_hw144 : k0_chk144 v2 v489), ∀ a x, ((![v2, v489] : Fin 2 → IVec S16 32) a x).toNat < S16x528.size a := fun v2 v489 k0_hw144 => k0_hw144.1
theorem k0_idx399_inb : ∀ (v2 : IVec S16 32) (v489 : IVec S16 32) (k0_hw144 : k0_chk144 v2 v489), ∀ a x, ((![v2, v489] : Fin 2 → IVec S16 32) a x).toNat < S16x528.size a := fun v2 v489 k0_hw144 => k0_hw144.2.1
theorem k0_idx400_inb : ∀ (v2 : IVec S16 32) (v489 : IVec S16 32) (k0_hw144 : k0_chk144 v2 v489), ∀ a x, ((![v2, v489] : Fin 2 → IVec S16 32) a x).toNat < S16x528.size a := fun v2 v489 k0_hw144 => k0_hw144.2.2
@[reducible] def k0_t33_loop : Scf.Loop 32 :=
  let c0_i32_183 : BitVec 32 := 0#32
  let c50_i32_184 : BitVec 32 := 50#32
  let v422 : BitVec 32 := Scalar.addi c0_i32_183 c50_i32_184
  let c1_i32_185 : BitVec 32 := 1#32
  ⟨c0_i32_183, v422, c1_i32_185⟩
def k0_off360 (k0_t33 : Fin k0_t33_loop.trips) : Fin 1 → Nat :=
  let c0_i32_183 : BitVec 32 := 0#32
  let c1_i32_185 : BitVec 32 := 1#32
  let arg28 : BitVec 32 := Scf.iv c0_i32_183 c1_i32_185 k0_t33
  let c80_i32 : BitVec 32 := 80#32
  let v438 : BitVec 32 := Scalar.muli arg28 c80_i32
  let c0_i32_221 : BitVec 32 := 0#32
  let v439 : BitVec 32 := Scalar.addi v438 c0_i32_221
  let v440 : Index := Scalar.indexCast v439
  ![v440.toNat]

def k0_chk145 (v2 : IVec S16 32) (v445 : IVec S16 32) : Prop :=
  (∀ a x, ((![v2, v445] : Fin 2 → IVec S16 32) a x).toNat < S16x528.size a) ∧
  (∀ a x, ((![v2, v445] : Fin 2 → IVec S16 32) a x).toNat < S16x528.size a) ∧
  (∀ a x, ((![v2, v445] : Fin 2 → IVec S16 32) a x).toNat < S16x528.size a)
theorem k0_idx401_inb : ∀ (v2 : IVec S16 32) (v445 : IVec S16 32) (k0_hw145 : k0_chk145 v2 v445), ∀ a x, ((![v2, v445] : Fin 2 → IVec S16 32) a x).toNat < S16x528.size a := fun v2 v445 k0_hw145 => k0_hw145.1
theorem k0_idx402_inb : ∀ (v2 : IVec S16 32) (v445 : IVec S16 32) (k0_hw145 : k0_chk145 v2 v445), ∀ a x, ((![v2, v445] : Fin 2 → IVec S16 32) a x).toNat < S16x528.size a := fun v2 v445 k0_hw145 => k0_hw145.2.1
theorem k0_idx403_inb : ∀ (v2 : IVec S16 32) (v445 : IVec S16 32) (k0_hw145 : k0_chk145 v2 v445), ∀ a x, ((![v2, v445] : Fin 2 → IVec S16 32) a x).toNat < S16x528.size a := fun v2 v445 k0_hw145 => k0_hw145.2.2
def k0_off361 (k0_t33 : Fin k0_t33_loop.trips) : Fin 1 → Nat :=
  let c0_i32_183 : BitVec 32 := 0#32
  let c1_i32_185 : BitVec 32 := 1#32
  let arg28 : BitVec 32 := Scf.iv c0_i32_183 c1_i32_185 k0_t33
  let c80_i32 : BitVec 32 := 80#32
  let v438 : BitVec 32 := Scalar.muli arg28 c80_i32
  let c16_i32_222 : BitVec 32 := 16#32
  let v450 : BitVec 32 := Scalar.addi v438 c16_i32_222
  let v451 : Index := Scalar.indexCast v450
  ![v451.toNat]

def k0_chk146 (v2 : IVec S16 32) (v456 : IVec S16 32) : Prop :=
  (∀ a x, ((![v2, v456] : Fin 2 → IVec S16 32) a x).toNat < S16x528.size a) ∧
  (∀ a x, ((![v2, v456] : Fin 2 → IVec S16 32) a x).toNat < S16x528.size a) ∧
  (∀ a x, ((![v2, v456] : Fin 2 → IVec S16 32) a x).toNat < S16x528.size a)
theorem k0_idx404_inb : ∀ (v2 : IVec S16 32) (v456 : IVec S16 32) (k0_hw146 : k0_chk146 v2 v456), ∀ a x, ((![v2, v456] : Fin 2 → IVec S16 32) a x).toNat < S16x528.size a := fun v2 v456 k0_hw146 => k0_hw146.1
theorem k0_idx405_inb : ∀ (v2 : IVec S16 32) (v456 : IVec S16 32) (k0_hw146 : k0_chk146 v2 v456), ∀ a x, ((![v2, v456] : Fin 2 → IVec S16 32) a x).toNat < S16x528.size a := fun v2 v456 k0_hw146 => k0_hw146.2.1
theorem k0_idx406_inb : ∀ (v2 : IVec S16 32) (v456 : IVec S16 32) (k0_hw146 : k0_chk146 v2 v456), ∀ a x, ((![v2, v456] : Fin 2 → IVec S16 32) a x).toNat < S16x528.size a := fun v2 v456 k0_hw146 => k0_hw146.2.2
def k0_off362 (k0_t33 : Fin k0_t33_loop.trips) : Fin 1 → Nat :=
  let c0_i32_183 : BitVec 32 := 0#32
  let c1_i32_185 : BitVec 32 := 1#32
  let arg28 : BitVec 32 := Scf.iv c0_i32_183 c1_i32_185 k0_t33
  let c80_i32 : BitVec 32 := 80#32
  let v438 : BitVec 32 := Scalar.muli arg28 c80_i32
  let c32_i32 : BitVec 32 := 32#32
  let v461 : BitVec 32 := Scalar.addi v438 c32_i32
  let v462 : Index := Scalar.indexCast v461
  ![v462.toNat]

def k0_chk147 (v2 : IVec S16 32) (v467 : IVec S16 32) : Prop :=
  (∀ a x, ((![v2, v467] : Fin 2 → IVec S16 32) a x).toNat < S16x528.size a) ∧
  (∀ a x, ((![v2, v467] : Fin 2 → IVec S16 32) a x).toNat < S16x528.size a) ∧
  (∀ a x, ((![v2, v467] : Fin 2 → IVec S16 32) a x).toNat < S16x528.size a)
theorem k0_idx407_inb : ∀ (v2 : IVec S16 32) (v467 : IVec S16 32) (k0_hw147 : k0_chk147 v2 v467), ∀ a x, ((![v2, v467] : Fin 2 → IVec S16 32) a x).toNat < S16x528.size a := fun v2 v467 k0_hw147 => k0_hw147.1
theorem k0_idx408_inb : ∀ (v2 : IVec S16 32) (v467 : IVec S16 32) (k0_hw147 : k0_chk147 v2 v467), ∀ a x, ((![v2, v467] : Fin 2 → IVec S16 32) a x).toNat < S16x528.size a := fun v2 v467 k0_hw147 => k0_hw147.2.1
theorem k0_idx409_inb : ∀ (v2 : IVec S16 32) (v467 : IVec S16 32) (k0_hw147 : k0_chk147 v2 v467), ∀ a x, ((![v2, v467] : Fin 2 → IVec S16 32) a x).toNat < S16x528.size a := fun v2 v467 k0_hw147 => k0_hw147.2.2
def k0_off363 (k0_t33 : Fin k0_t33_loop.trips) : Fin 1 → Nat :=
  let c0_i32_183 : BitVec 32 := 0#32
  let c1_i32_185 : BitVec 32 := 1#32
  let arg28 : BitVec 32 := Scf.iv c0_i32_183 c1_i32_185 k0_t33
  let c80_i32 : BitVec 32 := 80#32
  let v438 : BitVec 32 := Scalar.muli arg28 c80_i32
  let c48_i32 : BitVec 32 := 48#32
  let v472 : BitVec 32 := Scalar.addi v438 c48_i32
  let v473 : Index := Scalar.indexCast v472
  ![v473.toNat]

def k0_chk148 (v2 : IVec S16 32) (v478 : IVec S16 32) : Prop :=
  (∀ a x, ((![v2, v478] : Fin 2 → IVec S16 32) a x).toNat < S16x528.size a) ∧
  (∀ a x, ((![v2, v478] : Fin 2 → IVec S16 32) a x).toNat < S16x528.size a) ∧
  (∀ a x, ((![v2, v478] : Fin 2 → IVec S16 32) a x).toNat < S16x528.size a)
theorem k0_idx410_inb : ∀ (v2 : IVec S16 32) (v478 : IVec S16 32) (k0_hw148 : k0_chk148 v2 v478), ∀ a x, ((![v2, v478] : Fin 2 → IVec S16 32) a x).toNat < S16x528.size a := fun v2 v478 k0_hw148 => k0_hw148.1
theorem k0_idx411_inb : ∀ (v2 : IVec S16 32) (v478 : IVec S16 32) (k0_hw148 : k0_chk148 v2 v478), ∀ a x, ((![v2, v478] : Fin 2 → IVec S16 32) a x).toNat < S16x528.size a := fun v2 v478 k0_hw148 => k0_hw148.2.1
theorem k0_idx412_inb : ∀ (v2 : IVec S16 32) (v478 : IVec S16 32) (k0_hw148 : k0_chk148 v2 v478), ∀ a x, ((![v2, v478] : Fin 2 → IVec S16 32) a x).toNat < S16x528.size a := fun v2 v478 k0_hw148 => k0_hw148.2.2
def k0_off364 (k0_t33 : Fin k0_t33_loop.trips) : Fin 1 → Nat :=
  let c0_i32_183 : BitVec 32 := 0#32
  let c1_i32_185 : BitVec 32 := 1#32
  let arg28 : BitVec 32 := Scf.iv c0_i32_183 c1_i32_185 k0_t33
  let c80_i32 : BitVec 32 := 80#32
  let v438 : BitVec 32 := Scalar.muli arg28 c80_i32
  let c64_i32 : BitVec 32 := 64#32
  let v483 : BitVec 32 := Scalar.addi v438 c64_i32
  let v484 : Index := Scalar.indexCast v483
  ![v484.toNat]

def k0_chk149 (v2 : IVec S16 32) (v489 : IVec S16 32) : Prop :=
  (∀ a x, ((![v2, v489] : Fin 2 → IVec S16 32) a x).toNat < S16x528.size a) ∧
  (∀ a x, ((![v2, v489] : Fin 2 → IVec S16 32) a x).toNat < S16x528.size a) ∧
  (∀ a x, ((![v2, v489] : Fin 2 → IVec S16 32) a x).toNat < S16x528.size a)
theorem k0_idx413_inb : ∀ (v2 : IVec S16 32) (v489 : IVec S16 32) (k0_hw149 : k0_chk149 v2 v489), ∀ a x, ((![v2, v489] : Fin 2 → IVec S16 32) a x).toNat < S16x528.size a := fun v2 v489 k0_hw149 => k0_hw149.1
theorem k0_idx414_inb : ∀ (v2 : IVec S16 32) (v489 : IVec S16 32) (k0_hw149 : k0_chk149 v2 v489), ∀ a x, ((![v2, v489] : Fin 2 → IVec S16 32) a x).toNat < S16x528.size a := fun v2 v489 k0_hw149 => k0_hw149.2.1
theorem k0_idx415_inb : ∀ (v2 : IVec S16 32) (v489 : IVec S16 32) (k0_hw149 : k0_chk149 v2 v489), ∀ a x, ((![v2, v489] : Fin 2 → IVec S16 32) a x).toNat < S16x528.size a := fun v2 v489 k0_hw149 => k0_hw149.2.2
@[reducible] def k0_t34_loop : Scf.Loop 32 :=
  let c0_i32_188 : BitVec 32 := 0#32
  let c33_i32 : BitVec 32 := 33#32
  let v424 : BitVec 32 := Scalar.addi c0_i32_188 c33_i32
  let c1_i32_189 : BitVec 32 := 1#32
  ⟨c0_i32_188, v424, c1_i32_189⟩
def k0_off365 (k0_t34 : Fin k0_t34_loop.trips) : Fin 2 → Nat :=
  let c0_i32_222 : BitVec 32 := 0#32
  let v439 : Index := Scalar.indexCast c0_i32_222
  let c0_i32_188 : BitVec 32 := 0#32
  let c1_i32_189 : BitVec 32 := 1#32
  let arg28 : BitVec 32 := Scf.iv c0_i32_188 c1_i32_189 k0_t34
  let c16_i32_221 : BitVec 32 := 16#32
  let v438 : BitVec 32 := Scalar.muli arg28 c16_i32_221
  let v440 : Index := Scalar.indexCast v438
  ![0, v440.toNat]
def k0_off366 (k0_t34 : Fin k0_t34_loop.trips) : Fin 2 → Nat :=
  let c1_i32_223 : BitVec 32 := 1#32
  let v442 : Index := Scalar.indexCast c1_i32_223
  let c0_i32_188 : BitVec 32 := 0#32
  let c1_i32_189 : BitVec 32 := 1#32
  let arg28 : BitVec 32 := Scf.iv c0_i32_188 c1_i32_189 k0_t34
  let c16_i32_221 : BitVec 32 := 16#32
  let v438 : BitVec 32 := Scalar.muli arg28 c16_i32_221
  let v443 : Index := Scalar.indexCast v438
  ![1, v443.toNat]
def k0_off367 (k0_t34 : Fin k0_t34_loop.trips) : Fin 2 → Nat :=
  let c2_i32_224 : BitVec 32 := 2#32
  let v446 : Index := Scalar.indexCast c2_i32_224
  let c0_i32_188 : BitVec 32 := 0#32
  let c1_i32_189 : BitVec 32 := 1#32
  let arg28 : BitVec 32 := Scf.iv c0_i32_188 c1_i32_189 k0_t34
  let c16_i32_221 : BitVec 32 := 16#32
  let v438 : BitVec 32 := Scalar.muli arg28 c16_i32_221
  let v447 : Index := Scalar.indexCast v438
  ![2, v447.toNat]
def k0_off368 (k0_t34 : Fin k0_t34_loop.trips) : Fin 2 → Nat :=
  let c3_i32_225 : BitVec 32 := 3#32
  let v450 : Index := Scalar.indexCast c3_i32_225
  let c0_i32_188 : BitVec 32 := 0#32
  let c1_i32_189 : BitVec 32 := 1#32
  let arg28 : BitVec 32 := Scf.iv c0_i32_188 c1_i32_189 k0_t34
  let c16_i32_221 : BitVec 32 := 16#32
  let v438 : BitVec 32 := Scalar.muli arg28 c16_i32_221
  let v451 : Index := Scalar.indexCast v438
  ![3, v451.toNat]
def k0_off369 (k0_t34 : Fin k0_t34_loop.trips) : Fin 2 → Nat :=
  let c4_i32 : BitVec 32 := 4#32
  let v454 : Index := Scalar.indexCast c4_i32
  let c0_i32_188 : BitVec 32 := 0#32
  let c1_i32_189 : BitVec 32 := 1#32
  let arg28 : BitVec 32 := Scf.iv c0_i32_188 c1_i32_189 k0_t34
  let c16_i32_221 : BitVec 32 := 16#32
  let v438 : BitVec 32 := Scalar.muli arg28 c16_i32_221
  let v455 : Index := Scalar.indexCast v438
  ![4, v455.toNat]
def k0_off370 (k0_t34 : Fin k0_t34_loop.trips) : Fin 2 → Nat :=
  let c5_i32 : BitVec 32 := 5#32
  let v458 : Index := Scalar.indexCast c5_i32
  let c0_i32_188 : BitVec 32 := 0#32
  let c1_i32_189 : BitVec 32 := 1#32
  let arg28 : BitVec 32 := Scf.iv c0_i32_188 c1_i32_189 k0_t34
  let c16_i32_221 : BitVec 32 := 16#32
  let v438 : BitVec 32 := Scalar.muli arg28 c16_i32_221
  let v459 : Index := Scalar.indexCast v438
  ![5, v459.toNat]
def k0_off371 (k0_t34 : Fin k0_t34_loop.trips) : Fin 2 → Nat :=
  let c6_i32 : BitVec 32 := 6#32
  let v462 : Index := Scalar.indexCast c6_i32
  let c0_i32_188 : BitVec 32 := 0#32
  let c1_i32_189 : BitVec 32 := 1#32
  let arg28 : BitVec 32 := Scf.iv c0_i32_188 c1_i32_189 k0_t34
  let c16_i32_221 : BitVec 32 := 16#32
  let v438 : BitVec 32 := Scalar.muli arg28 c16_i32_221
  let v463 : Index := Scalar.indexCast v438
  ![6, v463.toNat]
def k0_off372 (k0_t34 : Fin k0_t34_loop.trips) : Fin 2 → Nat :=
  let c7_i32 : BitVec 32 := 7#32
  let v466 : Index := Scalar.indexCast c7_i32
  let c0_i32_188 : BitVec 32 := 0#32
  let c1_i32_189 : BitVec 32 := 1#32
  let arg28 : BitVec 32 := Scf.iv c0_i32_188 c1_i32_189 k0_t34
  let c16_i32_221 : BitVec 32 := 16#32
  let v438 : BitVec 32 := Scalar.muli arg28 c16_i32_221
  let v467 : Index := Scalar.indexCast v438
  ![7, v467.toNat]
def k0_off373 (k0_t34 : Fin k0_t34_loop.trips) : Fin 2 → Nat :=
  let c8_i32 : BitVec 32 := 8#32
  let v470 : Index := Scalar.indexCast c8_i32
  let c0_i32_188 : BitVec 32 := 0#32
  let c1_i32_189 : BitVec 32 := 1#32
  let arg28 : BitVec 32 := Scf.iv c0_i32_188 c1_i32_189 k0_t34
  let c16_i32_221 : BitVec 32 := 16#32
  let v438 : BitVec 32 := Scalar.muli arg28 c16_i32_221
  let v471 : Index := Scalar.indexCast v438
  ![8, v471.toNat]
def k0_off374 (k0_t34 : Fin k0_t34_loop.trips) : Fin 2 → Nat :=
  let c9_i32 : BitVec 32 := 9#32
  let v474 : Index := Scalar.indexCast c9_i32
  let c0_i32_188 : BitVec 32 := 0#32
  let c1_i32_189 : BitVec 32 := 1#32
  let arg28 : BitVec 32 := Scf.iv c0_i32_188 c1_i32_189 k0_t34
  let c16_i32_221 : BitVec 32 := 16#32
  let v438 : BitVec 32 := Scalar.muli arg28 c16_i32_221
  let v475 : Index := Scalar.indexCast v438
  ![9, v475.toNat]
def k0_off375 (k0_t34 : Fin k0_t34_loop.trips) : Fin 2 → Nat :=
  let c10_i32 : BitVec 32 := 10#32
  let v478 : Index := Scalar.indexCast c10_i32
  let c0_i32_188 : BitVec 32 := 0#32
  let c1_i32_189 : BitVec 32 := 1#32
  let arg28 : BitVec 32 := Scf.iv c0_i32_188 c1_i32_189 k0_t34
  let c16_i32_221 : BitVec 32 := 16#32
  let v438 : BitVec 32 := Scalar.muli arg28 c16_i32_221
  let v479 : Index := Scalar.indexCast v438
  ![10, v479.toNat]
def k0_off376 (k0_t34 : Fin k0_t34_loop.trips) : Fin 2 → Nat :=
  let c11_i32 : BitVec 32 := 11#32
  let v482 : Index := Scalar.indexCast c11_i32
  let c0_i32_188 : BitVec 32 := 0#32
  let c1_i32_189 : BitVec 32 := 1#32
  let arg28 : BitVec 32 := Scf.iv c0_i32_188 c1_i32_189 k0_t34
  let c16_i32_221 : BitVec 32 := 16#32
  let v438 : BitVec 32 := Scalar.muli arg28 c16_i32_221
  let v483 : Index := Scalar.indexCast v438
  ![11, v483.toNat]
def k0_off377 (k0_t34 : Fin k0_t34_loop.trips) : Fin 2 → Nat :=
  let c12_i32 : BitVec 32 := 12#32
  let v486 : Index := Scalar.indexCast c12_i32
  let c0_i32_188 : BitVec 32 := 0#32
  let c1_i32_189 : BitVec 32 := 1#32
  let arg28 : BitVec 32 := Scf.iv c0_i32_188 c1_i32_189 k0_t34
  let c16_i32_221 : BitVec 32 := 16#32
  let v438 : BitVec 32 := Scalar.muli arg28 c16_i32_221
  let v487 : Index := Scalar.indexCast v438
  ![12, v487.toNat]
def k0_off378 (k0_t34 : Fin k0_t34_loop.trips) : Fin 2 → Nat :=
  let c13_i32 : BitVec 32 := 13#32
  let v490 : Index := Scalar.indexCast c13_i32
  let c0_i32_188 : BitVec 32 := 0#32
  let c1_i32_189 : BitVec 32 := 1#32
  let arg28 : BitVec 32 := Scf.iv c0_i32_188 c1_i32_189 k0_t34
  let c16_i32_221 : BitVec 32 := 16#32
  let v438 : BitVec 32 := Scalar.muli arg28 c16_i32_221
  let v491 : Index := Scalar.indexCast v438
  ![13, v491.toNat]
def k0_off379 (k0_t34 : Fin k0_t34_loop.trips) : Fin 2 → Nat :=
  let c14_i32 : BitVec 32 := 14#32
  let v494 : Index := Scalar.indexCast c14_i32
  let c0_i32_188 : BitVec 32 := 0#32
  let c1_i32_189 : BitVec 32 := 1#32
  let arg28 : BitVec 32 := Scf.iv c0_i32_188 c1_i32_189 k0_t34
  let c16_i32_221 : BitVec 32 := 16#32
  let v438 : BitVec 32 := Scalar.muli arg28 c16_i32_221
  let v495 : Index := Scalar.indexCast v438
  ![14, v495.toNat]
def k0_off380 (k0_t34 : Fin k0_t34_loop.trips) : Fin 2 → Nat :=
  let c15_i32 : BitVec 32 := 15#32
  let v498 : Index := Scalar.indexCast c15_i32
  let c0_i32_188 : BitVec 32 := 0#32
  let c1_i32_189 : BitVec 32 := 1#32
  let arg28 : BitVec 32 := Scf.iv c0_i32_188 c1_i32_189 k0_t34
  let c16_i32_221 : BitVec 32 := 16#32
  let v438 : BitVec 32 := Scalar.muli arg28 c16_i32_221
  let v499 : Index := Scalar.indexCast v438
  ![15, v499.toNat]
def k0_off381 (k0_t34 : Fin k0_t34_loop.trips) : Fin 2 → Nat :=
  let c0_i32_226 : BitVec 32 := 0#32
  let v502 : Index := Scalar.indexCast c0_i32_226
  let c0_i32_188 : BitVec 32 := 0#32
  let c1_i32_189 : BitVec 32 := 1#32
  let arg28 : BitVec 32 := Scf.iv c0_i32_188 c1_i32_189 k0_t34
  let c16_i32_221 : BitVec 32 := 16#32
  let v438 : BitVec 32 := Scalar.muli arg28 c16_i32_221
  let v503 : Index := Scalar.indexCast v438
  ![0, v503.toNat]
@[reducible] def k0_t35_loop : Scf.Loop 32 :=
  let c0_i32_192 : BitVec 32 := 0#32
  let c33_i32_193 : BitVec 32 := 33#32
  let v426 : BitVec 32 := Scalar.addi c0_i32_192 c33_i32_193
  let c1_i32_194 : BitVec 32 := 1#32
  ⟨c0_i32_192, v426, c1_i32_194⟩
def k0_off382 (k0_t35 : Fin k0_t35_loop.trips) : Fin 2 → Nat :=
  let c0_i32_222 : BitVec 32 := 0#32
  let v439 : Index := Scalar.indexCast c0_i32_222
  let c0_i32_192 : BitVec 32 := 0#32
  let c1_i32_194 : BitVec 32 := 1#32
  let arg28 : BitVec 32 := Scf.iv c0_i32_192 c1_i32_194 k0_t35
  let c16_i32_221 : BitVec 32 := 16#32
  let v438 : BitVec 32 := Scalar.muli arg28 c16_i32_221
  let v440 : Index := Scalar.indexCast v438
  ![0, v440.toNat]
def k0_off383 (k0_t35 : Fin k0_t35_loop.trips) : Fin 2 → Nat :=
  let c1_i32_223 : BitVec 32 := 1#32
  let v442 : Index := Scalar.indexCast c1_i32_223
  let c0_i32_192 : BitVec 32 := 0#32
  let c1_i32_194 : BitVec 32 := 1#32
  let arg28 : BitVec 32 := Scf.iv c0_i32_192 c1_i32_194 k0_t35
  let c16_i32_221 : BitVec 32 := 16#32
  let v438 : BitVec 32 := Scalar.muli arg28 c16_i32_221
  let v443 : Index := Scalar.indexCast v438
  ![1, v443.toNat]
def k0_off384 (k0_t35 : Fin k0_t35_loop.trips) : Fin 2 → Nat :=
  let c2_i32_224 : BitVec 32 := 2#32
  let v446 : Index := Scalar.indexCast c2_i32_224
  let c0_i32_192 : BitVec 32 := 0#32
  let c1_i32_194 : BitVec 32 := 1#32
  let arg28 : BitVec 32 := Scf.iv c0_i32_192 c1_i32_194 k0_t35
  let c16_i32_221 : BitVec 32 := 16#32
  let v438 : BitVec 32 := Scalar.muli arg28 c16_i32_221
  let v447 : Index := Scalar.indexCast v438
  ![2, v447.toNat]
def k0_off385 (k0_t35 : Fin k0_t35_loop.trips) : Fin 2 → Nat :=
  let c3_i32_225 : BitVec 32 := 3#32
  let v450 : Index := Scalar.indexCast c3_i32_225
  let c0_i32_192 : BitVec 32 := 0#32
  let c1_i32_194 : BitVec 32 := 1#32
  let arg28 : BitVec 32 := Scf.iv c0_i32_192 c1_i32_194 k0_t35
  let c16_i32_221 : BitVec 32 := 16#32
  let v438 : BitVec 32 := Scalar.muli arg28 c16_i32_221
  let v451 : Index := Scalar.indexCast v438
  ![3, v451.toNat]
def k0_off386 (k0_t35 : Fin k0_t35_loop.trips) : Fin 2 → Nat :=
  let c4_i32 : BitVec 32 := 4#32
  let v454 : Index := Scalar.indexCast c4_i32
  let c0_i32_192 : BitVec 32 := 0#32
  let c1_i32_194 : BitVec 32 := 1#32
  let arg28 : BitVec 32 := Scf.iv c0_i32_192 c1_i32_194 k0_t35
  let c16_i32_221 : BitVec 32 := 16#32
  let v438 : BitVec 32 := Scalar.muli arg28 c16_i32_221
  let v455 : Index := Scalar.indexCast v438
  ![4, v455.toNat]
def k0_off387 (k0_t35 : Fin k0_t35_loop.trips) : Fin 2 → Nat :=
  let c5_i32 : BitVec 32 := 5#32
  let v458 : Index := Scalar.indexCast c5_i32
  let c0_i32_192 : BitVec 32 := 0#32
  let c1_i32_194 : BitVec 32 := 1#32
  let arg28 : BitVec 32 := Scf.iv c0_i32_192 c1_i32_194 k0_t35
  let c16_i32_221 : BitVec 32 := 16#32
  let v438 : BitVec 32 := Scalar.muli arg28 c16_i32_221
  let v459 : Index := Scalar.indexCast v438
  ![5, v459.toNat]
def k0_off388 (k0_t35 : Fin k0_t35_loop.trips) : Fin 2 → Nat :=
  let c6_i32 : BitVec 32 := 6#32
  let v462 : Index := Scalar.indexCast c6_i32
  let c0_i32_192 : BitVec 32 := 0#32
  let c1_i32_194 : BitVec 32 := 1#32
  let arg28 : BitVec 32 := Scf.iv c0_i32_192 c1_i32_194 k0_t35
  let c16_i32_221 : BitVec 32 := 16#32
  let v438 : BitVec 32 := Scalar.muli arg28 c16_i32_221
  let v463 : Index := Scalar.indexCast v438
  ![6, v463.toNat]
def k0_off389 (k0_t35 : Fin k0_t35_loop.trips) : Fin 2 → Nat :=
  let c7_i32 : BitVec 32 := 7#32
  let v466 : Index := Scalar.indexCast c7_i32
  let c0_i32_192 : BitVec 32 := 0#32
  let c1_i32_194 : BitVec 32 := 1#32
  let arg28 : BitVec 32 := Scf.iv c0_i32_192 c1_i32_194 k0_t35
  let c16_i32_221 : BitVec 32 := 16#32
  let v438 : BitVec 32 := Scalar.muli arg28 c16_i32_221
  let v467 : Index := Scalar.indexCast v438
  ![7, v467.toNat]
def k0_off390 (k0_t35 : Fin k0_t35_loop.trips) : Fin 2 → Nat :=
  let c8_i32 : BitVec 32 := 8#32
  let v470 : Index := Scalar.indexCast c8_i32
  let c0_i32_192 : BitVec 32 := 0#32
  let c1_i32_194 : BitVec 32 := 1#32
  let arg28 : BitVec 32 := Scf.iv c0_i32_192 c1_i32_194 k0_t35
  let c16_i32_221 : BitVec 32 := 16#32
  let v438 : BitVec 32 := Scalar.muli arg28 c16_i32_221
  let v471 : Index := Scalar.indexCast v438
  ![8, v471.toNat]
def k0_off391 (k0_t35 : Fin k0_t35_loop.trips) : Fin 2 → Nat :=
  let c9_i32 : BitVec 32 := 9#32
  let v474 : Index := Scalar.indexCast c9_i32
  let c0_i32_192 : BitVec 32 := 0#32
  let c1_i32_194 : BitVec 32 := 1#32
  let arg28 : BitVec 32 := Scf.iv c0_i32_192 c1_i32_194 k0_t35
  let c16_i32_221 : BitVec 32 := 16#32
  let v438 : BitVec 32 := Scalar.muli arg28 c16_i32_221
  let v475 : Index := Scalar.indexCast v438
  ![9, v475.toNat]
def k0_off392 (k0_t35 : Fin k0_t35_loop.trips) : Fin 2 → Nat :=
  let c10_i32 : BitVec 32 := 10#32
  let v478 : Index := Scalar.indexCast c10_i32
  let c0_i32_192 : BitVec 32 := 0#32
  let c1_i32_194 : BitVec 32 := 1#32
  let arg28 : BitVec 32 := Scf.iv c0_i32_192 c1_i32_194 k0_t35
  let c16_i32_221 : BitVec 32 := 16#32
  let v438 : BitVec 32 := Scalar.muli arg28 c16_i32_221
  let v479 : Index := Scalar.indexCast v438
  ![10, v479.toNat]
def k0_off393 (k0_t35 : Fin k0_t35_loop.trips) : Fin 2 → Nat :=
  let c11_i32 : BitVec 32 := 11#32
  let v482 : Index := Scalar.indexCast c11_i32
  let c0_i32_192 : BitVec 32 := 0#32
  let c1_i32_194 : BitVec 32 := 1#32
  let arg28 : BitVec 32 := Scf.iv c0_i32_192 c1_i32_194 k0_t35
  let c16_i32_221 : BitVec 32 := 16#32
  let v438 : BitVec 32 := Scalar.muli arg28 c16_i32_221
  let v483 : Index := Scalar.indexCast v438
  ![11, v483.toNat]
def k0_off394 (k0_t35 : Fin k0_t35_loop.trips) : Fin 2 → Nat :=
  let c12_i32 : BitVec 32 := 12#32
  let v486 : Index := Scalar.indexCast c12_i32
  let c0_i32_192 : BitVec 32 := 0#32
  let c1_i32_194 : BitVec 32 := 1#32
  let arg28 : BitVec 32 := Scf.iv c0_i32_192 c1_i32_194 k0_t35
  let c16_i32_221 : BitVec 32 := 16#32
  let v438 : BitVec 32 := Scalar.muli arg28 c16_i32_221
  let v487 : Index := Scalar.indexCast v438
  ![12, v487.toNat]
def k0_off395 (k0_t35 : Fin k0_t35_loop.trips) : Fin 2 → Nat :=
  let c13_i32 : BitVec 32 := 13#32
  let v490 : Index := Scalar.indexCast c13_i32
  let c0_i32_192 : BitVec 32 := 0#32
  let c1_i32_194 : BitVec 32 := 1#32
  let arg28 : BitVec 32 := Scf.iv c0_i32_192 c1_i32_194 k0_t35
  let c16_i32_221 : BitVec 32 := 16#32
  let v438 : BitVec 32 := Scalar.muli arg28 c16_i32_221
  let v491 : Index := Scalar.indexCast v438
  ![13, v491.toNat]
def k0_off396 (k0_t35 : Fin k0_t35_loop.trips) : Fin 2 → Nat :=
  let c14_i32 : BitVec 32 := 14#32
  let v494 : Index := Scalar.indexCast c14_i32
  let c0_i32_192 : BitVec 32 := 0#32
  let c1_i32_194 : BitVec 32 := 1#32
  let arg28 : BitVec 32 := Scf.iv c0_i32_192 c1_i32_194 k0_t35
  let c16_i32_221 : BitVec 32 := 16#32
  let v438 : BitVec 32 := Scalar.muli arg28 c16_i32_221
  let v495 : Index := Scalar.indexCast v438
  ![14, v495.toNat]
def k0_off397 (k0_t35 : Fin k0_t35_loop.trips) : Fin 2 → Nat :=
  let c15_i32 : BitVec 32 := 15#32
  let v498 : Index := Scalar.indexCast c15_i32
  let c0_i32_192 : BitVec 32 := 0#32
  let c1_i32_194 : BitVec 32 := 1#32
  let arg28 : BitVec 32 := Scf.iv c0_i32_192 c1_i32_194 k0_t35
  let c16_i32_221 : BitVec 32 := 16#32
  let v438 : BitVec 32 := Scalar.muli arg28 c16_i32_221
  let v499 : Index := Scalar.indexCast v438
  ![15, v499.toNat]
def k0_off398 (k0_t35 : Fin k0_t35_loop.trips) : Fin 2 → Nat :=
  let c1_i32_226 : BitVec 32 := 1#32
  let v502 : Index := Scalar.indexCast c1_i32_226
  let c0_i32_192 : BitVec 32 := 0#32
  let c1_i32_194 : BitVec 32 := 1#32
  let arg28 : BitVec 32 := Scf.iv c0_i32_192 c1_i32_194 k0_t35
  let c16_i32_221 : BitVec 32 := 16#32
  let v438 : BitVec 32 := Scalar.muli arg28 c16_i32_221
  let v503 : Index := Scalar.indexCast v438
  ![1, v503.toNat]
@[reducible] def k0_t36_loop : Scf.Loop 32 :=
  let c0_i32_197 : BitVec 32 := 0#32
  let c33_i32_198 : BitVec 32 := 33#32
  let v428 : BitVec 32 := Scalar.addi c0_i32_197 c33_i32_198
  let c1_i32_199 : BitVec 32 := 1#32
  ⟨c0_i32_197, v428, c1_i32_199⟩
def k0_off399 (k0_t36 : Fin k0_t36_loop.trips) : Fin 2 → Nat :=
  let c0_i32_222 : BitVec 32 := 0#32
  let v439 : Index := Scalar.indexCast c0_i32_222
  let c0_i32_197 : BitVec 32 := 0#32
  let c1_i32_199 : BitVec 32 := 1#32
  let arg28 : BitVec 32 := Scf.iv c0_i32_197 c1_i32_199 k0_t36
  let c16_i32_221 : BitVec 32 := 16#32
  let v438 : BitVec 32 := Scalar.muli arg28 c16_i32_221
  let v440 : Index := Scalar.indexCast v438
  ![0, v440.toNat]
def k0_off400 (k0_t36 : Fin k0_t36_loop.trips) : Fin 2 → Nat :=
  let c1_i32_223 : BitVec 32 := 1#32
  let v442 : Index := Scalar.indexCast c1_i32_223
  let c0_i32_197 : BitVec 32 := 0#32
  let c1_i32_199 : BitVec 32 := 1#32
  let arg28 : BitVec 32 := Scf.iv c0_i32_197 c1_i32_199 k0_t36
  let c16_i32_221 : BitVec 32 := 16#32
  let v438 : BitVec 32 := Scalar.muli arg28 c16_i32_221
  let v443 : Index := Scalar.indexCast v438
  ![1, v443.toNat]
def k0_off401 (k0_t36 : Fin k0_t36_loop.trips) : Fin 2 → Nat :=
  let c2_i32_224 : BitVec 32 := 2#32
  let v446 : Index := Scalar.indexCast c2_i32_224
  let c0_i32_197 : BitVec 32 := 0#32
  let c1_i32_199 : BitVec 32 := 1#32
  let arg28 : BitVec 32 := Scf.iv c0_i32_197 c1_i32_199 k0_t36
  let c16_i32_221 : BitVec 32 := 16#32
  let v438 : BitVec 32 := Scalar.muli arg28 c16_i32_221
  let v447 : Index := Scalar.indexCast v438
  ![2, v447.toNat]
def k0_off402 (k0_t36 : Fin k0_t36_loop.trips) : Fin 2 → Nat :=
  let c3_i32_225 : BitVec 32 := 3#32
  let v450 : Index := Scalar.indexCast c3_i32_225
  let c0_i32_197 : BitVec 32 := 0#32
  let c1_i32_199 : BitVec 32 := 1#32
  let arg28 : BitVec 32 := Scf.iv c0_i32_197 c1_i32_199 k0_t36
  let c16_i32_221 : BitVec 32 := 16#32
  let v438 : BitVec 32 := Scalar.muli arg28 c16_i32_221
  let v451 : Index := Scalar.indexCast v438
  ![3, v451.toNat]
def k0_off403 (k0_t36 : Fin k0_t36_loop.trips) : Fin 2 → Nat :=
  let c4_i32 : BitVec 32 := 4#32
  let v454 : Index := Scalar.indexCast c4_i32
  let c0_i32_197 : BitVec 32 := 0#32
  let c1_i32_199 : BitVec 32 := 1#32
  let arg28 : BitVec 32 := Scf.iv c0_i32_197 c1_i32_199 k0_t36
  let c16_i32_221 : BitVec 32 := 16#32
  let v438 : BitVec 32 := Scalar.muli arg28 c16_i32_221
  let v455 : Index := Scalar.indexCast v438
  ![4, v455.toNat]
def k0_off404 (k0_t36 : Fin k0_t36_loop.trips) : Fin 2 → Nat :=
  let c5_i32 : BitVec 32 := 5#32
  let v458 : Index := Scalar.indexCast c5_i32
  let c0_i32_197 : BitVec 32 := 0#32
  let c1_i32_199 : BitVec 32 := 1#32
  let arg28 : BitVec 32 := Scf.iv c0_i32_197 c1_i32_199 k0_t36
  let c16_i32_221 : BitVec 32 := 16#32
  let v438 : BitVec 32 := Scalar.muli arg28 c16_i32_221
  let v459 : Index := Scalar.indexCast v438
  ![5, v459.toNat]
def k0_off405 (k0_t36 : Fin k0_t36_loop.trips) : Fin 2 → Nat :=
  let c6_i32 : BitVec 32 := 6#32
  let v462 : Index := Scalar.indexCast c6_i32
  let c0_i32_197 : BitVec 32 := 0#32
  let c1_i32_199 : BitVec 32 := 1#32
  let arg28 : BitVec 32 := Scf.iv c0_i32_197 c1_i32_199 k0_t36
  let c16_i32_221 : BitVec 32 := 16#32
  let v438 : BitVec 32 := Scalar.muli arg28 c16_i32_221
  let v463 : Index := Scalar.indexCast v438
  ![6, v463.toNat]
def k0_off406 (k0_t36 : Fin k0_t36_loop.trips) : Fin 2 → Nat :=
  let c7_i32 : BitVec 32 := 7#32
  let v466 : Index := Scalar.indexCast c7_i32
  let c0_i32_197 : BitVec 32 := 0#32
  let c1_i32_199 : BitVec 32 := 1#32
  let arg28 : BitVec 32 := Scf.iv c0_i32_197 c1_i32_199 k0_t36
  let c16_i32_221 : BitVec 32 := 16#32
  let v438 : BitVec 32 := Scalar.muli arg28 c16_i32_221
  let v467 : Index := Scalar.indexCast v438
  ![7, v467.toNat]
def k0_off407 (k0_t36 : Fin k0_t36_loop.trips) : Fin 2 → Nat :=
  let c8_i32 : BitVec 32 := 8#32
  let v470 : Index := Scalar.indexCast c8_i32
  let c0_i32_197 : BitVec 32 := 0#32
  let c1_i32_199 : BitVec 32 := 1#32
  let arg28 : BitVec 32 := Scf.iv c0_i32_197 c1_i32_199 k0_t36
  let c16_i32_221 : BitVec 32 := 16#32
  let v438 : BitVec 32 := Scalar.muli arg28 c16_i32_221
  let v471 : Index := Scalar.indexCast v438
  ![8, v471.toNat]
def k0_off408 (k0_t36 : Fin k0_t36_loop.trips) : Fin 2 → Nat :=
  let c9_i32 : BitVec 32 := 9#32
  let v474 : Index := Scalar.indexCast c9_i32
  let c0_i32_197 : BitVec 32 := 0#32
  let c1_i32_199 : BitVec 32 := 1#32
  let arg28 : BitVec 32 := Scf.iv c0_i32_197 c1_i32_199 k0_t36
  let c16_i32_221 : BitVec 32 := 16#32
  let v438 : BitVec 32 := Scalar.muli arg28 c16_i32_221
  let v475 : Index := Scalar.indexCast v438
  ![9, v475.toNat]
def k0_off409 (k0_t36 : Fin k0_t36_loop.trips) : Fin 2 → Nat :=
  let c10_i32 : BitVec 32 := 10#32
  let v478 : Index := Scalar.indexCast c10_i32
  let c0_i32_197 : BitVec 32 := 0#32
  let c1_i32_199 : BitVec 32 := 1#32
  let arg28 : BitVec 32 := Scf.iv c0_i32_197 c1_i32_199 k0_t36
  let c16_i32_221 : BitVec 32 := 16#32
  let v438 : BitVec 32 := Scalar.muli arg28 c16_i32_221
  let v479 : Index := Scalar.indexCast v438
  ![10, v479.toNat]
def k0_off410 (k0_t36 : Fin k0_t36_loop.trips) : Fin 2 → Nat :=
  let c11_i32 : BitVec 32 := 11#32
  let v482 : Index := Scalar.indexCast c11_i32
  let c0_i32_197 : BitVec 32 := 0#32
  let c1_i32_199 : BitVec 32 := 1#32
  let arg28 : BitVec 32 := Scf.iv c0_i32_197 c1_i32_199 k0_t36
  let c16_i32_221 : BitVec 32 := 16#32
  let v438 : BitVec 32 := Scalar.muli arg28 c16_i32_221
  let v483 : Index := Scalar.indexCast v438
  ![11, v483.toNat]
def k0_off411 (k0_t36 : Fin k0_t36_loop.trips) : Fin 2 → Nat :=
  let c12_i32 : BitVec 32 := 12#32
  let v486 : Index := Scalar.indexCast c12_i32
  let c0_i32_197 : BitVec 32 := 0#32
  let c1_i32_199 : BitVec 32 := 1#32
  let arg28 : BitVec 32 := Scf.iv c0_i32_197 c1_i32_199 k0_t36
  let c16_i32_221 : BitVec 32 := 16#32
  let v438 : BitVec 32 := Scalar.muli arg28 c16_i32_221
  let v487 : Index := Scalar.indexCast v438
  ![12, v487.toNat]
def k0_off412 (k0_t36 : Fin k0_t36_loop.trips) : Fin 2 → Nat :=
  let c13_i32 : BitVec 32 := 13#32
  let v490 : Index := Scalar.indexCast c13_i32
  let c0_i32_197 : BitVec 32 := 0#32
  let c1_i32_199 : BitVec 32 := 1#32
  let arg28 : BitVec 32 := Scf.iv c0_i32_197 c1_i32_199 k0_t36
  let c16_i32_221 : BitVec 32 := 16#32
  let v438 : BitVec 32 := Scalar.muli arg28 c16_i32_221
  let v491 : Index := Scalar.indexCast v438
  ![13, v491.toNat]
def k0_off413 (k0_t36 : Fin k0_t36_loop.trips) : Fin 2 → Nat :=
  let c14_i32 : BitVec 32 := 14#32
  let v494 : Index := Scalar.indexCast c14_i32
  let c0_i32_197 : BitVec 32 := 0#32
  let c1_i32_199 : BitVec 32 := 1#32
  let arg28 : BitVec 32 := Scf.iv c0_i32_197 c1_i32_199 k0_t36
  let c16_i32_221 : BitVec 32 := 16#32
  let v438 : BitVec 32 := Scalar.muli arg28 c16_i32_221
  let v495 : Index := Scalar.indexCast v438
  ![14, v495.toNat]
def k0_off414 (k0_t36 : Fin k0_t36_loop.trips) : Fin 2 → Nat :=
  let c15_i32 : BitVec 32 := 15#32
  let v498 : Index := Scalar.indexCast c15_i32
  let c0_i32_197 : BitVec 32 := 0#32
  let c1_i32_199 : BitVec 32 := 1#32
  let arg28 : BitVec 32 := Scf.iv c0_i32_197 c1_i32_199 k0_t36
  let c16_i32_221 : BitVec 32 := 16#32
  let v438 : BitVec 32 := Scalar.muli arg28 c16_i32_221
  let v499 : Index := Scalar.indexCast v438
  ![15, v499.toNat]
def k0_off415 (k0_t36 : Fin k0_t36_loop.trips) : Fin 2 → Nat :=
  let c2_i32_226 : BitVec 32 := 2#32
  let v502 : Index := Scalar.indexCast c2_i32_226
  let c0_i32_197 : BitVec 32 := 0#32
  let c1_i32_199 : BitVec 32 := 1#32
  let arg28 : BitVec 32 := Scf.iv c0_i32_197 c1_i32_199 k0_t36
  let c16_i32_221 : BitVec 32 := 16#32
  let v438 : BitVec 32 := Scalar.muli arg28 c16_i32_221
  let v503 : Index := Scalar.indexCast v438
  ![2, v503.toNat]
@[reducible] def k0_t37_loop : Scf.Loop 32 :=
  let c0_i32_202 : BitVec 32 := 0#32
  let c33_i32_203 : BitVec 32 := 33#32
  let v430 : BitVec 32 := Scalar.addi c0_i32_202 c33_i32_203
  let c1_i32_204 : BitVec 32 := 1#32
  ⟨c0_i32_202, v430, c1_i32_204⟩
def k0_off416 (k0_t37 : Fin k0_t37_loop.trips) : Fin 2 → Nat :=
  let c0_i32_222 : BitVec 32 := 0#32
  let v439 : Index := Scalar.indexCast c0_i32_222
  let c0_i32_202 : BitVec 32 := 0#32
  let c1_i32_204 : BitVec 32 := 1#32
  let arg28 : BitVec 32 := Scf.iv c0_i32_202 c1_i32_204 k0_t37
  let c16_i32_221 : BitVec 32 := 16#32
  let v438 : BitVec 32 := Scalar.muli arg28 c16_i32_221
  let v440 : Index := Scalar.indexCast v438
  ![0, v440.toNat]
def k0_off417 (k0_t37 : Fin k0_t37_loop.trips) : Fin 2 → Nat :=
  let c1_i32_223 : BitVec 32 := 1#32
  let v442 : Index := Scalar.indexCast c1_i32_223
  let c0_i32_202 : BitVec 32 := 0#32
  let c1_i32_204 : BitVec 32 := 1#32
  let arg28 : BitVec 32 := Scf.iv c0_i32_202 c1_i32_204 k0_t37
  let c16_i32_221 : BitVec 32 := 16#32
  let v438 : BitVec 32 := Scalar.muli arg28 c16_i32_221
  let v443 : Index := Scalar.indexCast v438
  ![1, v443.toNat]
def k0_off418 (k0_t37 : Fin k0_t37_loop.trips) : Fin 2 → Nat :=
  let c2_i32_224 : BitVec 32 := 2#32
  let v446 : Index := Scalar.indexCast c2_i32_224
  let c0_i32_202 : BitVec 32 := 0#32
  let c1_i32_204 : BitVec 32 := 1#32
  let arg28 : BitVec 32 := Scf.iv c0_i32_202 c1_i32_204 k0_t37
  let c16_i32_221 : BitVec 32 := 16#32
  let v438 : BitVec 32 := Scalar.muli arg28 c16_i32_221
  let v447 : Index := Scalar.indexCast v438
  ![2, v447.toNat]
def k0_off419 (k0_t37 : Fin k0_t37_loop.trips) : Fin 2 → Nat :=
  let c3_i32_225 : BitVec 32 := 3#32
  let v450 : Index := Scalar.indexCast c3_i32_225
  let c0_i32_202 : BitVec 32 := 0#32
  let c1_i32_204 : BitVec 32 := 1#32
  let arg28 : BitVec 32 := Scf.iv c0_i32_202 c1_i32_204 k0_t37
  let c16_i32_221 : BitVec 32 := 16#32
  let v438 : BitVec 32 := Scalar.muli arg28 c16_i32_221
  let v451 : Index := Scalar.indexCast v438
  ![3, v451.toNat]
def k0_off420 (k0_t37 : Fin k0_t37_loop.trips) : Fin 2 → Nat :=
  let c4_i32 : BitVec 32 := 4#32
  let v454 : Index := Scalar.indexCast c4_i32
  let c0_i32_202 : BitVec 32 := 0#32
  let c1_i32_204 : BitVec 32 := 1#32
  let arg28 : BitVec 32 := Scf.iv c0_i32_202 c1_i32_204 k0_t37
  let c16_i32_221 : BitVec 32 := 16#32
  let v438 : BitVec 32 := Scalar.muli arg28 c16_i32_221
  let v455 : Index := Scalar.indexCast v438
  ![4, v455.toNat]
def k0_off421 (k0_t37 : Fin k0_t37_loop.trips) : Fin 2 → Nat :=
  let c5_i32 : BitVec 32 := 5#32
  let v458 : Index := Scalar.indexCast c5_i32
  let c0_i32_202 : BitVec 32 := 0#32
  let c1_i32_204 : BitVec 32 := 1#32
  let arg28 : BitVec 32 := Scf.iv c0_i32_202 c1_i32_204 k0_t37
  let c16_i32_221 : BitVec 32 := 16#32
  let v438 : BitVec 32 := Scalar.muli arg28 c16_i32_221
  let v459 : Index := Scalar.indexCast v438
  ![5, v459.toNat]
def k0_off422 (k0_t37 : Fin k0_t37_loop.trips) : Fin 2 → Nat :=
  let c6_i32 : BitVec 32 := 6#32
  let v462 : Index := Scalar.indexCast c6_i32
  let c0_i32_202 : BitVec 32 := 0#32
  let c1_i32_204 : BitVec 32 := 1#32
  let arg28 : BitVec 32 := Scf.iv c0_i32_202 c1_i32_204 k0_t37
  let c16_i32_221 : BitVec 32 := 16#32
  let v438 : BitVec 32 := Scalar.muli arg28 c16_i32_221
  let v463 : Index := Scalar.indexCast v438
  ![6, v463.toNat]
def k0_off423 (k0_t37 : Fin k0_t37_loop.trips) : Fin 2 → Nat :=
  let c7_i32 : BitVec 32 := 7#32
  let v466 : Index := Scalar.indexCast c7_i32
  let c0_i32_202 : BitVec 32 := 0#32
  let c1_i32_204 : BitVec 32 := 1#32
  let arg28 : BitVec 32 := Scf.iv c0_i32_202 c1_i32_204 k0_t37
  let c16_i32_221 : BitVec 32 := 16#32
  let v438 : BitVec 32 := Scalar.muli arg28 c16_i32_221
  let v467 : Index := Scalar.indexCast v438
  ![7, v467.toNat]
def k0_off424 (k0_t37 : Fin k0_t37_loop.trips) : Fin 2 → Nat :=
  let c8_i32 : BitVec 32 := 8#32
  let v470 : Index := Scalar.indexCast c8_i32
  let c0_i32_202 : BitVec 32 := 0#32
  let c1_i32_204 : BitVec 32 := 1#32
  let arg28 : BitVec 32 := Scf.iv c0_i32_202 c1_i32_204 k0_t37
  let c16_i32_221 : BitVec 32 := 16#32
  let v438 : BitVec 32 := Scalar.muli arg28 c16_i32_221
  let v471 : Index := Scalar.indexCast v438
  ![8, v471.toNat]
def k0_off425 (k0_t37 : Fin k0_t37_loop.trips) : Fin 2 → Nat :=
  let c9_i32 : BitVec 32 := 9#32
  let v474 : Index := Scalar.indexCast c9_i32
  let c0_i32_202 : BitVec 32 := 0#32
  let c1_i32_204 : BitVec 32 := 1#32
  let arg28 : BitVec 32 := Scf.iv c0_i32_202 c1_i32_204 k0_t37
  let c16_i32_221 : BitVec 32 := 16#32
  let v438 : BitVec 32 := Scalar.muli arg28 c16_i32_221
  let v475 : Index := Scalar.indexCast v438
  ![9, v475.toNat]
def k0_off426 (k0_t37 : Fin k0_t37_loop.trips) : Fin 2 → Nat :=
  let c10_i32 : BitVec 32 := 10#32
  let v478 : Index := Scalar.indexCast c10_i32
  let c0_i32_202 : BitVec 32 := 0#32
  let c1_i32_204 : BitVec 32 := 1#32
  let arg28 : BitVec 32 := Scf.iv c0_i32_202 c1_i32_204 k0_t37
  let c16_i32_221 : BitVec 32 := 16#32
  let v438 : BitVec 32 := Scalar.muli arg28 c16_i32_221
  let v479 : Index := Scalar.indexCast v438
  ![10, v479.toNat]
def k0_off427 (k0_t37 : Fin k0_t37_loop.trips) : Fin 2 → Nat :=
  let c11_i32 : BitVec 32 := 11#32
  let v482 : Index := Scalar.indexCast c11_i32
  let c0_i32_202 : BitVec 32 := 0#32
  let c1_i32_204 : BitVec 32 := 1#32
  let arg28 : BitVec 32 := Scf.iv c0_i32_202 c1_i32_204 k0_t37
  let c16_i32_221 : BitVec 32 := 16#32
  let v438 : BitVec 32 := Scalar.muli arg28 c16_i32_221
  let v483 : Index := Scalar.indexCast v438
  ![11, v483.toNat]
def k0_off428 (k0_t37 : Fin k0_t37_loop.trips) : Fin 2 → Nat :=
  let c12_i32 : BitVec 32 := 12#32
  let v486 : Index := Scalar.indexCast c12_i32
  let c0_i32_202 : BitVec 32 := 0#32
  let c1_i32_204 : BitVec 32 := 1#32
  let arg28 : BitVec 32 := Scf.iv c0_i32_202 c1_i32_204 k0_t37
  let c16_i32_221 : BitVec 32 := 16#32
  let v438 : BitVec 32 := Scalar.muli arg28 c16_i32_221
  let v487 : Index := Scalar.indexCast v438
  ![12, v487.toNat]
def k0_off429 (k0_t37 : Fin k0_t37_loop.trips) : Fin 2 → Nat :=
  let c13_i32 : BitVec 32 := 13#32
  let v490 : Index := Scalar.indexCast c13_i32
  let c0_i32_202 : BitVec 32 := 0#32
  let c1_i32_204 : BitVec 32 := 1#32
  let arg28 : BitVec 32 := Scf.iv c0_i32_202 c1_i32_204 k0_t37
  let c16_i32_221 : BitVec 32 := 16#32
  let v438 : BitVec 32 := Scalar.muli arg28 c16_i32_221
  let v491 : Index := Scalar.indexCast v438
  ![13, v491.toNat]
def k0_off430 (k0_t37 : Fin k0_t37_loop.trips) : Fin 2 → Nat :=
  let c14_i32 : BitVec 32 := 14#32
  let v494 : Index := Scalar.indexCast c14_i32
  let c0_i32_202 : BitVec 32 := 0#32
  let c1_i32_204 : BitVec 32 := 1#32
  let arg28 : BitVec 32 := Scf.iv c0_i32_202 c1_i32_204 k0_t37
  let c16_i32_221 : BitVec 32 := 16#32
  let v438 : BitVec 32 := Scalar.muli arg28 c16_i32_221
  let v495 : Index := Scalar.indexCast v438
  ![14, v495.toNat]
def k0_off431 (k0_t37 : Fin k0_t37_loop.trips) : Fin 2 → Nat :=
  let c15_i32 : BitVec 32 := 15#32
  let v498 : Index := Scalar.indexCast c15_i32
  let c0_i32_202 : BitVec 32 := 0#32
  let c1_i32_204 : BitVec 32 := 1#32
  let arg28 : BitVec 32 := Scf.iv c0_i32_202 c1_i32_204 k0_t37
  let c16_i32_221 : BitVec 32 := 16#32
  let v438 : BitVec 32 := Scalar.muli arg28 c16_i32_221
  let v499 : Index := Scalar.indexCast v438
  ![15, v499.toNat]
def k0_off432 (k0_t37 : Fin k0_t37_loop.trips) : Fin 2 → Nat :=
  let c3_i32_226 : BitVec 32 := 3#32
  let v502 : Index := Scalar.indexCast c3_i32_226
  let c0_i32_202 : BitVec 32 := 0#32
  let c1_i32_204 : BitVec 32 := 1#32
  let arg28 : BitVec 32 := Scf.iv c0_i32_202 c1_i32_204 k0_t37
  let c16_i32_221 : BitVec 32 := 16#32
  let v438 : BitVec 32 := Scalar.muli arg28 c16_i32_221
  let v503 : Index := Scalar.indexCast v438
  ![3, v503.toNat]
@[reducible] def k0_t38_loop : Scf.Loop 32 :=
  let c0_i32_207 : BitVec 32 := 0#32
  let c33_i32_208 : BitVec 32 := 33#32
  let v432 : BitVec 32 := Scalar.addi c0_i32_207 c33_i32_208
  let c1_i32_209 : BitVec 32 := 1#32
  ⟨c0_i32_207, v432, c1_i32_209⟩
def k0_off433 (k0_t38 : Fin k0_t38_loop.trips) : Fin 2 → Nat :=
  let c0_i32_222 : BitVec 32 := 0#32
  let v439 : Index := Scalar.indexCast c0_i32_222
  let c0_i32_207 : BitVec 32 := 0#32
  let c1_i32_209 : BitVec 32 := 1#32
  let arg28 : BitVec 32 := Scf.iv c0_i32_207 c1_i32_209 k0_t38
  let c16_i32_221 : BitVec 32 := 16#32
  let v438 : BitVec 32 := Scalar.muli arg28 c16_i32_221
  let v440 : Index := Scalar.indexCast v438
  ![0, v440.toNat]
def k0_off434 (k0_t38 : Fin k0_t38_loop.trips) : Fin 2 → Nat :=
  let c1_i32_223 : BitVec 32 := 1#32
  let v442 : Index := Scalar.indexCast c1_i32_223
  let c0_i32_207 : BitVec 32 := 0#32
  let c1_i32_209 : BitVec 32 := 1#32
  let arg28 : BitVec 32 := Scf.iv c0_i32_207 c1_i32_209 k0_t38
  let c16_i32_221 : BitVec 32 := 16#32
  let v438 : BitVec 32 := Scalar.muli arg28 c16_i32_221
  let v443 : Index := Scalar.indexCast v438
  ![1, v443.toNat]
def k0_off435 (k0_t38 : Fin k0_t38_loop.trips) : Fin 2 → Nat :=
  let c2_i32_224 : BitVec 32 := 2#32
  let v446 : Index := Scalar.indexCast c2_i32_224
  let c0_i32_207 : BitVec 32 := 0#32
  let c1_i32_209 : BitVec 32 := 1#32
  let arg28 : BitVec 32 := Scf.iv c0_i32_207 c1_i32_209 k0_t38
  let c16_i32_221 : BitVec 32 := 16#32
  let v438 : BitVec 32 := Scalar.muli arg28 c16_i32_221
  let v447 : Index := Scalar.indexCast v438
  ![2, v447.toNat]
def k0_off436 (k0_t38 : Fin k0_t38_loop.trips) : Fin 2 → Nat :=
  let c3_i32_225 : BitVec 32 := 3#32
  let v450 : Index := Scalar.indexCast c3_i32_225
  let c0_i32_207 : BitVec 32 := 0#32
  let c1_i32_209 : BitVec 32 := 1#32
  let arg28 : BitVec 32 := Scf.iv c0_i32_207 c1_i32_209 k0_t38
  let c16_i32_221 : BitVec 32 := 16#32
  let v438 : BitVec 32 := Scalar.muli arg28 c16_i32_221
  let v451 : Index := Scalar.indexCast v438
  ![3, v451.toNat]
def k0_off437 (k0_t38 : Fin k0_t38_loop.trips) : Fin 2 → Nat :=
  let c4_i32 : BitVec 32 := 4#32
  let v454 : Index := Scalar.indexCast c4_i32
  let c0_i32_207 : BitVec 32 := 0#32
  let c1_i32_209 : BitVec 32 := 1#32
  let arg28 : BitVec 32 := Scf.iv c0_i32_207 c1_i32_209 k0_t38
  let c16_i32_221 : BitVec 32 := 16#32
  let v438 : BitVec 32 := Scalar.muli arg28 c16_i32_221
  let v455 : Index := Scalar.indexCast v438
  ![4, v455.toNat]
def k0_off438 (k0_t38 : Fin k0_t38_loop.trips) : Fin 2 → Nat :=
  let c5_i32 : BitVec 32 := 5#32
  let v458 : Index := Scalar.indexCast c5_i32
  let c0_i32_207 : BitVec 32 := 0#32
  let c1_i32_209 : BitVec 32 := 1#32
  let arg28 : BitVec 32 := Scf.iv c0_i32_207 c1_i32_209 k0_t38
  let c16_i32_221 : BitVec 32 := 16#32
  let v438 : BitVec 32 := Scalar.muli arg28 c16_i32_221
  let v459 : Index := Scalar.indexCast v438
  ![5, v459.toNat]
def k0_off439 (k0_t38 : Fin k0_t38_loop.trips) : Fin 2 → Nat :=
  let c6_i32 : BitVec 32 := 6#32
  let v462 : Index := Scalar.indexCast c6_i32
  let c0_i32_207 : BitVec 32 := 0#32
  let c1_i32_209 : BitVec 32 := 1#32
  let arg28 : BitVec 32 := Scf.iv c0_i32_207 c1_i32_209 k0_t38
  let c16_i32_221 : BitVec 32 := 16#32
  let v438 : BitVec 32 := Scalar.muli arg28 c16_i32_221
  let v463 : Index := Scalar.indexCast v438
  ![6, v463.toNat]
def k0_off440 (k0_t38 : Fin k0_t38_loop.trips) : Fin 2 → Nat :=
  let c7_i32 : BitVec 32 := 7#32
  let v466 : Index := Scalar.indexCast c7_i32
  let c0_i32_207 : BitVec 32 := 0#32
  let c1_i32_209 : BitVec 32 := 1#32
  let arg28 : BitVec 32 := Scf.iv c0_i32_207 c1_i32_209 k0_t38
  let c16_i32_221 : BitVec 32 := 16#32
  let v438 : BitVec 32 := Scalar.muli arg28 c16_i32_221
  let v467 : Index := Scalar.indexCast v438
  ![7, v467.toNat]
def k0_off441 (k0_t38 : Fin k0_t38_loop.trips) : Fin 2 → Nat :=
  let c8_i32 : BitVec 32 := 8#32
  let v470 : Index := Scalar.indexCast c8_i32
  let c0_i32_207 : BitVec 32 := 0#32
  let c1_i32_209 : BitVec 32 := 1#32
  let arg28 : BitVec 32 := Scf.iv c0_i32_207 c1_i32_209 k0_t38
  let c16_i32_221 : BitVec 32 := 16#32
  let v438 : BitVec 32 := Scalar.muli arg28 c16_i32_221
  let v471 : Index := Scalar.indexCast v438
  ![8, v471.toNat]
def k0_off442 (k0_t38 : Fin k0_t38_loop.trips) : Fin 2 → Nat :=
  let c9_i32 : BitVec 32 := 9#32
  let v474 : Index := Scalar.indexCast c9_i32
  let c0_i32_207 : BitVec 32 := 0#32
  let c1_i32_209 : BitVec 32 := 1#32
  let arg28 : BitVec 32 := Scf.iv c0_i32_207 c1_i32_209 k0_t38
  let c16_i32_221 : BitVec 32 := 16#32
  let v438 : BitVec 32 := Scalar.muli arg28 c16_i32_221
  let v475 : Index := Scalar.indexCast v438
  ![9, v475.toNat]
def k0_off443 (k0_t38 : Fin k0_t38_loop.trips) : Fin 2 → Nat :=
  let c10_i32 : BitVec 32 := 10#32
  let v478 : Index := Scalar.indexCast c10_i32
  let c0_i32_207 : BitVec 32 := 0#32
  let c1_i32_209 : BitVec 32 := 1#32
  let arg28 : BitVec 32 := Scf.iv c0_i32_207 c1_i32_209 k0_t38
  let c16_i32_221 : BitVec 32 := 16#32
  let v438 : BitVec 32 := Scalar.muli arg28 c16_i32_221
  let v479 : Index := Scalar.indexCast v438
  ![10, v479.toNat]
def k0_off444 (k0_t38 : Fin k0_t38_loop.trips) : Fin 2 → Nat :=
  let c11_i32 : BitVec 32 := 11#32
  let v482 : Index := Scalar.indexCast c11_i32
  let c0_i32_207 : BitVec 32 := 0#32
  let c1_i32_209 : BitVec 32 := 1#32
  let arg28 : BitVec 32 := Scf.iv c0_i32_207 c1_i32_209 k0_t38
  let c16_i32_221 : BitVec 32 := 16#32
  let v438 : BitVec 32 := Scalar.muli arg28 c16_i32_221
  let v483 : Index := Scalar.indexCast v438
  ![11, v483.toNat]
def k0_off445 (k0_t38 : Fin k0_t38_loop.trips) : Fin 2 → Nat :=
  let c12_i32 : BitVec 32 := 12#32
  let v486 : Index := Scalar.indexCast c12_i32
  let c0_i32_207 : BitVec 32 := 0#32
  let c1_i32_209 : BitVec 32 := 1#32
  let arg28 : BitVec 32 := Scf.iv c0_i32_207 c1_i32_209 k0_t38
  let c16_i32_221 : BitVec 32 := 16#32
  let v438 : BitVec 32 := Scalar.muli arg28 c16_i32_221
  let v487 : Index := Scalar.indexCast v438
  ![12, v487.toNat]
def k0_off446 (k0_t38 : Fin k0_t38_loop.trips) : Fin 2 → Nat :=
  let c13_i32 : BitVec 32 := 13#32
  let v490 : Index := Scalar.indexCast c13_i32
  let c0_i32_207 : BitVec 32 := 0#32
  let c1_i32_209 : BitVec 32 := 1#32
  let arg28 : BitVec 32 := Scf.iv c0_i32_207 c1_i32_209 k0_t38
  let c16_i32_221 : BitVec 32 := 16#32
  let v438 : BitVec 32 := Scalar.muli arg28 c16_i32_221
  let v491 : Index := Scalar.indexCast v438
  ![13, v491.toNat]
def k0_off447 (k0_t38 : Fin k0_t38_loop.trips) : Fin 2 → Nat :=
  let c14_i32 : BitVec 32 := 14#32
  let v494 : Index := Scalar.indexCast c14_i32
  let c0_i32_207 : BitVec 32 := 0#32
  let c1_i32_209 : BitVec 32 := 1#32
  let arg28 : BitVec 32 := Scf.iv c0_i32_207 c1_i32_209 k0_t38
  let c16_i32_221 : BitVec 32 := 16#32
  let v438 : BitVec 32 := Scalar.muli arg28 c16_i32_221
  let v495 : Index := Scalar.indexCast v438
  ![14, v495.toNat]
def k0_off448 (k0_t38 : Fin k0_t38_loop.trips) : Fin 2 → Nat :=
  let c15_i32 : BitVec 32 := 15#32
  let v498 : Index := Scalar.indexCast c15_i32
  let c0_i32_207 : BitVec 32 := 0#32
  let c1_i32_209 : BitVec 32 := 1#32
  let arg28 : BitVec 32 := Scf.iv c0_i32_207 c1_i32_209 k0_t38
  let c16_i32_221 : BitVec 32 := 16#32
  let v438 : BitVec 32 := Scalar.muli arg28 c16_i32_221
  let v499 : Index := Scalar.indexCast v438
  ![15, v499.toNat]
def k0_off449 (k0_t38 : Fin k0_t38_loop.trips) : Fin 2 → Nat :=
  let c4_i32_226 : BitVec 32 := 4#32
  let v502 : Index := Scalar.indexCast c4_i32_226
  let c0_i32_207 : BitVec 32 := 0#32
  let c1_i32_209 : BitVec 32 := 1#32
  let arg28 : BitVec 32 := Scf.iv c0_i32_207 c1_i32_209 k0_t38
  let c16_i32_221 : BitVec 32 := 16#32
  let v438 : BitVec 32 := Scalar.muli arg28 c16_i32_221
  let v503 : Index := Scalar.indexCast v438
  ![4, v503.toNat]
@[reducible] def k0_t39_loop : Scf.Loop 32 :=
  let c0_i32_212 : BitVec 32 := 0#32
  let c33_i32_213 : BitVec 32 := 33#32
  let v434 : BitVec 32 := Scalar.addi c0_i32_212 c33_i32_213
  let c1_i32_214 : BitVec 32 := 1#32
  ⟨c0_i32_212, v434, c1_i32_214⟩
def k0_off450 (k0_t39 : Fin k0_t39_loop.trips) : Fin 2 → Nat :=
  let c0_i32_222 : BitVec 32 := 0#32
  let v439 : Index := Scalar.indexCast c0_i32_222
  let c0_i32_212 : BitVec 32 := 0#32
  let c1_i32_214 : BitVec 32 := 1#32
  let arg28 : BitVec 32 := Scf.iv c0_i32_212 c1_i32_214 k0_t39
  let c16_i32_221 : BitVec 32 := 16#32
  let v438 : BitVec 32 := Scalar.muli arg28 c16_i32_221
  let v440 : Index := Scalar.indexCast v438
  ![0, v440.toNat]
def k0_off451 (k0_t39 : Fin k0_t39_loop.trips) : Fin 2 → Nat :=
  let c1_i32_223 : BitVec 32 := 1#32
  let v442 : Index := Scalar.indexCast c1_i32_223
  let c0_i32_212 : BitVec 32 := 0#32
  let c1_i32_214 : BitVec 32 := 1#32
  let arg28 : BitVec 32 := Scf.iv c0_i32_212 c1_i32_214 k0_t39
  let c16_i32_221 : BitVec 32 := 16#32
  let v438 : BitVec 32 := Scalar.muli arg28 c16_i32_221
  let v443 : Index := Scalar.indexCast v438
  ![1, v443.toNat]
def k0_off452 (k0_t39 : Fin k0_t39_loop.trips) : Fin 2 → Nat :=
  let c2_i32_224 : BitVec 32 := 2#32
  let v446 : Index := Scalar.indexCast c2_i32_224
  let c0_i32_212 : BitVec 32 := 0#32
  let c1_i32_214 : BitVec 32 := 1#32
  let arg28 : BitVec 32 := Scf.iv c0_i32_212 c1_i32_214 k0_t39
  let c16_i32_221 : BitVec 32 := 16#32
  let v438 : BitVec 32 := Scalar.muli arg28 c16_i32_221
  let v447 : Index := Scalar.indexCast v438
  ![2, v447.toNat]
def k0_off453 (k0_t39 : Fin k0_t39_loop.trips) : Fin 2 → Nat :=
  let c3_i32_225 : BitVec 32 := 3#32
  let v450 : Index := Scalar.indexCast c3_i32_225
  let c0_i32_212 : BitVec 32 := 0#32
  let c1_i32_214 : BitVec 32 := 1#32
  let arg28 : BitVec 32 := Scf.iv c0_i32_212 c1_i32_214 k0_t39
  let c16_i32_221 : BitVec 32 := 16#32
  let v438 : BitVec 32 := Scalar.muli arg28 c16_i32_221
  let v451 : Index := Scalar.indexCast v438
  ![3, v451.toNat]
def k0_off454 (k0_t39 : Fin k0_t39_loop.trips) : Fin 2 → Nat :=
  let c4_i32 : BitVec 32 := 4#32
  let v454 : Index := Scalar.indexCast c4_i32
  let c0_i32_212 : BitVec 32 := 0#32
  let c1_i32_214 : BitVec 32 := 1#32
  let arg28 : BitVec 32 := Scf.iv c0_i32_212 c1_i32_214 k0_t39
  let c16_i32_221 : BitVec 32 := 16#32
  let v438 : BitVec 32 := Scalar.muli arg28 c16_i32_221
  let v455 : Index := Scalar.indexCast v438
  ![4, v455.toNat]
def k0_off455 (k0_t39 : Fin k0_t39_loop.trips) : Fin 2 → Nat :=
  let c5_i32 : BitVec 32 := 5#32
  let v458 : Index := Scalar.indexCast c5_i32
  let c0_i32_212 : BitVec 32 := 0#32
  let c1_i32_214 : BitVec 32 := 1#32
  let arg28 : BitVec 32 := Scf.iv c0_i32_212 c1_i32_214 k0_t39
  let c16_i32_221 : BitVec 32 := 16#32
  let v438 : BitVec 32 := Scalar.muli arg28 c16_i32_221
  let v459 : Index := Scalar.indexCast v438
  ![5, v459.toNat]
def k0_off456 (k0_t39 : Fin k0_t39_loop.trips) : Fin 2 → Nat :=
  let c6_i32 : BitVec 32 := 6#32
  let v462 : Index := Scalar.indexCast c6_i32
  let c0_i32_212 : BitVec 32 := 0#32
  let c1_i32_214 : BitVec 32 := 1#32
  let arg28 : BitVec 32 := Scf.iv c0_i32_212 c1_i32_214 k0_t39
  let c16_i32_221 : BitVec 32 := 16#32
  let v438 : BitVec 32 := Scalar.muli arg28 c16_i32_221
  let v463 : Index := Scalar.indexCast v438
  ![6, v463.toNat]
def k0_off457 (k0_t39 : Fin k0_t39_loop.trips) : Fin 2 → Nat :=
  let c7_i32 : BitVec 32 := 7#32
  let v466 : Index := Scalar.indexCast c7_i32
  let c0_i32_212 : BitVec 32 := 0#32
  let c1_i32_214 : BitVec 32 := 1#32
  let arg28 : BitVec 32 := Scf.iv c0_i32_212 c1_i32_214 k0_t39
  let c16_i32_221 : BitVec 32 := 16#32
  let v438 : BitVec 32 := Scalar.muli arg28 c16_i32_221
  let v467 : Index := Scalar.indexCast v438
  ![7, v467.toNat]
def k0_off458 (k0_t39 : Fin k0_t39_loop.trips) : Fin 2 → Nat :=
  let c8_i32 : BitVec 32 := 8#32
  let v470 : Index := Scalar.indexCast c8_i32
  let c0_i32_212 : BitVec 32 := 0#32
  let c1_i32_214 : BitVec 32 := 1#32
  let arg28 : BitVec 32 := Scf.iv c0_i32_212 c1_i32_214 k0_t39
  let c16_i32_221 : BitVec 32 := 16#32
  let v438 : BitVec 32 := Scalar.muli arg28 c16_i32_221
  let v471 : Index := Scalar.indexCast v438
  ![8, v471.toNat]
def k0_off459 (k0_t39 : Fin k0_t39_loop.trips) : Fin 2 → Nat :=
  let c9_i32 : BitVec 32 := 9#32
  let v474 : Index := Scalar.indexCast c9_i32
  let c0_i32_212 : BitVec 32 := 0#32
  let c1_i32_214 : BitVec 32 := 1#32
  let arg28 : BitVec 32 := Scf.iv c0_i32_212 c1_i32_214 k0_t39
  let c16_i32_221 : BitVec 32 := 16#32
  let v438 : BitVec 32 := Scalar.muli arg28 c16_i32_221
  let v475 : Index := Scalar.indexCast v438
  ![9, v475.toNat]
def k0_off460 (k0_t39 : Fin k0_t39_loop.trips) : Fin 2 → Nat :=
  let c10_i32 : BitVec 32 := 10#32
  let v478 : Index := Scalar.indexCast c10_i32
  let c0_i32_212 : BitVec 32 := 0#32
  let c1_i32_214 : BitVec 32 := 1#32
  let arg28 : BitVec 32 := Scf.iv c0_i32_212 c1_i32_214 k0_t39
  let c16_i32_221 : BitVec 32 := 16#32
  let v438 : BitVec 32 := Scalar.muli arg28 c16_i32_221
  let v479 : Index := Scalar.indexCast v438
  ![10, v479.toNat]
def k0_off461 (k0_t39 : Fin k0_t39_loop.trips) : Fin 2 → Nat :=
  let c11_i32 : BitVec 32 := 11#32
  let v482 : Index := Scalar.indexCast c11_i32
  let c0_i32_212 : BitVec 32 := 0#32
  let c1_i32_214 : BitVec 32 := 1#32
  let arg28 : BitVec 32 := Scf.iv c0_i32_212 c1_i32_214 k0_t39
  let c16_i32_221 : BitVec 32 := 16#32
  let v438 : BitVec 32 := Scalar.muli arg28 c16_i32_221
  let v483 : Index := Scalar.indexCast v438
  ![11, v483.toNat]
def k0_off462 (k0_t39 : Fin k0_t39_loop.trips) : Fin 2 → Nat :=
  let c12_i32 : BitVec 32 := 12#32
  let v486 : Index := Scalar.indexCast c12_i32
  let c0_i32_212 : BitVec 32 := 0#32
  let c1_i32_214 : BitVec 32 := 1#32
  let arg28 : BitVec 32 := Scf.iv c0_i32_212 c1_i32_214 k0_t39
  let c16_i32_221 : BitVec 32 := 16#32
  let v438 : BitVec 32 := Scalar.muli arg28 c16_i32_221
  let v487 : Index := Scalar.indexCast v438
  ![12, v487.toNat]
def k0_off463 (k0_t39 : Fin k0_t39_loop.trips) : Fin 2 → Nat :=
  let c13_i32 : BitVec 32 := 13#32
  let v490 : Index := Scalar.indexCast c13_i32
  let c0_i32_212 : BitVec 32 := 0#32
  let c1_i32_214 : BitVec 32 := 1#32
  let arg28 : BitVec 32 := Scf.iv c0_i32_212 c1_i32_214 k0_t39
  let c16_i32_221 : BitVec 32 := 16#32
  let v438 : BitVec 32 := Scalar.muli arg28 c16_i32_221
  let v491 : Index := Scalar.indexCast v438
  ![13, v491.toNat]
def k0_off464 (k0_t39 : Fin k0_t39_loop.trips) : Fin 2 → Nat :=
  let c14_i32 : BitVec 32 := 14#32
  let v494 : Index := Scalar.indexCast c14_i32
  let c0_i32_212 : BitVec 32 := 0#32
  let c1_i32_214 : BitVec 32 := 1#32
  let arg28 : BitVec 32 := Scf.iv c0_i32_212 c1_i32_214 k0_t39
  let c16_i32_221 : BitVec 32 := 16#32
  let v438 : BitVec 32 := Scalar.muli arg28 c16_i32_221
  let v495 : Index := Scalar.indexCast v438
  ![14, v495.toNat]
def k0_off465 (k0_t39 : Fin k0_t39_loop.trips) : Fin 2 → Nat :=
  let c15_i32 : BitVec 32 := 15#32
  let v498 : Index := Scalar.indexCast c15_i32
  let c0_i32_212 : BitVec 32 := 0#32
  let c1_i32_214 : BitVec 32 := 1#32
  let arg28 : BitVec 32 := Scf.iv c0_i32_212 c1_i32_214 k0_t39
  let c16_i32_221 : BitVec 32 := 16#32
  let v438 : BitVec 32 := Scalar.muli arg28 c16_i32_221
  let v499 : Index := Scalar.indexCast v438
  ![15, v499.toNat]
def k0_off466 (k0_t39 : Fin k0_t39_loop.trips) : Fin 2 → Nat :=
  let c5_i32_226 : BitVec 32 := 5#32
  let v502 : Index := Scalar.indexCast c5_i32_226
  let c0_i32_212 : BitVec 32 := 0#32
  let c1_i32_214 : BitVec 32 := 1#32
  let arg28 : BitVec 32 := Scf.iv c0_i32_212 c1_i32_214 k0_t39
  let c16_i32_221 : BitVec 32 := 16#32
  let v438 : BitVec 32 := Scalar.muli arg28 c16_i32_221
  let v503 : Index := Scalar.indexCast v438
  ![5, v503.toNat]
@[reducible] def k0_t40_loop : Scf.Loop 32 :=
  let c0_i32_217 : BitVec 32 := 0#32
  let c33_i32_218 : BitVec 32 := 33#32
  let v436 : BitVec 32 := Scalar.addi c0_i32_217 c33_i32_218
  let c1_i32_219 : BitVec 32 := 1#32
  ⟨c0_i32_217, v436, c1_i32_219⟩
def k0_off467 (k0_t40 : Fin k0_t40_loop.trips) : Fin 2 → Nat :=
  let c0_i32_222 : BitVec 32 := 0#32
  let v439 : Index := Scalar.indexCast c0_i32_222
  let c0_i32_217 : BitVec 32 := 0#32
  let c1_i32_219 : BitVec 32 := 1#32
  let arg28 : BitVec 32 := Scf.iv c0_i32_217 c1_i32_219 k0_t40
  let c16_i32_221 : BitVec 32 := 16#32
  let v438 : BitVec 32 := Scalar.muli arg28 c16_i32_221
  let v440 : Index := Scalar.indexCast v438
  ![0, v440.toNat]
def k0_off468 (k0_t40 : Fin k0_t40_loop.trips) : Fin 2 → Nat :=
  let c1_i32_223 : BitVec 32 := 1#32
  let v442 : Index := Scalar.indexCast c1_i32_223
  let c0_i32_217 : BitVec 32 := 0#32
  let c1_i32_219 : BitVec 32 := 1#32
  let arg28 : BitVec 32 := Scf.iv c0_i32_217 c1_i32_219 k0_t40
  let c16_i32_221 : BitVec 32 := 16#32
  let v438 : BitVec 32 := Scalar.muli arg28 c16_i32_221
  let v443 : Index := Scalar.indexCast v438
  ![1, v443.toNat]
def k0_off469 (k0_t40 : Fin k0_t40_loop.trips) : Fin 2 → Nat :=
  let c2_i32_224 : BitVec 32 := 2#32
  let v446 : Index := Scalar.indexCast c2_i32_224
  let c0_i32_217 : BitVec 32 := 0#32
  let c1_i32_219 : BitVec 32 := 1#32
  let arg28 : BitVec 32 := Scf.iv c0_i32_217 c1_i32_219 k0_t40
  let c16_i32_221 : BitVec 32 := 16#32
  let v438 : BitVec 32 := Scalar.muli arg28 c16_i32_221
  let v447 : Index := Scalar.indexCast v438
  ![2, v447.toNat]
def k0_off470 (k0_t40 : Fin k0_t40_loop.trips) : Fin 2 → Nat :=
  let c3_i32_225 : BitVec 32 := 3#32
  let v450 : Index := Scalar.indexCast c3_i32_225
  let c0_i32_217 : BitVec 32 := 0#32
  let c1_i32_219 : BitVec 32 := 1#32
  let arg28 : BitVec 32 := Scf.iv c0_i32_217 c1_i32_219 k0_t40
  let c16_i32_221 : BitVec 32 := 16#32
  let v438 : BitVec 32 := Scalar.muli arg28 c16_i32_221
  let v451 : Index := Scalar.indexCast v438
  ![3, v451.toNat]
def k0_off471 (k0_t40 : Fin k0_t40_loop.trips) : Fin 2 → Nat :=
  let c4_i32 : BitVec 32 := 4#32
  let v454 : Index := Scalar.indexCast c4_i32
  let c0_i32_217 : BitVec 32 := 0#32
  let c1_i32_219 : BitVec 32 := 1#32
  let arg28 : BitVec 32 := Scf.iv c0_i32_217 c1_i32_219 k0_t40
  let c16_i32_221 : BitVec 32 := 16#32
  let v438 : BitVec 32 := Scalar.muli arg28 c16_i32_221
  let v455 : Index := Scalar.indexCast v438
  ![4, v455.toNat]
def k0_off472 (k0_t40 : Fin k0_t40_loop.trips) : Fin 2 → Nat :=
  let c5_i32 : BitVec 32 := 5#32
  let v458 : Index := Scalar.indexCast c5_i32
  let c0_i32_217 : BitVec 32 := 0#32
  let c1_i32_219 : BitVec 32 := 1#32
  let arg28 : BitVec 32 := Scf.iv c0_i32_217 c1_i32_219 k0_t40
  let c16_i32_221 : BitVec 32 := 16#32
  let v438 : BitVec 32 := Scalar.muli arg28 c16_i32_221
  let v459 : Index := Scalar.indexCast v438
  ![5, v459.toNat]
def k0_off473 (k0_t40 : Fin k0_t40_loop.trips) : Fin 2 → Nat :=
  let c6_i32 : BitVec 32 := 6#32
  let v462 : Index := Scalar.indexCast c6_i32
  let c0_i32_217 : BitVec 32 := 0#32
  let c1_i32_219 : BitVec 32 := 1#32
  let arg28 : BitVec 32 := Scf.iv c0_i32_217 c1_i32_219 k0_t40
  let c16_i32_221 : BitVec 32 := 16#32
  let v438 : BitVec 32 := Scalar.muli arg28 c16_i32_221
  let v463 : Index := Scalar.indexCast v438
  ![6, v463.toNat]
def k0_off474 (k0_t40 : Fin k0_t40_loop.trips) : Fin 2 → Nat :=
  let c7_i32 : BitVec 32 := 7#32
  let v466 : Index := Scalar.indexCast c7_i32
  let c0_i32_217 : BitVec 32 := 0#32
  let c1_i32_219 : BitVec 32 := 1#32
  let arg28 : BitVec 32 := Scf.iv c0_i32_217 c1_i32_219 k0_t40
  let c16_i32_221 : BitVec 32 := 16#32
  let v438 : BitVec 32 := Scalar.muli arg28 c16_i32_221
  let v467 : Index := Scalar.indexCast v438
  ![7, v467.toNat]
def k0_off475 (k0_t40 : Fin k0_t40_loop.trips) : Fin 2 → Nat :=
  let c8_i32 : BitVec 32 := 8#32
  let v470 : Index := Scalar.indexCast c8_i32
  let c0_i32_217 : BitVec 32 := 0#32
  let c1_i32_219 : BitVec 32 := 1#32
  let arg28 : BitVec 32 := Scf.iv c0_i32_217 c1_i32_219 k0_t40
  let c16_i32_221 : BitVec 32 := 16#32
  let v438 : BitVec 32 := Scalar.muli arg28 c16_i32_221
  let v471 : Index := Scalar.indexCast v438
  ![8, v471.toNat]
def k0_off476 (k0_t40 : Fin k0_t40_loop.trips) : Fin 2 → Nat :=
  let c9_i32 : BitVec 32 := 9#32
  let v474 : Index := Scalar.indexCast c9_i32
  let c0_i32_217 : BitVec 32 := 0#32
  let c1_i32_219 : BitVec 32 := 1#32
  let arg28 : BitVec 32 := Scf.iv c0_i32_217 c1_i32_219 k0_t40
  let c16_i32_221 : BitVec 32 := 16#32
  let v438 : BitVec 32 := Scalar.muli arg28 c16_i32_221
  let v475 : Index := Scalar.indexCast v438
  ![9, v475.toNat]
def k0_off477 (k0_t40 : Fin k0_t40_loop.trips) : Fin 2 → Nat :=
  let c10_i32 : BitVec 32 := 10#32
  let v478 : Index := Scalar.indexCast c10_i32
  let c0_i32_217 : BitVec 32 := 0#32
  let c1_i32_219 : BitVec 32 := 1#32
  let arg28 : BitVec 32 := Scf.iv c0_i32_217 c1_i32_219 k0_t40
  let c16_i32_221 : BitVec 32 := 16#32
  let v438 : BitVec 32 := Scalar.muli arg28 c16_i32_221
  let v479 : Index := Scalar.indexCast v438
  ![10, v479.toNat]
def k0_off478 (k0_t40 : Fin k0_t40_loop.trips) : Fin 2 → Nat :=
  let c11_i32 : BitVec 32 := 11#32
  let v482 : Index := Scalar.indexCast c11_i32
  let c0_i32_217 : BitVec 32 := 0#32
  let c1_i32_219 : BitVec 32 := 1#32
  let arg28 : BitVec 32 := Scf.iv c0_i32_217 c1_i32_219 k0_t40
  let c16_i32_221 : BitVec 32 := 16#32
  let v438 : BitVec 32 := Scalar.muli arg28 c16_i32_221
  let v483 : Index := Scalar.indexCast v438
  ![11, v483.toNat]
def k0_off479 (k0_t40 : Fin k0_t40_loop.trips) : Fin 2 → Nat :=
  let c12_i32 : BitVec 32 := 12#32
  let v486 : Index := Scalar.indexCast c12_i32
  let c0_i32_217 : BitVec 32 := 0#32
  let c1_i32_219 : BitVec 32 := 1#32
  let arg28 : BitVec 32 := Scf.iv c0_i32_217 c1_i32_219 k0_t40
  let c16_i32_221 : BitVec 32 := 16#32
  let v438 : BitVec 32 := Scalar.muli arg28 c16_i32_221
  let v487 : Index := Scalar.indexCast v438
  ![12, v487.toNat]
def k0_off480 (k0_t40 : Fin k0_t40_loop.trips) : Fin 2 → Nat :=
  let c13_i32 : BitVec 32 := 13#32
  let v490 : Index := Scalar.indexCast c13_i32
  let c0_i32_217 : BitVec 32 := 0#32
  let c1_i32_219 : BitVec 32 := 1#32
  let arg28 : BitVec 32 := Scf.iv c0_i32_217 c1_i32_219 k0_t40
  let c16_i32_221 : BitVec 32 := 16#32
  let v438 : BitVec 32 := Scalar.muli arg28 c16_i32_221
  let v491 : Index := Scalar.indexCast v438
  ![13, v491.toNat]
def k0_off481 (k0_t40 : Fin k0_t40_loop.trips) : Fin 2 → Nat :=
  let c14_i32 : BitVec 32 := 14#32
  let v494 : Index := Scalar.indexCast c14_i32
  let c0_i32_217 : BitVec 32 := 0#32
  let c1_i32_219 : BitVec 32 := 1#32
  let arg28 : BitVec 32 := Scf.iv c0_i32_217 c1_i32_219 k0_t40
  let c16_i32_221 : BitVec 32 := 16#32
  let v438 : BitVec 32 := Scalar.muli arg28 c16_i32_221
  let v495 : Index := Scalar.indexCast v438
  ![14, v495.toNat]
def k0_off482 (k0_t40 : Fin k0_t40_loop.trips) : Fin 2 → Nat :=
  let c15_i32 : BitVec 32 := 15#32
  let v498 : Index := Scalar.indexCast c15_i32
  let c0_i32_217 : BitVec 32 := 0#32
  let c1_i32_219 : BitVec 32 := 1#32
  let arg28 : BitVec 32 := Scf.iv c0_i32_217 c1_i32_219 k0_t40
  let c16_i32_221 : BitVec 32 := 16#32
  let v438 : BitVec 32 := Scalar.muli arg28 c16_i32_221
  let v499 : Index := Scalar.indexCast v438
  ![15, v499.toNat]
def k0_off483 (k0_t40 : Fin k0_t40_loop.trips) : Fin 2 → Nat :=
  let c6_i32_226 : BitVec 32 := 6#32
  let v502 : Index := Scalar.indexCast c6_i32_226
  let c0_i32_217 : BitVec 32 := 0#32
  let c1_i32_219 : BitVec 32 := 1#32
  let arg28 : BitVec 32 := Scf.iv c0_i32_217 c1_i32_219 k0_t40
  let c16_i32_221 : BitVec 32 := 16#32
  let v438 : BitVec 32 := Scalar.muli arg28 c16_i32_221
  let v503 : Index := Scalar.indexCast v438
  ![6, v503.toNat]
def k0_off484 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_221_r3 : BitVec 32 := 0#32
  let c0_i32_222_r3 : BitVec 32 := 0#32
  ![v1.toNat, 0, 0]
abbrev grid1 : Pipeline.Grid := .none

abbrev stage1_0 : Fin 1 → Memref sig .tc .vmem S32x7x528 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x3 : Shape := ⟨2, ![100000, 3]⟩
abbrev S3200000 : Shape := ⟨1, ![3200000]⟩
abbrev S100000 : Shape := ⟨1, ![100000]⟩
abbrev S_ : Shape := ⟨0, ![]⟩
abbrev S512 : Shape := ⟨1, ![512]⟩
abbrev S100000x1 : Shape := ⟨2, ![100000, 1]⟩
abbrev S3200000x1 : Shape := ⟨2, ![3200000, 1]⟩
abbrev S1 : Shape := ⟨1, ![1]⟩
abbrev S8 : Shape := ⟨1, ![8]⟩

abbrev nBuf : Space → Nat
  | .hbm => 101
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S3200000, .f32⟩
  | .hbm, ⟨2, _⟩ => ⟨S100000x3, .f32⟩
  | .hbm, ⟨3, _⟩ => ⟨S3200000, .f32⟩
  | .hbm, ⟨4, _⟩ => ⟨S3200000, .i32⟩
  | .hbm, ⟨5, _⟩ => ⟨S100000, .i32⟩
  | .hbm, ⟨6, _⟩ => ⟨S100000, .i32⟩
  | .hbm, ⟨7, _⟩ => ⟨S3200000, .i32⟩
  | .hbm, ⟨8, _⟩ => ⟨S3200000, .i32⟩
  | .hbm, ⟨9, _⟩ => ⟨S100000x3, .f32⟩
  | .hbm, ⟨10, _⟩ => ⟨S100000x3, .f32⟩
  | .hbm, ⟨11, _⟩ => ⟨S_, .f32⟩
  | .hbm, ⟨12, _⟩ => ⟨S100000, .f32⟩
  | .hbm, ⟨13, _⟩ => ⟨S_, .f32⟩
  | .hbm, ⟨14, _⟩ => ⟨S512, .f32⟩
  | .hbm, ⟨15, _⟩ => ⟨S100000x1, .i32⟩
  | .hbm, ⟨16, _⟩ => ⟨S512, .f32⟩
  | .hbm, ⟨17, _⟩ => ⟨S_, .f32⟩
  | .hbm, ⟨18, _⟩ => ⟨S100000, .f32⟩
  | .hbm, ⟨19, _⟩ => ⟨S_, .f32⟩
  | .hbm, ⟨20, _⟩ => ⟨S512, .f32⟩
  | .hbm, ⟨21, _⟩ => ⟨S100000x1, .i32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S100000x3, .f32⟩
  | .hbm, ⟨26, _⟩ => ⟨S_, .f32⟩
  | .hbm, ⟨27, _⟩ => ⟨S100000, .f32⟩
  | .hbm, ⟨28, _⟩ => ⟨S_, .f32⟩
  | .hbm, ⟨29, _⟩ => ⟨S512, .f32⟩
  | .hbm, ⟨30, _⟩ => ⟨S100000x1, .i32⟩
  | .hbm, ⟨31, _⟩ => ⟨S512, .f32⟩
  | .hbm, ⟨32, _⟩ => ⟨S_, .f32⟩
  | .hbm, ⟨33, _⟩ => ⟨S100000, .f32⟩
  | .hbm, ⟨34, _⟩ => ⟨S_, .f32⟩
  | .hbm, ⟨35, _⟩ => ⟨S512, .f32⟩
  | .hbm, ⟨36, _⟩ => ⟨S100000x1, .i32⟩
  | .hbm, ⟨37, _⟩ => ⟨S512, .f32⟩
  | .hbm, ⟨38, _⟩ => ⟨S512, .f32⟩
  | .hbm, ⟨39, _⟩ => ⟨S512, .f32⟩
  | .hbm, ⟨40, _⟩ => ⟨S512, .f32⟩
  | .hbm, ⟨41, _⟩ => ⟨S100000x3, .f32⟩
  | .hbm, ⟨42, _⟩ => ⟨S_, .f32⟩
  | .hbm, ⟨43, _⟩ => ⟨S100000, .f32⟩
  | .hbm, ⟨44, _⟩ => ⟨S_, .f32⟩
  | .hbm, ⟨45, _⟩ => ⟨S512, .f32⟩
  | .hbm, ⟨46, _⟩ => ⟨S100000x1, .i32⟩
  | .hbm, ⟨47, _⟩ => ⟨S512, .f32⟩
  | .hbm, ⟨48, _⟩ => ⟨S_, .f32⟩
  | .hbm, ⟨49, _⟩ => ⟨S100000, .f32⟩
  | .hbm, ⟨50, _⟩ => ⟨S_, .f32⟩
  | .hbm, ⟨51, _⟩ => ⟨S512, .f32⟩
  | .hbm, ⟨52, _⟩ => ⟨S100000x1, .i32⟩
  | .hbm, ⟨53, _⟩ => ⟨S512, .f32⟩
  | .hbm, ⟨54, _⟩ => ⟨S512, .f32⟩
  | .hbm, ⟨55, _⟩ => ⟨S512, .f32⟩
  | .hbm, ⟨56, _⟩ => ⟨S3200000, .f32⟩
  | .hbm, ⟨57, _⟩ => ⟨S3200000, .f32⟩
  | .hbm, ⟨58, _⟩ => ⟨S_, .f32⟩
  | .hbm, ⟨59, _⟩ => ⟨S512, .f32⟩
  | .hbm, ⟨60, _⟩ => ⟨S3200000x1, .i32⟩
  | .hbm, ⟨61, _⟩ => ⟨S512, .f32⟩
  | .hbm, ⟨62, _⟩ => ⟨S512, .f32⟩
  | .hbm, ⟨63, _⟩ => ⟨S3200000, .f32⟩
  | .hbm, ⟨64, _⟩ => ⟨S_, .f32⟩
  | .hbm, ⟨65, _⟩ => ⟨S512, .f32⟩
  | .hbm, ⟨66, _⟩ => ⟨S3200000x1, .i32⟩
  | .hbm, ⟨67, _⟩ => ⟨S512, .f32⟩
  | .hbm, ⟨68, _⟩ => ⟨S512, .f32⟩
  | .hbm, ⟨69, _⟩ => ⟨S512, .f32⟩
  | .hbm, ⟨70, _⟩ => ⟨S3200000, .f32⟩
  | .hbm, ⟨71, _⟩ => ⟨S_, .f32⟩
  | .hbm, ⟨72, _⟩ => ⟨S512, .f32⟩
  | .hbm, ⟨73, _⟩ => ⟨S3200000x1, .i32⟩
  | .hbm, ⟨74, _⟩ => ⟨S512, .f32⟩
  | .hbm, ⟨75, _⟩ => ⟨S512, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S1, .f32⟩
  | .hbm, ⟨93, _⟩ => ⟨S1, .f32⟩
  | .hbm, ⟨94, _⟩ => ⟨S1, .f32⟩
  | .hbm, ⟨95, _⟩ => ⟨S1, .f32⟩
  | .hbm, ⟨96, _⟩ => ⟨S1, .f32⟩
  | .hbm, ⟨97, _⟩ => ⟨S1, .f32⟩
  | .hbm, ⟨98, _⟩ => ⟨S1, .f32⟩
  | .hbm, ⟨99, _⟩ => ⟨S1, .f32⟩
  | .hbm, ⟨100, _⟩ => ⟨S8, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_cst_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_cst_10 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_11 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_12 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_13 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_14 : Ref sig .tc := ⟨.hbm, 76, rfl⟩
abbrev main_v52 : Ref sig .tc := ⟨.hbm, 77, rfl⟩
abbrev main_cst_15 : Ref sig .tc := ⟨.hbm, 78, rfl⟩
abbrev main_v53 : Ref sig .tc := ⟨.hbm, 79, rfl⟩
abbrev main_cst_16 : Ref sig .tc := ⟨.hbm, 80, rfl⟩
abbrev main_v54 : Ref sig .tc := ⟨.hbm, 81, rfl⟩
abbrev main_cst_17 : Ref sig .tc := ⟨.hbm, 82, rfl⟩
abbrev main_v55 : Ref sig .tc := ⟨.hbm, 83, rfl⟩
abbrev main_cst_18 : Ref sig .tc := ⟨.hbm, 84, rfl⟩
abbrev main_v56 : Ref sig .tc := ⟨.hbm, 85, rfl⟩
abbrev main_cst_19 : Ref sig .tc := ⟨.hbm, 86, rfl⟩
abbrev main_v57 : Ref sig .tc := ⟨.hbm, 87, rfl⟩
abbrev main_cst_20 : Ref sig .tc := ⟨.hbm, 88, rfl⟩
abbrev main_v58 : Ref sig .tc := ⟨.hbm, 89, rfl⟩
abbrev main_cst_21 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]
-- ==== Proof.Base.lean ====
/- The names the launch theorem sees: the table of kernels, the configuration, the algebra of the
   handshakes, of the TensorCore region's pipeline and of the transfers' counters. -/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

abbrev UH : Type := URounds (GSem nD τ sig) ℕ
abbrev UP : Type := UR sig nD τ
abbrev UU : Type := UH × (UP × Counters)

/-- The resources of the run. -/
abbrev MM (F : FTy → Type) : Type := MT nD τ sig (HIx 1) (Elt F) ℕ UU ℕ

local notation "𝕄" => MT nD τ sig (HIx 1) (Elt F) ℕ UU ℕ

/-- The handshakes' rounds. -/
abbrev EH : Emb UH (MT nD τ sig (HIx 1) (Elt F) ℕ UU ℕ) := embL
/-- The rounds of the TensorCore region's pipeline. -/
def EP : Emb UP (MT nD τ sig (HIx 1) (Elt F) ℕ UU ℕ) :=
  (Emb.inl : Emb UP (UP × Counters)).trans embR
instance EP_landsIn : (EP (F := F)).LandsIn (upEmb : UEmb _ 𝕄) := by unfold EP; infer_instance

/-- The tile at grid coordinates `i` of device `d`. -/
abbrev thr (d : Dev nD) (i : grid0.Coords) : Thread nD τ := V d ((i 0).castLE hcore0) ((i 1).castLE hsub0)

end Cert.KernelIdeal.Run
-- ==== Proof.Tile.Code.lean ====
/- The tile program in compact form: one text per loop body, used at the buffers of each loop, and
   the blocks of edges written as a recursion. `tile_eq` says the printed program is this one. -/
module

public import proofs.«01_k».proof.Proof.Gen.KernelIdeal
public import proofs.«01_k».proof.Proof.Gen.KernelIdeal.Skeleton

@[expose] public section

noncomputable section

namespace Cert.KernelIdeal.Tile

open Cert.KernelIdeal.Gen
open Idealize.ShloMosaic Idealize.SL.Sem

variable {F : FTy → Type} [FloatOps F]

/-- Programs of the tile at grid coordinates `i`. -/
abbrev PG (F : FTy → Type) [FloatOps F] (i : grid0.Coords) : Type → Type _ :=
  Prog (TpuEff nD τ sig (Elt F) Λ₀ (.scVector ((i 0).castLE hcore0) ((i 1).castLE hsub0)))

/-! ## Offsets -/

/-- The counter of a loop from zero by one, times a constant. -/
theorem iv_mul (k c : ℕ) (h : k * c < 2 ^ 32) (hk : k < 2 ^ 32) (hc : c < 2 ^ 32) :
    (Scalar.muli (Scf.iv 0#32 1#32 k) (BitVec.ofNat 32 c)).toNat = k * c := by
  simp only [Scalar.muli, IntOp.muli, Scf.iv, BitVec.zero_add, BitVec.mul_one, BitVec.toNat_mul, BitVec.toNat_ofNat]
  rw [Nat.mod_eq_of_lt hk, Nat.mod_eq_of_lt hc, Nat.mod_eq_of_lt h]

/-- The same, plus a constant. -/
theorem iv_mul_add (k c d : ℕ) (h : k * c + d < 2 ^ 32) (hk : k < 2 ^ 32) (hc : c < 2 ^ 32) :
    (Scalar.addi (Scalar.muli (Scf.iv 0#32 1#32 k) (BitVec.ofNat 32 c)) (BitVec.ofNat 32 d)).toNat = k * c + d := by
  rw [show ∀ a b : BitVec 32, Scalar.addi a b = a + b from fun _ _ => rfl, BitVec.toNat_add,
    iv_mul k c (by omega) hk hc, BitVec.toNat_ofNat, Nat.mod_eq_of_lt (show d < 2 ^ 32 by omega),
    Nat.mod_eq_of_lt h]

theorem iv_toNat (k : ℕ) (hk : k < 2 ^ 32) : (Scf.iv 0#32 1#32 k).toNat = k := by
  simp only [Scf.iv, BitVec.zero_add, BitVec.mul_one, BitVec.toNat_ofNat]
  exact Nat.mod_eq_of_lt hk

/-- Row `k`, columns from `16·j`. -/
def zOff (k j : ℕ) : Fin 2 → ℕ := ![(Scf.iv 0#32 1#32 k).toNat, 16 * j]
/-- Row `r`, columns from `16·k`. -/
def rOff (r k : ℕ) : Fin 2 → ℕ := ![r, (Scalar.muli (Scf.iv 0#32 1#32 k) 16#32).toNat]
/-- Sixteen edges of a block: group `u` of trip `k`. -/
def eOff (k u : ℕ) : Fin 1 → ℕ :=
  ![(Scalar.addi (Scalar.muli (Scf.iv 0#32 1#32 k) 80#32) (BitVec.ofNat 32 (16 * u))).toNat]
/-- Sixteen nodes: group `u` of trip `k`. -/
def nOff (k u : ℕ) : Fin 1 → ℕ :=
  ![(Scalar.addi (Scalar.muli (Scf.iv 0#32 1#32 k) 64#32) (BitVec.ofNat 32 (16 * u))).toNat]

theorem zOff_eq (k j : ℕ) (hk : k < 2 ^ 32) : zOff k j = ![k, 16 * j] := by rw [zOff, iv_toNat k hk]
theorem rOff_eq (r k : ℕ) (hk : k < 33) : rOff r k = ![r, 16 * k] := by
  rw [rOff, show (16#32) = BitVec.ofNat 32 16 from rfl, iv_mul k 16 (by omega) (by omega) (by omega), Nat.mul_comm]
theorem eOff_eq (k u : ℕ) (hk : k < 50) (hu : u < 5) : eOff k u = ![16 * (5 * k + u)] := by
  rw [eOff, show (80#32) = BitVec.ofNat 32 80 from rfl, iv_mul_add k 80 (16 * u) (by omega) (by omega) (by omega)]
  congr 1; omega
theorem nOff_eq (k u : ℕ) (hk : k < 49) (hu : u < 4) : nOff k u = ![16 * (4 * k + u)] := by
  rw [nOff, show (64#32) = BitVec.ofNat 32 64 from rfl, iv_mul_add k 64 (16 * u) (by omega) (by omega) (by omega)]
  congr 1; omega

theorem zOff_inb (k : Fin 16) (j : Fin 33) : ∀ a, zOff k j a + S1x16.size a ≤ S16x528.size a := by
  rw [zOff_eq k j (by omega)]
  intro a; fin_cases a
  · show k.val + 1 ≤ 16; omega
  · show 16 * j.val + 16 ≤ 528; omega
theorem rOff_inb (r : Fin 16) (k : Fin 33) : ∀ a, rOff r k a + S1x16.size a ≤ S16x528.size a := by
  rw [rOff_eq r k k.isLt]
  intro a; fin_cases a
  · show r.val + 1 ≤ 16; omega
  · show 16 * k.val + 16 ≤ 528; omega
theorem qOff_inb (q : Fin 7) (k : Fin 33) : ∀ a, rOff q k a + S1x16.size a ≤ S7x528.size a := by
  rw [rOff_eq q k k.isLt]
  intro a; fin_cases a
  · show q.val + 1 ≤ 7; omega
  · show 16 * k.val + 16 ≤ 528; omega
theorem eOff_inb (k : Fin 50) (u : Fin 5) : ∀ a, eOff k u a + S16.size a ≤ S4000.size a := by
  rw [eOff_eq k u k.isLt u.isLt]
  intro a; fin_cases a
  show 16 * (5 * k.val + u.val) + 16 ≤ 4000; omega
theorem nOff_inb (k : Fin 49) (u : Fin 4) : ∀ a, nOff k u a + S16.size a ≤ S3136.size a := by
  rw [nOff_eq k u k.isLt u.isLt]
  intro a; fin_cases a
  show 16 * (4 * k.val + u.val) + 16 ≤ 3136; omega

/-! ## The vectors the loops share -/

/-- The sixteen lane numbers. -/
abbrev lanes : IVec S16 32 := iota .scVector S16 32 [0] iota_S16_d0_w32_scVector

/-! ## The buffers -/

/-- One accumulator: sixteen lanes by 528 bins. -/
abbrev Acc := Memref sig .scVector .vmem S16x528 .f32

/-- One of the two sets of edge buffers, with the semaphore its copies signal. -/
structure Slot where
  p : Memref sig .scVector .vmem S4000 .f32
  hp : p.IsWhole
  t : Memref sig .scVector .vmem S4000 .f32
  ht : t.IsWhole
  e : Memref sig .scVector .vmem S4000 .i32
  he : e.IsWhole
  sem : DmaSems sig S_

/-- The buffers of a tile. -/
structure Bufs where
  pq : Memref sig .scVector .hbm S3200000 .f32
  tq : Memref sig .scVector .hbm S3200000 .f32
  eg : Memref sig .scVector .hbm S3200000 .i32
  px : Memref sig .scVector .hbm S301056 .f32
  tx : Memref sig .scVector .hbm S301056 .f32
  ng : Memref sig .scVector .hbm S100352 .i32
  out : Memref sig .scVector .hbm S32x7x528 .f32
  s0 : Slot
  s1 : Slot
  bx : Memref sig .scVector .vmem S9408 .f32
  hbx : bx.IsWhole
  by' : Memref sig .scVector .vmem S9408 .f32
  hby : by'.IsWhole
  bn : Memref sig .scVector .vmem S3136 .i32
  hbn : bn.IsWhole
  a0 : Acc
  a1 : Acc
  a2 : Acc
  a3 : Acc
  a4 : Acc
  a5 : Acc
  a6 : Acc
  ob : Memref sig .scVector .vmem S7x528 .f32
  hob : ob.IsWhole
  r0 : DmaSems sig S_
  r1 : DmaSems sig S_
  r2 : DmaSems sig S_
  r3 : DmaSems sig S_

variable (i : grid0.Coords)

/-! ## Clearing an accumulator -/

/-- Row `k`, the last `n` groups of columns. -/
def zeroFrom (A : Acc) (k : Fin 16) : (n : ℕ) → n ≤ 33 → PG F i (BitVec 32)
  | 0, _ => pure 0#32
  | n + 1, h => do
    let _ ← Prog.lift (.load A (Rect.unit (s := S16x528) (zOff k (⟨32 - n, by omega⟩ : Fin 33)) S1x16.size (zOff_inb k ⟨32 - n, by omega⟩)).toLoadRect (View.loadsAt_vmem h_S1x16))
    Prog.lift (.store A (Rect.unit (s := S16x528) (zOff k (⟨32 - n, by omega⟩ : Fin 33)) S1x16.size (zOff_inb k ⟨32 - n, by omega⟩)) (shapeCast S1x16 (k0_pay263 (F := F)) shapeCasts_S16_S1x16) Finset.univ (View.stores_vmem_bits_univ h_S1x16 rfl) (.inl rfl))
    zeroFrom A k n (by omega)

def zeroTrip (A : Acc) : Fin k0_t1_loop.trips → BitVec 32 → PG F i (BitVec 32) :=
  fun k _ => zeroFrom i A k 33 le_rfl

def zeroLoop (A : Acc) : PG F i (BitVec 32) := Scf.Loop.for k0_t1_loop k0_t1_ok 0#32 (zeroTrip i A)

/-! ## The nodes -/

/-- The places of the first coordinates of sixteen nodes. -/
def nIdx (k u : ℕ) : IVec S16 32 :=
  muli (addi (broadcast S16 (Scalar.addi (Scalar.muli (Scf.iv 0#32 1#32 k) 64#32) (BitVec.ofNat 32 (16 * u)))) lanes) (broadcast S16 3#32)
def nIdxAt (k u : ℕ) (c : BitVec 32) : IVec S16 32 := addi (nIdx k u) (broadcast S16 c)

/-- Sixteen nodes, whose coordinates are at the places `X0 X1 X2` of the one array and `X0 Y1 Y2` of the other. -/
def nodeStepAt (b : Bufs) (k : Fin 49) (u : Fin 4) (v2 : IVec S16 32) (X0 X1 X2 Y1 Y2 : IVec S16 32) : PG F i PUnit := do
  let ids : Vec F S16 .i32 ← Prog.lift (.load b.bn (Rect.unit (s := S3136) (nOff k u) S16.size (nOff_inb k u)).toLoadRect (View.loadsAt_vmem h_S16))
  have h : k0_chk24 v2 ids := (← Prog.lift (TpuEff.assume (k0_chk24 v2 ids) (k0_chk24.dec v2 ids))).down
  have h0 : k0_chk19 X0 := (← Prog.lift (TpuEff.assume (k0_chk19 X0) (k0_chk19.dec X0))).down
  let x0 : Vec F S16 .f32 ← SparseCore.vectorLoadIdx b.bx ![X0] (k0_idx31_inb _ h0) (View.loads_vmem h_S9408)
  have h1 : k0_chk20 X1 := (← Prog.lift (TpuEff.assume (k0_chk20 X1) (k0_chk20.dec X1))).down
  let x1 : Vec F S16 .f32 ← SparseCore.vectorLoadIdx b.bx ![X1] (k0_idx32_inb _ h1) (View.loads_vmem h_S9408)
  have h2 : k0_chk21 X2 := (← Prog.lift (TpuEff.assume (k0_chk21 X2) (k0_chk21.dec X2))).down
  let x2 : Vec F S16 .f32 ← SparseCore.vectorLoadIdx b.bx ![X2] (k0_idx33_inb _ h2) (View.loads_vmem h_S9408)
  let y0 : Vec F S16 .f32 ← SparseCore.vectorLoadIdx b.by' ![X0] (k0_idx34_inb _ h0) (View.loads_vmem h_S9408)
  have h3 : k0_chk22 Y1 := (← Prog.lift (TpuEff.assume (k0_chk22 Y1) (k0_chk22.dec Y1))).down
  let y1 : Vec F S16 .f32 ← SparseCore.vectorLoadIdx b.by' ![Y1] (k0_idx35_inb _ h3) (View.loads_vmem h_S9408)
  have h4 : k0_chk23 Y2 := (← Prog.lift (TpuEff.assume (k0_chk23 Y2) (k0_chk23.dec Y2))).down
  let y2 : Vec F S16 .f32 ← SparseCore.vectorLoadIdx b.by' ![Y2] (k0_idx36_inb _ h4) (View.loads_vmem h_S9408)
  SparseCore.vectorStoreIdx b.a0 ![v2, ids] (k0_pay269 x0 x1 x2 y0 y1 y2) (fun _ => 1#1) true (k0_idx37_inb v2 ids h) (View.stores_vmem_bits_univ h_S16x528 rfl)
  SparseCore.vectorStoreIdx b.a1 ![v2, ids] (k0_pay270 y0 y1 y2) (fun _ => 1#1) true (k0_idx38_inb v2 ids h) (View.stores_vmem_bits_univ h_S16x528 rfl)
  SparseCore.vectorStoreIdx b.a2 ![v2, ids] (k0_pay271 x0 x1 x2) (fun _ => 1#1) true (k0_idx39_inb v2 ids h) (View.stores_vmem_bits_univ h_S16x528 rfl)
  SparseCore.vectorStoreIdx b.a3 ![v2, ids] (k0_pay264 (F := F)) (fun _ => 1#1) true (k0_idx40_inb v2 ids h) (View.stores_vmem_bits_univ h_S16x528 rfl)

/-- Sixteen nodes. -/
def nodeStep (b : Bufs) (k : Fin 49) (u : Fin 4) : PG F i PUnit :=
  nodeStepAt i b k u lanes (nIdx k u) (nIdxAt k u 1#32) (nIdxAt k u 2#32) (nIdxAt k u 1#32) (nIdxAt k u 2#32)

def nodeTrip (b : Bufs) : Fin k0_t8_loop.trips → BitVec 32 → PG F i (BitVec 32) := fun k _ => do
  nodeStep i b k 0
  nodeStep i b k 1
  nodeStep i b k 2
  nodeStep i b k 3
  pure 0#32

def nodeLoop (b : Bufs) : PG F i (BitVec 32) := Scf.Loop.for k0_t8_loop k0_t8_ok 0#32 (nodeTrip i b)

/-- The copies of the tile's nodes. -/
def copyX (b : Bufs) : PG F i PUnit := do
  Prog.lift (.enqueueDma (b.px.slice (Rect.unit (s := S301056) (k0_off233 i) S9408.size (k0_off233_inb i)) (fun _ => rfl)) (.here b.bx) (.dma b.r0.sem) (View.wordExact_bits rfl) b.hbx.wordExact ⟨Or.inl rfl, trivial⟩)
  Prog.lift (.waitDma2 b.r0.sem (b.px.slice (Rect.unit (s := S301056) (k0_off233 i) S9408.size (k0_off233_inb i)) (fun _ => rfl)) b.bx (View.wordExact_bits rfl) b.hbx.wordExact)
def copyY (b : Bufs) : PG F i PUnit := do
  Prog.lift (.enqueueDma (b.tx.slice (Rect.unit (s := S301056) (k0_off233 i) S9408.size (k0_off233_inb i)) (fun _ => rfl)) (.here b.by') (.dma b.r1.sem) (View.wordExact_bits rfl) b.hby.wordExact ⟨Or.inl rfl, trivial⟩)
  Prog.lift (.waitDma2 b.r1.sem (b.tx.slice (Rect.unit (s := S301056) (k0_off233 i) S9408.size (k0_off233_inb i)) (fun _ => rfl)) b.by' (View.wordExact_bits rfl) b.hby.wordExact)
def copyN (b : Bufs) : PG F i PUnit := do
  Prog.lift (.enqueueDma (b.ng.slice (Rect.unit (s := S100352) (k0_off234 i) S3136.size (k0_off234_inb i)) (fun _ => rfl)) (.here b.bn) (.dma b.r2.sem) (View.wordExact_bits rfl) b.hbn.wordExact ⟨Or.inl rfl, trivial⟩)
  Prog.lift (.waitDma2 b.r2.sem (b.ng.slice (Rect.unit (s := S100352) (k0_off234 i) S3136.size (k0_off234_inb i)) (fun _ => rfl)) b.bn (View.wordExact_bits rfl) b.hbn.wordExact)

def nodeCopies (b : Bufs) : PG F i PUnit := do
  copyX i b
  copyY i b
  copyN i b

/-! ## The edges -/

/-- Sixteen edges. -/
def edgeStep (b : Bufs) (s : Slot) (k : Fin 50) (u : Fin 5) : PG F i PUnit := do
  let p : Vec F S16 .f32 ← Prog.lift (.load s.p (Rect.unit (s := S4000) (eOff k u) S16.size (eOff_inb k u)).toLoadRect (View.loadsAt_vmem h_S16))
  let t : Vec F S16 .f32 ← Prog.lift (.load s.t (Rect.unit (s := S4000) (eOff k u) S16.size (eOff_inb k u)).toLoadRect (View.loadsAt_vmem h_S16))
  let ids : Vec F S16 .i32 ← Prog.lift (.load s.e (Rect.unit (s := S4000) (eOff k u) S16.size (eOff_inb k u)).toLoadRect (View.loadsAt_vmem h_S16))
  have h : k0_chk59 lanes ids := (← Prog.lift (TpuEff.assume (k0_chk59 lanes ids) (k0_chk59.dec lanes ids))).down
  SparseCore.vectorStoreIdx b.a4 ![lanes, ids] (k0_pay308 p t) (fun _ => 1#1) true (k0_idx143_inb lanes ids h) (View.stores_vmem_bits_univ h_S16x528 rfl)
  SparseCore.vectorStoreIdx b.a5 ![lanes, ids] (k0_pay309 t) (fun _ => 1#1) true (k0_idx144_inb lanes ids h) (View.stores_vmem_bits_univ h_S16x528 rfl)
  SparseCore.vectorStoreIdx b.a6 ![lanes, ids] (k0_pay310 p) (fun _ => 1#1) true (k0_idx145_inb lanes ids h) (View.stores_vmem_bits_univ h_S16x528 rfl)

def edgeTrip (b : Bufs) (s : Slot) : Fin k0_t9_loop.trips → BitVec 32 → PG F i (BitVec 32) := fun k _ => do
  edgeStep i b s k 0
  edgeStep i b s k 1
  edgeStep i b s k 2
  edgeStep i b s k 3
  edgeStep i b s k 4
  pure 0#32

def edgeLoop (b : Bufs) (s : Slot) : PG F i (BitVec 32) := Scf.Loop.for k0_t9_loop k0_t9_ok 0#32 (edgeTrip i b s)

/-- Block `n` of one of the edge arrays. -/
abbrev blk {e : EltTy} (m : Memref sig .scVector .hbm S3200000 e) (n : Fin 25) : Memref sig .scVector .hbm S4000 e :=
  m.slice (Rect.unit (s := S3200000) (k0_off239 i (BitVec.ofNat 32 (4000 * n.val))) S4000.size (k0_off239_inb i n)) (fun _ => rfl)

def startP (b : Bufs) (s : Slot) (n : Fin 25) : PG F i PUnit :=
  Prog.lift (.enqueueDma (blk i b.pq n) (.here s.p) (.dma s.sem.sem) (View.wordExact_bits rfl) s.hp.wordExact ⟨Or.inl rfl, trivial⟩)
def startT (b : Bufs) (s : Slot) (n : Fin 25) : PG F i PUnit :=
  Prog.lift (.enqueueDma (blk i b.tq n) (.here s.t) (.dma s.sem.sem) (View.wordExact_bits rfl) s.ht.wordExact ⟨Or.inl rfl, trivial⟩)
def startG (b : Bufs) (s : Slot) (n : Fin 25) : PG F i PUnit :=
  Prog.lift (.enqueueDma (blk i b.eg n) (.here s.e) (.dma s.sem.sem) (View.wordExact_bits rfl) s.he.wordExact ⟨Or.inl rfl, trivial⟩)
def waitP (b : Bufs) (s : Slot) (n : Fin 25) : PG F i PUnit :=
  Prog.lift (.waitDma2 s.sem.sem (blk i b.pq n) s.p (View.wordExact_bits rfl) s.hp.wordExact)
def waitT (b : Bufs) (s : Slot) (n : Fin 25) : PG F i PUnit :=
  Prog.lift (.waitDma2 s.sem.sem (blk i b.tq n) s.t (View.wordExact_bits rfl) s.ht.wordExact)
def waitG (b : Bufs) (s : Slot) (n : Fin 25) : PG F i PUnit :=
  Prog.lift (.waitDma2 s.sem.sem (blk i b.eg n) s.e (View.wordExact_bits rfl) s.he.wordExact)

/-- The three copies of a block of edges. -/
def edgeStart (b : Bufs) (s : Slot) (n : Fin 25) : PG F i PUnit := do
  startP i b s n
  startT i b s n
  startG i b s n

/-- The waits for them. -/
def edgeWait (b : Bufs) (s : Slot) (n : Fin 25) : PG F i PUnit := do
  waitP i b s n
  waitT i b s n
  waitG i b s n

/-- The last `2·n + 1` blocks, the first of them already being copied into the first set. -/
def edgeFrom (b : Bufs) : (n : ℕ) → n ≤ 12 → PG F i PUnit
  | 0, _ => do
    edgeWait i b b.s0 24
    let _ ← edgeLoop i b b.s0
  | n + 1, h => do
    edgeStart i b b.s1 ⟨2 * (11 - n) + 1, by omega⟩
    edgeWait i b b.s0 ⟨2 * (11 - n), by omega⟩
    let _ ← edgeLoop i b b.s0
    edgeStart i b b.s0 ⟨2 * (11 - n) + 2, by omega⟩
    edgeWait i b b.s1 ⟨2 * (11 - n) + 1, by omega⟩
    let _ ← edgeLoop i b b.s1
    edgeFrom b n (by omega)

/-! ## The sums over the lanes -/

def redFrom (A : Acc) (ob : Memref sig .scVector .vmem S7x528 .f32) (q : Fin 7) (k : Fin 33) :
    (n : ℕ) → n ≤ 15 → FVec F S16 .f32 → PG F i (BitVec 32)
  | 0, _, s => do
    let _ ← Prog.lift (.load ob (Rect.unit (s := S7x528) (rOff q k) S1x16.size (qOff_inb q k)).toLoadRect (View.loadsAt_vmem h_S1x16))
    Prog.lift (.store ob (Rect.unit (s := S7x528) (rOff q k) S1x16.size (qOff_inb q k)) (shapeCast S1x16 s shapeCasts_S16_S1x16) Finset.univ (View.stores_vmem_bits_univ h_S1x16 rfl) (.inl rfl))
    pure 0#32
  | n + 1, h, s => do
    let v : Vec F S1x16 .f32 ← Prog.lift (.load A (Rect.unit (s := S16x528) (rOff (⟨15 - n, by omega⟩ : Fin 16) k) S1x16.size (rOff_inb ⟨15 - n, by omega⟩ k)).toLoadRect (View.loadsAt_vmem h_S1x16))
    redFrom A ob q k n (by omega) (addf s (shapeCast S16 v shapeCasts_S1x16_S16))

def redTrip (A : Acc) (ob : Memref sig .scVector .vmem S7x528 .f32) (q : Fin 7) :
    Fin k0_t34_loop.trips → BitVec 32 → PG F i (BitVec 32) := fun k _ => do
  let v : Vec F S1x16 .f32 ← Prog.lift (.load A (Rect.unit (s := S16x528) (rOff (0 : Fin 16) k) S1x16.size (rOff_inb 0 k)).toLoadRect (View.loadsAt_vmem h_S1x16))
  redFrom i A ob q k 15 le_rfl (shapeCast S16 v shapeCasts_S1x16_S16)

def redLoop (A : Acc) (ob : Memref sig .scVector .vmem S7x528 .f32) (q : Fin 7) : PG F i (BitVec 32) :=
  Scf.Loop.for k0_t34_loop k0_t34_ok 0#32 (redTrip i A ob q)

/-! ## The whole tile -/

/-- The tile's part of the result. -/
abbrev outRow (m : Memref sig .scVector .hbm S32x7x528 .f32) : Memref sig .scVector .hbm S7x528 .f32 :=
  (m.slice (Rect.unit (s := S32x7x528) (k0_off484 i) S1x7x528.size (k0_off484_inb i)) (fun _ => rfl)).squeeze S7x528 squeezes_S1x7x528_S7x528

def outCopy (b : Bufs) : PG F i PUnit := do
  Prog.lift (.enqueueDma b.ob (.here (outRow i b.out)) (.dma b.r3.sem) b.hob.wordExact ((View.wordExact_bits rfl).reshape _ _) ⟨Or.inl rfl, trivial⟩)
  Prog.lift (.waitDma2 b.r3.sem b.ob (outRow i b.out) b.hob.wordExact ((View.wordExact_bits rfl).reshape _ _))
  pure ⟨⟩

def tile (b : Bufs) : PG F i PUnit := do
  edgeStart i b b.s0 0
  let _ ← zeroLoop i b.a0
  let _ ← zeroLoop i b.a1
  let _ ← zeroLoop i b.a2
  let _ ← zeroLoop i b.a3
  let _ ← zeroLoop i b.a4
  let _ ← zeroLoop i b.a5
  let _ ← zeroLoop i b.a6
  nodeCopies i b
  let _ ← nodeLoop i b
  edgeFrom i b 12 le_rfl
  let _ ← redLoop i b.a0 b.ob 0
  let _ ← redLoop i b.a1 b.ob 1
  let _ ← redLoop i b.a2 b.ob 2
  let _ ← redLoop i b.a3 b.ob 3
  let _ ← redLoop i b.a4 b.ob 4
  let _ ← redLoop i b.a5 b.ob 5
  let _ ← redLoop i b.a6 b.ob 6
  outCopy i b

end Cert.KernelIdeal.Tile
-- ==== Proof.Tile.Steps.lean ====
/- A buffer held with the values read through it (`Has`), and the steps of a tile over it: loads and
   stores at rectangles, gathers, scatters. -/
module

public import proofs.«01_k».proof.Proof.Base
public import proofs.«01_k».proof.Proof.Tile.Code

@[expose] public section

noncomputable section

namespace Cert.KernelIdeal.Tile

open Cert.KernelIdeal Cert.KernelIdeal.Gen Cert.KernelIdeal.Run

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (i : grid0.Coords)

/-- The buffer of `m` is held at share `q`, and reads `v` through `m`. -/
def Has {sp : Space} {s : Shape} {e : EltTy} (m : Memref sig .scVector sp s e) (q : PosShare TreeShare)
    (v : s.Idx → Elt F e) : sProp 𝕄 :=
  iprop(∃ f, ⌜m.view.read (Elt F) f = v⌝ ∗ m.view.loc (thr d i) ↦[m.view.set]{q} f)

/-- The values after a store at rectangle `r`. -/
def upd {s : Shape} {α : Type} (v : s.Idx → α) (r : Rect s) (w : r.shape.Idx → α) : s.Idx → α :=
  fun x => open Classical in if h : ∃ j, r.emb j = x then w h.choose else v x

theorem upd_emb {s : Shape} {α : Type} (v : s.Idx → α) (r : Rect s) (w : r.shape.Idx → α) (j : r.shape.Idx) :
    upd v r w (r.emb j) = w j := by
  have h : ∃ j', r.emb j' = r.emb j := ⟨j, rfl⟩
  rw [upd, dif_pos h]
  exact congrArg w (r.emb.injective h.choose_spec)

theorem upd_of_not {s : Shape} {α : Type} (v : s.Idx → α) (r : Rect s) (w : r.shape.Idx → α) (x : s.Idx)
    (h : ∀ j, r.emb j ≠ x) : upd v r w x = v x := by
  rw [upd, dif_neg]
  rintro ⟨j, hj⟩; exact h j hj

theorem read_write_rect {sp : Space} {s : Shape} {e : EltTy} (m : Memref sig .scVector sp s e)
    (f : m.view.ty.Contents (Elt F)) (r : Rect s) (w : r.shape.Idx → Elt F e) :
    m.view.read (Elt F) ((m.view.slice r).write (Elt F) f w Finset.univ) = upd (m.view.read (Elt F) f) r w := by
  funext x
  by_cases h : ∃ j, r.emb j = x
  · obtain ⟨j, rfl⟩ := h
    rw [View.read_slice_write_emb _ _ _ (Finset.mem_univ j), upd_emb]
  · rw [upd_of_not _ _ _ _ fun j hj => h ⟨j, hj⟩, View.read_slice_write_of_not_mem]
    intro hx
    obtain ⟨j, _, hj⟩ := Finset.mem_map.mp hx
    exact h ⟨j, hj⟩

section Steps

variable {α : Type} {s : Shape} {e : EltTy} {m : Memref sig .scVector .vmem s e}
  {q : PosShare TreeShare} {v : s.Idx → Elt F e}

theorem has_load {r : Rect s} {hl : m.view.LoadsAt r.toLoadRect} {k : (r.shape.Idx → Elt F e) → PG F i α}
    {Φ : α → sProp 𝕄} :
    Has d i m q v
      ⊢ iprop((Has d i m q v -∗ wp frame (wpE (defs₀ (F := F)) 𝒱₀ (thr d i) none) Set.univ (k fun j => v (r.emb j)) Φ)
        -∗ wp frame (wpE (defs₀ (F := F)) 𝒱₀ (thr d i) none) Set.univ (Prog.lift (.load m r.toLoadRect hl) >>= k) Φ) := by
  unfold Has
  iintro ⟨%f, %hv, H⟩ Hk
  have hr : (fun j => v (r.emb j)) = (m.access r).read (Elt F) f := by
    rw [← hv]; rfl
  rw [hr]
  iapply (wp_load_rect (defs := defs₀ (F := F)) 𝒱₀ (thr d i) none Set.univ (m := m) (r := r) (hl := hl) (k := k)
    (S := m.view.set) (q := q) (f := f) (View.set_slice_subset _ _)) $$ H
  iintro H
  iapply Hk
  iexists f
  isplitl []
  · ipureintro; exact hv
  · iexact H

theorem has_store {r : Rect s} {w : r.shape.Idx → Elt F e} {hx : (m.access r).Stores Finset.univ}
    {hm : (Finset.univ : Finset r.shape.Idx) = Finset.univ ∨ ∀ a, r.stride a = 1} {k : PUnit → PG F i α} {Φ : α → sProp 𝕄} :
    Has d i m fullShare v
      ⊢ iprop((Has d i m fullShare (upd v r w) -∗ wp frame (wpE (defs₀ (F := F)) 𝒱₀ (thr d i) none) Set.univ (k ⟨⟩) Φ)
        -∗ wp frame (wpE (defs₀ (F := F)) 𝒱₀ (thr d i) none) Set.univ (Prog.lift (.store m r w Finset.univ hx hm) >>= k) Φ) := by
  unfold Has
  iintro ⟨%f, %hv, H⟩ Hk
  iapply (wp_store (defs := defs₀ (F := F)) 𝒱₀ (thr d i) none Set.univ (m := m) (r := r) (w := w) (Mk := Finset.univ)
    (hx := hx) (hm := hm) (k := k) (S := m.view.set) (f := f) (View.set_slice_subset _ _)) $$ H
  iintro H
  iapply Hk
  iexists ((m.access r).write (Elt F) f w Finset.univ)
  isplitl []
  · ipureintro; rw [← hv]; exact read_write_rect m f r w
  · iexact H

theorem step_assume {P : Prop} {dec : Decidable P} {k : PLift P → PG F i α} {Φ : α → sProp 𝕄} (h : P) :
    wp frame (wpE (defs₀ (F := F)) 𝒱₀ (thr d i) none) Set.univ (k ⟨h⟩) Φ
      ⊢ wp frame (wpE (defs₀ (F := F)) 𝒱₀ (thr d i) none) Set.univ (Prog.lift (.assume P dec) >>= k) Φ :=
  wp_assume (defs := defs₀ (F := F)) 𝒱₀ (thr d i) none Set.univ h

theorem read_whole_rect (f : m.view.ty.Contents (Elt F)) :
    (m.access (.whole s)).read (Elt F) f = m.view.read (Elt F) f := by
  funext x
  exact congrArg (m.view.read (Elt F) f) (Rect.emb_whole_apply s x)

theorem has_gather {t : Shape} {idxs : Fin s.rank → IVec t 32} {h : ∀ a x, (idxs a x).toNat < s.size a} {hl : m.view.Loads}
    {k : Vec F t e → PG F i α} {Φ : α → sProp 𝕄} :
    Has d i m q v
      ⊢ iprop((Has d i m q v -∗ wp frame (wpE (defs₀ (F := F)) 𝒱₀ (thr d i) none) Set.univ (k (loadIdx v idxs h)) Φ)
        -∗ wp frame (wpE (defs₀ (F := F)) 𝒱₀ (thr d i) none) Set.univ (SparseCore.vectorLoadIdx m idxs h hl >>= k) Φ) := by
  unfold Has
  iintro ⟨%f, %hv, H⟩ Hk
  rw [← hv, ← read_whole_rect f]
  iapply (SparseCore.wp_vectorLoadIdx (defs := defs₀ (F := F)) 𝒱₀ (thr d i) none Set.univ (base := m) (idxs := idxs) (h := h)
    (hl := hl) (k := k) (S := m.view.set) (q := q) (f := f) (View.set_slice_subset _ _)) $$ H
  iintro H
  iapply Hk
  iexists f
  isplitl []
  · ipureintro; exact (read_whole_rect f).symm
  · iexact H

theorem has_scatter {dd : Fin 1 → ℕ} {idxs : Fin s.rank → IVec ⟨1, dd⟩ 32} {w : Vec F ⟨1, dd⟩ e} {mask : IVec ⟨1, dd⟩ 1} {add : Bool}
    {h : ∀ a x, (idxs a x).toNat < s.size a} {hs : (m.access (.whole s)).Stores Finset.univ}
    {k : PUnit → PG F i α} {Φ : α → sProp 𝕄} :
    Has d i m fullShare v
      ⊢ iprop((Has d i m fullShare (storeIdx v idxs w mask add h)
          -∗ wp frame (wpE (defs₀ (F := F)) 𝒱₀ (thr d i) none) Set.univ (k ⟨⟩) Φ)
        -∗ wp frame (wpE (defs₀ (F := F)) 𝒱₀ (thr d i) none) Set.univ (SparseCore.vectorStoreIdx m idxs w mask add h hs >>= k) Φ) := by
  unfold Has
  iintro ⟨%f, %hv, H⟩ Hk
  have hset : (m.access (.whole s)).set = m.view.set := by
    rw [View.set_slice, Rect.set_whole]; rfl
  rw [← hset]
  iapply (SparseCore.wp_vectorStoreIdx (defs := defs₀ (F := F)) 𝒱₀ (thr d i) none Set.univ (base := m) (idxs := idxs) (v := w)
    (mask := mask) (add := add) (h := h) (hs := hs) (k := k) (f := f)) $$ H
  iintro H
  iapply Hk
  iexists ((m.access (.whole s)).write (Elt F) f (storeIdx ((m.access (.whole s)).read (Elt F) f) idxs w mask add h) Finset.univ)
  isplitl []
  · ipureintro
    refine (read_write_rect m f (.whole s) _).trans ?_
    rw [read_whole_rect, hv]
    funext x
    rw [show x = (Rect.whole s).emb x from (Rect.emb_whole_apply s x).symm]
    exact (upd_emb _ _ _ _).trans (congrArg _ (Rect.emb_whole_apply s x).symm)
  · iexact H

end Steps

end Cert.KernelIdeal.Tile
-- ==== Proof.Tile.Dma.lean ====
/- The copies of a tile over `Has`: a copy waited for at once, and the three copies of a block of
   edges, which travel together on one semaphore. -/
module

public import proofs.«01_k».proof.Proof.Tile.Steps

@[expose] public section

noncomputable section

namespace Cert.KernelIdeal.Tile

open Cert.KernelIdeal Cert.KernelIdeal.Gen Cert.KernelIdeal.Run

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

/-- The counters of the transfers. -/
abbrev EC : UEmb Counters (MT nD τ sig (HIx 1) (Elt F) ℕ UU ℕ) := countersEmb

variable (d : Dev nD) (i : grid0.Coords)

/-! ## A piece of a buffer -/

theorem read_inj {sp : Space} {s : Shape} {e : EltTy} (m : Memref sig .scVector sp s e) (f g : m.view.ty.Contents (Elt F))
    (h : m.view.read (Elt F) f = m.view.read (Elt F) g) : ∀ y ∈ m.view.set, f y = g y := by
  intro y hy
  obtain ⟨x, _, rfl⟩ := Finset.mem_map.mp hy
  exact cast_inj _ |>.mp (congrFun h x)

/-- Of a buffer held, the piece at a rectangle, and the way back. -/
theorem has_slice {sp : Space} {s : Shape} {e : EltTy} (m : Memref sig .scVector sp s e) (r : Rect s)
    (h : ∀ a, r.stride a = 1) (q : PosShare TreeShare) (v : s.Idx → Elt F e) :
    Has d i m q v ⊢ iprop(Has d i (m.slice r h) q (fun x => v (r.emb x))
      ∗ (Has d i (m.slice r h) q (fun x => v (r.emb x)) -∗ Has d i m q v)) := by
  unfold Has
  have hs : (m.slice r h).view.set ⊆ m.view.set := View.set_slice_subset _ _
  iintro ⟨%f, %hv, H⟩
  ihave H := (pointsTo_split_subset hs).1 $$ H
  icases H with ⟨H, Hr⟩
  isplitl [H]
  · iexists f
    isplitl []
    · ipureintro; rw [← hv]; rfl
    · iexact H
  iintro ⟨%g, %hg, H⟩
  iexists f
  isplitl []
  · ipureintro; exact hv
  have hgf : ∀ y ∈ (m.slice r h).view.set, g y = f y :=
    read_inj (m.slice r h) g f (hg.trans (by rw [← hv]; rfl))
  ihave H := (Entails.of_eq (pointsTo_congr (ℓ := (m.slice r h).view.loc (thr d i)) (q := q) (f := g) (g := f) hgf)) $$ H
  iapply (pointsTo_split_subset hs).2
  isplitl [H]
  · iexact H
  · iexact Hr

/-! ## What the tile owes -/

/-- The tile's debts, with the levels that let it wait. -/
def Ow (O : CellTallies nD τ sig (HIx 1)) (W : Waits sig (HIx 1)) : sProp 𝕄 :=
  iprop(levAts (K (F := F)).L (K (F := F)).lev ∗ ∃ W', ⌜∀ p ∈ W', p ∈ W ∨ p.2 = none⌝ ∗ owes (thr d i) O W')

theorem waits_insert {W W' : Waits sig (HIx 1)} {sm : SemLoc sig} (hW : ∀ p ∈ W', p ∈ W ∨ p.2 = none) :
    ∀ p ∈ insert (sm, none) W', p ∈ W ∨ p.2 = none := by
  intro p hp
  rcases Finset.mem_insert.mp hp with h | h
  · exact .inr (by rw [h])
  · exact hW p h

section Copies

/-- A copy waited for at once. -/
theorem sync_copy {α : Type} {Φ : α → sProp 𝕄} {O : CellTallies nD τ sig (HIx 1)} {W : Waits sig (HIx 1)}
    (hO : ∀ g, O g none = 0) {sp sp' : Space} {s : Shape} {e : EltTy} (hn : 0 < s.numel)
    {src : Memref sig .scVector sp s e} {dst : Memref sig .scVector sp' s e} {sem : DmaSem sig}
    {h1 h1' : src.view.WordExact} {h2 h2' : dst.view.WordExact} {h3 : DmaTarget.Typed (nD := nD) sp (.dma sem) (.here (p := (thr d i).2) dst)}
    {q : PosShare TreeShare} {v : s.Idx → Elt F e} {k : PUnit → PG F i α} :
    iprop(Has d i src q v ∗ (∃ a, Has d i dst fullShare a) ∗ semVal (thr d i, .dma sem) 0 ∗ Ow d i O W)
      ⊢ iprop((iprop(Has d i src q v ∗ Has d i dst fullShare v ∗ semVal (thr d i, .dma sem) 0 ∗ Ow d i O W)
          -∗ wp frame (wpE (defs₀ (F := F)) 𝒱₀ (thr d i) none) Set.univ (k ⟨⟩) Φ)
        -∗ wp frame (wpE (defs₀ (F := F)) 𝒱₀ (thr d i) none) Set.univ
          (Prog.lift (.enqueueDma src (.here dst) (.dma sem) h1 h2 h3) >>= fun _ => Prog.lift (.waitDma2 sem src dst h1' h2') >>= k) Φ) := by
  unfold Has Ow
  iintro ⟨⟨%fs, %hv, Hs⟩, ⟨%a, %fd, %ha, Hd⟩, Hv, #Hl, %W', %hW, HO⟩ Hk
  iapply (wp_dmaLocal (defs := defs₀ (F := F)) (EC (F := F)) 𝒱₀ (thr d i) none none (dst.view.dmaCredit) rfl (View.dmaCredit_pos _ hn)
    (Finset.Subset.refl _)) $$ [Hs Hd Hv]
  · isplitl [Hs]; · iexact Hs
    isplitl [Hd]; · iexact Hd
    iexact Hv
  iintro HF
  iapply (wp_waitLocalO (defs := defs₀ (F := F)) (EC (F := F)) 𝒱₀ (thr d i) none none rfl (O := O) (W := W')) $$ [HF HO]
  · isplitl [HF]; · iexact HF
    isplitl [HO]; · iexact HO
    iapply ((K (F := F)).mayWait_none _ hO) $$ Hl
  iintro ⟨⟨Hd, Hs⟩, Hv, HO⟩
  iapply Hk
  isplitl [Hs]
  · iexists fs; isplitl []; · ipureintro; exact hv
    iexact Hs
  isplitl [Hd]
  · iexists (dst.view.write (Elt F) fd (src.view.read (Elt F) fs) Finset.univ)
    isplitl []
    · ipureintro
      exact (View.read_write_univ _ _).trans hv
    iexact Hd
  isplitl [Hv]; · iexact Hv
  isplitl []; · iexact Hl
  iexists (insert (SemLoc.dma sem, none) W')
  isplitl []
  · ipureintro
    exact waits_insert hW
  iexact HO

/-- One copy of a batch. -/
theorem batch_copy {α : Type} {Φ : α → sProp 𝕄} {n j N : ℕ} {D : Fin n → sProp 𝕄} {s : Shape} {e : EltTy}
    {src : Memref sig .scVector .hbm s e} {dst : Memref sig .scVector .vmem s e} {sem : DmaSem sig}
    (hN : dst.view.dmaCredit = N) (hj : j < n)
    {h1 : src.view.WordExact} {h2 : dst.view.WordExact} {h3 : DmaTarget.Typed (nD := nD) .hbm (.dma sem) (.here (p := (thr d i).2) dst)}
    {q : PosShare TreeShare} {v : s.Idx → Elt F e} {k : PUnit → PG F i α}
    (hD : iprop(Has d i dst fullShare v ∗ Has d i src q v) ⊢ D ⟨j, hj⟩) :
    iprop(Has d i src q v ∗ (∃ a, Has d i dst fullShare a) ∗ Batch (EC (F := F)) (thr d i) (.dma sem) none N D j 0)
      ⊢ iprop((Batch (EC (F := F)) (thr d i) (.dma sem) none N D (j + 1) 0
          -∗ wp frame (wpE (defs₀ (F := F)) 𝒱₀ (thr d i) none) Set.univ (k ⟨⟩) Φ)
        -∗ wp frame (wpE (defs₀ (F := F)) 𝒱₀ (thr d i) none) Set.univ
          (Prog.lift (.enqueueDma src (.here dst) (.dma sem) h1 h2 h3) >>= k) Φ) := by
  have hD' : ∀ (fs : Buf (Elt F) (src.view.loc (thr d i))) (fd : Buf (Elt F) (dst.view.loc (thr d i))), src.view.read (Elt F) fs = v →
      (iprop((dst.view.loc (thr d i) ↦[dst.view.set]{fullShare} (dst.view.write (Elt F) fd (src.view.read (Elt F) fs) Finset.univ))
        ∗ (src.view.loc (thr d i) ↦[src.view.set]{q} fs)) : sProp 𝕄) ⊢ D ⟨j, hj⟩ := by
    intro fs fd hv
    refine BIBase.Entails.trans ?_ hD
    unfold Has
    iintro ⟨Hd, Hs⟩
    isplitl [Hd]
    · iexists (dst.view.write (Elt F) fd (src.view.read (Elt F) fs) Finset.univ)
      isplitl []
      · ipureintro
        exact (View.read_write_univ _ _).trans hv
      iexact Hd
    · iexists fs
      isplitl []; · ipureintro; exact hv
      iexact Hs
  clear hD
  unfold Has
  iintro ⟨⟨%fs, %hv, Hs⟩, ⟨%a, %fd, %ha, Hd⟩, HB⟩ Hk
  iapply (wp_dmaBatch (defs := defs₀ (F := F)) (EC (F := F)) 𝒱₀ (thr d i) none (src := src) (via := .same) (dst := dst) (sm := .dma sem)
    (k := k) none N hN
    (Finset.Subset.refl _) hj (Nat.zero_le _) (q := q) (fs := fs) (fd := fd) (hD' fs fd hv)) $$ [Hs Hd HB]
  · isplitl [Hs]; · iexact Hs
    isplitl [Hd]; · iexact Hd
    iexact HB
  iexact Hk

/-- A wait of a batch that leaves more to wait for. -/
theorem batch_wait {α : Type} {Φ : α → sProp 𝕄} {O : CellTallies nD τ sig (HIx 1)} {W : Waits sig (HIx 1)}
    (hO : ∀ g, O g none = 0) {n u N : ℕ} {D : Fin n → sProp 𝕄} {sp : Space} {s : Shape} {e : EltTy}
    {src : Memref sig .scVector .hbm s e} {dst : Memref sig .scVector sp s e} {sem : DmaSem sig}
    (hN : dst.view.dmaCredit = N) (hu : u + N < N * n)
    {h1 : src.view.WordExact} {h2 : dst.view.WordExact} {k : PUnit → PG F i α} :
    iprop(Batch (EC (F := F)) (thr d i) (.dma sem) none N D n u ∗ Ow d i O W)
      ⊢ iprop((iprop(Batch (EC (F := F)) (thr d i) (.dma sem) none N D n (u + N) ∗ Ow d i O W)
          -∗ wp frame (wpE (defs₀ (F := F)) 𝒱₀ (thr d i) none) Set.univ (k ⟨⟩) Φ)
        -∗ wp frame (wpE (defs₀ (F := F)) 𝒱₀ (thr d i) none) Set.univ (Prog.lift (.waitDma2 sem src dst h1 h2) >>= k) Φ) := by
  unfold Ow
  iintro ⟨HB, #Hl, %W', %hW, HO⟩ Hk
  iapply (wp_waitBatchO (defs := defs₀ (F := F)) (EC (F := F)) 𝒱₀ (thr d i) none none hN hu (O := O) (W := W')) $$ [HB HO]
  · isplitl [HB]; · iexact HB
    isplitl [HO]; · iexact HO
    iapply ((K (F := F)).mayWait_none _ hO) $$ Hl
  iintro ⟨HB, HO⟩
  iapply Hk
  isplitl [HB]; · iexact HB
  isplitl []; · iexact Hl
  iexists (insert (SemLoc.dma sem, none) W')
  isplitl []
  · ipureintro
    exact waits_insert hW
  iexact HO

/-- The last wait of a batch. -/
theorem batch_last {α : Type} {Φ : α → sProp 𝕄} {O : CellTallies nD τ sig (HIx 1)} {W : Waits sig (HIx 1)}
    (hO : ∀ g, O g none = 0) {n u N : ℕ} {D : Fin n → sProp 𝕄} {sp : Space} {s : Shape} {e : EltTy}
    {src : Memref sig .scVector .hbm s e} {dst : Memref sig .scVector sp s e} {sem : DmaSem sig}
    (hN : dst.view.dmaCredit = N) (hN0 : 0 < N) (hu : u + N = N * n)
    {h1 : src.view.WordExact} {h2 : dst.view.WordExact} {k : PUnit → PG F i α} :
    iprop(Batch (EC (F := F)) (thr d i) (.dma sem) none N D n u ∗ Ow d i O W)
      ⊢ iprop((iprop(bigSep Finset.univ D ∗ semVal (thr d i, .dma sem) 0 ∗ Ow d i O W)
          -∗ wp frame (wpE (defs₀ (F := F)) 𝒱₀ (thr d i) none) Set.univ (k ⟨⟩) Φ)
        -∗ wp frame (wpE (defs₀ (F := F)) 𝒱₀ (thr d i) none) Set.univ (Prog.lift (.waitDma2 sem src dst h1 h2) >>= k) Φ) := by
  unfold Ow
  iintro ⟨HB, #Hl, %W', %hW, HO⟩ Hk
  iapply (wp_waitBatchLastO (defs := defs₀ (F := F)) (EC (F := F)) 𝒱₀ (thr d i) none none hN hN0 hu (O := O) (W := W')) $$ [HB HO]
  · isplitl [HB]; · iexact HB
    isplitl [HO]; · iexact HO
    iapply ((K (F := F)).mayWait_none _ hO) $$ Hl
  iintro ⟨HD, Hv, HO⟩
  iapply Hk
  isplitl [HD]; · iexact HD
  isplitl [Hv]; · iexact Hv
  isplitl []; · iexact Hl
  iexists (insert (SemLoc.dma sem, none) W')
  isplitl []
  · ipureintro
    exact waits_insert hW
  iexact HO

end Copies

/-! ## A block of edges -/

/-- The places of block `n` of an edge array. -/
abbrev eRect (n : Fin 25) : Rect S3200000 :=
  Rect.unit (s := S3200000) (k0_off239 i (BitVec.ofNat 32 (4000 * n.val))) S4000.size (k0_off239_inb i n)

/-- The three edge arrays, read. -/
structure EdgeVals (F : FTy → Type) where
  p : S3200000.Idx → F .f32
  t : S3200000.Idx → F .f32
  g : S3200000.Idx → BitVec 32

/-- What the three copies of block `n` deliver. -/
def Deliv (b : Bufs) (s : Slot) (q : PosShare TreeShare) (E : EdgeVals F) (n : Fin 25) : Fin 3 → sProp 𝕄
  | 0 => iprop(Has d i s.p fullShare (fun x => E.p ((eRect i n).emb x)) ∗ Has d i (b.pq.slice (eRect i n) (fun _ => rfl)) q (fun x => E.p ((eRect i n).emb x)))
  | 1 => iprop(Has d i s.t fullShare (fun x => E.t ((eRect i n).emb x)) ∗ Has d i (b.tq.slice (eRect i n) (fun _ => rfl)) q (fun x => E.t ((eRect i n).emb x)))
  | 2 => iprop(Has d i s.e fullShare (fun x => E.g ((eRect i n).emb x)) ∗ Has d i (b.eg.slice (eRect i n) (fun _ => rfl)) q (fun x => E.g ((eRect i n).emb x)))

instance has_storable {sp : Space} {s : Shape} {e : EltTy} (m : Memref sig .scVector sp s e) (q : PosShare TreeShare)
    (v : s.Idx → Elt F e) : Storable (upEmb : UEmb _ 𝕄) (Has d i m q v) := by unfold Has; infer_instance

instance deliv_storable (b : Bufs) (s : Slot) (q : PosShare TreeShare) (E : EdgeVals F) (n : Fin 25) (t : Fin 3) :
    Storable (upEmb : UEmb _ 𝕄) (Deliv d i b s q E n t) := by
  match t with
  | 0 => unfold Deliv; infer_instance
  | 1 => unfold Deliv; infer_instance
  | 2 => unfold Deliv; infer_instance

theorem deliv_all (b : Bufs) (s : Slot) (q : PosShare TreeShare) (E : EdgeVals F) (n : Fin 25) :
    bigSep Finset.univ (Deliv d i b s q E n) ⊢ iprop(
      (Has d i s.p fullShare (fun x => E.p ((eRect i n).emb x)) ∗ Has d i (b.pq.slice (eRect i n) (fun _ => rfl)) q (fun x => E.p ((eRect i n).emb x)))
      ∗ (Has d i s.t fullShare (fun x => E.t ((eRect i n).emb x)) ∗ Has d i (b.tq.slice (eRect i n) (fun _ => rfl)) q (fun x => E.t ((eRect i n).emb x)))
      ∗ (Has d i s.e fullShare (fun x => E.g ((eRect i n).emb x)) ∗ Has d i (b.eg.slice (eRect i n) (fun _ => rfl)) q (fun x => E.g ((eRect i n).emb x)))) := by
  rw [show (Finset.univ : Finset (Fin 3)) = {0, 1, 2} from rfl, bigSep_insert (by decide), bigSep_insert (by decide), bigSep_singleton]
  exact Entails.of_eq rfl

/-- The edge arrays at the share of one set of buffers. -/
def Arrs (b : Bufs) (q : PosShare TreeShare) (E : EdgeVals F) : sProp 𝕄 :=
  iprop(Has d i b.pq q E.p ∗ Has d i b.tq q E.t ∗ Has d i b.eg q E.g)

/-- A set of edge buffers at rest. -/
def Idle (b : Bufs) (s : Slot) (q : PosShare TreeShare) (E : EdgeVals F) : sProp 𝕄 :=
  iprop(Arrs d i b q E ∗ (∃ a, Has d i s.p fullShare a) ∗ (∃ a, Has d i s.t fullShare a) ∗ (∃ a, Has d i s.e fullShare a)
    ∗ semVal (thr d i, .dma s.sem.sem) 0)

/-- Block `n` of the edges in the buffers. -/
def Held (s : Slot) (E : EdgeVals F) (n : Fin 25) : sProp 𝕄 :=
  iprop(Has d i s.p fullShare (fun x => E.p ((eRect i n).emb x)) ∗ Has d i s.t fullShare (fun x => E.t ((eRect i n).emb x))
    ∗ Has d i s.e fullShare (fun x => E.g ((eRect i n).emb x)))

/-- A set of edge buffers with block `n` on its way. -/
def Flying (b : Bufs) (s : Slot) (q : PosShare TreeShare) (E : EdgeVals F) (n : Fin 25) : sProp 𝕄 :=
  iprop((bigSep Finset.univ (Deliv d i b s q E n) -∗ iprop(Arrs d i b q E ∗ Held d i s E n))
    ∗ Batch (EC (F := F)) (thr d i) (.dma s.sem.sem) none (s.p.view.dmaCredit) (Deliv d i b s q E n) 3 0)

/-- The three copies signal alike. -/
structure Slot.Even (s : Slot) : Prop where
  t : s.t.view.dmaCredit = s.p.view.dmaCredit
  e : s.e.view.dmaCredit = s.p.view.dmaCredit

theorem edge_start {α : Type} {Φ : α → sProp 𝕄} (b : Bufs) (s : Slot) (hs : s.Even) (q : PosShare TreeShare) (E : EdgeVals F)
    (n : Fin 25) {k : PUnit → PG F i α} :
    Idle d i b s q E
      ⊢ iprop((Flying d i b s q E n -∗ wp frame (wpE (defs₀ (F := F)) 𝒱₀ (thr d i) none) Set.univ (k ⟨⟩) Φ)
        -∗ wp frame (wpE (defs₀ (F := F)) 𝒱₀ (thr d i) none) Set.univ (edgeStart i b s n >>= k) Φ) := by
  unfold Idle Flying Arrs edgeStart startP startT startG
  simp only [bind_assoc]
  iintro ⟨⟨Hp, Ht, He⟩, Hsp, Hst, Hse, Hv⟩ Hk
  imod (batch_alloc' (EC (F := F)) (thr d i) (sm := .dma s.sem.sem) none (s.p.view.dmaCredit) (Deliv d i b s q E n)) $$ Hv with HB
  ihave Hp := (has_slice d i b.pq (eRect i n) (fun _ => rfl) q E.p) $$ Hp
  icases Hp with ⟨Hp, Bp⟩
  ihave Ht := (has_slice d i b.tq (eRect i n) (fun _ => rfl) q E.t) $$ Ht
  icases Ht with ⟨Ht, Bt⟩
  ihave He := (has_slice d i b.eg (eRect i n) (fun _ => rfl) q E.g) $$ He
  icases He with ⟨He, Be⟩
  iapply (batch_copy d i (D := Deliv d i b s q E n) (j := 0) rfl (by omega) (q := q) (v := fun x => E.p ((eRect i n).emb x)) (Entails.of_eq rfl)) $$ [Hp Hsp HB]
  · isplitl [Hp]; · iexact Hp
    isplitl [Hsp]; · iexact Hsp
    iexact HB
  iintro HB
  iapply (batch_copy d i (D := Deliv d i b s q E n) (j := 1) hs.t (by omega) (q := q) (v := fun x => E.t ((eRect i n).emb x)) (Entails.of_eq rfl)) $$ [Ht Hst HB]
  · isplitl [Ht]; · iexact Ht
    isplitl [Hst]; · iexact Hst
    iexact HB
  iintro HB
  iapply (batch_copy d i (D := Deliv d i b s q E n) (j := 2) hs.e (by omega) (q := q) (v := fun x => E.g ((eRect i n).emb x)) (Entails.of_eq rfl)) $$ [He Hse HB]
  · isplitl [He]; · iexact He
    isplitl [Hse]; · iexact Hse
    iexact HB
  iintro HB
  iapply Hk
  isplitr [HB]
  · iintro HD
    ihave HD := (deliv_all d i b s q E n) $$ HD
    unfold Held
    icases HD with ⟨⟨Hsp, Hp⟩, ⟨Hst, Ht⟩, Hse, He⟩
    ihave Hp := Bp $$ Hp
    ihave Ht := Bt $$ Ht
    ihave He := Be $$ He
    isplitl [Hp Ht He]
    · isplitl [Hp]; · iexact Hp
      isplitl [Ht]; · iexact Ht
      iexact He
    isplitl [Hsp]; · iexact Hsp
    isplitl [Hst]; · iexact Hst
    iexact Hse
  iexact HB

theorem edge_wait {α : Type} {Φ : α → sProp 𝕄} {O : CellTallies nD τ sig (HIx 1)} {W : Waits sig (HIx 1)}
    (hO : ∀ g, O g none = 0) (b : Bufs) (s : Slot) (hs : s.Even) (q : PosShare TreeShare) (E : EdgeVals F)
    (n : Fin 25) {k : PUnit → PG F i α} :
    iprop(Flying d i b s q E n ∗ Ow d i O W)
      ⊢ iprop((iprop(Arrs d i b q E ∗ Held d i s E n ∗ semVal (thr d i, .dma s.sem.sem) 0 ∗ Ow d i O W)
          -∗ wp frame (wpE (defs₀ (F := F)) 𝒱₀ (thr d i) none) Set.univ (k ⟨⟩) Φ)
        -∗ wp frame (wpE (defs₀ (F := F)) 𝒱₀ (thr d i) none) Set.univ (edgeWait i b s n >>= k) Φ) := by
  have hpos : 0 < s.p.view.dmaCredit := View.dmaCredit_pos _ (by decide)
  unfold Flying edgeWait waitP waitT waitG
  simp only [bind_assoc]
  iintro ⟨⟨HD, HB⟩, HO⟩ Hk
  iapply (batch_wait d i hO (n := 3) (u := 0) (N := s.p.view.dmaCredit) (D := Deliv d i b s q E n) rfl (by omega)) $$ [HB HO]
  · isplitl [HB]; · iexact HB
    iexact HO
  iintro ⟨HB, HO⟩
  iapply (batch_wait d i hO (n := 3) (u := 0 + s.p.view.dmaCredit) (N := s.p.view.dmaCredit) (D := Deliv d i b s q E n) hs.t (by omega)) $$ [HB HO]
  · isplitl [HB]; · iexact HB
    iexact HO
  iintro ⟨HB, HO⟩
  iapply (batch_last d i hO (n := 3) (u := 0 + s.p.view.dmaCredit + s.p.view.dmaCredit) (N := s.p.view.dmaCredit) (D := Deliv d i b s q E n) hs.e hpos (by omega)) $$ [HB HO]
  · isplitl [HB]; · iexact HB
    iexact HO
  iintro ⟨HDs, Hv, HO⟩
  ihave HD := HD $$ HDs
  icases HD with ⟨HA, HH⟩
  iapply Hk
  isplitl [HA]; · iexact HA
  isplitl [HH]; · iexact HH
  isplitl [Hv]; · iexact Hv
  iexact HO

end Cert.KernelIdeal.Tile
-- ==== Proof.Tile.Values.lean ====
/- What the accumulators hold: each step adds one value per lane, at the bin the lane's number names. -/
module

public import proofs.«01_k».proof.Proof.Tile.Code

@[expose] public section

noncomputable section

namespace Cert.KernelIdeal.Tile

open Cert.KernelIdeal Cert.KernelIdeal.Gen
open Idealize.ShloMosaic Idealize.SL.Sem

variable {F : FTy → Type} [FloatOps F]

/-- The row of an accumulator's place. -/
abbrev row (x : S16x528.Idx) : Fin 16 := x 0
/-- The lane of an accumulator's place. -/
abbrev lane (x : S16x528.Idx) : S16.Idx := Shape.ofLane (d := ![16]) (row x)

/-- One step: lane `l` adds `w l` at bin `ids l`. -/
def scat (ids : IVec S16 32) (w : FVec F S16 .f32) (A : S16x528.Idx → F .f32) : S16x528.Idx → F .f32 :=
  fun x => if (ids (lane x)).toNat = (x 1).val then FloatOps.idxAddf (A x) (w (lane x)) else A x

/-- The zero an accumulator starts from. -/
def zeroF : F .f32 := Scalar.ofBits .f32 0x00000000#32

/-- The accumulator after `j` steps from zero. -/
def steps (ids : ℕ → IVec S16 32) (w : ℕ → FVec F S16 .f32) : ℕ → S16x528.Idx → F .f32
  | 0 => fun _ => zeroF
  | j + 1 => scat (ids j) (w j) (steps ids w j)

theorem lanes_toNat (x : S16.Idx) : (lanes x).toNat = (x 0).val := by
  have h : (x 0).val < 16 := (x 0).isLt
  show (BitVec.ofNat 32 (0 * 16 + (x 0).val)).toNat = _
  rw [BitVec.toNat_ofNat, Nat.mod_eq_of_lt (by omega), Nat.zero_mul, Nat.zero_add]

/-- One lane of a scatter. -/
def oneLane (ids : IVec S16 32) (w : Vec F S16 .f32)
    (h : ∀ a x, ((![lanes, ids] : Fin 2 → IVec S16 32) a x).toNat < S16x528.size a)
    (g : Vec F S16x528 .f32) (k : Fin 16) : Vec F S16x528 .f32 :=
  fun j => if (∀ a, (j a).val = (idxAt (s := S16x528) ![lanes, ids] h (Shape.ofLane (d := ![16]) k) a).val) then
    FloatOps.idxAddf (g (idxAt (s := S16x528) ![lanes, ids] h (Shape.ofLane (d := ![16]) k))) (w (Shape.ofLane (d := ![16]) k)) else g j

theorem oneLane_apply (ids : IVec S16 32) (w : Vec F S16 .f32)
    (h : ∀ a x, ((![lanes, ids] : Fin 2 → IVec S16 32) a x).toNat < S16x528.size a)
    (g : Vec F S16x528 .f32) (k : Fin 16) (x : S16x528.Idx) :
    oneLane ids w h g k x
      = if row x = k ∧ (ids (lane x)).toNat = (x 1).val then FloatOps.idxAddf (g x) (w (lane x)) else g x := by
  have hiff : (∀ a, (x a).val = (idxAt (s := S16x528) ![lanes, ids] h (Shape.ofLane (d := ![16]) k) a).val)
      ↔ (row x = k ∧ (ids (lane x)).toNat = (x 1).val) := by
    constructor
    · intro ha
      have h0 : (x 0).val = (lanes (Shape.ofLane (d := ![16]) k)).toNat := ha 0
      have h1 : (x 1).val = (ids (Shape.ofLane (d := ![16]) k)).toNat := ha 1
      rw [lanes_toNat] at h0
      have h0' : row x = k := Fin.ext h0
      exact ⟨h0', by rw [h1, show lane x = Shape.ofLane (d := ![16]) k from congrArg (Shape.ofLane (d := ![16])) h0']⟩
    · rintro ⟨h0, h1⟩ a
      fin_cases a
      · show (x 0).val = (lanes (Shape.ofLane (d := ![16]) k)).toNat
        rw [lanes_toNat, ← h0]; rfl
      · show (x 1).val = (ids (Shape.ofLane (d := ![16]) k)).toNat
        rw [← h1, show lane x = Shape.ofLane (d := ![16]) k from congrArg (Shape.ofLane (d := ![16])) h0]
  unfold oneLane
  by_cases hx : row x = k ∧ (ids (lane x)).toNat = (x 1).val
  · have he : idxAt (s := S16x528) ![lanes, ids] h (Shape.ofLane (d := ![16]) k) = x := by
      funext a
      exact Fin.ext ((hiff.mpr hx) a).symm
    have hs : (Shape.ofLane (d := ![16]) k : S16.Idx) = lane x := congrArg (Shape.ofLane (d := ![16])) hx.1.symm
    rw [if_pos (hiff.mpr hx), if_pos hx, he, hs]
  · rw [if_neg (fun hh => hx (hiff.mp hh)), if_neg hx]

/-- A scatter whose lanes write in rows of their own is one step. -/
theorem storeIdx_eq (v : Vec F S16x528 .f32) (ids : IVec S16 32) (w : Vec F S16 .f32)
    (h : ∀ a x, ((![lanes, ids] : Fin 2 → IVec S16 32) a x).toNat < S16x528.size a) :
    storeIdx v ![lanes, ids] w (fun _ => 1#1) true h = scat ids w v := by
  have key : ∀ (l : List (Fin 16)), l.Nodup → ∀ (g : Vec F S16x528 .f32) (x : S16x528.Idx),
      l.foldl (oneLane ids w h) g x
      = if (row x ∈ l ∧ (ids (lane x)).toNat = (x 1).val) then FloatOps.idxAddf (g x) (w (lane x)) else g x := by
    intro l
    induction l with
    | nil => intro _ g x; rw [if_neg (fun hh => List.not_mem_nil hh.1)]; rfl
    | cons k l ih =>
      intro hn g x
      obtain ⟨hk, hl⟩ := List.nodup_cons.mp hn
      rw [List.foldl_cons, ih hl, oneLane_apply]
      by_cases hi : (ids (lane x)).toNat = (x 1).val
      · by_cases hx : row x = k
        · have hxl : row x ∉ l := by rw [hx]; exact hk
          rw [if_neg (fun hh => hxl hh.1), if_pos ⟨hx, hi⟩, if_pos ⟨by rw [hx]; exact List.mem_cons_self, hi⟩]
        · rw [if_neg (show ¬(row x = k ∧ _) from fun hh => hx hh.1)]
          have : row x ∈ k :: l ↔ row x ∈ l := by
            rw [List.mem_cons]; exact ⟨fun hh => hh.resolve_left hx, Or.inr⟩
          simp only [this]
      · rw [if_neg (fun hh => hi hh.2), if_neg (fun hh => hi hh.2), if_neg (fun hh => hi hh.2)]
  have hs : storeIdx v ![lanes, ids] w (fun _ => 1#1) true h = (List.finRange 16).foldl (oneLane ids w h) v := by
    show List.foldl _ v (List.finRange 16) = _
    congr 1
    funext g k
    refine (if_pos (show (1#1 : BitVec 1) = 1 from rfl)).trans ?_
    funext j
    by_cases hj : ∀ a, (j a).val = (idxAt (s := S16x528) ![lanes, ids] h (Shape.ofLane (d := ![16]) k) a).val
    · exact (if_pos hj).trans (if_pos hj).symm
    · exact (if_neg hj).trans (if_neg hj).symm
  rw [hs]
  funext x
  refine (key (List.finRange 16) (List.nodup_finRange 16) v x).trans ?_
  simp only [List.mem_finRange, true_and, scat]

end Cert.KernelIdeal.Tile
-- ==== Proof.Tile.Index.lean ====
/- Places: the element at a number, and where the rectangles and index vectors of the tile point. -/
module

public import proofs.«01_k».proof.Proof.Tile.Steps
public import proofs.«01_k».proof.Proof.Tile.Values

@[expose] public section

noncomputable section

namespace Cert.KernelIdeal.Tile

open Cert.KernelIdeal Cert.KernelIdeal.Gen
open Idealize.ShloMosaic Idealize.SL.Sem

variable {F : FTy → Type} [FloatOps F]

theorem unit_emb_val {s : Shape} {off size : Fin s.rank → ℕ} {h : ∀ a, off a + size a ≤ s.size a}
    (j : (Rect.unit (s := s) off size h).shape.Idx) (a : Fin s.rank) :
    ((Rect.unit (s := s) off size h).emb j a).val = off a + (j a).val := by
  show off a + 1 * (j a).val = _
  rw [Nat.one_mul]

/-- A place a rectangle reaches. -/
theorem unit_emb_of {s : Shape} {off size : Fin s.rank → ℕ} {h : ∀ a, off a + size a ≤ s.size a} (x : s.Idx)
    (hx : ∀ a, off a ≤ (x a).val ∧ (x a).val < off a + size a) :
    ∃ j, (Rect.unit (s := s) off size h).emb j = x := by
  refine ⟨fun a => ⟨(x a).val - off a, ?_⟩, ?_⟩
  · show _ < size a
    have := hx a; omega
  · funext a
    apply Fin.ext
    rw [unit_emb_val]
    show off a + ((x a).val - off a) = _
    have := hx a; omega

/-- The element at number `k`. -/
def at1 {s : Shape} (h : ∀ a, 0 < s.size a) (k : ℕ) : s.Idx := fun a => ⟨k % s.size a, Nat.mod_lt _ (h a)⟩

theorem eq_at1 {n : ℕ} (h : ∀ a, 0 < (⟨1, ![n]⟩ : Shape).size a) (x : (⟨1, ![n]⟩ : Shape).Idx) (k : ℕ) (hx : (x 0).val = k) :
    x = at1 h k := by
  have hn : (x 0).val < n := (x 0).isLt
  funext a
  have ha : a = 0 := Fin.eq_zero a
  subst ha
  apply Fin.ext
  show (x 0).val = k % n
  rw [← hx, Nat.mod_eq_of_lt hn]

theorem at1_val {n : ℕ} (h : ∀ a, 0 < (⟨1, ![n]⟩ : Shape).size a) (k : ℕ) (hk : k < n) : (at1 (s := ⟨1, ![n]⟩) h k 0).val = k :=
  Nat.mod_eq_of_lt hk

theorem pos_e : ∀ a, 0 < S3200000.size a := fun a => by rw [Fin.eq_zero a]; decide
theorem pos_x : ∀ a, 0 < S9408.size a := fun a => by rw [Fin.eq_zero a]; decide
theorem pos_n : ∀ a, 0 < S3136.size a := fun a => by rw [Fin.eq_zero a]; decide

variable (i : grid0.Coords)

/-- The number of a tile. -/
def wid : ℕ := (i 1).val * 2 + (i 0).val

theorem wid_lt : wid i < 32 := by
  have h0 : (i 0).val < 2 := (i 0).isLt
  have h1 : (i 1).val < 16 := (i 1).isLt
  unfold wid; omega

theorem wid_toNat : (Scalar.addi (Scalar.muli (BitVec.ofNat 32 (i 1).val) 2#32) (BitVec.ofNat 32 (i 0).val)).toNat = wid i := by
  have h0 : (i 0).val < 2 := (i 0).isLt
  have h1 : (i 1).val < 16 := (i 1).isLt
  show (BitVec.ofNat 32 (i 1).val * 2#32 + BitVec.ofNat 32 (i 0).val : BitVec 32).toNat = _
  rw [BitVec.toNat_add, BitVec.toNat_mul, BitVec.toNat_ofNat, BitVec.toNat_ofNat]
  show ((i 1).val % 2 ^ 32 * 2 % 2 ^ 32 + (i 0).val % 2 ^ 32) % 2 ^ 32 = _
  unfold wid; omega

theorem off239_eq (n : Fin 25) : k0_off239 i (BitVec.ofNat 32 (4000 * n.val)) = ![wid i * 100000 + 4000 * n.val] := by
  have hn := n.isLt
  have hw := wid_lt i
  have e : k0_off239 i (BitVec.ofNat 32 (4000 * n.val))
    = ![((Scalar.addi (Scalar.muli (BitVec.ofNat 32 (i 1).val) 2#32) (BitVec.ofNat 32 (i 0).val)) * 100000#32
      + BitVec.ofNat 32 (4000 * n.val) : BitVec 32).toNat] := rfl
  rw [e, BitVec.toNat_add, BitVec.toNat_mul, wid_toNat, BitVec.toNat_ofNat]
  congr 1
  show (wid i * 100000 % 2 ^ 32 + 4000 * n.val % 2 ^ 32) % 2 ^ 32 = _
  omega

theorem off234_eq : k0_off234 i = ![wid i * 3136] := by
  have hw := wid_lt i
  have e : k0_off234 i
    = ![((Scalar.addi (Scalar.muli (BitVec.ofNat 32 (i 1).val) 2#32) (BitVec.ofNat 32 (i 0).val)) * 3136#32 : BitVec 32).toNat] := rfl
  rw [e, BitVec.toNat_mul, wid_toNat]
  congr 1
  show (wid i * 3136) % 2 ^ 32 = _
  omega

theorem off233_eq : k0_off233 i = ![wid i * 9408] := by
  have hw := wid_lt i
  have e : k0_off233 i
    = ![((Scalar.addi (Scalar.muli (BitVec.ofNat 32 (i 1).val) 2#32) (BitVec.ofNat 32 (i 0).val)) * 3136#32 * 3#32 : BitVec 32).toNat] := rfl
  rw [e, BitVec.toNat_mul, BitVec.toNat_mul, wid_toNat]
  congr 1
  show (wid i * 3136) % 2 ^ 32 * 3 % 2 ^ 32 = _
  omega

theorem off484_eq : k0_off484 i = ![wid i, 0, 0] := by
  have e : k0_off484 i
    = ![(Scalar.addi (Scalar.muli (BitVec.ofNat 32 (i 1).val) 2#32) (BitVec.ofNat 32 (i 0).val)).toNat, 0, 0] := rfl
  rw [e, wid_toNat]

/-- Where sixteen edges of a block lie. -/
theorem edge_place (n : Fin 25) (k : Fin 50) (u : Fin 5) (l : S16.Idx) :
    (Rect.unit (s := S3200000) (k0_off239 i (BitVec.ofNat 32 (4000 * n.val))) S4000.size (k0_off239_inb i n)).emb
      ((Rect.unit (s := S4000) (eOff k u) S16.size (eOff_inb k u)).emb l)
      = at1 pos_e (wid i * 100000 + 16 * (250 * n.val + 5 * k.val + u.val) + (l 0).val) := by
  refine eq_at1 _ _ _ ?_
  refine (unit_emb_val (s := S3200000) (h := k0_off239_inb i n) _ 0).trans ?_
  have h1 : ((Rect.unit (s := S4000) (eOff k u) S16.size (eOff_inb k u)).emb l 0).val = eOff k u 0 + (l 0).val :=
    unit_emb_val (s := S4000) (h := eOff_inb k u) l 0
  have h2 : eOff k u 0 = 16 * (5 * k.val + u.val) := congrFun (eOff_eq k u k.isLt u.isLt) 0
  have h3 : k0_off239 i (BitVec.ofNat 32 (4000 * n.val)) 0 = wid i * 100000 + 4000 * n.val := congrFun (off239_eq i n) 0
  rw [h1, h2, h3]
  omega

theorem node_place (k : Fin 49) (u : Fin 4) (l : S16.Idx) :
    (Rect.unit (s := S3136) (nOff k u) S16.size (nOff_inb k u)).emb l = at1 pos_n (16 * (4 * k.val + u.val) + (l 0).val) := by
  refine eq_at1 _ _ _ ?_
  have h1 : ((Rect.unit (s := S3136) (nOff k u) S16.size (nOff_inb k u)).emb l 0).val = nOff k u 0 + (l 0).val :=
    unit_emb_val (s := S3136) (h := nOff_inb k u) l 0
  have h2 : nOff k u 0 = 16 * (4 * k.val + u.val) := congrFun (nOff_eq k u k.isLt u.isLt) 0
  rw [h1, h2]

theorem nIdx_toNat (k : Fin 49) (u : Fin 4) (l : S16.Idx) :
    (nIdx k u l).toNat = 3 * (16 * (4 * k.val + u.val) + (l 0).val) := by
  have hk := k.isLt
  have hu := u.isLt
  have hl : (l 0).val < 16 := (l 0).isLt
  have hb : (Scalar.addi (Scalar.muli (Scf.iv 0#32 1#32 k.val) 64#32) (BitVec.ofNat 32 (16 * u.val))).toNat = 16 * (4 * k.val + u.val) := by
    rw [show (64#32) = BitVec.ofNat 32 64 from rfl, iv_mul_add k.val 64 (16 * u.val) (by omega) (by omega) (by omega)]; omega
  show ((_ + lanes l) * 3#32 : BitVec 32).toNat = _
  rw [BitVec.toNat_mul, BitVec.toNat_add, lanes_toNat]
  show ((Scalar.addi (Scalar.muli (Scf.iv 0#32 1#32 k.val) 64#32) (BitVec.ofNat 32 (16 * u.val))).toNat + _) % _ * 3 % _ = _
  rw [hb, Nat.mod_eq_of_lt (show 16 * (4 * k.val + u.val) + (l 0).val < 2 ^ 32 by omega)]
  omega

theorem nIdxAt_toNat (k : Fin 49) (u : Fin 4) (c : ℕ) (hc : c < 3) (l : S16.Idx) :
    (nIdxAt k u (BitVec.ofNat 32 c) l).toNat = 3 * (16 * (4 * k.val + u.val) + (l 0).val) + c := by
  have hk := k.isLt
  have hu := u.isLt
  have hl : (l 0).val < 16 := (l 0).isLt
  show (nIdx k u l + BitVec.ofNat 32 c : BitVec 32).toNat = _
  rw [BitVec.toNat_add, nIdx_toNat, BitVec.toNat_ofNat]
  omega

/-- A gather of a flat array at known numbers. -/
theorem gather_eq {e : EltTy} (v : S9408.Idx → Elt F e) (J : IVec S16 32) (h : ∀ a x, ((![J] : Fin 1 → IVec S16 32) a x).toNat < S9408.size a)
    (g : S16.Idx → ℕ) (hg : ∀ l, (J l).toNat = g l) :
    loadIdx (F := F) (s := S9408) (e := e) v ![J] h = fun l => v (at1 pos_x (g l)) := by
  funext l
  show v _ = _
  exact congrArg v (eq_at1 _ _ _ (hg l))

end Cert.KernelIdeal.Tile
-- ==== Proof.Tile.Edges.lean ====
/- The edges: what the three accumulators hold after each step, and the runs of the loop and of the
   blocks. -/
module

public import proofs.«01_k».proof.Proof.Tile.Dma
public import proofs.«01_k».proof.Proof.Tile.Index

@[expose] public section

noncomputable section

namespace Cert.KernelIdeal.Tile

open Cert.KernelIdeal Cert.KernelIdeal.Gen Cert.KernelIdeal.Run

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

variable (d : Dev nD) (i : grid0.Coords)

/-- Sixteen elements of an edge array: step `j` of tile `w`. -/
def eAt {α : Type} (v : S3200000.Idx → α) (w j : ℕ) : S16.Idx → α := fun l => v (at1 pos_e (w * 100000 + 16 * j + (l 0).val))

/-- The squared error, the squared target and the squared prediction, summed over the first `j` steps. -/
def accE (E : EdgeVals F) (w j : ℕ) : Fin 3 → S16x528.Idx → F .f32
  | 0 => steps (eAt E.g w) (fun j => k0_pay308 (eAt E.p w j) (eAt E.t w j)) j
  | 1 => steps (eAt E.g w) (fun j => k0_pay309 (eAt E.t w j)) j
  | 2 => steps (eAt E.g w) (fun j => k0_pay310 (eAt E.p w j)) j

/-- The accumulators of the edges after `j` steps. -/
def AccE (b : Bufs) (E : EdgeVals F) (j : ℕ) : sProp 𝕄 :=
  iprop(Has d i b.a4 fullShare (accE E (wid i) j 0) ∗ Has d i b.a5 fullShare (accE E (wid i) j 1)
    ∗ Has d i b.a6 fullShare (accE E (wid i) j 2))

theorem chk_scatter (ids : IVec S16 32) (h : ∀ x, (ids x).toNat < 528) :
    ∀ a x, ((![lanes, ids] : Fin 2 → IVec S16 32) a x).toNat < S16x528.size a := by
  intro a x
  fin_cases a
  · show (lanes x).toNat < 16
    rw [lanes_toNat]; exact (x 0).isLt
  · exact h x

theorem edge_step {α : Type} {Φ : α → sProp 𝕄} (b : Bufs) (s : Slot) (E : EdgeVals F) (hE : ∀ x, (E.g x).toNat < 528)
    (n : Fin 25) (k : Fin 50) (u : Fin 5) {kk : PUnit → PG F i α} :
    iprop(Held d i s E n ∗ AccE d i b E (250 * n.val + 5 * k.val + u.val))
      ⊢ iprop((iprop(Held d i s E n ∗ AccE d i b E (250 * n.val + 5 * k.val + u.val + 1)) -∗ wp frame (wpE (defs₀ (F := F)) 𝒱₀ (thr d i) none) Set.univ (kk ⟨⟩) Φ)
        -∗ wp frame (wpE (defs₀ (F := F)) 𝒱₀ (thr d i) none) Set.univ (edgeStep i b s k u >>= kk) Φ) := by
  have hj : 250 * n.val + 5 * k.val + u.val = 250 * n.val + 5 * k.val + u.val := rfl
  generalize hJ : 250 * n.val + 5 * k.val + u.val = J
  have hp : ∀ {β : Type} (v : S3200000.Idx → β), (fun l => v ((eRect i n).emb ((Rect.unit (s := S4000) (eOff k u) S16.size (eOff_inb k u)).emb l)))
      = eAt v (wid i) J := by
    intro β v
    funext l
    rw [← hJ]
    exact congrArg v (edge_place i n k u l)
  have hc : ∀ x, (eAt E.g (wid i) J x).toNat < 528 := fun x => hE _
  unfold Held AccE edgeStep
  simp only [bind_assoc]
  iintro ⟨⟨Hp, Ht, He⟩, H4, H5, H6⟩ Hk
  iapply (has_load d i) $$ Hp
  iintro Hp
  iapply (has_load d i) $$ Ht
  iintro Ht
  iapply (has_load d i) $$ He
  iintro He
  rw [hp E.p, hp E.t, hp E.g]
  iapply (step_assume d i ⟨chk_scatter _ hc, chk_scatter _ hc, chk_scatter _ hc⟩)
  iapply (has_scatter d i) $$ H4
  iintro H4
  iapply (has_scatter d i) $$ H5
  iintro H5
  iapply (has_scatter d i) $$ H6
  iintro H6
  rw [storeIdx_eq, storeIdx_eq, storeIdx_eq]
  iapply Hk
  isplitl [Hp Ht He]
  · isplitl [Hp]; · iexact Hp
    isplitl [Ht]; · iexact Ht
    iexact He
  isplitl [H4]; · iexact H4
  isplitl [H5]; · iexact H5
  iexact H6

theorem edge_trip (b : Bufs) (s : Slot) (E : EdgeVals F) (hE : ∀ x, (E.g x).toNat < 528) (n : Fin 25)
    (k : Fin k0_t9_loop.trips) (acc : BitVec 32) :
    iprop(Held d i s E n ∗ AccE d i b E (250 * n.val + 5 * k.val))
      ⊢ wp frame (wpE (defs₀ (F := F)) 𝒱₀ (thr d i) none) Set.univ (edgeTrip i b s k acc) (fun _ => iprop(Held d i s E n ∗ AccE d i b E (250 * n.val + 5 * (k.val + 1)))) := by
  unfold edgeTrip
  iintro H
  iapply (edge_step d i b s E hE n k 0) $$ H
  iintro H
  iapply (edge_step d i b s E hE n k 1) $$ H
  iintro H
  iapply (edge_step d i b s E hE n k 2) $$ H
  iintro H
  iapply (edge_step d i b s E hE n k 3) $$ H
  iintro H
  iapply (edge_step d i b s E hE n k 4) $$ H
  iintro H
  rw [wp_pure]
  iexact H

theorem edge_loop {α : Type} {Φ : α → sProp 𝕄} (b : Bufs) (s : Slot) (E : EdgeVals F) (hE : ∀ x, (E.g x).toNat < 528)
    (n : Fin 25) {kk : BitVec 32 → PG F i α} :
    iprop(Held d i s E n ∗ AccE d i b E (250 * n.val))
      ⊢ iprop((∀ acc, iprop(Held d i s E n ∗ AccE d i b E (250 * (n.val + 1))) -∗ wp frame (wpE (defs₀ (F := F)) 𝒱₀ (thr d i) none) Set.univ (kk acc) Φ)
        -∗ wp frame (wpE (defs₀ (F := F)) 𝒱₀ (thr d i) none) Set.univ (edgeLoop i b s >>= kk) Φ) := by
  unfold edgeLoop
  iintro H Hk
  iapply (Scf.wp_for_bind frame (wpE (defs₀ (F := F)) 𝒱₀ (thr d i) none) Set.univ _ _ _ k0_t9_ok 0#32 (edgeTrip i b s)
    (fun j _ => iprop(Held d i s E n ∗ AccE d i b E (250 * n.val + 5 * j))) (fun k acc => edge_trip d i b s E hE n k acc)) $$ H
  iintro %acc H
  iapply Hk
  iexact H

/-- A set of edge buffers at rest again after its block. -/
theorem idle_of (b : Bufs) (s : Slot) (q : PosShare TreeShare) (E : EdgeVals F) (n : Fin 25) :
    iprop(Arrs d i b q E ∗ Held d i s E n ∗ semVal (thr d i, .dma s.sem.sem) 0) ⊢ Idle d i b s q E := by
  unfold Held Idle
  iintro ⟨HA, ⟨Hp, Ht, He⟩, Hv⟩
  isplitl [HA]; · iexact HA
  isplitl [Hp]; · iexists _; iexact Hp
  isplitl [Ht]; · iexists _; iexact Ht
  isplitl [He]; · iexists _; iexact He
  iexact Hv

theorem flying_cast (b : Bufs) (s : Slot) (q : PosShare TreeShare) (E : EdgeVals F) {n m : Fin 25} (h : n.val = m.val) :
    Flying d i b s q E n ⊢ Flying d i b s q E m := by
  rw [Fin.ext h]

theorem accE_cast (b : Bufs) (E : EdgeVals F) {n m : ℕ} (h : n = m) : AccE d i b E n ⊢ AccE d i b E m := by
  rw [h]

/-- The blocks that are left. -/
theorem edge_from {α : Type} {Φ : α → sProp 𝕄} {O : CellTallies nD τ sig (HIx 1)} {W : Waits sig (HIx 1)}
    (hO : ∀ g, O g none = 0) (b : Bufs) (h0 : b.s0.Even) (h1 : b.s1.Even) (q0 q1 : PosShare TreeShare) (E : EdgeVals F)
    (hE : ∀ x, (E.g x).toNat < 528) {kk : PUnit → PG F i α} :
    ∀ (n : ℕ) (hn : n ≤ 12),
    iprop(Flying d i b b.s0 q0 E ⟨2 * (12 - n), by omega⟩ ∗ Idle d i b b.s1 q1 E ∗ AccE d i b E (250 * (2 * (12 - n))) ∗ Ow d i O W)
      ⊢ iprop((iprop(Idle d i b b.s0 q0 E ∗ Idle d i b b.s1 q1 E ∗ AccE d i b E 6250 ∗ Ow d i O W) -∗ wp frame (wpE (defs₀ (F := F)) 𝒱₀ (thr d i) none) Set.univ (kk ⟨⟩) Φ)
        -∗ wp frame (wpE (defs₀ (F := F)) 𝒱₀ (thr d i) none) Set.univ (edgeFrom i b n hn >>= kk) Φ)
  | 0, hn => by
    unfold edgeFrom
    simp only [bind_assoc]
    iintro ⟨HF, HI, HA, HO⟩ Hk
    iapply (edge_wait d i hO b b.s0 h0 q0 E 24) $$ [HF HO]
    · isplitl [HF]; · iexact HF
      iexact HO
    iintro ⟨HR, HH, Hv, HO⟩
    iapply (edge_loop d i b b.s0 E hE 24) $$ [HH HA]
    · isplitl [HH]; · iexact HH
      iexact HA
    iintro %acc ⟨HH, HA⟩
    iapply Hk
    isplitl [HR HH Hv]
    · iapply (idle_of d i b b.s0 q0 E 24)
      isplitl [HR]; · iexact HR
      isplitl [HH]; · iexact HH
      iexact Hv
    isplitl [HI]; · iexact HI
    isplitl [HA]; · iexact HA
    iexact HO
  | n + 1, hn => by
    unfold edgeFrom
    simp only [bind_assoc]
    have e0 : 2 * (12 - (n + 1)) = 2 * (11 - n) := by omega
    have e1 : 2 * (12 - n) = 2 * (11 - n) + 2 := by omega
    have l3 : 2 * (12 - n) < 25 := by omega
    have l4 : n ≤ 12 := by omega
    have l0 : 2 * (11 - n) < 25 := by omega
    have l1 : 2 * (11 - n) + 1 < 25 := by omega
    have l2 : 2 * (11 - n) + 2 < 25 := by omega
    have e2 : 250 * (2 * (11 - n) + 1 + 1) = 250 * (2 * (12 - n)) := by omega
    iintro ⟨HF, HI, HA, HO⟩ Hk
    iapply (edge_start d i b b.s1 h1 q1 E ⟨2 * (11 - n) + 1, l1⟩) $$ HI
    iintro HG
    iapply (edge_wait d i hO b b.s0 h0 q0 E ⟨2 * (11 - n), l0⟩) $$ [HF HO]
    · isplitl [HF]
      · iapply (flying_cast d i b b.s0 q0 E (n := ⟨2 * (12 - (n + 1)), by omega⟩) e0); iexact HF
      iexact HO
    iintro ⟨HR, HH, Hv, HO⟩
    iapply (edge_loop d i b b.s0 E hE ⟨2 * (11 - n), l0⟩) $$ [HH HA]
    · isplitl [HH]; · iexact HH
      iapply (accE_cast d i b E (congrArg (250 * ·) e0)); iexact HA
    iintro %acc ⟨HH, HA⟩
    ihave HI := (idle_of d i b b.s0 q0 E ⟨2 * (11 - n), l0⟩) $$ [HR HH Hv]
    · isplitl [HR]; · iexact HR
      isplitl [HH]; · iexact HH
      iexact Hv
    iapply (edge_start d i b b.s0 h0 q0 E ⟨2 * (11 - n) + 2, l2⟩) $$ HI
    iintro HF
    iapply (edge_wait d i hO b b.s1 h1 q1 E ⟨2 * (11 - n) + 1, l1⟩) $$ [HG HO]
    · isplitl [HG]; · iexact HG
      iexact HO
    iintro ⟨HR, HH, Hv, HO⟩
    iapply (edge_loop d i b b.s1 E hE ⟨2 * (11 - n) + 1, l1⟩) $$ [HH HA]
    · isplitl [HH]; · iexact HH
      iexact HA
    iintro %acc' ⟨HH, HA⟩
    ihave HI := (idle_of d i b b.s1 q1 E ⟨2 * (11 - n) + 1, l1⟩) $$ [HR HH Hv]
    · isplitl [HR]; · iexact HR
      isplitl [HH]; · iexact HH
      iexact Hv
    iapply (edge_from hO b h0 h1 q0 q1 E hE n l4) $$ [HF HI HA HO]
    · isplitl [HF]
      · iapply (flying_cast d i b b.s0 q0 E (n := ⟨2 * (11 - n) + 2, l2⟩) (m := ⟨2 * (12 - n), l3⟩) e1.symm); iexact HF
      isplitl [HI]; · iexact HI
      isplitl [HA]
      · iapply (accE_cast d i b E e2); iexact HA
      iexact HO
    iexact Hk

end Cert.KernelIdeal.Tile
-- ==== Proof.Tile.Nodes.lean ====
/- The nodes: what the four accumulators hold after each step, and the run of the loop. -/
module

public import proofs.«01_k».proof.Proof.Tile.Edges

@[expose] public section

noncomputable section

namespace Cert.KernelIdeal.Tile

open Cert.KernelIdeal Cert.KernelIdeal.Gen Cert.KernelIdeal.Run

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

variable (d : Dev nD) (i : grid0.Coords)

/-- A tile's nodes: the coordinates of the two arrays and the numbers of the graphs. -/
structure NodeVals (F : FTy → Type) where
  x : S9408.Idx → F .f32
  y : S9408.Idx → F .f32
  g : S3136.Idx → BitVec 32

/-- Coordinate `c` of the sixteen nodes of step `j`. -/
def nCo {α : Type} (v : S9408.Idx → α) (c j : ℕ) : S16.Idx → α := fun l => v (at1 pos_x (3 * (16 * j + (l 0).val) + c))
/-- The graphs of the sixteen nodes of step `j`. -/
def nGr (v : S3136.Idx → BitVec 32) (j : ℕ) : IVec S16 32 := fun l => v (at1 pos_n (16 * j + (l 0).val))

/-- The squared error, the squared target, the squared prediction and the count, summed over the first `j` steps. -/
def accN (N : NodeVals F) (j : ℕ) : Fin 4 → S16x528.Idx → F .f32
  | 0 => steps (nGr N.g) (fun j => k0_pay269 (nCo N.x 0 j) (nCo N.x 1 j) (nCo N.x 2 j) (nCo N.y 0 j) (nCo N.y 1 j) (nCo N.y 2 j)) j
  | 1 => steps (nGr N.g) (fun j => k0_pay270 (nCo N.y 0 j) (nCo N.y 1 j) (nCo N.y 2 j)) j
  | 2 => steps (nGr N.g) (fun j => k0_pay271 (nCo N.x 0 j) (nCo N.x 1 j) (nCo N.x 2 j)) j
  | 3 => steps (nGr N.g) (fun _ => k0_pay264 (F := F)) j

/-- The nodes in the buffers. -/
def Nodes (b : Bufs) (N : NodeVals F) : sProp 𝕄 :=
  iprop(Has d i b.bx fullShare N.x ∗ Has d i b.by' fullShare N.y ∗ Has d i b.bn fullShare N.g)

/-- The accumulators of the nodes after `j` steps. -/
def AccN (b : Bufs) (N : NodeVals F) (j : ℕ) : sProp 𝕄 :=
  iprop(Has d i b.a0 fullShare (accN N j 0) ∗ Has d i b.a1 fullShare (accN N j 1)
    ∗ Has d i b.a2 fullShare (accN N j 2) ∗ Has d i b.a3 fullShare (accN N j 3))

theorem chk_gather (J : IVec S16 32) (h : ∀ x, (J x).toNat < 9408) :
    ∀ a x, ((![J] : Fin 1 → IVec S16 32) a x).toNat < S9408.size a := by
  intro a x
  fin_cases a
  exact h x

theorem node_step {α : Type} {Φ : α → sProp 𝕄} (b : Bufs) (N : NodeVals F) (hN : ∀ x, (N.g x).toNat < 528)
    (k : Fin 49) (u : Fin 4) {kk : PUnit → PG F i α} :
    iprop(Nodes d i b N ∗ AccN d i b N (4 * k.val + u.val))
      ⊢ iprop((iprop(Nodes d i b N ∗ AccN d i b N (4 * k.val + u.val + 1)) -∗ wp frame (wpE (defs₀ (F := F)) 𝒱₀ (thr d i) none) Set.univ (kk ⟨⟩) Φ)
        -∗ wp frame (wpE (defs₀ (F := F)) 𝒱₀ (thr d i) none) Set.univ (nodeStep i b k u >>= kk) Φ) := by
  have hk := k.isLt
  have hu := u.isLt
  have hg : (fun l => N.g ((Rect.unit (s := S3136) (nOff k u) S16.size (nOff_inb k u)).emb l)) = nGr N.g (4 * k.val + u.val) := by
    funext l
    exact congrArg N.g (node_place k u l)
  have hc : ∀ x, (nGr N.g (4 * k.val + u.val) x).toNat < 528 := fun x => hN _
  have t0 : ∀ l, (nIdx k u l).toNat = 3 * (16 * (4 * k.val + u.val) + (l 0).val) + 0 := fun l => nIdx_toNat k u l
  have t1 : ∀ l, (nIdxAt k u 1#32 l).toNat = 3 * (16 * (4 * k.val + u.val) + (l 0).val) + 1 := fun l => nIdxAt_toNat k u 1 (by omega) l
  have t2 : ∀ l, (nIdxAt k u 2#32 l).toNat = 3 * (16 * (4 * k.val + u.val) + (l 0).val) + 2 := fun l => nIdxAt_toNat k u 2 (by omega) l
  have c0 : ∀ l, (nIdx k u l).toNat < 9408 := fun l => by
    have hl : (l 0).val < 16 := (l 0).isLt
    rw [t0]; omega
  have c1 : ∀ l, (nIdxAt k u 1#32 l).toNat < 9408 := fun l => by
    have hl : (l 0).val < 16 := (l 0).isLt
    rw [t1]; omega
  have c2 : ∀ l, (nIdxAt k u 2#32 l).toNat < 9408 := fun l => by
    have hl : (l 0).val < 16 := (l 0).isLt
    rw [t2]; omega
  have k24 : k0_chk24 lanes (nGr N.g (4 * k.val + u.val)) := ⟨chk_scatter _ hc, chk_scatter _ hc, chk_scatter _ hc, chk_scatter _ hc⟩
  have k19 : k0_chk19 (nIdx k u) := ⟨chk_gather _ c0, chk_gather _ c0⟩
  have k20 : k0_chk20 (nIdxAt k u 1#32) := chk_gather _ c1
  have k21 : k0_chk21 (nIdxAt k u 2#32) := chk_gather _ c2
  have k22 : k0_chk22 (nIdxAt k u 1#32) := chk_gather _ c1
  have k23 : k0_chk23 (nIdxAt k u 2#32) := chk_gather _ c2
  have g0 : ∀ (v : S9408.Idx → F .f32) h, loadIdx (F := F) (s := S9408) (e := .f32) v ![nIdx k u] h = nCo v 0 (4 * k.val + u.val) := fun v h => gather_eq (F := F) (e := .f32) v (nIdx k u) h _ t0
  have g1 : ∀ (v : S9408.Idx → F .f32) h, loadIdx (F := F) (s := S9408) (e := .f32) v ![nIdxAt k u 1#32] h = nCo v 1 (4 * k.val + u.val) := fun v h => gather_eq (F := F) (e := .f32) v (nIdxAt k u 1#32) h _ t1
  have g2 : ∀ (v : S9408.Idx → F .f32) h, loadIdx (F := F) (s := S9408) (e := .f32) v ![nIdxAt k u 2#32] h = nCo v 2 (4 * k.val + u.val) := fun v h => gather_eq (F := F) (e := .f32) v (nIdxAt k u 2#32) h _ t2
  unfold Nodes AccN nodeStep nodeStepAt
  simp only [bind_assoc]
  iintro ⟨⟨Hx, Hy, Hn⟩, H0, H1, H2, H3⟩ Hk
  iapply (has_load d i) $$ Hn
  iintro Hn
  rw [hg]
  iapply (step_assume d i k24)
  iapply (step_assume d i k19)
  iapply (has_gather d i) $$ Hx
  iintro Hx
  iapply (step_assume d i k20)
  iapply (has_gather d i) $$ Hx
  iintro Hx
  iapply (step_assume d i k21)
  iapply (has_gather d i) $$ Hx
  iintro Hx
  iapply (has_gather d i) $$ Hy
  iintro Hy
  iapply (step_assume d i k22)
  iapply (has_gather d i) $$ Hy
  iintro Hy
  iapply (step_assume d i k23)
  iapply (has_gather d i) $$ Hy
  iintro Hy
  simp only [g0, g1, g2]
  iapply (has_scatter d i) $$ H0
  iintro H0
  iapply (has_scatter d i) $$ H1
  iintro H1
  iapply (has_scatter d i) $$ H2
  iintro H2
  iapply (has_scatter d i) $$ H3
  iintro H3
  rw [storeIdx_eq, storeIdx_eq, storeIdx_eq, storeIdx_eq]
  iapply Hk
  isplitl [Hx Hy Hn]
  · isplitl [Hx]; · iexact Hx
    isplitl [Hy]; · iexact Hy
    iexact Hn
  isplitl [H0]; · iexact H0
  isplitl [H1]; · iexact H1
  isplitl [H2]; · iexact H2
  iexact H3

theorem node_trip (b : Bufs) (N : NodeVals F) (hN : ∀ x, (N.g x).toNat < 528)
    (k : Fin k0_t8_loop.trips) (acc : BitVec 32) :
    iprop(Nodes d i b N ∗ AccN d i b N (4 * k.val))
      ⊢ wp frame (wpE (defs₀ (F := F)) 𝒱₀ (thr d i) none) Set.univ (nodeTrip i b k acc) (fun _ => iprop(Nodes d i b N ∗ AccN d i b N (4 * (k.val + 1)))) := by
  unfold nodeTrip
  iintro H
  iapply (node_step d i b N hN k 0) $$ H
  iintro H
  iapply (node_step d i b N hN k 1) $$ H
  iintro H
  iapply (node_step d i b N hN k 2) $$ H
  iintro H
  iapply (node_step d i b N hN k 3) $$ H
  iintro H
  rw [wp_pure]
  iexact H

theorem node_loop {α : Type} {Φ : α → sProp 𝕄} (b : Bufs) (N : NodeVals F) (hN : ∀ x, (N.g x).toNat < 528)
    {kk : BitVec 32 → PG F i α} :
    iprop(Nodes d i b N ∗ AccN d i b N 0)
      ⊢ iprop((∀ acc, iprop(Nodes d i b N ∗ AccN d i b N 196) -∗ wp frame (wpE (defs₀ (F := F)) 𝒱₀ (thr d i) none) Set.univ (kk acc) Φ)
        -∗ wp frame (wpE (defs₀ (F := F)) 𝒱₀ (thr d i) none) Set.univ (nodeLoop i b >>= kk) Φ) := by
  unfold nodeLoop
  iintro H Hk
  iapply (Scf.wp_for_bind frame (wpE (defs₀ (F := F)) 𝒱₀ (thr d i) none) Set.univ _ _ _ k0_t8_ok 0#32 (nodeTrip i b)
    (fun j _ => iprop(Nodes d i b N ∗ AccN d i b N (4 * j))) (fun k acc => node_trip d i b N hN k acc)) $$ H
  iintro %acc H
  iapply Hk
  iexact H

end Cert.KernelIdeal.Tile
-- ==== Proof.Tile.Sums.lean ====
/- Clearing an accumulator, and the sums over the lanes. -/
module

public import proofs.«01_k».proof.Proof.Tile.Steps
public import proofs.«01_k».proof.Proof.Tile.Index
public import Idealize.ShloMosaic.Lib.ValueLayout

@[expose] public section

noncomputable section

namespace Cert.KernelIdeal.Tile

open Cert.KernelIdeal Cert.KernelIdeal.Gen Cert.KernelIdeal.Run

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers Idealize.ShloMosaic.ValueIdx

variable {F : FTy → Type} [FloatOps F]

local notation "𝕄" => MT nD τ sig (HIx 1) (Elt F) ℕ UU ℕ

variable (d : Dev nD) (i : grid0.Coords)

/-- The first rows of `A` are zero. -/
def Zeroed (A : Acc) (n : ℕ) : sProp 𝕄 :=
  iprop(∃ a : S16x528.Idx → F .f32, ⌜∀ x : S16x528.Idx, (x 0).val < n → a x = zeroF⌝ ∗ Has d i A fullShare a)

theorem zero_from (A : Acc) (k : Fin 16) : ∀ (n : ℕ) (hn : n ≤ 33) (a : S16x528.Idx → F .f32)
    (_ : ∀ x : S16x528.Idx, (x 0).val < k.val ∨ ((x 0).val = k.val ∧ (x 1).val < 16 * (33 - n)) → a x = zeroF),
    Has d i A fullShare a ⊢ wp frame (wpE (defs₀ (F := F)) 𝒱₀ (thr d i) none) Set.univ (zeroFrom i A k n hn) (fun _ => Zeroed d i A (k.val + 1))
  | 0, hn, a, ha => by
    unfold zeroFrom Zeroed
    iintro H
    rw [wp_pure]
    imodintro
    iexists a
    isplitl []
    · ipureintro
      intro x hx
      have h1 : (x 1).val < 528 := (x 1).isLt
      exact ha x (by omega)
    · iexact H
  | n + 1, hn, a, ha => by
    unfold zeroFrom
    have hn' : n ≤ 33 := by omega
    have h32 : 32 - n < 33 := by omega
    have hk := k.isLt
    have key : ∀ x : S16x528.Idx, (x 0).val < k.val ∨ ((x 0).val = k.val ∧ (x 1).val < 16 * (33 - n)) →
        upd a (Rect.unit (s := S16x528) (zOff k (⟨32 - n, h32⟩ : Fin 33)) S1x16.size (zOff_inb k ⟨32 - n, h32⟩))
          (shapeCast S1x16 (k0_pay263 (F := F)) shapeCasts_S16_S1x16) x = zeroF := by
      intro x hx
      by_cases h : ∃ j, (Rect.unit (s := S16x528) (zOff k (⟨32 - n, h32⟩ : Fin 33)) S1x16.size (zOff_inb k ⟨32 - n, h32⟩)).emb j = x
      · obtain ⟨j, rfl⟩ := h
        rw [upd_emb]; rfl
      · rw [upd_of_not _ _ _ _ fun j hj => h ⟨j, hj⟩]
        refine ha x ?_
        by_contra hcon
        refine h (unit_emb_of (s := S16x528) x ?_)
        have e0 : zOff k (32 - n) 0 = k.val := congrFun (zOff_eq k.val (32 - n) (by omega)) 0
        have e1 : zOff k (32 - n) 1 = 16 * (32 - n) := congrFun (zOff_eq k.val (32 - n) (by omega)) 1
        intro a'
        fin_cases a'
        · show zOff k (32 - n) 0 ≤ (x 0).val ∧ (x 0).val < zOff k (32 - n) 0 + 1
          rw [e0]; omega
        · show zOff k (32 - n) 1 ≤ (x 1).val ∧ (x 1).val < zOff k (32 - n) 1 + 16
          rw [e1]; omega
    iintro H
    iapply (has_load d i) $$ H
    iintro H
    iapply (has_store d i) $$ H
    iintro H
    iapply (zero_from A k n hn' _ key) $$ H

theorem zero_loop {α : Type} {Φ : α → sProp 𝕄} (A : Acc) {kk : BitVec 32 → PG F i α} :
    iprop(∃ a, Has d i A fullShare a)
      ⊢ iprop((∀ acc, Has d i A fullShare (fun _ : S16x528.Idx => zeroF (F := F)) -∗ wp frame (wpE (defs₀ (F := F)) 𝒱₀ (thr d i) none) Set.univ (kk acc) Φ)
        -∗ wp frame (wpE (defs₀ (F := F)) 𝒱₀ (thr d i) none) Set.univ (zeroLoop i A >>= kk) Φ) := by
  unfold zeroLoop
  have hb : ∀ (k : Fin k0_t1_loop.trips) (acc : BitVec 32),
      Zeroed d i A k.val ⊢ wp frame (wpE (defs₀ (F := F)) 𝒱₀ (thr d i) none) Set.univ (zeroTrip i A k acc) (fun _ => Zeroed d i A (k.val + 1)) := by
    intro k acc
    unfold zeroTrip
    iintro H
    unfold Zeroed
    icases H with ⟨%a, %ha, H⟩
    have hz : ∀ x : S16x528.Idx, (x 0).val < k.val ∨ ((x 0).val = k.val ∧ (x 1).val < 16 * (33 - 33)) → a x = zeroF :=
      fun x hx => ha x (by omega)
    iapply (zero_from d i A k 33 le_rfl a hz) $$ H
  iintro ⟨%a, H⟩ Hk
  iapply (Scf.wp_for_bind frame (wpE (defs₀ (F := F)) 𝒱₀ (thr d i) none) Set.univ _ _ _ k0_t1_ok 0#32 (zeroTrip i A)
    (fun k _ => Zeroed d i A k) hb) $$ [H]
  · unfold Zeroed
    iexists a
    isplitl []
    · ipureintro; intro x hx; exact absurd hx (Nat.not_lt_zero _)
    · iexact H
  iintro %acc H
  iapply Hk
  unfold Zeroed
  icases H with ⟨%a', %ha, H⟩
  have h0 : a' = fun _ : S16x528.Idx => zeroF := funext fun x => ha x (x 0).isLt
  rw [h0]
  iexact H

/-! ## Sums over the lanes -/

/-- The sum of the first rows at bin `y`, in the order they are added. -/
def rowSum (A : S16x528.Idx → F .f32) (y : Fin 528) : ℕ → F .f32
  | 0 => A (ix2 (0 : Fin 16) y)
  | n + 1 => FloatOps.addf (rowSum A y n) (A (ix2 (⟨(n + 1) % 16, Nat.mod_lt _ (by omega)⟩ : Fin 16) y))

/-- The sum over the sixteen lanes. -/
def laneSum (A : S16x528.Idx → F .f32) (y : Fin 528) : F .f32 := rowSum A y 15

/-- Bin `l` of group `k`. -/
abbrev col (k : Fin 33) (l : S16.Idx) : Fin 528 := ⟨16 * k.val + (l 0).val, by
  have h : (l 0).val < 16 := (l 0).isLt
  have := k.isLt
  omega⟩

theorem row_read (A : S16x528.Idx → F .f32) (r : Fin 16) (k : Fin 33) (l : S16.Idx) :
    shapeCast S16 (fun j => A ((Rect.unit (s := S16x528) (rOff r k) S1x16.size (rOff_inb r k)).emb j)) shapeCasts_S1x16_S16 l
      = A (ix2 r (col k l)) := by
  have hl : l = ix1 (l 0) := by
    funext a
    have ha : a = 0 := Fin.eq_zero a
    subst ha; rfl
  rw [hl]
  refine (shapeCast_1a_a_apply (a := 16) _ _ (l 0)).trans (congrArg A ?_)
  have e0 : rOff r k 0 = r.val := congrFun (rOff_eq r.val k.val k.isLt) 0
  have e1 : rOff r k 1 = 16 * k.val := congrFun (rOff_eq r.val k.val k.isLt) 1
  funext a
  apply Fin.ext
  fin_cases a
  · refine (unit_emb_val (s := S16x528) (h := rOff_inb r k) _ 0).trans ?_
    rw [e0]; rfl
  · refine (unit_emb_val (s := S16x528) (h := rOff_inb r k) _ 1).trans ?_
    rw [e1]

/-- The first rows of the tile's result stand in `ob`. -/
def Out (ob : Memref sig .scVector .vmem S7x528 .f32) (R : S7x528.Idx → F .f32) (q k : ℕ) : sProp 𝕄 :=
  iprop(∃ o : S7x528.Idx → F .f32,
    ⌜∀ x : S7x528.Idx, (x 0).val < q ∨ ((x 0).val = q ∧ (x 1).val < 16 * k) → o x = R x⌝ ∗ Has d i ob fullShare o)

section Red

variable (A : Acc) (ob : Memref sig .scVector .vmem S7x528 .f32) (q : Fin 7) (k : Fin 33) (acc : S16x528.Idx → F .f32)
  (R : S7x528.Idx → F .f32) (hR : ∀ y : Fin 528, R (ix2 q y) = laneSum acc y)

include hR in
theorem red_from : ∀ (n : ℕ) (hn : n ≤ 15) (s : FVec F S16 .f32) (_ : ∀ l, s l = rowSum acc (col k l) (15 - n)),
    iprop(Has d i A fullShare acc ∗ Out d i ob R q.val k.val)
      ⊢ wp frame (wpE (defs₀ (F := F)) 𝒱₀ (thr d i) none) Set.univ (redFrom i A ob q k n hn s) (fun _ => iprop(Has d i A fullShare acc ∗ Out d i ob R q.val (k.val + 1)))
  | 0, hn, s, hs => by
    unfold redFrom Out
    iintro ⟨HA, %o, %ho, H⟩
    iapply (has_load d i) $$ H
    iintro H
    iapply (has_store d i) $$ H
    iintro H
    rw [wp_pure]
    imodintro
    isplitl [HA]; · iexact HA
    iexists (upd o (Rect.unit (s := S7x528) (rOff q k) S1x16.size (qOff_inb q k)) (shapeCast S1x16 s shapeCasts_S16_S1x16))
    isplitl []
    · ipureintro
      intro x hx
      have e0 : rOff q k 0 = q.val := congrFun (rOff_eq q.val k.val k.isLt) 0
      have e1 : rOff q k 1 = 16 * k.val := congrFun (rOff_eq q.val k.val k.isLt) 1
      by_cases h : ∃ j, (Rect.unit (s := S7x528) (rOff q k) S1x16.size (qOff_inb q k)).emb j = x
      · obtain ⟨j, rfl⟩ := h
        rw [upd_emb]
        have hj : j = ix2 (j 0) (j 1) := by
          funext a
          fin_cases a <;> rfl
        have h0 : (j 0).val < 1 := (j 0).isLt
        have hx : (Rect.unit (s := S7x528) (rOff q k) S1x16.size (qOff_inb q k)).emb j = ix2 q (col k (ix1 (j 1))) := by
          funext a
          apply Fin.ext
          fin_cases a
          · refine (unit_emb_val (s := S7x528) (h := qOff_inb q k) j 0).trans ?_
            rw [e0]; show q.val + (j 0).val = q.val; omega
          · refine (unit_emb_val (s := S7x528) (h := qOff_inb q k) j 1).trans ?_
            rw [e1]
        rw [hx, hR, hj]
        refine (shapeCast_a_1a_apply (a := 16) _ _ (j 0) (j 1)).trans ?_
        exact hs _
      · rw [upd_of_not _ _ _ _ fun j hj => h ⟨j, hj⟩]
        refine ho x ?_
        by_contra hcon
        refine h (unit_emb_of (s := S7x528) x ?_)
        intro a'
        fin_cases a'
        · show rOff q k 0 ≤ (x 0).val ∧ (x 0).val < rOff q k 0 + 1
          rw [e0]; omega
        · show rOff q k 1 ≤ (x 1).val ∧ (x 1).val < rOff q k 1 + 16
          rw [e1]; omega
    · iexact H
  | n + 1, hn, s, hs => by
    unfold redFrom
    have hn' : n ≤ 15 := by omega
    iintro ⟨HA, H⟩
    iapply (has_load d i) $$ HA
    iintro HA
    have key : ∀ l, addf s (shapeCast S16 (fun j => acc ((Rect.unit (s := S16x528) (rOff (⟨15 - n, by omega⟩ : Fin 16) k) S1x16.size
        (rOff_inb ⟨15 - n, by omega⟩ k)).emb j)) shapeCasts_S1x16_S16) l = rowSum acc (col k l) (15 - n) := by
      intro l
      have h1 : 15 - n = (15 - (n + 1)) + 1 := by omega
      have h2 : (⟨15 - n, by omega⟩ : Fin 16) = ⟨((15 - (n + 1)) + 1) % 16, Nat.mod_lt _ (by omega)⟩ := Fin.ext (by
        show 15 - n = ((15 - (n + 1)) + 1) % 16
        omega)
      have h3 : rowSum acc (col k l) (15 - n) = FloatOps.addf (rowSum acc (col k l) (15 - (n + 1))) (acc (ix2 (⟨15 - n, by omega⟩ : Fin 16) (col k l))) := by
        rw [h2, h1]; rfl
      rw [h3, ← hs l]
      show FloatOps.addf (s l) _ = _
      exact congrArg (FloatOps.addf (s l)) (row_read acc ⟨15 - n, by omega⟩ k l)
    iapply (red_from n hn' _ key)
    isplitl [HA]; · iexact HA
    iexact H

end Red

theorem red_loop {α : Type} {Φ : α → sProp 𝕄} (A : Acc) (ob : Memref sig .scVector .vmem S7x528 .f32) (q : Fin 7)
    (acc : S16x528.Idx → F .f32) (R : S7x528.Idx → F .f32) (hR : ∀ y : Fin 528, R (ix2 q y) = laneSum acc y)
    {kk : BitVec 32 → PG F i α} :
    iprop(Has d i A fullShare acc ∗ Out d i ob R q.val 0)
      ⊢ iprop((∀ c, iprop(Has d i A fullShare acc ∗ Out d i ob R (q.val + 1) 0) -∗ wp frame (wpE (defs₀ (F := F)) 𝒱₀ (thr d i) none) Set.univ (kk c) Φ)
        -∗ wp frame (wpE (defs₀ (F := F)) 𝒱₀ (thr d i) none) Set.univ (redLoop i A ob q >>= kk) Φ) := by
  unfold redLoop
  have hb : ∀ (k : Fin k0_t34_loop.trips) (c : BitVec 32),
      iprop(Has d i A fullShare acc ∗ Out d i ob R q.val k.val)
        ⊢ wp frame (wpE (defs₀ (F := F)) 𝒱₀ (thr d i) none) Set.univ (redTrip i A ob q k c) (fun _ => iprop(Has d i A fullShare acc ∗ Out d i ob R q.val (k.val + 1))) := by
    intro k c
    unfold redTrip
    iintro ⟨HA, H⟩
    iapply (has_load d i) $$ HA
    iintro HA
    iapply (red_from d i A ob q k acc R hR 15 le_rfl _ (fun l => row_read acc 0 k l))
    isplitl [HA]; · iexact HA
    iexact H
  iintro H Hk
  iapply (Scf.wp_for_bind frame (wpE (defs₀ (F := F)) 𝒱₀ (thr d i) none) Set.univ _ _ _ k0_t34_ok 0#32 (redTrip i A ob q)
    (fun k _ => iprop(Has d i A fullShare acc ∗ Out d i ob R q.val k)) hb) $$ H
  iintro %c ⟨HA, H⟩
  iapply Hk
  isplitl [HA]; · iexact HA
  unfold Out
  icases H with ⟨%o, %ho, H⟩
  iexists o
  isplitl []
  · ipureintro
    intro x hx
    have h1 : (x 1).val < 528 := (x 1).isLt
    refine ho x ?_
    show (x 0).val < q.val ∨ ((x 0).val = q.val ∧ (x 1).val < 16 * 33)
    omega
  · iexact H

end Cert.KernelIdeal.Tile
-- ==== Proof.Tile.Run.lean ====
/- A tile's whole run: from its shares of the arrays and its own buffers to its part of the result. -/
module

public import proofs.«01_k».proof.Proof.Tile.Nodes
public import proofs.«01_k».proof.Proof.Tile.Sums

@[expose] public section

noncomputable section

namespace Cert.KernelIdeal.Tile

open Cert.KernelIdeal Cert.KernelIdeal.Gen Cert.KernelIdeal.Run

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers Idealize.ShloMosaic.ValueIdx

variable {F : FTy → Type} [FloatOps F]

local notation "𝕄" => MT nD τ sig (HIx 1) (Elt F) ℕ UU ℕ

variable (d : Dev nD) (i : grid0.Coords)

/-- The padded node arrays, as the tiles read them. -/
structure NodeArrs (F : FTy → Type) where
  x : S301056.Idx → F .f32
  y : S301056.Idx → F .f32
  g : S100352.Idx → BitVec 32

/-- The nodes of the tile at `i`. -/
def nodesAt (N : NodeArrs F) : NodeVals F where
  x := fun j => N.x ((Rect.unit (s := S301056) (k0_off233 i) S9408.size (k0_off233_inb i)).emb j)
  y := fun j => N.y ((Rect.unit (s := S301056) (k0_off233 i) S9408.size (k0_off233_inb i)).emb j)
  g := fun j => N.g ((Rect.unit (s := S100352) (k0_off234 i) S3136.size (k0_off234_inb i)).emb j)

/-- The seven accumulators at the end. -/
def accs (N : NodeArrs F) (E : EdgeVals F) : Fin 7 → S16x528.Idx → F .f32 :=
  ![accN (nodesAt i N) 196 0, accN (nodesAt i N) 196 1, accN (nodesAt i N) 196 2, accN (nodesAt i N) 196 3,
    accE E (wid i) 6250 0, accE E (wid i) 6250 1, accE E (wid i) 6250 2]

/-- The tile's part of the result. -/
def tileOut (N : NodeArrs F) (E : EdgeVals F) : S7x528.Idx → F .f32 := fun x => laneSum (accs i N E (x 0)) (x 1)

/-- The shares of the node arrays. -/
def NArrs (b : Bufs) (q : PosShare TreeShare) (N : NodeArrs F) : sProp 𝕄 :=
  iprop(Has d i b.px q N.x ∗ Has d i b.tx q N.y ∗ Has d i b.ng q N.g)

/-- The buffers of a tile, at any contents. -/
def Scratch (b : Bufs) : sProp 𝕄 :=
  iprop((∃ a : S9408.Idx → F .f32, Has d i b.bx fullShare a) ∗ (∃ a : S9408.Idx → F .f32, Has d i b.by' fullShare a)
    ∗ (∃ a : S3136.Idx → BitVec 32, Has d i b.bn fullShare a)
    ∗ (∃ a : S16x528.Idx → F .f32, Has d i b.a0 fullShare a) ∗ (∃ a : S16x528.Idx → F .f32, Has d i b.a1 fullShare a)
    ∗ (∃ a : S16x528.Idx → F .f32, Has d i b.a2 fullShare a) ∗ (∃ a : S16x528.Idx → F .f32, Has d i b.a3 fullShare a)
    ∗ (∃ a : S16x528.Idx → F .f32, Has d i b.a4 fullShare a) ∗ (∃ a : S16x528.Idx → F .f32, Has d i b.a5 fullShare a)
    ∗ (∃ a : S16x528.Idx → F .f32, Has d i b.a6 fullShare a) ∗ (∃ a : S7x528.Idx → F .f32, Has d i b.ob fullShare a)
    ∗ semVal (thr d i, .dma b.r0.sem) 0 ∗ semVal (thr d i, .dma b.r1.sem) 0
    ∗ semVal (thr d i, .dma b.r2.sem) 0 ∗ semVal (thr d i, .dma b.r3.sem) 0)

theorem node_copies {α : Type} {Φ : α → sProp 𝕄} {O : CellTallies nD τ sig (HIx 1)} {W : Waits sig (HIx 1)}
    (hO : ∀ g, O g none = 0) (b : Bufs) (q : PosShare TreeShare) (N : NodeArrs F) {kk : PUnit → PG F i α} :
    iprop(NArrs d i b q N ∗ (∃ a : S9408.Idx → F .f32, Has d i b.bx fullShare a)
        ∗ (∃ a : S9408.Idx → F .f32, Has d i b.by' fullShare a) ∗ (∃ a : S3136.Idx → BitVec 32, Has d i b.bn fullShare a)
        ∗ semVal (thr d i, .dma b.r0.sem) 0 ∗ semVal (thr d i, .dma b.r1.sem) 0 ∗ semVal (thr d i, .dma b.r2.sem) 0 ∗ Ow d i O W)
      ⊢ iprop((iprop(NArrs d i b q N ∗ Nodes d i b (nodesAt i N)
        ∗ semVal (thr d i, .dma b.r0.sem) 0 ∗ semVal (thr d i, .dma b.r1.sem) 0 ∗ semVal (thr d i, .dma b.r2.sem) 0 ∗ Ow d i O W)
          -∗ wp frame (wpE (defs₀ (F := F)) 𝒱₀ (thr d i) none) Set.univ (kk ⟨⟩) Φ)
        -∗ wp frame (wpE (defs₀ (F := F)) 𝒱₀ (thr d i) none) Set.univ (nodeCopies i b >>= kk) Φ) := by
  unfold NArrs Nodes nodeCopies copyX copyY copyN
  simp only [bind_assoc]
  iintro ⟨⟨Hx, Hy, Hg⟩, Hbx, Hby, Hbn, S0, S1, S2, HO⟩ Hk
  ihave Hx := (has_slice d i b.px (Rect.unit (s := S301056) (k0_off233 i) S9408.size (k0_off233_inb i)) (fun _ => rfl) q N.x) $$ Hx
  icases Hx with ⟨Hx, Bx⟩
  iapply (sync_copy d i hO (show 0 < S9408.numel by decide)) $$ [Hx Hbx S0 HO]
  · isplitl [Hx]; · iexact Hx
    isplitl [Hbx]; · iexact Hbx
    isplitl [S0]; · iexact S0
    iexact HO
  iintro ⟨Hx, Hbx, S0, HO⟩
  ihave Hx := Bx $$ Hx
  ihave Hy := (has_slice d i b.tx (Rect.unit (s := S301056) (k0_off233 i) S9408.size (k0_off233_inb i)) (fun _ => rfl) q N.y) $$ Hy
  icases Hy with ⟨Hy, By⟩
  iapply (sync_copy d i hO (show 0 < S9408.numel by decide)) $$ [Hy Hby S1 HO]
  · isplitl [Hy]; · iexact Hy
    isplitl [Hby]; · iexact Hby
    isplitl [S1]; · iexact S1
    iexact HO
  iintro ⟨Hy, Hby, S1, HO⟩
  ihave Hy := By $$ Hy
  ihave Hg := (has_slice d i b.ng (Rect.unit (s := S100352) (k0_off234 i) S3136.size (k0_off234_inb i)) (fun _ => rfl) q N.g) $$ Hg
  icases Hg with ⟨Hg, Bg⟩
  iapply (sync_copy d i hO (show 0 < S3136.numel by decide)) $$ [Hg Hbn S2 HO]
  · isplitl [Hg]; · iexact Hg
    isplitl [Hbn]; · iexact Hbn
    isplitl [S2]; · iexact S2
    iexact HO
  iintro ⟨Hg, Hbn, S2, HO⟩
  ihave Hg := Bg $$ Hg
  iapply Hk
  isplitl [Hx Hy Hg]
  · isplitl [Hx]; · iexact Hx
    isplitl [Hy]; · iexact Hy
    iexact Hg
  isplitl [Hbx Hby Hbn]
  · isplitl [Hbx]; · iexact Hbx
    isplitl [Hby]; · iexact Hby
    iexact Hbn
  isplitl [S0]; · iexact S0
  isplitl [S1]; · iexact S1
  isplitl [S2]; · iexact S2
  iexact HO

theorem tile_run {O : CellTallies nD τ sig (HIx 1)} {W : Waits sig (HIx 1)} (hO : ∀ g, O g none = 0) (b : Bufs)
    (h0 : b.s0.Even) (h1 : b.s1.Even) (q0 q1 q : PosShare TreeShare) (N : NodeArrs F) (E : EdgeVals F)
    (hN : ∀ x, (N.g x).toNat < 528) (hE : ∀ x, (E.g x).toNat < 528) :
    iprop(Idle d i b b.s0 q0 E ∗ Idle d i b b.s1 q1 E ∗ NArrs d i b q N
        ∗ (∃ a : S7x528.Idx → F .f32, Has d i (outRow i b.out) fullShare a) ∗ Scratch d i b ∗ Ow d i O W)
      ⊢ wp frame (wpE (defs₀ (F := F)) 𝒱₀ (thr d i) none) Set.univ (tile i b) (fun _ => iprop(Idle d i b b.s0 q0 E ∗ Idle d i b b.s1 q1 E ∗ NArrs d i b q N
        ∗ Has d i (outRow i b.out) fullShare (tileOut i N E) ∗ Scratch d i b ∗ Ow d i O W)) := by
  have hN' : ∀ x, ((nodesAt i N).g x).toNat < 528 := fun x => hN _
  unfold tile Scratch
  iintro ⟨I0, I1, HN, Hout, ⟨Hbx, Hby, Hbn, A0, A1, A2, A3, A4, A5, A6, Hob, S0, S1, S2, S3⟩, HO⟩
  iapply (edge_start d i b b.s0 h0 q0 E 0) $$ I0
  iintro HF
  iapply (zero_loop d i b.a0) $$ A0
  iintro %c0 A0
  iapply (zero_loop d i b.a1) $$ A1
  iintro %c1 A1
  iapply (zero_loop d i b.a2) $$ A2
  iintro %c2 A2
  iapply (zero_loop d i b.a3) $$ A3
  iintro %c3 A3
  iapply (zero_loop d i b.a4) $$ A4
  iintro %c4 A4
  iapply (zero_loop d i b.a5) $$ A5
  iintro %c5 A5
  iapply (zero_loop d i b.a6) $$ A6
  iintro %c6 A6
  iapply (node_copies d i hO b q N) $$ [HN Hbx Hby Hbn S0 S1 S2 HO]
  · isplitl [HN]; · iexact HN
    isplitl [Hbx]; · iexact Hbx
    isplitl [Hby]; · iexact Hby
    isplitl [Hbn]; · iexact Hbn
    isplitl [S0]; · iexact S0
    isplitl [S1]; · iexact S1
    isplitl [S2]; · iexact S2
    iexact HO
  iintro ⟨HN, Hns, S0, S1, S2, HO⟩
  iapply (node_loop d i b (nodesAt i N) hN') $$ [Hns A0 A1 A2 A3]
  · isplitl [Hns]; · iexact Hns
    unfold AccN
    isplitl [A0]; · iexact A0
    isplitl [A1]; · iexact A1
    isplitl [A2]; · iexact A2
    iexact A3
  iintro %c7 ⟨Hns, HA⟩
  iapply (edge_from d i hO b h0 h1 q0 q1 E hE 12 le_rfl) $$ [HF I1 A4 A5 A6 HO]
  · isplitl [HF]; · iexact HF
    isplitl [I1]; · iexact I1
    isplitl [A4 A5 A6]
    · unfold AccE
      isplitl [A4]; · iexact A4
      isplitl [A5]; · iexact A5
      iexact A6
    iexact HO
  iintro ⟨I0, I1, HB, HO⟩
  unfold AccN AccE
  icases HA with ⟨A0, A1, A2, A3⟩
  icases HB with ⟨A4, A5, A6⟩
  ihave Hob : Out d i b.ob (tileOut i N E) 0 0 $$ [Hob]
  · icases Hob with ⟨%o, Hob⟩
    unfold Out
    iexists o
    isplitl []
    · ipureintro; intro x hx; omega
    · iexact Hob
  iapply (red_loop d i b.a0 b.ob 0 _ (tileOut i N E) (fun _ => rfl)) $$ [A0 Hob]
  · isplitl [A0]; · iexact A0
    iexact Hob
  iintro %e0 ⟨A0, Hob⟩
  iapply (red_loop d i b.a1 b.ob 1 _ (tileOut i N E) (fun _ => rfl)) $$ [A1 Hob]
  · isplitl [A1]; · iexact A1
    iexact Hob
  iintro %e1 ⟨A1, Hob⟩
  iapply (red_loop d i b.a2 b.ob 2 _ (tileOut i N E) (fun _ => rfl)) $$ [A2 Hob]
  · isplitl [A2]; · iexact A2
    iexact Hob
  iintro %e2 ⟨A2, Hob⟩
  iapply (red_loop d i b.a3 b.ob 3 _ (tileOut i N E) (fun _ => rfl)) $$ [A3 Hob]
  · isplitl [A3]; · iexact A3
    iexact Hob
  iintro %e3 ⟨A3, Hob⟩
  iapply (red_loop d i b.a4 b.ob 4 _ (tileOut i N E) (fun _ => rfl)) $$ [A4 Hob]
  · isplitl [A4]; · iexact A4
    iexact Hob
  iintro %e4 ⟨A4, Hob⟩
  iapply (red_loop d i b.a5 b.ob 5 _ (tileOut i N E) (fun _ => rfl)) $$ [A5 Hob]
  · isplitl [A5]; · iexact A5
    iexact Hob
  iintro %e5 ⟨A5, Hob⟩
  iapply (red_loop d i b.a6 b.ob 6 _ (tileOut i N E) (fun _ => rfl)) $$ [A6 Hob]
  · isplitl [A6]; · iexact A6
    iexact Hob
  iintro %e6 ⟨A6, Hob⟩
  unfold outCopy Out
  icases Hob with ⟨%o, %ho, Hob⟩
  have ho' : o = tileOut i N E := funext fun x => ho x (Or.inl (x 0).isLt)
  rw [ho']
  iapply (sync_copy d i hO (by decide)) $$ [Hob Hout S3 HO]
  · isplitl [Hob]; · iexact Hob
    isplitl [Hout]; · iexact Hout
    isplitl [S3]; · iexact S3
    iexact HO
  iintro ⟨Hob, Hout, S3, HO⟩
  rw [wp_pure]
  imodintro
  isplitl [I0]; · iexact I0
  isplitl [I1]; · iexact I1
  isplitl [HN]; · iexact HN
  isplitl [Hout]; · iexact Hout
  isplitr [HO]
  · unfold Nodes
    icases Hns with ⟨Hbx, Hby, Hbn⟩
    isplitl [Hbx]; · iexists _; iexact Hbx
    isplitl [Hby]; · iexists _; iexact Hby
    isplitl [Hbn]; · iexists _; iexact Hbn
    isplitl [A0]; · iexists _; iexact A0
    isplitl [A1]; · iexists _; iexact A1
    isplitl [A2]; · iexists _; iexact A2
    isplitl [A3]; · iexists _; iexact A3
    isplitl [A4]; · iexists _; iexact A4
    isplitl [A5]; · iexists _; iexact A5
    isplitl [A6]; · iexists _; iexact A6
    isplitl [Hob]; · iexists _; iexact Hob
    isplitl [S0]; · iexact S0
    isplitl [S1]; · iexact S1
    isplitl [S2]; · iexact S2
    iexact S3
  iexact HO

end Cert.KernelIdeal.Tile
-- ==== Proof.Tile.Eq.lean ====
/- The printed tile program is the compact one. -/
module

public import proofs.«01_k».proof.Proof.Tile.Code

@[expose] public section

noncomputable section

namespace Cert.KernelIdeal.Tile

open Cert.KernelIdeal.Gen
open Idealize.ShloMosaic Idealize.SL.Sem

variable {F : FTy → Type} [FloatOps F]
/-! ## The parts the printed program is cut in -/

variable (i : grid0.Coords) in
def part50 (b : Bufs) : PG F i (Σ' (v1 : BitVec 32) (v2 : IVec S16 32) (v3 : FVec F S16 .f32) (v4 : FVec F S16 .f32) (c0_i32_24 : BitVec 32), BitVec 32) := do
  startP i b b.s0 0
  startT i b b.s0 0
  startG i b b.s0 0
  let _ ← zeroLoop i b.a0
  let _ ← zeroLoop i b.a1
  let _ ← zeroLoop i b.a2
  let _ ← zeroLoop i b.a3
  let _ ← zeroLoop i b.a4
  pure ⟨Scalar.addi (Scalar.muli (BitVec.ofNat 32 (i 1).val) 2#32) (BitVec.ofNat 32 (i 0).val), lanes, k0_pay263 (F := F), k0_pay264 (F := F), 0#32, 0#32⟩
variable (i : grid0.Coords) in
def part51 (b : Bufs) : PG F i (PUnit) := do
  let _ ← zeroLoop i b.a5
  let _ ← zeroLoop i b.a6
  copyX i b
  copyY i b
  copyN i b
  let _ ← nodeLoop i b
  startP i b b.s1 1
  startT i b b.s1 1
  startG i b b.s1 1
  waitP i b b.s0 0
  pure ⟨⟩
variable (i : grid0.Coords) in
def part52 (b : Bufs) : PG F i (PUnit) := do
  waitT i b b.s0 0
  waitG i b b.s0 0
  let _ ← edgeLoop i b b.s0
  startP i b b.s0 2
  startT i b b.s0 2
  startG i b b.s0 2
  waitP i b b.s1 1
  waitT i b b.s1 1
  waitG i b b.s1 1
  let _ ← edgeLoop i b b.s1
  startP i b b.s1 3
  startT i b b.s1 3
  startG i b b.s1 3
  waitP i b b.s0 2
  waitT i b b.s0 2
  pure ⟨⟩
variable (i : grid0.Coords) in
def part53 (b : Bufs) : PG F i (PUnit) := do
  waitG i b b.s0 2
  let _ ← edgeLoop i b b.s0
  startP i b b.s0 4
  startT i b b.s0 4
  startG i b b.s0 4
  waitP i b b.s1 3
  waitT i b b.s1 3
  waitG i b b.s1 3
  let _ ← edgeLoop i b b.s1
  startP i b b.s1 5
  startT i b b.s1 5
  startG i b b.s1 5
  waitP i b b.s0 4
  waitT i b b.s0 4
  pure ⟨⟩
variable (i : grid0.Coords) in
def part54 (b : Bufs) : PG F i (BitVec 32) := do
  waitG i b b.s0 4
  let _ ← edgeLoop i b b.s0
  startP i b b.s0 6
  startT i b b.s0 6
  startG i b b.s0 6
  waitP i b b.s1 5
  waitT i b b.s1 5
  waitG i b b.s1 5
  let _ ← edgeLoop i b b.s1
  startP i b b.s1 7
  startT i b b.s1 7
  startG i b b.s1 7
  waitP i b b.s0 6
  waitT i b b.s0 6
  waitG i b b.s0 6
  pure 0#32
variable (i : grid0.Coords) in
def part55 (b : Bufs) : PG F i (Σ' (c0_i32_87 : BitVec 32) (c0_i32_88 : BitVec 32), BitVec 32) := do
  let _ ← edgeLoop i b b.s0
  startP i b b.s0 8
  startT i b b.s0 8
  startG i b b.s0 8
  waitP i b b.s1 7
  waitT i b b.s1 7
  waitG i b b.s1 7
  let _ ← edgeLoop i b b.s1
  startP i b b.s1 9
  startT i b b.s1 9
  startG i b b.s1 9
  waitP i b b.s0 8
  waitT i b b.s0 8
  waitG i b b.s0 8
  pure ⟨0#32, 0#32, 50#32⟩
variable (i : grid0.Coords) in
def part56 (b : Bufs) : PG F i (Σ' (c0_i32_99 : BitVec 32) (c0_i32_100 : BitVec 32), BitVec 32) := do
  let _ ← edgeLoop i b b.s0
  startP i b b.s0 10
  startT i b b.s0 10
  startG i b b.s0 10
  waitP i b b.s1 9
  waitT i b b.s1 9
  waitG i b b.s1 9
  let _ ← edgeLoop i b b.s1
  startP i b b.s1 11
  startT i b b.s1 11
  startG i b b.s1 11
  waitP i b b.s0 10
  waitT i b b.s0 10
  waitG i b b.s0 10
  pure ⟨0#32, 0#32, 1#32⟩
variable (i : grid0.Coords) in
def part57 (b : Bufs) : PG F i (PUnit) := do
  let _ ← edgeLoop i b b.s0
  startP i b b.s0 12
  startT i b b.s0 12
  startG i b b.s0 12
  waitP i b b.s1 11
  waitT i b b.s1 11
  waitG i b b.s1 11
  let _ ← edgeLoop i b b.s1
  startP i b b.s1 13
  startT i b b.s1 13
  startG i b b.s1 13
  waitP i b b.s0 12
  waitT i b b.s0 12
  waitG i b b.s0 12
  let _ ← edgeLoop i b b.s0
  pure ⟨⟩
variable (i : grid0.Coords) in
def part58 (v1 : BitVec 32) (b : Bufs) : PG F i (BitVec 32) := do
  startP i b b.s0 14
  startT i b b.s0 14
  startG i b b.s0 14
  waitP i b b.s1 13
  waitT i b b.s1 13
  waitG i b b.s1 13
  let _ ← edgeLoop i b b.s1
  startP i b b.s1 15
  startT i b b.s1 15
  startG i b b.s1 15
  waitP i b b.s0 14
  waitT i b b.s0 14
  waitG i b b.s0 14
  let _ ← edgeLoop i b b.s0
  pure (Scalar.muli v1 100000#32)
variable (i : grid0.Coords) in
def part59 (b : Bufs) : PG F i (PUnit) := do
  startP i b b.s0 16
  startT i b b.s0 16
  startG i b b.s0 16
  waitP i b b.s1 15
  waitT i b b.s1 15
  waitG i b b.s1 15
  let _ ← edgeLoop i b b.s1
  startP i b b.s1 17
  startT i b b.s1 17
  startG i b b.s1 17
  waitP i b b.s0 16
  waitT i b b.s0 16
  waitG i b b.s0 16
  let _ ← edgeLoop i b b.s0
  pure ⟨⟩
variable (i : grid0.Coords) in
def part60 (b : Bufs) : PG F i (PUnit) := do
  startP i b b.s0 18
  startT i b b.s0 18
  startG i b b.s0 18
  waitP i b b.s1 17
  waitT i b b.s1 17
  waitG i b b.s1 17
  let _ ← edgeLoop i b b.s1
  startP i b b.s1 19
  startT i b b.s1 19
  startG i b b.s1 19
  waitP i b b.s0 18
  waitT i b b.s0 18
  waitG i b b.s0 18
  let _ ← edgeLoop i b b.s0
  pure ⟨⟩
variable (i : grid0.Coords) in
def part61 (b : Bufs) : PG F i (PUnit) := do
  startP i b b.s0 20
  startT i b b.s0 20
  startG i b b.s0 20
  waitP i b b.s1 19
  waitT i b b.s1 19
  waitG i b b.s1 19
  let _ ← edgeLoop i b b.s1
  startP i b b.s1 21
  startT i b b.s1 21
  startG i b b.s1 21
  waitP i b b.s0 20
  waitT i b b.s0 20
  waitG i b b.s0 20
  let _ ← edgeLoop i b b.s0
  startP i b b.s0 22
  pure ⟨⟩
variable (i : grid0.Coords) in
def part62 (b : Bufs) : PG F i (PUnit) := do
  startT i b b.s0 22
  startG i b b.s0 22
  waitP i b b.s1 21
  waitT i b b.s1 21
  waitG i b b.s1 21
  let _ ← edgeLoop i b b.s1
  startP i b b.s1 23
  startT i b b.s1 23
  startG i b b.s1 23
  waitP i b b.s0 22
  waitT i b b.s0 22
  waitG i b b.s0 22
  let _ ← edgeLoop i b b.s0
  startP i b b.s0 24
  startT i b b.s0 24
  pure ⟨⟩
variable (i : grid0.Coords) in
def part63 (b : Bufs) : PG F i (Σ' (c0_i32_201 : BitVec 32), BitVec 32) := do
  startG i b b.s0 24
  waitP i b b.s1 23
  waitT i b b.s1 23
  waitG i b b.s1 23
  let _ ← edgeLoop i b b.s1
  waitP i b b.s0 24
  waitT i b b.s0 24
  waitG i b b.s0 24
  let _ ← edgeLoop i b b.s0
  let _ ← redLoop i b.a0 b.ob 0
  let _ ← redLoop i b.a1 b.ob 1
  let _ ← redLoop i b.a2 b.ob 2
  pure ⟨0#32, 0#32⟩

section
variable (i : grid0.Coords) (arg2 : Memref sig .scVector .hbm S3200000 .f32) (harg2 : arg2.IsWhole) (arg3 : Memref sig .scVector .hbm S3200000 .f32) (harg3 : arg3.IsWhole) (arg4 : Memref sig .scVector .hbm S3200000 .i32) (harg4 : arg4.IsWhole) (arg5 : Memref sig .scVector .hbm S301056 .f32) (harg5 : arg5.IsWhole) (arg6 : Memref sig .scVector .hbm S301056 .f32) (harg6 : arg6.IsWhole) (arg7 : Memref sig .scVector .hbm S100352 .i32) (harg7 : arg7.IsWhole) (arg8 : Memref sig .scVector .hbm S32x7x528 .f32) (harg8 : arg8.IsWhole) (arg9 : Memref sig .scVector .vmem S4000 .f32) (harg9 : arg9.IsWhole) (arg10 : Memref sig .scVector .vmem S4000 .f32) (harg10 : arg10.IsWhole) (arg11 : Memref sig .scVector .vmem S4000 .f32) (harg11 : arg11.IsWhole) (arg12 : Memref sig .scVector .vmem S4000 .f32) (harg12 : arg12.IsWhole) (arg13 : Memref sig .scVector .vmem S4000 .i32) (harg13 : arg13.IsWhole) (arg14 : Memref sig .scVector .vmem S4000 .i32) (harg14 : arg14.IsWhole) (arg15 : Memref sig .scVector .vmem S9408 .f32) (harg15 : arg15.IsWhole) (arg16 : Memref sig .scVector .vmem S9408 .f32) (harg16 : arg16.IsWhole) (arg17 : Memref sig .scVector .vmem S3136 .i32) (harg17 : arg17.IsWhole) (arg18 : Memref sig .scVector .vmem S16x528 .f32) (harg18 : arg18.IsWhole) (arg19 : Memref sig .scVector .vmem S16x528 .f32) (harg19 : arg19.IsWhole) (arg20 : Memref sig .scVector .vmem S16x528 .f32) (harg20 : arg20.IsWhole) (arg21 : Memref sig .scVector .vmem S16x528 .f32) (harg21 : arg21.IsWhole) (arg22 : Memref sig .scVector .vmem S16x528 .f32) (harg22 : arg22.IsWhole) (arg23 : Memref sig .scVector .vmem S16x528 .f32) (harg23 : arg23.IsWhole) (arg24 : Memref sig .scVector .vmem S16x528 .f32) (harg24 : arg24.IsWhole) (arg25 : Memref sig .scVector .vmem S7x528 .f32) (harg25 : arg25.IsWhole) (arg26 : DmaSems sig S_) (arg27 : DmaSems sig S_) (v438_r0 : DmaSems sig S_) (v438_r1 : DmaSems sig S_) (v438_r2 : DmaSems sig S_) (v438_r3 : DmaSems sig S_)

set_option maxRecDepth 65536 in
/-- A trip over the nodes, its four groups one after the other. -/
theorem nodeBody_at (v1 : BitVec 32) (v2 : IVec S16 32) (v3 : FVec F S16 .f32) (a b : BitVec 32) :
    k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 v438_r0 v438_r1 v438_r2 v438_r3 v1 v2 v3 (k0_pay264 (F := F)) a b = fun k _ => (do
      nodeStepAt i (Bufs.mk arg2 arg3 arg4 arg5 arg6 arg7 arg8 (Slot.mk arg9 harg9 arg11 harg11 arg13 harg13 arg26) (Slot.mk arg10 harg10 arg12 harg12 arg14 harg14 arg27) arg15 harg15 arg16 harg16 arg17 harg17 arg18 arg19 arg20 arg21 arg22 arg23 arg24 arg25 harg25 v438_r0 v438_r1 v438_r2 v438_r3) k 0 v2 (k0_pay5 v2 0#32 1#32 k) (k0_pay6 (k0_pay5 v2 0#32 1#32 k)) (k0_pay7 (k0_pay5 v2 0#32 1#32 k)) (k0_pay8 (k0_pay5 v2 0#32 1#32 k)) (k0_pay9 (k0_pay5 v2 0#32 1#32 k))
      let X1 := k0_pay13 v2 (Scalar.addi (Scalar.muli (Scf.iv 0#32 1#32 k) 64#32) 16#32)
      nodeStepAt i (Bufs.mk arg2 arg3 arg4 arg5 arg6 arg7 arg8 (Slot.mk arg9 harg9 arg11 harg11 arg13 harg13 arg26) (Slot.mk arg10 harg10 arg12 harg12 arg14 harg14 arg27) arg15 harg15 arg16 harg16 arg17 harg17 arg18 arg19 arg20 arg21 arg22 arg23 arg24 arg25 harg25 v438_r0 v438_r1 v438_r2 v438_r3) k 1 v2 X1 (k0_pay14 X1) (k0_pay15 X1) (k0_pay16 X1) (k0_pay17 X1)
      let X2 := k0_pay22 (k0_pay21 v2 (Scalar.muli (Scf.iv 0#32 1#32 k) 64#32))
      nodeStepAt i (Bufs.mk arg2 arg3 arg4 arg5 arg6 arg7 arg8 (Slot.mk arg9 harg9 arg11 harg11 arg13 harg13 arg26) (Slot.mk arg10 harg10 arg12 harg12 arg14 harg14 arg27) arg15 harg15 arg16 harg16 arg17 harg17 arg18 arg19 arg20 arg21 arg22 arg23 arg24 arg25 harg25 v438_r0 v438_r1 v438_r2 v438_r3) k 2 v2 X2 (k0_pay23 X2) (k0_pay24 X2) (k0_pay25 X2) (k0_pay26 X2)
      let X3 := k0_pay30 v2 (Scalar.muli (Scf.iv 0#32 1#32 k) 64#32)
      nodeStepAt i (Bufs.mk arg2 arg3 arg4 arg5 arg6 arg7 arg8 (Slot.mk arg9 harg9 arg11 harg11 arg13 harg13 arg26) (Slot.mk arg10 harg10 arg12 harg12 arg14 harg14 arg27) arg15 harg15 arg16 harg16 arg17 harg17 arg18 arg19 arg20 arg21 arg22 arg23 arg24 arg25 harg25 v438_r0 v438_r1 v438_r2 v438_r3) k 3 v2 X3 (k0_pay265 X3) (k0_pay266 X3) (k0_pay267 X3) (k0_pay268 X3)
      pure 0#32) := by
  funext k x
  simp only [k0_t8_body, k0_part15_eq_skeleton, k0_part16_eq_skeleton, k0_part17_eq_skeleton, k0_part15_skel,
    k0_part16_skel, k0_part17_skel, nodeStepAt, bind_assoc, pure_bind]
  rfl

theorem nodeBody (v1 : BitVec 32) (v3 : FVec F S16 .f32) (a b : BitVec 32) :
    k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 v438_r0 v438_r1 v438_r2 v438_r3 v1 lanes v3 (k0_pay264 (F := F)) a b = nodeTrip i (Bufs.mk arg2 arg3 arg4 arg5 arg6 arg7 arg8 (Slot.mk arg9 harg9 arg11 harg11 arg13 harg13 arg26) (Slot.mk arg10 harg10 arg12 harg12 arg14 harg14 arg27) arg15 harg15 arg16 harg16 arg17 harg17 arg18 arg19 arg20 arg21 arg22 arg23 arg24 arg25 harg25 v438_r0 v438_r1 v438_r2 v438_r3) :=
  (nodeBody_at i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 v438_r0 v438_r1 v438_r2 v438_r3 v1 lanes v3 a b).trans rfl

/-- Two sequences are equal when their first parts are and what follows them is. -/
theorem seq_eq {α β : Type} {p p' : PG F i α} {k k' : α → PG F i β} (h : p = p') (hk : ∀ x, k x = k' x) :
    p >>= k = p' >>= k' := by
  rw [h, funext hk]

theorem part50_eq : k0_part50 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 v438_r0 v438_r1 v438_r2 v438_r3  = part50 i (Bufs.mk arg2 arg3 arg4 arg5 arg6 arg7 arg8 (Slot.mk arg9 harg9 arg11 harg11 arg13 harg13 arg26) (Slot.mk arg10 harg10 arg12 harg12 arg14 harg14 arg27) arg15 harg15 arg16 harg16 arg17 harg17 arg18 arg19 arg20 arg21 arg22 arg23 arg24 arg25 harg25 v438_r0 v438_r1 v438_r2 v438_r3) := by
  rw [k0_part50_eq_skeleton]
  rfl

theorem part51_eq (v1 : BitVec 32) : k0_part51 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 v438_r0 v438_r1 v438_r2 v438_r3 v1 lanes (k0_pay263 (F := F)) (k0_pay264 (F := F)) 0#32 0#32 = part51 i (Bufs.mk arg2 arg3 arg4 arg5 arg6 arg7 arg8 (Slot.mk arg9 harg9 arg11 harg11 arg13 harg13 arg26) (Slot.mk arg10 harg10 arg12 harg12 arg14 harg14 arg27) arg15 harg15 arg16 harg16 arg17 harg17 arg18 arg19 arg20 arg21 arg22 arg23 arg24 arg25 harg25 v438_r0 v438_r1 v438_r2 v438_r3) := by
  rw [k0_part51_eq_skeleton]
  unfold k0_part51_skel
  simp only [nodeBody, part51, copyX, copyY, copyN, bind_assoc]
  refine seq_eq i rfl fun _ => ?_
  refine seq_eq i rfl fun _ => ?_
  refine seq_eq i rfl fun _ => ?_
  refine seq_eq i rfl fun _ => ?_
  refine seq_eq i rfl fun _ => ?_
  refine seq_eq i rfl fun _ => ?_
  refine seq_eq i rfl fun _ => ?_
  refine seq_eq i rfl fun _ => ?_
  refine seq_eq i rfl fun _ => ?_
  rfl

theorem part52_eq (v1 : BitVec 32) : k0_part52 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 v438_r0 v438_r1 v438_r2 v438_r3 v1 lanes = part52 i (Bufs.mk arg2 arg3 arg4 arg5 arg6 arg7 arg8 (Slot.mk arg9 harg9 arg11 harg11 arg13 harg13 arg26) (Slot.mk arg10 harg10 arg12 harg12 arg14 harg14 arg27) arg15 harg15 arg16 harg16 arg17 harg17 arg18 arg19 arg20 arg21 arg22 arg23 arg24 arg25 harg25 v438_r0 v438_r1 v438_r2 v438_r3) := by
  rw [k0_part52_eq_skeleton]
  rfl

theorem part53_eq (v1 : BitVec 32) : k0_part53 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 v438_r0 v438_r1 v438_r2 v438_r3 v1 lanes = part53 i (Bufs.mk arg2 arg3 arg4 arg5 arg6 arg7 arg8 (Slot.mk arg9 harg9 arg11 harg11 arg13 harg13 arg26) (Slot.mk arg10 harg10 arg12 harg12 arg14 harg14 arg27) arg15 harg15 arg16 harg16 arg17 harg17 arg18 arg19 arg20 arg21 arg22 arg23 arg24 arg25 harg25 v438_r0 v438_r1 v438_r2 v438_r3) := by
  rw [k0_part53_eq_skeleton]
  rfl

theorem part54_eq (v1 : BitVec 32) : k0_part54 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 v438_r0 v438_r1 v438_r2 v438_r3 v1 lanes = part54 i (Bufs.mk arg2 arg3 arg4 arg5 arg6 arg7 arg8 (Slot.mk arg9 harg9 arg11 harg11 arg13 harg13 arg26) (Slot.mk arg10 harg10 arg12 harg12 arg14 harg14 arg27) arg15 harg15 arg16 harg16 arg17 harg17 arg18 arg19 arg20 arg21 arg22 arg23 arg24 arg25 harg25 v438_r0 v438_r1 v438_r2 v438_r3) := by
  rw [k0_part54_eq_skeleton]
  rfl

theorem part55_eq (v1 : BitVec 32) : k0_part55 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 v438_r0 v438_r1 v438_r2 v438_r3 v1 lanes 0#32 = part55 i (Bufs.mk arg2 arg3 arg4 arg5 arg6 arg7 arg8 (Slot.mk arg9 harg9 arg11 harg11 arg13 harg13 arg26) (Slot.mk arg10 harg10 arg12 harg12 arg14 harg14 arg27) arg15 harg15 arg16 harg16 arg17 harg17 arg18 arg19 arg20 arg21 arg22 arg23 arg24 arg25 harg25 v438_r0 v438_r1 v438_r2 v438_r3) := by
  rw [k0_part55_eq_skeleton]
  rfl

theorem part56_eq (v1 : BitVec 32) : k0_part56 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 v438_r0 v438_r1 v438_r2 v438_r3 v1 lanes 0#32 0#32 50#32 = part56 i (Bufs.mk arg2 arg3 arg4 arg5 arg6 arg7 arg8 (Slot.mk arg9 harg9 arg11 harg11 arg13 harg13 arg26) (Slot.mk arg10 harg10 arg12 harg12 arg14 harg14 arg27) arg15 harg15 arg16 harg16 arg17 harg17 arg18 arg19 arg20 arg21 arg22 arg23 arg24 arg25 harg25 v438_r0 v438_r1 v438_r2 v438_r3) := by
  rw [k0_part56_eq_skeleton]
  rfl

theorem part57_eq (v1 : BitVec 32) : k0_part57 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 v438_r0 v438_r1 v438_r2 v438_r3 v1 lanes 0#32 0#32 1#32 = part57 i (Bufs.mk arg2 arg3 arg4 arg5 arg6 arg7 arg8 (Slot.mk arg9 harg9 arg11 harg11 arg13 harg13 arg26) (Slot.mk arg10 harg10 arg12 harg12 arg14 harg14 arg27) arg15 harg15 arg16 harg16 arg17 harg17 arg18 arg19 arg20 arg21 arg22 arg23 arg24 arg25 harg25 v438_r0 v438_r1 v438_r2 v438_r3) := by
  rw [k0_part57_eq_skeleton]
  rfl

theorem part58_eq (v1 : BitVec 32) : k0_part58 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 v438_r0 v438_r1 v438_r2 v438_r3 v1 lanes = part58 i v1 (Bufs.mk arg2 arg3 arg4 arg5 arg6 arg7 arg8 (Slot.mk arg9 harg9 arg11 harg11 arg13 harg13 arg26) (Slot.mk arg10 harg10 arg12 harg12 arg14 harg14 arg27) arg15 harg15 arg16 harg16 arg17 harg17 arg18 arg19 arg20 arg21 arg22 arg23 arg24 arg25 harg25 v438_r0 v438_r1 v438_r2 v438_r3) := by
  rw [k0_part58_eq_skeleton]
  rfl

theorem part59_eq (v1 : BitVec 32) (v272 : BitVec 32) : k0_part59 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 v438_r0 v438_r1 v438_r2 v438_r3 v1 lanes v272 = part59 i (Bufs.mk arg2 arg3 arg4 arg5 arg6 arg7 arg8 (Slot.mk arg9 harg9 arg11 harg11 arg13 harg13 arg26) (Slot.mk arg10 harg10 arg12 harg12 arg14 harg14 arg27) arg15 harg15 arg16 harg16 arg17 harg17 arg18 arg19 arg20 arg21 arg22 arg23 arg24 arg25 harg25 v438_r0 v438_r1 v438_r2 v438_r3) := by
  rw [k0_part59_eq_skeleton]
  rfl

theorem part60_eq (v1 : BitVec 32) : k0_part60 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 v438_r0 v438_r1 v438_r2 v438_r3 v1 lanes = part60 i (Bufs.mk arg2 arg3 arg4 arg5 arg6 arg7 arg8 (Slot.mk arg9 harg9 arg11 harg11 arg13 harg13 arg26) (Slot.mk arg10 harg10 arg12 harg12 arg14 harg14 arg27) arg15 harg15 arg16 harg16 arg17 harg17 arg18 arg19 arg20 arg21 arg22 arg23 arg24 arg25 harg25 v438_r0 v438_r1 v438_r2 v438_r3) := by
  rw [k0_part60_eq_skeleton]
  rfl

theorem part61_eq (v1 : BitVec 32) : k0_part61 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 v438_r0 v438_r1 v438_r2 v438_r3 v1 lanes = part61 i (Bufs.mk arg2 arg3 arg4 arg5 arg6 arg7 arg8 (Slot.mk arg9 harg9 arg11 harg11 arg13 harg13 arg26) (Slot.mk arg10 harg10 arg12 harg12 arg14 harg14 arg27) arg15 harg15 arg16 harg16 arg17 harg17 arg18 arg19 arg20 arg21 arg22 arg23 arg24 arg25 harg25 v438_r0 v438_r1 v438_r2 v438_r3) := by
  rw [k0_part61_eq_skeleton]
  rfl

theorem part62_eq (v1 : BitVec 32) : k0_part62 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 v438_r0 v438_r1 v438_r2 v438_r3 v1 lanes = part62 i (Bufs.mk arg2 arg3 arg4 arg5 arg6 arg7 arg8 (Slot.mk arg9 harg9 arg11 harg11 arg13 harg13 arg26) (Slot.mk arg10 harg10 arg12 harg12 arg14 harg14 arg27) arg15 harg15 arg16 harg16 arg17 harg17 arg18 arg19 arg20 arg21 arg22 arg23 arg24 arg25 harg25 v438_r0 v438_r1 v438_r2 v438_r3) := by
  rw [k0_part62_eq_skeleton]
  rfl

theorem part63_eq : k0_part63 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 v438_r0 v438_r1 v438_r2 v438_r3 lanes = part63 i (Bufs.mk arg2 arg3 arg4 arg5 arg6 arg7 arg8 (Slot.mk arg9 harg9 arg11 harg11 arg13 harg13 arg26) (Slot.mk arg10 harg10 arg12 harg12 arg14 harg14 arg27) arg15 harg15 arg16 harg16 arg17 harg17 arg18 arg19 arg20 arg21 arg22 arg23 arg24 arg25 harg25 v438_r0 v438_r1 v438_r2 v438_r3) := by
  rw [k0_part63_eq_skeleton]
  rfl

set_option maxRecDepth 65536 in
set_option maxHeartbeats 4000000 in
/-- The printed tile program, block after block. -/
theorem tile_eq : cc0__sc_partials (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 v438_r0 v438_r1 v438_r2 v438_r3 = tile i (Bufs.mk arg2 arg3 arg4 arg5 arg6 arg7 arg8 (Slot.mk arg9 harg9 arg11 harg11 arg13 harg13 arg26) (Slot.mk arg10 harg10 arg12 harg12 arg14 harg14 arg27) arg15 harg15 arg16 harg16 arg17 harg17 arg18 arg19 arg20 arg21 arg22 arg23 arg24 arg25 harg25 v438_r0 v438_r1 v438_r2 v438_r3) := by
  rw [cc0__sc_partials_eq_skeleton]
  unfold cc0__sc_partials_skel
  simp only [part50_eq, part51_eq, part52_eq, part53_eq, part54_eq, part55_eq, part56_eq, part57_eq, part58_eq, part59_eq,
    part60_eq, part61_eq, part62_eq, part63_eq,
    part50, part51, part52, part53, part54, part55, part56, part57, part58, part59, part60, part61, part62, part63,
    bind_assoc, pure_bind]
  simp only [tile, edgeStart, edgeWait, edgeFrom, nodeCopies, outCopy, bind_assoc, pure_bind]
  rfl

end
end Cert.KernelIdeal.Tile
-- ==== Proof.Launch.Scope.lean ====
/- A tile's own buffers and semaphores, out of what its thread is handed. -/
module

public import proofs.«01_k».proof.Proof.Tile.Run
public import proofs.«01_k».proof.Proof.Tile.Eq
public import Idealize.ShloMosaic.Lib.SparseCore.Launch

@[expose] public section

noncomputable section

namespace Cert.KernelIdeal.Tile

open Cert.KernelIdeal Cert.KernelIdeal.Gen Cert.KernelIdeal.Run

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers Idealize.ShloMosaic.ValueIdx

variable {F : FTy → Type} [FloatOps F]

local notation "𝕄" => MT nD τ sig (HIx 1) (Elt F) ℕ UU ℕ

variable (d : Dev nD) (i : grid0.Coords)

/-- The buffers the call names. -/
abbrev TB : Bufs := Bufs.mk (Memref.whole main_arg1_scv) (Memref.whole main_arg3_scv) (Memref.whole main_arg4_scv) (Memref.whole main_v1_scv) (Memref.whole main_v3_scv) (Memref.whole main_v4_scv) (Memref.whole main_v5_scv)
  (Slot.mk (Memref.whole cc0_scratch0) (Memref.isWhole_whole _) (Memref.whole cc0_scratch2) (Memref.isWhole_whole _) (Memref.whole cc0_scratch4) (Memref.isWhole_whole _) cc0_scratch17)
  (Slot.mk (Memref.whole cc0_scratch1) (Memref.isWhole_whole _) (Memref.whole cc0_scratch3) (Memref.isWhole_whole _) (Memref.whole cc0_scratch5) (Memref.isWhole_whole _) cc0_scratch18)
  (Memref.whole cc0_scratch6) (Memref.isWhole_whole _) (Memref.whole cc0_scratch7) (Memref.isWhole_whole _) (Memref.whole cc0_scratch8) (Memref.isWhole_whole _)
  (Memref.whole cc0_scratch9) (Memref.whole cc0_scratch10) (Memref.whole cc0_scratch11) (Memref.whole cc0_scratch12) (Memref.whole cc0_scratch13) (Memref.whole cc0_scratch14) (Memref.whole cc0_scratch15)
  (Memref.whole cc0_scratch16) (Memref.isWhole_whole _) cc0_scoped0 cc0_scoped1 cc0_scoped2 cc0_scoped3

theorem even0 : TB.s0.Even := ⟨rfl, rfl⟩
theorem even1 : TB.s1.Even := ⟨rfl, rfl⟩

/-- A whole buffer held, as the program's steps read it. -/
theorem has_whole (r : Ref sig .scVector) (q : PosShare TreeShare) (f : Buf (Elt F) ((thr d i).loc r)) :
    ((thr d i).loc r ↦{q} f : sProp 𝕄) ⊢ Has d i (Memref.whole r) q f := by
  unfold Has
  iintro H
  iexists f
  isplitl []
  · ipureintro; rfl
  · simp only [Memref.view_whole, View.set_whole]
    iexact H

theorem whole_has (r : Ref sig .scVector) (q : PosShare TreeShare) (f : Buf (Elt F) ((thr d i).loc r)) :
    Has d i (Memref.whole r) q f ⊢ ((thr d i).loc r ↦{q} f : sProp 𝕄) := by
  unfold Has
  iintro ⟨%g, %hg, H⟩
  have hg' : g = f := hg
  subst hg'
  simp only [Memref.view_whole, View.set_whole]
  iexact H

/-- The tile's own buffers. -/
def refs : List (Ref sig .scVector) := [cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15, cc0_scratch16]
/-- The tile's own transfer semaphores. -/
def sems : List (DmaSem sig) := [cc0_scratch17.sem, cc0_scratch18.sem, cc0_scoped0.sem, cc0_scoped1.sem, cc0_scoped2.sem, cc0_scoped3.sem]

theorem refs_nodup : refs.Nodup := by decide
theorem sems_nodup : sems.Nodup := by decide
theorem refs_owner : ∀ r ∈ refs, ((thr d i).2.devRef r).owner = Owner.proc (thr d i).2 := by
  have h : refs.Forall fun r => ((thr d i).2.devRef r).owner = Owner.proc (thr d i).2 :=
    ⟨rfl, rfl, rfl, rfl, rfl, rfl, rfl, rfl, rfl, rfl, rfl, rfl, rfl, rfl, rfl, rfl, rfl⟩
  exact List.forall_iff_forall_mem.mp h
theorem sems_scoped : ∀ s ∈ sems, (SemLoc.dma s : SemLoc sig).isScoped .scVector = true := by decide

/-- The buffers, each at some contents. -/
def bufsL : sProp 𝕄 :=
  iprop((∃ f, (thr d i).loc cc0_scratch0 ↦{fullShare} f) ∗ (∃ f, (thr d i).loc cc0_scratch1 ↦{fullShare} f) ∗ (∃ f, (thr d i).loc cc0_scratch2 ↦{fullShare} f) ∗ (∃ f, (thr d i).loc cc0_scratch3 ↦{fullShare} f) ∗ (∃ f, (thr d i).loc cc0_scratch4 ↦{fullShare} f) ∗ (∃ f, (thr d i).loc cc0_scratch5 ↦{fullShare} f) ∗ (∃ f, (thr d i).loc cc0_scratch6 ↦{fullShare} f) ∗ (∃ f, (thr d i).loc cc0_scratch7 ↦{fullShare} f) ∗ (∃ f, (thr d i).loc cc0_scratch8 ↦{fullShare} f) ∗ (∃ f, (thr d i).loc cc0_scratch9 ↦{fullShare} f) ∗ (∃ f, (thr d i).loc cc0_scratch10 ↦{fullShare} f) ∗ (∃ f, (thr d i).loc cc0_scratch11 ↦{fullShare} f) ∗ (∃ f, (thr d i).loc cc0_scratch12 ↦{fullShare} f) ∗ (∃ f, (thr d i).loc cc0_scratch13 ↦{fullShare} f) ∗ (∃ f, (thr d i).loc cc0_scratch14 ↦{fullShare} f) ∗ (∃ f, (thr d i).loc cc0_scratch15 ↦{fullShare} f) ∗ (∃ f, (thr d i).loc cc0_scratch16 ↦{fullShare} f))
/-- The semaphores, each at zero. -/
def semsL : sProp 𝕄 :=
  iprop(semVal (thr d i, .dma cc0_scratch17.sem) 0 ∗ semVal (thr d i, .dma cc0_scratch18.sem) 0 ∗ semVal (thr d i, .dma cc0_scoped0.sem) 0 ∗ semVal (thr d i, .dma cc0_scoped1.sem) 0 ∗ semVal (thr d i, .dma cc0_scoped2.sem) 0 ∗ semVal (thr d i, .dma cc0_scoped3.sem) 0)

theorem bufs_split : (ownBufs (thr d i) : sProp 𝕄) ⊢ iprop(bufsL d i ∗ (bufsL d i -∗ ownBufs (thr d i))) := by
  classical
  have hin : refs.toFinset.image (thr d i).2.devRef ⊆ ownRefs (thr d i).2 := by
    intro b hb
    obtain ⟨r, hr, rfl⟩ := Finset.mem_image.mp hb
    exact SparseCore.Cfg.mem_ownRefs_of_owner (refs_owner d i r (List.mem_toFinset.mp hr))
  have he : (ownBufs (thr d i) : sProp 𝕄) = iprop(bufsL d i ∗ bigSep (ownRefs (thr d i).2 \ refs.toFinset.image (thr d i).2.devRef)
      fun b => iprop(∃ f, (((thr d i).1, b) : Loc nD τ sig) ↦{fullShare} f)) := by
    unfold ownBufs
    rw [bigSep_sdiff_split hin, SparseCore.bigSep_image_of_injOn (Proc.devRef_injective _).injOn, bigSep_eq_bigSepL refs refs_nodup]
    rfl
  rw [he]
  iintro ⟨H, R⟩
  isplitl [H]; · iexact H
  iintro H
  isplitl [H]; · iexact H
  iexact R

theorem sems_split : (ownSems0 (thr d i) : sProp 𝕄) ⊢ iprop(semsL d i ∗ (semsL d i -∗ ownSems0 (thr d i))) := by
  classical
  have hin : sems.toFinset.image (fun s => ((thr d i, SemLoc.dma s) : GSem nD τ sig)) ⊆ ownCells (thr d i) := by
    intro b hb
    obtain ⟨r, hr, rfl⟩ := Finset.mem_image.mp hb
    exact mem_ownCells.mpr ⟨rfl, sems_scoped r (List.mem_toFinset.mp hr)⟩
  have he : (ownSems0 (thr d i) : sProp 𝕄) = iprop(semsL d i ∗ bigSep (ownCells (thr d i) \ sems.toFinset.image (fun s => ((thr d i, SemLoc.dma s) : GSem nD τ sig)))
      fun g => semVal g 0) := by
    unfold ownSems0
    rw [bigSep_sdiff_split hin, SparseCore.bigSep_image_of_injOn (fun a _ b _ h => by simpa using h), bigSep_eq_bigSepL sems sems_nodup]
    rfl
  rw [he]
  iintro ⟨H, R⟩
  isplitl [H]; · iexact H
  iintro H
  isplitl [H]; · iexact H
  iexact R

/-- A buffer at some contents, both ways. -/
theorem some_has (r : Ref sig .scVector) : iprop(∃ f, (thr d i).loc r ↦{fullShare} f : sProp 𝕄)
    ⊢ iprop(∃ f : Buf (Elt F) ((thr d i).loc r), Has d i (Memref.whole r) fullShare f) := by
  iintro ⟨%f, H⟩
  iexists f
  iapply (has_whole d i r fullShare f)
  iexact H
theorem has_some (r : Ref sig .scVector) : iprop(∃ f : Buf (Elt F) ((thr d i).loc r), Has d i (Memref.whole r) fullShare f)
    ⊢ (iprop(∃ f, (thr d i).loc r ↦{fullShare} f) : sProp 𝕄) := by
  iintro ⟨%f, H⟩
  iexists f
  iapply (whole_has d i r fullShare f)
  iexact H

/-- The buffers of a slot at some contents. -/
def Hollow (s : Slot) : sProp 𝕄 :=
  iprop((∃ a, Has d i s.p fullShare a) ∗ (∃ a, Has d i s.t fullShare a) ∗ (∃ a, Has d i s.e fullShare a)
    ∗ semVal (thr d i, .dma s.sem.sem) 0)

theorem own_in : iprop(bufsL d i ∗ semsL d i : sProp 𝕄) ⊢ iprop(Hollow d i TB.s0 ∗ Hollow d i TB.s1 ∗ Scratch d i TB) := by
  unfold Hollow Scratch
  unfold bufsL semsL
  iintro ⟨⟨B0, B1, B2, B3, B4, B5, B6, B7, B8, B9, B10, B11, B12, B13, B14, B15, B16⟩, ⟨S0, S1, S2, S3, S4, S5⟩⟩
  ihave B0 := (some_has d i cc0_scratch0) $$ B0
  ihave B1 := (some_has d i cc0_scratch1) $$ B1
  ihave B2 := (some_has d i cc0_scratch2) $$ B2
  ihave B3 := (some_has d i cc0_scratch3) $$ B3
  ihave B4 := (some_has d i cc0_scratch4) $$ B4
  ihave B5 := (some_has d i cc0_scratch5) $$ B5
  ihave B6 := (some_has d i cc0_scratch6) $$ B6
  ihave B7 := (some_has d i cc0_scratch7) $$ B7
  ihave B8 := (some_has d i cc0_scratch8) $$ B8
  ihave B9 := (some_has d i cc0_scratch9) $$ B9
  ihave B10 := (some_has d i cc0_scratch10) $$ B10
  ihave B11 := (some_has d i cc0_scratch11) $$ B11
  ihave B12 := (some_has d i cc0_scratch12) $$ B12
  ihave B13 := (some_has d i cc0_scratch13) $$ B13
  ihave B14 := (some_has d i cc0_scratch14) $$ B14
  ihave B15 := (some_has d i cc0_scratch15) $$ B15
  ihave B16 := (some_has d i cc0_scratch16) $$ B16
  isplitl [B0 B2 B4 S0]
  · isplitl [B0]; · iexact B0
    isplitl [B2]; · iexact B2
    isplitl [B4]; · iexact B4
    iexact S0
  isplitl [B1 B3 B5 S1]
  · isplitl [B1]; · iexact B1
    isplitl [B3]; · iexact B3
    isplitl [B5]; · iexact B5
    iexact S1
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [S2]; · iexact S2
  isplitl [S3]; · iexact S3
  isplitl [S4]; · iexact S4
  iexact S5

theorem own_out : iprop(Hollow d i TB.s0 ∗ Hollow d i TB.s1 ∗ Scratch d i TB) ⊢ (iprop(bufsL d i ∗ semsL d i) : sProp 𝕄) := by
  unfold Hollow Scratch
  unfold bufsL semsL
  iintro ⟨⟨B0, B2, B4, S0⟩, ⟨B1, B3, B5, S1⟩, ⟨B6, B7, B8, B9, B10, B11, B12, B13, B14, B15, B16, S2, S3, S4, S5⟩⟩
  ihave B0 := (has_some d i cc0_scratch0) $$ B0
  ihave B1 := (has_some d i cc0_scratch1) $$ B1
  ihave B2 := (has_some d i cc0_scratch2) $$ B2
  ihave B3 := (has_some d i cc0_scratch3) $$ B3
  ihave B4 := (has_some d i cc0_scratch4) $$ B4
  ihave B5 := (has_some d i cc0_scratch5) $$ B5
  ihave B6 := (has_some d i cc0_scratch6) $$ B6
  ihave B7 := (has_some d i cc0_scratch7) $$ B7
  ihave B8 := (has_some d i cc0_scratch8) $$ B8
  ihave B9 := (has_some d i cc0_scratch9) $$ B9
  ihave B10 := (has_some d i cc0_scratch10) $$ B10
  ihave B11 := (has_some d i cc0_scratch11) $$ B11
  ihave B12 := (has_some d i cc0_scratch12) $$ B12
  ihave B13 := (has_some d i cc0_scratch13) $$ B13
  ihave B14 := (has_some d i cc0_scratch14) $$ B14
  ihave B15 := (has_some d i cc0_scratch15) $$ B15
  ihave B16 := (has_some d i cc0_scratch16) $$ B16
  isplitl [B0 B1 B2 B3 B4 B5 B6 B7 B8 B9 B10 B11 B12 B13 B14 B15 B16]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    iexact B16
  isplitl [S0]; · iexact S0
  isplitl [S1]; · iexact S1
  isplitl [S2]; · iexact S2
  isplitl [S3]; · iexact S3
  isplitl [S4]; · iexact S4
  iexact S5

end Cert.KernelIdeal.Tile
-- ==== Proof.Launch.Body.lean ====
/- A tile's body, from its shares of the arrays and its row of the result. -/
module

public import proofs.«01_k».proof.Proof.Launch.Scope

@[expose] public section

noncomputable section

namespace Cert.KernelIdeal.Tile

open Cert.KernelIdeal Cert.KernelIdeal.Gen Cert.KernelIdeal.Run

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers Idealize.ShloMosaic.ValueIdx

variable {F : FTy → Type} [FloatOps F]

local notation "𝕄" => MT nD τ sig (HIx 1) (Elt F) ℕ UU ℕ

/-! ## The result by the number of the tile -/

/-- Place `k` of the padded arrays. -/
theorem pos_px : ∀ a, 0 < S301056.size a := fun a => by rw [Fin.eq_zero a]; decide
theorem pos_pn : ∀ a, 0 < S100352.size a := fun a => by rw [Fin.eq_zero a]; decide

/-- The nodes of tile `w`. -/
def nodesOf (w : ℕ) (N : NodeArrs F) : NodeVals F where
  x := fun j => N.x (at1 pos_px (w * 9408 + (j 0).val))
  y := fun j => N.y (at1 pos_px (w * 9408 + (j 0).val))
  g := fun j => N.g (at1 pos_pn (w * 3136 + (j 0).val))

/-- The accumulators of tile `w`. -/
def accsOf (w : ℕ) (N : NodeArrs F) (E : EdgeVals F) : Fin 7 → S16x528.Idx → F .f32 :=
  ![accN (nodesOf w N) 196 0, accN (nodesOf w N) 196 1, accN (nodesOf w N) 196 2, accN (nodesOf w N) 196 3,
    accE E w 6250 0, accE E w 6250 1, accE E w 6250 2]

/-- The partial sums of all tiles. -/
def parts (N : NodeArrs F) (E : EdgeVals F) : S32x7x528.Idx → F .f32 :=
  fun x => laneSum (accsOf (x 0).val N E (x 1)) (x 2)

variable (d : Dev nD) (i : grid0.Coords)

theorem nodesAt_eq (N : NodeArrs F) : nodesAt i N = nodesOf (wid i) N := by
  have h1 : ∀ j : S9408.Idx, (Rect.unit (s := S301056) (k0_off233 i) S9408.size (k0_off233_inb i)).emb j = at1 pos_px (wid i * 9408 + (j 0).val) :=
    fun j => eq_at1 _ _ _ ((unit_emb_val (s := S301056) (h := k0_off233_inb i) j 0).trans (by rw [congrFun (off233_eq i) 0]; rfl))
  have h2 : ∀ j : S3136.Idx, (Rect.unit (s := S100352) (k0_off234 i) S3136.size (k0_off234_inb i)).emb j = at1 pos_pn (wid i * 3136 + (j 0).val) :=
    fun j => eq_at1 _ _ _ ((unit_emb_val (s := S100352) (h := k0_off234_inb i) j 0).trans (by rw [congrFun (off234_eq i) 0]; rfl))
  unfold nodesAt nodesOf
  simp only [h1, h2]

theorem accs_eq (N : NodeArrs F) (E : EdgeVals F) : accs i N E = accsOf (wid i) N E := by
  unfold accs accsOf
  rw [nodesAt_eq]

/-! ## A tile's row of the result -/

/-- The row of tile `w`. -/
def rowSet (w : ℕ) : Finset S32x7x528.Idx := Finset.univ.filter fun x => (x 0).val = w

theorem out_set : (outRow i TB.out).view.set = rowSet (wid i) := by
  have h : (outRow i TB.out).view.set = (Rect.unit (s := S32x7x528) (k0_off484 i) S1x7x528.size (k0_off484_inb i)).set := by
    exact (View.set_reshape _ _).trans (View.set_slice_whole main_v5_scv _)
  rw [h]
  ext x
  rw [Rect.mem_set_unit, rowSet, Finset.mem_filter]
  have e0 : k0_off484 i 0 = wid i := congrFun (off484_eq i) 0
  have e1 : k0_off484 i 1 = 0 := congrFun (off484_eq i) 1
  have e2 : k0_off484 i 2 = 0 := congrFun (off484_eq i) 2
  constructor
  · intro H
    refine ⟨Finset.mem_univ _, ?_⟩
    have h0 := H 0
    rw [e0] at h0
    have : (x 0).val < wid i + 1 := h0.2
    omega
  · rintro ⟨-, H⟩ a
    match a with
    | 0 => rw [e0]; exact ⟨by omega, show (x 0).val < wid i + 1 by omega⟩
    | 1 => rw [e1]; exact ⟨Nat.zero_le _, show (x 1).val < 0 + 7 from by have : (x 1).val < 7 := (x 1).isLt; omega⟩
    | 2 => rw [e2]; exact ⟨Nat.zero_le _, show (x 2).val < 0 + 528 from by have : (x 2).val < 528 := (x 2).isLt; omega⟩

theorem out_read (N : NodeArrs F) (E : EdgeVals F) :
    (outRow i TB.out).view.read (Elt F) (parts N E : S32x7x528.Idx → F .f32) = tileOut i N E := by
  have e0 : k0_off484 i 0 = wid i := congrFun (off484_eq i) 0
  have e1 : k0_off484 i 1 = 0 := congrFun (off484_eq i) 1
  have e2 : k0_off484 i 2 = 0 := congrFun (off484_eq i) 2
  have key : ∀ (a : Fin 7) (b : Fin 528), (outRow i TB.out).view.read (Elt F) (parts N E : S32x7x528.Idx → F .f32) (ix2 a b) = tileOut i N E (ix2 a b) := by
    intro a b
    have h : (outRow i TB.out).view.read (Elt F) (parts N E : S32x7x528.Idx → F .f32) (ix2 a b)
      = parts N E ((Rect.unit (s := S32x7x528) (k0_off484 i) S1x7x528.size (k0_off484_inb i)).emb
          (Shape.reshapeEquiv (squeezes_S1x7x528_S7x528).numel_eq (ix2 a b))) := rfl
    rw [h, reshapeEquiv_ix2_1ab]
    unfold tileOut parts
    rw [accs_eq]
    have f0 : ((Rect.unit (s := S32x7x528) (k0_off484 i) S1x7x528.size (k0_off484_inb i)).emb (ix3 ⟨0, by decide⟩ a b) 0).val = wid i :=
      (unit_emb_val (s := S32x7x528) (h := k0_off484_inb i) (ix3 ⟨0, by decide⟩ a b) 0).trans (by rw [e0]; exact Nat.add_zero _)
    have f1 : (Rect.unit (s := S32x7x528) (k0_off484 i) S1x7x528.size (k0_off484_inb i)).emb (ix3 ⟨0, by decide⟩ a b) 1 = a :=
      Fin.ext ((unit_emb_val (s := S32x7x528) (h := k0_off484_inb i) (ix3 ⟨0, by decide⟩ a b) 1).trans (by rw [e1]; exact Nat.zero_add _))
    have f2 : (Rect.unit (s := S32x7x528) (k0_off484 i) S1x7x528.size (k0_off484_inb i)).emb (ix3 ⟨0, by decide⟩ a b) 2 = b :=
      Fin.ext ((unit_emb_val (s := S32x7x528) (h := k0_off484_inb i) (ix3 ⟨0, by decide⟩ a b) 2).trans (by rw [e2]; exact Nat.zero_add _))
    rw [f0, f1, f2]
  funext x
  have hx : x = ix2 (x 0) (x 1) := by funext a; match a with | 0 => rfl | 1 => rfl
  rw [hx]
  exact key _ _

/-! ## What a tile is handed -/

/-- An array of the device. -/
abbrev dloc (r : Ref sig .tc) : Loc nD τ sig := (SparseCore.T d : Thread nD τ).loc r

/-- A share of each array the tiles read. -/
def Shares (q : PosShare TreeShare) (N : NodeArrs F) (E : EdgeVals F) : sProp 𝕄 :=
  iprop((dloc d main_arg1 ↦{q} E.p) ∗ (dloc d main_arg3 ↦{q} E.t) ∗ (dloc d main_arg4 ↦{q} E.g)
    ∗ (dloc d main_v1 ↦{q} N.x) ∗ (dloc d main_v3 ↦{q} N.y) ∗ dloc d main_v4 ↦{q} N.g)

/-- The row of tile `w`, at contents `f`. -/
def Row (w : ℕ) (f : S32x7x528.Idx → F .f32) : sProp 𝕄 := iprop(dloc d main_v5 ↦[rowSet w]{fullShare} f)

theorem row_in (f : S32x7x528.Idx → F .f32) :
    Row d (wid i) f ⊢ iprop(∃ a : S7x528.Idx → F .f32, Has d i (outRow i TB.out) fullShare a) := by
  unfold Row Has
  iintro H
  iexists _
  iexists f
  isplitl []
  · ipureintro; rfl
  · rw [out_set]
    iexact H

theorem row_out (N : NodeArrs F) (E : EdgeVals F) :
    Has d i (outRow i TB.out) fullShare (tileOut i N E) ⊢ Row d (wid i) (parts N E) := by
  unfold Row Has
  iintro ⟨%f, %hf, H⟩
  have hc := read_inj (outRow i TB.out) f (parts N E : S32x7x528.Idx → F .f32) (hf.trans (out_read i N E).symm)
  ihave H := (Entails.of_eq (pointsTo_congr hc)) $$ H
  rw [out_set]
  iexact H

theorem shares_in (q : PosShare TreeShare) (N : NodeArrs F) (E : EdgeVals F) :
    Shares d q N E ⊢ iprop(Arrs d i TB q.left E ∗ Arrs d i TB q.right E ∗ NArrs d i TB q N) := by
  unfold Shares Arrs NArrs
  iintro ⟨A, B, C, X, Y, Z⟩
  ihave ⟨A0, A1⟩ := (pointsTo_share (PosShare.mem_left_op_right q)).1 $$ A
  ihave ⟨B0, B1⟩ := (pointsTo_share (PosShare.mem_left_op_right q)).1 $$ B
  ihave ⟨C0, C1⟩ := (pointsTo_share (PosShare.mem_left_op_right q)).1 $$ C
  ihave A0 := (has_whole d i main_arg1_scv q.left E.p) $$ A0
  ihave A1 := (has_whole d i main_arg1_scv q.right E.p) $$ A1
  ihave B0 := (has_whole d i main_arg3_scv q.left E.t) $$ B0
  ihave B1 := (has_whole d i main_arg3_scv q.right E.t) $$ B1
  ihave C0 := (has_whole d i main_arg4_scv q.left E.g) $$ C0
  ihave C1 := (has_whole d i main_arg4_scv q.right E.g) $$ C1
  ihave X := (has_whole d i main_v1_scv q N.x) $$ X
  ihave Y := (has_whole d i main_v3_scv q N.y) $$ Y
  ihave Z := (has_whole d i main_v4_scv q N.g) $$ Z
  isplitl [A0 B0 C0]
  · isplitl [A0]; · iexact A0
    isplitl [B0]; · iexact B0
    iexact C0
  isplitl [A1 B1 C1]
  · isplitl [A1]; · iexact A1
    isplitl [B1]; · iexact B1
    iexact C1
  isplitl [X]; · iexact X
  isplitl [Y]; · iexact Y
  iexact Z

theorem shares_out (q : PosShare TreeShare) (N : NodeArrs F) (E : EdgeVals F) :
    iprop(Arrs d i TB q.left E ∗ Arrs d i TB q.right E ∗ NArrs d i TB q N) ⊢ Shares d q N E := by
  unfold Shares Arrs NArrs
  iintro ⟨⟨A0, B0, C0⟩, ⟨A1, B1, C1⟩, ⟨X, Y, Z⟩⟩
  ihave A0 := (whole_has d i main_arg1_scv q.left E.p) $$ A0
  ihave A1 := (whole_has d i main_arg1_scv q.right E.p) $$ A1
  ihave B0 := (whole_has d i main_arg3_scv q.left E.t) $$ B0
  ihave B1 := (whole_has d i main_arg3_scv q.right E.t) $$ B1
  ihave C0 := (whole_has d i main_arg4_scv q.left E.g) $$ C0
  ihave C1 := (whole_has d i main_arg4_scv q.right E.g) $$ C1
  ihave X := (whole_has d i main_v1_scv q N.x) $$ X
  ihave Y := (whole_has d i main_v3_scv q N.y) $$ Y
  ihave Z := (whole_has d i main_v4_scv q N.g) $$ Z
  isplitl [A0 A1]
  · iapply (pointsTo_share (PosShare.mem_left_op_right q)).2
    isplitl [A0]; · iexact A0
    iexact A1
  isplitl [B0 B1]
  · iapply (pointsTo_share (PosShare.mem_left_op_right q)).2
    isplitl [B0]; · iexact B0
    iexact B1
  isplitl [C0 C1]
  · iapply (pointsTo_share (PosShare.mem_left_op_right q)).2
    isplitl [C0]; · iexact C0
    iexact C1
  isplitl [X]; · iexact X
  isplitl [Y]; · iexact Y
  iexact Z

/-- A slot's buffers and arrays. -/
theorem idle_in (s : Slot) (q : PosShare TreeShare) (E : EdgeVals F) :
    iprop(Arrs d i TB q E ∗ Hollow d i s) ⊢ Idle d i TB s q E := by
  unfold Idle Hollow
  exact .rfl
theorem idle_out (s : Slot) (q : PosShare TreeShare) (E : EdgeVals F) :
    Idle d i TB s q E ⊢ iprop(Arrs d i TB q E ∗ Hollow d i s) := by
  unfold Idle Hollow
  exact .rfl

/-! ## The body -/

theorem tile_body (N : NodeArrs F) (E : EdgeVals F) (hN : ∀ x, (N.g x).toNat < 528) (hE : ∀ x, (E.g x).toNat < 528)
    (q : PosShare TreeShare) (f : S32x7x528.Idx → F .f32)
    (O : CellTallies nD τ sig (HIx 1)) (W : Waits sig (HIx 1)) (hO : ∀ g, O g none = 0) :
    iprop(levAts (K (F := F)).L (K (F := F)).lev ∗ emp ∗ (Shares d q N E ∗ Row d (wid i) f)
        ∗ scopedBufs (thr d i) ∗ scopedSems0 (thr d i) ∗ owes (thr d i) O W)
      ⊢ wp frame (wpE (defs₀ (F := F)) 𝒱₀ (thr d i) none) Set.univ (tile i TB) (fun _ =>
          iprop((Shares d q N E ∗ Row d (wid i) (parts N E)) ∗ scopedBufs (thr d i) ∗ scopedSems0 (thr d i)
            ∗ ∃ W', ⌜∀ p ∈ W', p ∈ W ∨ p.2 = none⌝ ∗ owes (thr d i) O W')) := by
  rw [(K (F := F)).scopedBufs_V facts d, SparseCore.Cfg.scopedSems0_V (Val := Elt F) d]
  iintro ⟨Hlv, -, ⟨HS, HR⟩, HB, HM, HO⟩
  ihave HB := (bufs_split d i) $$ HB
  icases HB with ⟨HB, BB⟩
  ihave HM := (sems_split d i) $$ HM
  icases HM with ⟨HM, BM⟩
  ihave HX := (own_in d i) $$ [HB HM]
  · isplitl [HB]; · iexact HB
    iexact HM
  icases HX with ⟨H0, H1, HC⟩
  ihave HS := (shares_in d i q N E) $$ HS
  icases HS with ⟨A0, A1, HN⟩
  ihave HR := (row_in d i f) $$ HR
  iapply (wp_wand_r frame (wpE (defs₀ (F := F)) 𝒱₀ (thr d i) none) Set.univ)
  isplitr [BB BM]
  · iapply (tile_run d i hO TB even0 even1 q.left q.right q N E hN hE (W := W))
    isplitl [A0 H0]
    · iapply (idle_in d i TB.s0 q.left E)
      isplitl [A0]; · iexact A0
      iexact H0
    isplitl [A1 H1]
    · iapply (idle_in d i TB.s1 q.right E)
      isplitl [A1]; · iexact A1
      iexact H1
    isplitl [HN]; · iexact HN
    isplitl [HR]; · iexact HR
    isplitl [HC]; · iexact HC
    unfold Ow
    isplitl [Hlv]; · iexact Hlv
    iexists W
    isplitl []
    · ipureintro; exact fun p hp => Or.inl hp
    iexact HO
  iintro %u ⟨I0, I1, HN, HR, HC, HO⟩
  ihave ⟨A0, H0⟩ := (idle_out d i TB.s0 q.left E) $$ I0
  ihave ⟨A1, H1⟩ := (idle_out d i TB.s1 q.right E) $$ I1
  ihave HX := (own_out d i) $$ [H0 H1 HC]
  · isplitl [H0]; · iexact H0
    isplitl [H1]; · iexact H1
    iexact HC
  icases HX with ⟨HB, HM⟩
  isplitl [A0 A1 HN HR]
  · isplitl [A0 A1 HN]
    · iapply (shares_out d i q N E)
      isplitl [A0]; · iexact A0
      isplitl [A1]; · iexact A1
      iexact HN
    · iapply (row_out d i N E)
      iexact HR
  isplitl [BB HB]
  · iapply BB; iexact HB
  isplitl [BM HM]
  · iapply BM; iexact HM
  unfold Ow
  icases HO with ⟨-, HO⟩
  iexact HO

end Cert.KernelIdeal.Tile
-- ==== Proof.Launch.Call.lean ====
/- What the call hands the tiles and takes back, and the tiles' obligation. -/
module

public import proofs.«01_k».proof.Proof.Launch.Body

@[expose] public section

noncomputable section

namespace Cert.KernelIdeal.Tile

open Cert.KernelIdeal Cert.KernelIdeal.Gen Cert.KernelIdeal.Run

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr after)
open Idealize.ShloMosaic.Transfers Idealize.ShloMosaic.ValueIdx

variable {F : FTy → Type} [FloatOps F]

local notation "𝕄" => MT nD τ sig (HIx 1) (Elt F) ℕ UU ℕ

/-! ## The host's operations before the call -/

/-- The operations of @main before the call. -/
def hostOps : List (HloOp τ sig (Elt F)) :=
  [StableHlo.reshape main_arg0 main_v0 rfl shapeCasts_S100000x3_S300000,
   StableHlo.nullary main_c (constantI S_ 32 0#32),
   StableHlo.TRef.unary (.of main_c : StableHlo.TRef sig ⟨S_, .i32⟩) main_call0.v0 (sitofp .f32),
   StableHlo.TRef.binary (.of main_v0 : StableHlo.TRef sig ⟨S300000, .f32⟩) main_call0.v0 main_call0.v1 (fun x v => pad S301056 ![0] ![1056] ![0] x v pads_S300000_S301056_010560 h_S_),
   StableHlo.reshape main_arg2 main_v2 rfl shapeCasts_S100000x3_S300000,
   StableHlo.nullary main_c_0 (constantI S_ 32 0#32),
   StableHlo.TRef.unary (.of main_c_0 : StableHlo.TRef sig ⟨S_, .i32⟩) main_call1.v0 (sitofp .f32),
   StableHlo.TRef.binary (.of main_v2 : StableHlo.TRef sig ⟨S300000, .f32⟩) main_call1.v0 main_call1.v1 (fun x v => pad S301056 ![0] ![1056] ![0] x v pads_S300000_S301056_010560 h_S_),
   StableHlo.nullary main_c_1 (constantI S_ 32 512#32),
   StableHlo.TRef.unary (.of main_c_1 : StableHlo.TRef sig ⟨S_, .i32⟩) main_call2.v0 id,
   StableHlo.TRef.binary (.of main_arg5 : StableHlo.TRef sig ⟨S100000, .i32⟩) main_call2.v0 main_call2.v1 (fun x v => pad S100352 ![0] ![352] ![0] x v pads_S100000_S100352_03520 h_S_)]

theorem main_eq (d : Dev nD) : main (F := F) d
    = StableHlo.seq hostOps >>= fun _ => (sc (F := F)).run d 0 >>= fun _ =>
        Prog.lift (.customCall (SparseCore.inner (Pipeline.entry 0)) ()) >>= fun _ => pure ⟨⟩ := by
  rfl

variable (m : (ℓ : Loc nD τ sig) → Buf (Elt F) ℓ)

/-- What the buffers hold at the call. -/
def VH (d : Dev nD) : Valuation τ sig (Elt F) := after hostOps (fun b => m (d, b))

/-- A buffer of the device, by its name on the TensorCore. -/
abbrev dref (r : Ref sig .tc) : DevRef τ sig := Proc.devRef .tc r

/-- The edges the tiles read. -/
def Es (d : Dev nD) : EdgeVals F := ⟨VH m d (dref main_arg1), VH m d (dref main_arg3), VH m d (dref main_arg4)⟩
/-- The nodes the tiles read. -/
def Ns (d : Dev nD) : NodeArrs F := ⟨VH m d (dref main_v1), VH m d (dref main_v3), VH m d (dref main_v4)⟩
/-- The partial sums. -/
def Ps (d : Dev nD) : S32x7x528.Idx → F .f32 := parts (Ns m d) (Es m d)
/-- What the result of the call holds before it. -/
def Fs (d : Dev nD) : S32x7x528.Idx → F .f32 := VH m d (dref main_v5)

/-- The ids are columns of an accumulator. -/
structure Fit : Prop where
  n : ∀ d x, ((Ns m d).g x).toNat < 528
  e : ∀ d x, ((Es m d).g x).toNat < 528

/-- What tile `w` is handed, and what it gives back, its row at `f`. -/
def Part (d : Dev nD) (f : S32x7x528.Idx → F .f32) (w : ℕ) : sProp 𝕄 :=
  iprop(Shares d (shareTokN fullShare w) (Ns m d) (Es m d) ∗ Row d w f)

instance part_storable (d : Dev nD) (f : S32x7x528.Idx → F .f32) (w : ℕ) :
    BI.Storable (upEmb : UEmb _ 𝕄) (Part m d f w) := by unfold Part Shares Row; infer_instance

/-- The call's payloads. -/
def P : (K (F := F)).Pay (nD := nD) (Val := Elt F) (Name := ℕ) (U := UU) where
  st := fun q d c => bigSep Finset.univ fun i : Fin ((K (F := F)).nSub q) => Part m d (Fs m d) (i.val * 2 + c.val)
  dn := fun q d c => bigSep Finset.univ fun i : Fin ((K (F := F)).nSub q) => Part m d (Ps m d) (i.val * 2 + c.val)
  go := fun _ d c i => Part m d (Fs m d) (i.val * 2 + c.val)
  td := fun _ d c i => Part m d (Ps m d) (i.val * 2 + c.val)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

theorem vecSplit : (K (F := F)).VecSplit' (P m) 0 := by
  intro d c
  show (P m).st 0 d c ⊢ |={Set.univ}=> iprop((bigSep Finset.univ fun i : Fin ((K (F := F)).nSub 0) => (P m).go 0 d c i)
    ∗ ((bigSep Finset.univ fun i : Fin ((K (F := F)).nSub 0) => (P m).td 0 d c i) -∗ (P m).dn 0 d c))
  unfold P
  iintro H
  imodintro
  isplitl [H]; · iexact H
  iintro H
  iexact H

/-- The grid coordinates of a tile. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_partials (F := F) (coordsV c s) (Memref.whole main_arg1_scv) (Memref.isWhole_whole _) (Memref.whole main_arg3_scv) (Memref.isWhole_whole _) (Memref.whole main_arg4_scv) (Memref.isWhole_whole _) (Memref.whole main_v1_scv) (Memref.isWhole_whole _) (Memref.whole main_v3_scv) (Memref.isWhole_whole _) (Memref.whole main_v4_scv) (Memref.isWhole_whole _) (Memref.whole main_v5_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scoped0 cc0_scoped1 cc0_scoped2 cc0_scoped3) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hm : Fit m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [tile_eq]
  exact (tile_body d (coordsV ⟨_, hc.1⟩ ⟨_, hc.2⟩) (Ns m d) (Es m d) (hm.n d) (hm.e d) _ (Fs m d) O W hO).trans (wp_mono frame _ _ fun _ => obl_post)

/-! ## The arrays dealt to the tiles -/

theorem deal_pairs (Φ : ℕ → sProp 𝕄) :
    (bigSep Finset.univ fun c : Fin 2 => bigSep Finset.univ fun i : Fin 16 => Φ (i.val * 2 + c.val)) = bigSep Finset.univ fun w : Fin 32 => Φ w.val := by
  rw [bigSep_univ_equiv ((Equiv.prodComm (Fin 2) (Fin 16)).trans finProdFinEquiv) (fun w : Fin 32 => Φ w.val), bigSep_univ_prod]
  refine bigSep_congr fun c _ => bigSep_congr fun i _ => ?_
  show Φ _ = Φ (c.val + 2 * i.val)
  rw [Nat.mul_comm, Nat.add_comm]

theorem rows_eq (d : Dev nD) (f : S32x7x528.Idx → F .f32) :
    (dloc d main_v5 ↦{fullShare} f : sProp 𝕄) = bigSep Finset.univ fun w : Fin 32 => Row d w.val f := by
  unfold Row
  rw [show (Finset.univ : Finset (Idx (dloc d main_v5))) = (Finset.univ : Finset (Fin 32)).biUnion fun w => rowSet w.val from ?_]
  · refine pointsTo_biUnion _ _ fun a _ b _ hab => ?_
    rw [Finset.disjoint_left]
    intro x ha hb
    exact hab (Fin.ext ((Finset.mem_filter.mp ha).2.symm.trans (Finset.mem_filter.mp hb).2))
  · ext x
    refine ⟨fun _ => Finset.mem_biUnion.mpr ⟨x 0, Finset.mem_univ _, Finset.mem_filter.mpr ⟨Finset.mem_univ _, rfl⟩⟩, fun _ => Finset.mem_univ _⟩

theorem shares_toks (d : Dev nD) (N : NodeArrs F) (E : EdgeVals F) :
    Shares d fullShare N E ⊣⊢ iprop(Shares d (shareDrop fullShare 32) N E
      ∗ bigSep Finset.univ fun w : Fin 32 => Shares d (shareTokN fullShare w.val) N E) := by
  unfold Shares
  simp only [bigSep_sep']
  constructor
  · iintro ⟨A, B, C, X, Y, Z⟩
    ihave ⟨A0, A1⟩ := (pointsTo_toks_split fullShare 32) $$ A
    ihave ⟨B0, B1⟩ := (pointsTo_toks_split fullShare 32) $$ B
    ihave ⟨C0, C1⟩ := (pointsTo_toks_split fullShare 32) $$ C
    ihave ⟨X0, X1⟩ := (pointsTo_toks_split fullShare 32) $$ X
    ihave ⟨Y0, Y1⟩ := (pointsTo_toks_split fullShare 32) $$ Y
    ihave ⟨Z0, Z1⟩ := (pointsTo_toks_split fullShare 32) $$ Z
    isplitl [A0 B0 C0 X0 Y0 Z0]
    · isplitl [A0]; · iexact A0
      isplitl [B0]; · iexact B0
      isplitl [C0]; · iexact C0
      isplitl [X0]; · iexact X0
      isplitl [Y0]; · iexact Y0
      iexact Z0
    isplitl [A1]; · iexact A1
    isplitl [B1]; · iexact B1
    isplitl [C1]; · iexact C1
    isplitl [X1]; · iexact X1
    isplitl [Y1]; · iexact Y1
    iexact Z1
  · iintro ⟨⟨A0, B0, C0, X0, Y0, Z0⟩, A1, B1, C1, X1, Y1, Z1⟩
    isplitl [A0 A1]
    · iapply (pointsTo_toks_join fullShare 32)
      isplitl [A0]; · iexact A0
      iexact A1
    isplitl [B0 B1]
    · iapply (pointsTo_toks_join fullShare 32)
      isplitl [B0]; · iexact B0
      iexact B1
    isplitl [C0 C1]
    · iapply (pointsTo_toks_join fullShare 32)
      isplitl [C0]; · iexact C0
      iexact C1
    isplitl [X0 X1]
    · iapply (pointsTo_toks_join fullShare 32)
      isplitl [X0]; · iexact X0
      iexact X1
    isplitl [Y0 Y1]
    · iapply (pointsTo_toks_join fullShare 32)
      isplitl [Y0]; · iexact Y0
      iexact Y1
    · iapply (pointsTo_toks_join fullShare 32)
      isplitl [Z0]; · iexact Z0
      iexact Z1

/-- All the call takes, the result at `f`. -/
def Whole (d : Dev nD) (f : S32x7x528.Idx → F .f32) : sProp 𝕄 :=
  iprop(Shares d fullShare (Ns m d) (Es m d) ∗ dloc d main_v5 ↦{fullShare} f)

theorem whole_eq (d : Dev nD) (f : S32x7x528.Idx → F .f32) :
    Whole m d f ⊣⊢ iprop(Shares d (shareDrop fullShare 32) (Ns m d) (Es m d)
      ∗ bigSep Finset.univ fun c : Fin 2 => bigSep Finset.univ fun i : Fin 16 => Part m d f (i.val * 2 + c.val)) := by
  unfold Whole
  rw [deal_pairs (fun w => Part m d f w), rows_eq]
  unfold Part
  rw [bigSep_sep']
  constructor
  · iintro ⟨H, R⟩
    ihave ⟨H0, H1⟩ := (shares_toks d (Ns m d) (Es m d)).1 $$ H
    isplitl [H0]; · iexact H0
    isplitl [H1]; · iexact H1
    iexact R
  · iintro ⟨H0, H1, R⟩
    isplitl [H0 H1]
    · iapply (shares_toks d (Ns m d) (Es m d)).2
      isplitl [H0]; · iexact H0
      iexact H1
    iexact R

end Cert.KernelIdeal.Tile
-- ==== Proof.Launch.Region.lean ====
/- The TensorCore's part after the call: the sums over the tiles, and the eight numbers. -/
module

public import proofs.«01_k».proof.Proof.Launch.Call
public import proofs.«01_k».proof.Proof.Gen.KernelIdeal.Launch
public import Idealize.ShloMosaic.Lib.LaneScatter.Tiles
public import Idealize.ShloMosaic.Lib.Pipeline.ValueKit.Geometry
public import Idealize.ShloMosaic.Lib.Pipeline.RegionsLoop
public import Idealize.ShloMosaic.Lib.VecWindow
public import proofs.«01_k».proof.Proof.Gen.KernelIdeal.Points

@[expose] public section

noncomputable section

namespace Cert.KernelIdeal.Finish

open Cert.KernelIdeal Cert.KernelIdeal.Gen Cert.KernelIdeal.Run

open Idealize.ShloMosaic Idealize.ShloMosaic.Pipeline
open Idealize.ShloMosaic.SparseCore.Cfg (HIx Pay)
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The contents of a buffer of core `c`, and that buffer held whole. -/
abbrev Bf (c : Dev nD) {sp : Space} {S : Shape} {e : EltTy} (M : Memref sig .tc sp S e) : Type := Buf (Elt F) (M.view.loc (c.tc : Thread nD τ))
abbrev pt (c : Dev nD) {sp : Space} {S : Shape} {e : EltTy} (M : Memref sig .tc sp S e) (f : Bf (F := F) c M) : sProp 𝕄 :=
  M.view.loc (c.tc : Thread nD τ) ↦{fullShare} f

/-- The eight numbers out of the partial sums. -/
def finish (v : FVec F S32x7x528 .f32) : FVec F S8 .f32 :=
  k1_pay1 (k1_pay7 v) (k1_pay8 v) (k1_pay9 v) (k1_pay10 v) (k1_pay11 v) (k1_pay12 v) (k1_pay13 v) (k1_pay14 v)

/-- What the body leaves in the result's staging buffer, with the run that leaves it. -/
noncomputable def bodyRun (c : Dev nD) (M0 : Memref sig .tc .vmem S32x7x528 .f32) (h0 : M0.IsWhole) (M1 : Memref sig .tc .vmem S8 .f32) (h1 : M1.IsWhole)
    (f0 : Bf (F := F) c M0) :
    { W : Bf (F := F) c M1 // ∀ (f1 : Bf (F := F) c M1) (E : Set ℕ) (Q : PUnit → sProp 𝕄),
        iprop(pt c M0 f0 ∗ pt c M1 f1 ∗ (iprop(pt c M0 f0 ∗ pt c M1 W) -∗ Q ⟨⟩))
          ⊢ wp frame (wpE (defs₀ (F := F)) Variants.none (c.tc : Thread nD τ) none) E (cc1__finish_body M0 h0 M1 h1) Q } := by
  refine ⟨?_, fun f1 E Q => ?run⟩
  case run =>
    rw [cc1__finish_body_eq_skeleton]
    unfold cc1__finish_body_skel
    rw [k1_part1_eq_skeleton]
    unfold k1_part1_skel
    iintro ⟨H0, H1, Hk⟩
    sl_exec!
    sl_step
    iapply Hk
    isplitl [H0]; · iexact H0
    iexact H1

theorem bodyRun_read (c : Dev nD) (M0 : Memref sig .tc .vmem S32x7x528 .f32) (h0 : M0.IsWhole) (M1 : Memref sig .tc .vmem S8 .f32) (h1 : M1.IsWhole)
    (f0 : Bf (F := F) c M0) : M1.view.read (Elt F) (bodyRun c M0 h0 M1 h1 f0).1 = finish (M0.view.read (Elt F) f0) := by
  unfold bodyRun
  show M1.view.read (Elt F) (M1.view.writes (Elt F) M1.view.junk (bodyRun.sl.H1_1 c M0 f0)) = _
  unfold bodyRun.sl.H1_1
  rw [LaneScatter.read_whole_store _ _ (by decide), View.readAt_full]
  rfl

/-! ## The region -/

variable (V : (c : Dev nD) → (b : Ref sig .tc) → Buf (Elt F) ((c.tc : Thread nD τ).loc b))

/-- The partial sums as the fetch stages them. -/
abbrev stg (c : Dev nD) : (cfg1.win 0).block.Idx → Elt F (cfg1.win 0).elt :=
  ((cfg1.win 0).blk t1_0).view.read (Elt F) (V c main_v5)

/-- The body's run at them. -/
abbrev ran (c : Dev nD) := bodyRun (F := F) c (stage1_0 0) (hstage1_0 0) (stage1_1 0) (hstage1_1 0) (stg V c)

/-- What the body leaves alone: the scoped buffers the pipeline does not stage. -/
abbrev Rest (c : Dev nD) : sProp 𝕄 := Pipeline.scopedRest (Ix := HIx 1) (Name := ℕ) (U := UU) (Lvl := ℕ) (Val := Elt F) spec1 c

/-- What the region's arrays and buffers hold, from the valuation it is entered at. -/
def dat (c : Dev nD) : Dat τ (Elt F) (HIx 1) ℕ UU ℕ cfg1 c where
  A w := V c (Pipeline.arrRef spec1 w)
  after w _ := match w with
    | ⟨0, _⟩ => stg V c
    | ⟨1, _⟩ => (ran V c).1
  Φ _ := Rest c
  q _ := fullShare
  owed _ := 0
  recorded _ := {p | (K (F := F)).lev ((c.tc : Thread nD τ), p.1) p.2 ≤ 8}

/-- The one pipeline's data. -/
def pdats (adm : (p : Fin 1) → (pcfgs (F := F) p).Adm) : (p : Fin 1) → (c : Dev nD) → Dat τ (Elt F) (HIx 1) ℕ UU ℕ (Pipeline.pin (pcfgs (F := F)) adm p) c
  | ⟨0, _⟩ => fun c => dat V c

theorem before_in (c : Dev nD) (d : (cfg1.win 0).block.Idx → Elt F (cfg1.win 0).elt) : (dat V c).before 0 t1_0 d = stg V c := by
  unfold Dat.before; rw [if_pos (by decide)]; rfl

theorem body_obligation (c : Dev nD) : BodyObligation (dat V c) (defs₀ (F := F)) 𝒱₀ none Set.univ := fun t => by
  obtain rfl := fin_N1 t
  rw [bigSep_W1, bigSep_W1]
  simp only [owns_whole_eq]
  rw [show (dat V c).Φ t1_0.castSucc = Rest c from rfl, show (dat V c).Φ t1_0.succ = Rest c from rfl,
    show (dat V c).owesAt none t1_0.succ = (dat V c).owesAt none t1_0.castSucc from rfl]
  iintro ⟨HΦ, Howes, ⟨%d0, %f0, %hf0, H0⟩, ⟨%d1, %f1, -, H1⟩⟩
  rw [before_in] at hf0
  subst hf0
  iapply ((ran V c).2 f1 Set.univ _)
  isplitl [H0]; · iexact H0
  isplitl [H1]; · iexact H1
  iintro ⟨H0, H1⟩
  isplitl [HΦ]; · iexact HΦ
  isplitl [Howes]; · iexact Howes
  isplitl [H0]; · iexists _; isplitr; swap; (· iexact H0); ipureintro; dsimp only [dat]
  iexists _; isplitr; swap; (· iexact H1); ipureintro; dsimp only [dat]

/-- The result after the region. -/
def result (c : Dev nD) : S8.Idx → F .f32 := (dat V c).arrAt 1 cfg1.N

theorem stg_eq (c : Dev nD) : stg V c = V c main_v5 := by
  funext j
  show V c main_v5 (((cfg1.win 0).blk t1_0).view.emb j) = _
  congr 1
  funext a
  apply Fin.ext
  blk_simp
  have h0 : ∀ a, win1_0.index t1_0 a = 0 := by decide +kernel
  rw [h0, Nat.zero_mul, Nat.zero_add]

theorem ran_eq (c : Dev nD) : ((ran V c).1 : S8.Idx → F .f32) = finish (V c main_v5) := by
  have h := bodyRun_read (F := F) c (stage1_0 0) (hstage1_0 0) (stage1_1 0) (hstage1_1 0) (stg V c)
  have h2 : finish ((stage1_0 0).view.read (Elt F) (stg V c)) = finish (V c main_v5) := congrArg finish (stg_eq V c)
  exact h.trans h2

theorem result_eq (c : Dev nD) : result V c = finish (V c main_v5) := by
  rw [← ran_eq]
  unfold result
  refine (dat V c).arrAt_eq_of_after_last 1 t1_0 (by decide +kernel) _ fun j => ?_
  rfl

variable (Vp : (c : Dev nD) → (b : Ref sig .tc) → Buf (Elt F) ((c.tc : Thread nD τ).loc b))

/-- What the core owes and has waited for, at the region's ends. -/
def Owed (c : Dev nD) : sProp 𝕄 :=
  iprop(∃ W, ⌜∀ p ∈ W, (K (F := F)).lev ((c.tc : Thread nD τ), p.1) p.2 ≤ 8⌝ ∗ owes (c.tc : Thread nD τ) (0 : CellTallies nD τ sig (HIx 1)) W)

set_option backward.isDefEq.respectTransparency.types false in
/-- The region: entered with every buffer at `V`, left with the result at its new contents. -/
def reg (adm : (p : Fin 1) → (pcfgs (F := F) p).Adm) (hVp_out : ∀ c, Vp c main_v6 = result V c)
    (hVp_ne : ∀ c (b : Ref sig .tc), b ≠ main_v6 → Vp c b = V c b) :
    Pipeline.RegionSeg (pcfgs (F := F)) adm (pdats V adm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ Owed c)
  post c := iprop(unscopedBufs c (Vp c) ∗ Owed c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V adm) launch1.win launch1.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Owed
      icases HO with ⟨%W, %hW, HO⟩; iexists W; isplitr; · ipureintro; exact fun p hp => Or.inl (hW p hp)
      iexact HO
    isplitr; · iempintro
    iexact Hrest
  hin c := by
    rw [show (pdats V adm 0 c).Φ 0 = Rest c from rfl]
    iintro ⟨-, -, Hr⟩; iexact Hr
  hout c := by
    rw [Pipeline.ownSems0_none, show (pdats V adm 0 c).Φ (Fin.last _) = Rest c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hVp_ne c main_v5 (by decide)).symm
        · exact (hVp_out c).symm)
      (fun b hb => hVp_ne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin Owed
    icases HO with ⟨%W, %hW, HO⟩; iexists W; isplitr
    · ipureintro
      intro p hp
      rcases hW hp with h | h
      · exact h
      · obtain ⟨w, t, rfl⟩ := h
        exact Nat.zero_le _
    iexact HO

end Cert.KernelIdeal.Finish
-- ==== Proof.Launch.Main.lean ====
/- The whole program: the host's operations, the call, the TensorCore's part; every run of it. -/
module

public import proofs.«01_k».proof.Proof.Launch.Region

@[expose] public section

noncomputable section

namespace Cert.KernelIdeal.Whole

open Cert.KernelIdeal Cert.KernelIdeal.Gen Cert.KernelIdeal.Run Cert.KernelIdeal.Tile Cert.KernelIdeal.Finish

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr after)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The TensorCore's buffers at a valuation -/

/-- The TensorCore's buffers that outlive a kernel. -/
def ucRefs : Finset (DevRef τ sig) := (StableHlo.tcRefs τ sig).filter fun b => ¬ b.isScoped

theorem unscopedBufs_held (d : Dev nD) (W : Valuation τ sig (Elt F)) :
    (unscopedBufs d (fun b => W (dref b)) : sProp 𝕄) = held (d.tc : Thread nD τ) ucRefs W := by
  unfold unscopedBufs held ucRefs StableHlo.tcRefs
  rw [Finset.filter_map, bigSep_map]
  rfl

/-- The buffers the call uses. -/
abbrev S7 : Finset (DevRef τ sig) :=
  {dref main_arg1, dref main_arg3, dref main_arg4, dref main_v1, dref main_v3, dref main_v4, dref main_v5}

theorem S7_sub : S7 ⊆ ucRefs := by
  unfold ucRefs
  decide +kernel

theorem held_S7 (d : Dev nD) (W : Valuation τ sig (Elt F)) (f : S32x7x528.Idx → F .f32)
    (hW : ∀ b, b ≠ dref main_v5 → W b = VH m d b) (hf : W (dref main_v5) = f) :
    (held (d.tc : Thread nD τ) ucRefs W : sProp 𝕄) ⊣⊢ iprop(Whole m d f ∗ held (d.tc : Thread nD τ) (ucRefs \ S7) (VH m d)) := by
  rw [held_sub_split (d.tc : Thread nD τ) S7_sub W]
  rw [held_congr (d.tc : Thread nD τ) (S := ucRefs \ S7) (V := W) (V' := VH m d) fun b hb => hW b fun h => (Finset.mem_sdiff.mp hb).2 (h ▸ by decide)]
  have h7 : (held (d.tc : Thread nD τ) S7 W : sProp 𝕄) = iprop((dloc d main_arg1 ↦{fullShare} (Es m d).p) ∗ (dloc d main_arg3 ↦{fullShare} (Es m d).t)
      ∗ (dloc d main_arg4 ↦{fullShare} (Es m d).g) ∗ (dloc d main_v1 ↦{fullShare} (Ns m d).x) ∗ (dloc d main_v3 ↦{fullShare} (Ns m d).y)
      ∗ (dloc d main_v4 ↦{fullShare} (Ns m d).g) ∗ dloc d main_v5 ↦{fullShare} f) := by
    unfold held S7
    rw [SparseCore.bigSep_insert' (by decide), SparseCore.bigSep_insert' (by decide), SparseCore.bigSep_insert' (by decide),
      SparseCore.bigSep_insert' (by decide), SparseCore.bigSep_insert' (by decide), SparseCore.bigSep_insert' (by decide), bigSep_singleton,
      hf, hW _ (by decide), hW _ (by decide), hW _ (by decide), hW _ (by decide), hW _ (by decide), hW _ (by decide)]
    rfl
  rw [h7]
  unfold Whole Shares
  constructor
  · iintro ⟨⟨A, B, C, X, Y, Z, R⟩, H⟩
    isplitr [H]
    · isplitr [R]
      · isplitl [A]; · iexact A
        isplitl [B]; · iexact B
        isplitl [C]; · iexact C
        isplitl [X]; · iexact X
        isplitl [Y]; · iexact Y
        iexact Z
      iexact R
    iexact H
  · iintro ⟨⟨⟨A, B, C, X, Y, Z⟩, R⟩, H⟩
    isplitr [H]
    · isplitl [A]; · iexact A
      isplitl [B]; · iexact B
      isplitl [C]; · iexact C
      isplitl [X]; · iexact X
      isplitl [Y]; · iexact Y
      isplitl [Z]; · iexact Z
      iexact R
    iexact H

/-- The buffers after the call. -/
def V2 (d : Dev nD) : Valuation τ sig (Elt F) := Function.update (VH m d) (dref main_v5) (Ps m d)
/-- The result. -/
def Res (d : Dev nD) : S8.Idx → F .f32 := finish (Ps m d)
/-- The buffers at the end. -/
def V3 (d : Dev nD) : Valuation τ sig (Elt F) := Function.update (V2 m d) (dref main_v6) (Res m d)

abbrev adm : (p : Fin 1) → (pcfgs (F := F) p).Adm := fun p => (cfgs p).toPCfg_adm

theorem dref_inj {a b : Ref sig .tc} (h : dref a = dref b) : a = b := by
  by_contra hne
  exact StableHlo.devRef_ne_of_ne hne h

/-- The region between those two. -/
def region : Pipeline.RegionSeg (pcfgs (F := F)) adm (pdats (fun c b => V2 m c (dref b)) adm) none defs₀ 𝒱₀ (K (F := F)).L (K (F := F)).lev 0 :=
  reg (fun c b => V2 m c (dref b)) (fun c b => V3 m c (dref b)) adm
    (fun c => by
      rw [result_eq]
      exact (Function.update_self _ _ _).trans (congrArg finish (Function.update_self (dref main_v5) (Ps m c) (VH m c)).symm))
    (fun c b hb => Function.update_of_ne (fun h => hb (dref_inj h)) _ _)

/-! ## The program on the TensorCore -/

/-- The ghost state of the TensorCore's pipeline. -/
def G (d : Dev nD) : sProp 𝕄 :=
  iprop(Pipeline.cellsGhost (Pipeline.pin (pcfgs (F := F)) adm) EP 0 d ∗ Pipeline.toksInit (Pipeline.pin (pcfgs (F := F)) adm) EP 0 d)

/-- What the program leaves: every buffer at its contents at the end. -/
abbrev FIN (d : Dev nD) : sProp 𝕄 := held (d.tc : Thread nD τ) ucRefs (V3 m d)

theorem ops_sub : ∀ op ∈ hostOps (F := F), op.bufs ⊆ ucRefs := by
  unfold hostOps
  rw [← List.forall_iff_forall_mem]
  exact ⟨show {dref main_arg0, dref main_v0} ⊆ ucRefs by decide +kernel, show {dref main_c} ⊆ ucRefs by decide +kernel,
    show {dref main_c, dref main_call0_v0} ⊆ ucRefs by decide +kernel,
    show {dref main_v0, dref main_call0_v0, dref main_v1} ⊆ ucRefs by decide +kernel,
    show {dref main_arg2, dref main_v2} ⊆ ucRefs by decide +kernel, show {dref main_c_0} ⊆ ucRefs by decide +kernel,
    show {dref main_c_0, dref main_call1_v0} ⊆ ucRefs by decide +kernel,
    show {dref main_v2, dref main_call1_v0, dref main_v3} ⊆ ucRefs by decide +kernel, show {dref main_c_1} ⊆ ucRefs by decide +kernel,
    show {dref main_c_1, dref main_call2_v0} ⊆ ucRefs by decide +kernel,
    show {dref main_arg5, dref main_call2_v0, dref main_v4} ⊆ ucRefs by decide +kernel⟩

theorem ops_fresh : ∀ op ∈ hostOps (F := F), op.fresh = ∅ := by
  unfold hostOps
  rw [← List.forall_iff_forall_mem]
  refine ⟨?_, ?_, ?_, ?_, ?_, ?_, ?_, ?_, ?_, ?_, ?_⟩
  all_goals rfl

/-- The call of the region, on the program's own side of the signature. -/
def enter : Prog (TpuEff nD τ sig (Elt F) (ΛP (F := F)) .tc) PUnit := .op (.customCall (Pipeline.entry 0) ()) fun _ => .ret ⟨⟩

theorem enter_eq : (Prog.lift (.customCall (SparseCore.inner (Pipeline.entry 0)) ()) >>= fun _ => pure ⟨⟩)
    = SparseCore.liftProg (nD := nD) (τ := τ) (Q := 1) (enter (F := F)) := rfl

theorem region_wp (d : Dev nD) (Q : PUnit → sProp 𝕄) :
    iprop((iprop(boundary (d.tc : Thread nD τ) ∗ (region m).post d) -∗ Q ⟨⟩)
        ∗ boundary (d.tc : Thread nD τ) ∗ (region m).pre d ∗ levAts (K (F := F)).L (K (F := F)).lev ∗ G d)
      ⊢ wp frame (wpE ((K (F := F)).defs (D (F := F))) 𝒱 (d.tc : Thread nD τ) none) Set.univ
          (Prog.lift (.customCall (SparseCore.inner (Pipeline.entry 0)) ()) >>= fun _ => pure ⟨⟩) Q := by
  rw [enter_eq]
  refine BIBase.Entails.trans ?_ ((K (F := F)).wp_liftProg (D (F := F)) 𝒱 (d.tc : Thread nD τ) Set.univ none enter Q)
  unfold enter
  have h := (Pipeline.RegionSeg.wp (pcfgs (F := F)) adm (pdats (fun c b => V2 m c (dref b)) adm) none cellOf_inj EP defs₀ 𝒱₀
    (K (F := F)).L (K (F := F)).lev (region m) d none (fun u hu => by cases hu) (fun _ => .ret ⟨⟩) Q)
  unfold G
  refine BIBase.Entails.trans ?_ h
  iintro ⟨Hk, Hb, Hpre, Hl, HG, HT⟩
  isplitl [Hk]
  · iintro H
    rw [wp_ret]
    imodintro
    iapply Hk
    iexact H
  isplitl [Hb]; · iexact Hb
  isplitl [Hpre]; · iexact Hpre
  isplitl [Hl]; · iexact Hl
  isplitl [HG]; · iexact HG
  iexact HT

theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (d.tc : Thread nD τ) ucRefs (fun b => m (d, b))
    from unscopedBufs_held d (fun b => m (d, b))]
  iintro ⟨#Hctx, Hst, ⟨Hb, Hheld, Hts, -⟩, HG⟩
  iapply (StableHlo.wp_seq 𝒱 none Set.univ d ucRefs _ hostOps ops_sub ops_fresh (fun b => m (d, b))) $$ [Hb Hheld]
  · isplitl [Hb]; · iexact Hb
    iexact Hheld
  iintro ⟨Hb, Hheld⟩
  ihave Hheld := (show held (d.tc : Thread nD τ) ucRefs (after hostOps fun b => m (d, b)) ⊢ (held (d.tc : Thread nD τ) ucRefs (VH m d) : sProp 𝕄) from .rfl) $$ Hheld
  ihave Hh := (held_S7 m d (VH m d) (Fs m d) (fun _ _ => rfl) rfl).1 $$ Hheld
  icases Hh with ⟨HW, Hrest⟩
  ihave Hw := (whole_eq m d (Fs m d)).1 $$ HW
  icases Hw with ⟨Hdrop, Hparts⟩
  rw [wp_bind]
  iapply ((K (F := F)).wp_run (D (F := F)) 𝒱 (EH := EH) (P := P m) κ d 0) $$ [Hst Hb Hrest Hdrop Hparts Hts HG]
  isplitr; · iexact Hctx
  isplitl [Hst]; · iexact Hst
  isplitl [Hparts]; · iexact Hparts
  iintro ⟨Hst, Hdn⟩
  ihave HW := (whole_eq m d (Ps m d)).2 $$ [Hdrop Hdn]
  · isplitl [Hdrop]; · iexact Hdrop
    iexact Hdn
  ihave Hheld := (held_S7 m d (V2 m d) (Ps m d) (fun b hb => Function.update_of_ne hb _ _) (Function.update_self _ _ _)).2 $$ [HW Hrest]
  · isplitl [HW]; · iexact HW
    iexact Hrest
  unfold SparseCore.Cfg.tcSt
  icases Hst with ⟨⟨%W, %hW, HO⟩, Hat⟩
  ihave Hlev := (SparseCore.Cfg.ctx_levAts (EH := EH) (P := P m) κ) $$ Hctx
  ihave Hub := (BIBase.Entails.of_eq (unscopedBufs_held d (V2 m d)).symm) $$ Hheld
  iapply (region_wp m d _)
  isplitl [Hat Hts]
  · iintro ⟨Hb, Hpost⟩
    ihave Hpost' := (show (region m).post d ⊢ iprop(unscopedBufs d (fun b => V3 m d (dref b)) ∗ Owed d) from .rfl) $$ Hpost
    icases Hpost' with ⟨Hub, HO⟩
    unfold Owed
    icases HO with ⟨%W', %hW', HO⟩
    ihave Hheld := (BIBase.Entails.of_eq (unscopedBufs_held d (V3 m d))) $$ Hub
    isplitl [HO Hat]
    · isplitl [HO]
      · iexists W'
        isplitr
        · ipureintro; exact hW'
        · rw [(K (F := F)).Otc_end d (n := 1) le_rfl]
          iexact HO
      iexact Hat
    isplitl [Hheld]; · iexact Hheld
    isplitl [Hb]; · iexact Hb
    iexact Hts
  isplitl [Hb]; · iexact Hb
  isplitl [HO Hub]
  · iapply (show iprop(unscopedBufs d (fun b => V2 m d (dref b)) ∗ Owed d) ⊢ (region m).pre d from .rfl)
    isplitl [Hub]; · iexact Hub
    unfold Owed
    iexists W
    isplitr
    · ipureintro; exact hW
    · rw [← (K (F := F)).Otc_end (N := 1) d (n := 1) le_rfl]
      iexact HO
  isplitl [Hlev]; · iexact Hlev
  iexact HG

/-! ## Every run -/

/-- The ghost state the run begins with. -/
def u₀ : UU := (initOf (K (F := F)).hsCells (K (F := F)).hsToks,
  (initOf (Pipeline.cells (nD := nD) (Pipeline.pin (pcfgs (F := F)) adm) cellOf_inj) (Pipeline.launchToks (Pipeline.pin (pcfgs (F := F)) adm) cellOf_inj), 1))

theorem ep_own (x : UP) : (BI.own (((Emb.inl : Emb UP (UP × Counters)).trans embR) x) : sProp 𝕄) ⊢ BI.own (EP (F := F) x) := by
  unfold EP
  exact .rfl

theorem hu₀ : (ownU (u₀ (F := F)) : sProp 𝕄)
    ⊢ |={Set.univ}=> iprop(BI.own (EH (initOf (K (F := F)).hsCells (K (F := F)).hsToks)) ∗ (bigSep Finset.univ fun d : Dev nD => G d)
      ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb (embR : Emb (UP × Counters) 𝕄) _ _) $$ HR
  icases H with ⟨HP, -⟩
  ihave HP := (ep_own _) $$ HP
  imod (Pipeline.fund_ghost (Pipeline.pin (pcfgs (F := F)) adm) (EP (F := F)) cellOf_inj) $$ HP with ⟨HG, HT⟩
  imodintro
  isplitl [HH]; · iexact HH
  isplitl [HG HT]
  · unfold G
    rw [bigSep_sep']
    isplitl [HG]
    · iapply (show (bigSep Finset.univ fun c : Dev nD => bigSep Finset.univ fun p => Pipeline.cellsGhost (Pipeline.pin (pcfgs (F := F)) adm) (EP (F := F)) p c)
        ⊢ (bigSep Finset.univ fun c : Dev nD => (Pipeline.cellsGhost (Pipeline.pin (pcfgs (F := F)) adm) EP 0 c : sProp 𝕄)) from
        bigSep_mono fun c _ => bigSep_elim (Φ := fun p => Pipeline.cellsGhost (Pipeline.pin (pcfgs (F := F)) adm) (EP (F := F)) p c) (Finset.mem_univ (0 : Fin 1)))
      iexact HG
    · iapply (show (bigSep Finset.univ fun c : Dev nD => bigSep Finset.univ fun p => Pipeline.toksInit (Pipeline.pin (pcfgs (F := F)) adm) (EP (F := F)) p c)
        ⊢ (bigSep Finset.univ fun c : Dev nD => (Pipeline.toksInit (Pipeline.pin (pcfgs (F := F)) adm) EP 0 c : sProp 𝕄)) from
        bigSep_mono fun c _ => bigSep_elim (Φ := fun p => Pipeline.toksInit (Pipeline.pin (pcfgs (F := F)) adm) (EP (F := F)) p c) (Finset.mem_univ (0 : Fin 1)))
      iexact HT
  unfold P
  rw [show (bigSep Finset.univ fun _ : Thread nD τ => bigSep Finset.univ fun _ : Fin 1 => (iprop(emp) : sProp 𝕄)) = iprop(emp) from by
    exact (bigSep_congr fun _ _ => bigSep_emp_const _).trans (bigSep_emp_const _)]
  iempintro

/-- What holds at the end. -/
def fq (d : Dev nD) (s' : Phys nD τ sig (Elt F)) : Prop := ∀ b ∈ ucRefs, s'.mem.mem (d, b) = V3 m d b

theorem hfin (d : Dev nD) (s' : Phys nD τ sig (Elt F)) : iprop(FIN m d ∗ SI s') ⊢ (⌜fq m d s'⌝ : sProp 𝕄) := by
  unfold fq
  refine BIBase.Entails.trans ?_ pure_forall.2
  refine forall_intro fun b => ?_
  refine BIBase.Entails.trans ?_ pure_forall.2
  refine forall_intro fun hb => ?_
  iintro ⟨Hx, HSI⟩
  ihave Hx := (show FIN m d ⊢ (((d, b) : Loc nD τ sig) ↦{fullShare} V3 m d b : sProp 𝕄) from
    bigSep_elim (Φ := fun b : DevRef τ sig => (((d, b) : Loc nD τ sig) ↦{fullShare} V3 m d b : sProp 𝕄)) hb) $$ Hx
  ihave H := (SI_pointsTo_agree (st := s') (ℓ := (d, b)) (I := Finset.univ) (q := fullShare) (f := V3 m d b)) $$ [HSI Hx]
  · isplitl [HSI]; · iexact HSI
    iexact Hx
  icases H with %hx
  ipureintro; exact funext fun i => hx i (Finset.mem_univ i)

def QC : PUnit × MemSt nD τ sig (Elt F) → Prop := fun r => (∀ d : Dev nD, ∀ b ∈ ucRefs, r.2.mem (d, b) = V3 m d b) ∧ r.2.sem = fun _ => 0

theorem run_main [∀ e, Nonempty (Elt F e)] (hm : Fit m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hm)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.KernelIdeal.Whole
-- ==== Proof.Launch.Frames.lean ====
/- The frames: what the precondition says of the ids, and what a run leaves of the arguments. -/
module

public import proofs.«01_k».proof.Defs
public import proofs.«01_k».proof.Proof.Gen.Kernel
public import proofs.«01_k».proof.Proof.Gen.Pre_in_range
public import proofs.«01_k».proof.Proof.Gen.ReferenceIdeal.Run
public import proofs.«01_k».proof.Proof.Launch.Main
public import Idealize.ShloMosaic.Lib.ReduceAll
public import Idealize.ShloMosaic.Lib.KernelVsHost

@[expose] public section

noncomputable section

namespace Cert.KernelIdeal.Frames

open Cert.KernelIdeal Cert.KernelIdeal.Gen Cert.KernelIdeal.Run Cert.KernelIdeal.Tile Cert.KernelIdeal.Finish Cert.KernelIdeal.Whole

open Idealize.ShloMosaic Idealize.SL.Sem
open Idealize.ShloMosaic.StableHlo (after)

variable {F : FTy → Type} [FloatOps F]

/-! ## The ids -/

/-- A word between 0 and 512, read signed, is below 512. -/
theorem word_lt {v : BitVec 32} (h0 : IntOp.cmpi .sge v 0#32 = 1#1) (h1 : IntOp.cmpi .slt v 512#32 = 1#1) : v.toNat < 512 := by
  rw [IntOp.cmpi_sge] at h0
  rw [IntOp.cmpi_slt] at h1
  simp only [BitVec.toInt_eq_toNat_cond, BitVec.toNat_ofNat, Nat.reducePow, Nat.reduceMod] at h0 h1
  have := v.isLt
  split at h0 <;> split at h1 <;> omega

/-- A scalar has one index. -/
theorem scalar_idx : Subsingleton Cert.Pre_in_range.S_.Idx := ⟨fun a b => funext fun k => k.elim0⟩

/-- The precondition, read: every id is a graph. -/
theorem ids_lt (a0 : FVec F Cert.Pre_in_range.S100000x3 .f32) (a1 : FVec F Cert.Pre_in_range.S3200000 .f32)
    (a2 : FVec F Cert.Pre_in_range.S100000x3 .f32) (a3 : FVec F Cert.Pre_in_range.S3200000 .f32)
    (a4 : IVec Cert.Pre_in_range.S3200000 32) (a5 a6 : IVec Cert.Pre_in_range.S100000 32) (a7 a8 : IVec Cert.Pre_in_range.S3200000 32)
    (h : Cert.Pre_in_range.fn (F := F) a0 a1 a2 a3 a4 a5 a6 a7 a8 = fun _ => 1#1) :
    (∀ x, (a4 x).toNat < 512) ∧ ∀ x, (a5 x).toNat < 512 := by
  haveI := scalar_idx
  have e := congrFun h (fun k => k.elim0)
  unfold Cert.Pre_in_range.fn at e
  obtain ⟨e, h4⟩ := IntOp.andi_eq_one.mp e
  obtain ⟨e, h3⟩ := IntOp.andi_eq_one.mp e
  obtain ⟨h1, h2⟩ := IntOp.andi_eq_one.mp e
  exact ⟨fun x => word_lt (Host.reduce_andi_all _ _ _ _ _ h1 x) (Host.reduce_andi_all _ _ _ _ _ h2 x),
    fun x => word_lt (Host.reduce_andi_all _ _ _ _ _ h3 x) (Host.reduce_andi_all _ _ _ _ _ h4 x)⟩

/-! ## The buffers at the call -/

variable (m : (ℓ : Loc nD τ sig) → Buf (Elt F) ℓ) (ρ : Dev nD → PrngReg)

/-- What the host's operations before the call write. -/
abbrev written : List (Ref sig .tc) :=
  [main_v0, main_c, main_call0_v0, main_v1, main_v2, main_c_0, main_call1_v0, main_v3, main_c_1, main_call2_v0, main_v4]

/-- An operation that writes one of them. -/
theorem writes_sub {op : HloOp τ sig (Elt F)} (r : Ref sig .tc) (h : op.writes = {dref r}) (hr : r ∈ written) :
    op.writes ⊆ (written.map (Proc.devRef .tc)).toFinset := by
  rw [h, Finset.singleton_subset_iff, List.mem_toFinset]
  exact List.mem_map_of_mem hr

theorem hostOps_writes : (hostOps (F := F)).Forall fun op => op.writes ⊆ (written.map (Proc.devRef .tc)).toFinset :=
  ⟨writes_sub main_v0 rfl (by decide), writes_sub main_c rfl (by decide), writes_sub main_call0_v0 rfl (by decide),
    writes_sub main_v1 rfl (by decide), writes_sub main_v2 rfl (by decide), writes_sub main_c_0 rfl (by decide),
    writes_sub main_call1_v0 rfl (by decide), writes_sub main_v3 rfl (by decide), writes_sub main_c_1 rfl (by decide),
    writes_sub main_call2_v0 rfl (by decide), writes_sub main_v4 rfl (by decide)⟩

theorem VH_of_not_written (d : Dev nD) (r : Ref sig .tc) (hr : r ∉ written) : VH m d (dref r) = m (d, dref r) :=
  StableHlo.after_of_writes_sub (W := written) hostOps _ hostOps_writes hr

theorem Es_eq (d : Dev nD) : Es m d = ⟨m (d, dref main_arg1), m (d, dref main_arg3), m (d, dref main_arg4)⟩ := by
  unfold Es
  rw [VH_of_not_written m d main_arg1 (by decide), VH_of_not_written m d main_arg3 (by decide), VH_of_not_written m d main_arg4 (by decide)]

/-- Coordinates laid out flat, with the padding. -/
def flatPad (v : S100000x3.Idx → F .f32) : S301056.Idx → F .f32 :=
  pad S301056 ![0] ![1056] ![0] (shapeCast S300000 v shapeCasts_S100000x3_S300000) (sitofp (F := F) .f32 (constantI S_ 32 0#32)) pads_S300000_S301056_010560 h_S_
/-- The ids of the nodes, with the padding. -/
def idPad (v : S100000.Idx → BitVec 32) : S100352.Idx → BitVec 32 :=
  pad S100352 ![0] ![352] ![0] v (constantI S_ 32 512#32) pads_S100000_S100352_03520 h_S_

theorem Ns_eq (d : Dev nD) : Ns m d
    = ⟨flatPad (m (d, dref main_arg0)), flatPad (m (d, dref main_arg2)), idPad (m (d, dref main_arg5))⟩ := by
  unfold Ns VH hostOps
  congr 1 <;> after_results_simp

theorem fit (h4 : ∀ d x, (m (d, dref main_arg4) x).toNat < 512) (h5 : ∀ d x, (m (d, dref main_arg5) x).toNat < 512) : Fit m where
  n d x := by
    rw [Ns_eq]
    show (idPad _ x).toNat < 528
    unfold idPad pad
    split
    · exact (h5 d _).trans (by decide)
    · decide
  e d x := by
    rw [Es_eq]
    exact (h4 d x).trans (by decide)

/-! ## The frames -/

/-- A buffer the program leaves alone. -/
theorem V3_of_not_written (d : Dev nD) (r : Ref sig .tc) (h6 : r ≠ main_v6) (h5 : r ≠ main_v5) (hr : r ∉ written) :
    V3 m d (dref r) = m (d, dref r) := by
  unfold V3 V2
  rw [Function.update_of_ne (fun h => h6 (dref_inj h)), Function.update_of_ne (fun h => h5 (dref_inj h)), VH_of_not_written m d r hr]

/-- The arguments after the program. -/
structure Kept (r : (ℓ : Loc nD τ sig) → Buf (Elt F) ℓ) : Prop where
  a0 : ∀ c, r (c, dref main_arg0) = m (c, dref main_arg0)
  a1 : ∀ c, r (c, dref main_arg1) = m (c, dref main_arg1)
  a2 : ∀ c, r (c, dref main_arg2) = m (c, dref main_arg2)
  a3 : ∀ c, r (c, dref main_arg3) = m (c, dref main_arg3)
  a4 : ∀ c, r (c, dref main_arg4) = m (c, dref main_arg4)
  a5 : ∀ c, r (c, dref main_arg5) = m (c, dref main_arg5)
  a6 : ∀ c, r (c, dref main_arg6) = m (c, dref main_arg6)
  a7 : ∀ c, r (c, dref main_arg7) = m (c, dref main_arg7)
  a8 : ∀ c, r (c, dref main_arg8) = m (c, dref main_arg8)

theorem mem_kept {r : (ℓ : Loc nD τ sig) → Buf (Elt F) ℓ} (h : ∀ d, ∀ b ∈ ucRefs, r (d, b) = V3 m d b) (b : Ref sig .tc)
    (hb : dref b ∈ ucRefs) (h6 : b ≠ main_v6) (h5 : b ≠ main_v5) (hr : b ∉ written) (c : Dev nD) : r (c, dref b) = m (c, dref b) :=
  (h c _ hb).trans (V3_of_not_written m c b h6 h5 hr)

theorem args_uc : ({dref main_arg0, dref main_arg1, dref main_arg2, dref main_arg3, dref main_arg4, dref main_arg5, dref main_arg6,
    dref main_arg7, dref main_arg8, dref main_v6} : Finset (DevRef τ sig)) ⊆ ucRefs := by
  unfold ucRefs
  decide +kernel

theorem kept {r : (ℓ : Loc nD τ sig) → Buf (Elt F) ℓ} (h : ∀ d, ∀ b ∈ ucRefs, r (d, b) = V3 m d b) : Kept m r where
  a0 := mem_kept m h main_arg0 (args_uc (by simp)) (by decide) (by decide) (by decide)
  a1 := mem_kept m h main_arg1 (args_uc (by simp)) (by decide) (by decide) (by decide)
  a2 := mem_kept m h main_arg2 (args_uc (by simp)) (by decide) (by decide) (by decide)
  a3 := mem_kept m h main_arg3 (args_uc (by simp)) (by decide) (by decide) (by decide)
  a4 := mem_kept m h main_arg4 (args_uc (by simp)) (by decide) (by decide) (by decide)
  a5 := mem_kept m h main_arg5 (args_uc (by simp)) (by decide) (by decide) (by decide)
  a6 := mem_kept m h main_arg6 (args_uc (by simp)) (by decide) (by decide) (by decide)
  a7 := mem_kept m h main_arg7 (args_uc (by simp)) (by decide) (by decide) (by decide)
  a8 := mem_kept m h main_arg8 (args_uc (by simp)) (by decide) (by decide) (by decide)

/-- The run, read at the result and the arguments. -/
theorem run_read [∀ e, Nonempty (Elt F e)] (hm : Fit m) :
    θ_run (Cert.KernelIdeal.defs (F := F)) (Cert.KernelIdeal.threads (F := F)) ⟨m, fun _ => 0, ρ⟩
      (fun r => (∀ c, r.2.mem (c, dref main_v6) = Res m c) ∧ Kept m r.2.mem ∧ r.2.sem = fun _ => 0) :=
  (θ_run Cert.KernelIdeal.defs _ _).mono (fun _ h => ⟨fun c => (h.1 c _ (args_uc (by simp))).trans (Function.update_self ..), kept m h.1, h.2⟩)
    (run_main m ρ hm)

theorem fit_of_pre (h : ∀ c : Dev nD, Cert.Pre_in_range.fn (F := F) (m (c, dref main_arg0)) (m (c, dref main_arg1)) (m (c, dref main_arg2))
    (m (c, dref main_arg3)) (m (c, dref main_arg4)) (m (c, dref main_arg5)) (m (c, dref main_arg6)) (m (c, dref main_arg7))
    (m (c, dref main_arg8)) = fun _ => 1#1) : Fit m :=
  fit m (fun d => (ids_lt _ _ _ _ _ _ _ _ _ (h d)).1) (fun d => (ids_lt _ _ _ _ _ _ _ _ _ (h d)).2)

/-- `Cert.quiescent_KernelIdeal` (Defs.lean). -/
theorem frame_kernelIdeal : Cert.quiescent_KernelIdeal := fun m ρ h =>
  (θ_run Cert.KernelIdeal.defs _ _).mono (fun _ h => ⟨fun c => ⟨h.2.1.a0 c, h.2.1.a1 c, h.2.1.a2 c, h.2.1.a3 c, h.2.1.a4 c, h.2.1.a5 c,
    h.2.1.a6 c, h.2.1.a7 c, h.2.1.a8 c⟩, h.2.2⟩) (run_read (F := Ideal) m ρ (fit_of_pre m h))

/-- `Cert.quiescent_ReferenceIdeal` (Defs.lean): the reference's run, which has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.KernelIdeal.Frames

end
-- ==== Proof.Launch.Same.lean ====
/- The idealized program is the program: the two texts are one, so the program's frame is the idealized one's. -/
module

public import proofs.«01_k».proof.Proof.Launch.Frames

@[expose] public section

noncomputable section

namespace Cert.KernelIdeal.Frames

open Idealize.ShloMosaic Idealize.SL.Sem

variable {F : FTy → Type} [FloatOps F]

/-- The kernels' bodies, processor by processor and label by label. -/
theorem same_bodies (p : Proc Cert.KernelIdeal.τ) (l : Cert.KernelIdeal.Λ₀.Label) (a : Cert.KernelIdeal.Λ₀.Args l) :
    Cert.Kernel.defs₀ (F := F) p l a = Cert.KernelIdeal.defs₀ (F := F) p l a := by
  match p, l, a with
  | .scVector c s, 0, _ => exact rfl
  | .tc, 1, (t, s) => exact rfl
  | .scVector c s, 1, _ => exact rfl
  | .tc, 0, _ => exact rfl
  | .scScalar c, 0, _ => exact rfl
  | .scScalar c, 1, _ => exact rfl

theorem same_defs : Cert.Kernel.defs (F := F) = Cert.KernelIdeal.defs (F := F) :=
  congrArg (fun b => Cert.KernelIdeal.sc.defs (Pipeline.defs Cert.KernelIdeal.pcfgs b))
    (funext fun p => funext fun l => funext fun a => same_bodies p l a)

theorem same_threads : Cert.Kernel.threads (F := F) = Cert.KernelIdeal.threads (F := F) := rfl

/-- `Cert.quiescent_Kernel` (Defs.lean). -/
theorem frame_kernel : Cert.quiescent_Kernel := by
  intro m ρ h
  rw [same_defs, same_threads]
  exact (θ_run Cert.KernelIdeal.defs _ _).mono (fun _ h => ⟨fun c => ⟨h.2.1.a0 c, h.2.1.a1 c, h.2.1.a2 c, h.2.1.a3 c, h.2.1.a4 c, h.2.1.a5 c,
    h.2.1.a6 c, h.2.1.a7 c, h.2.1.a8 c⟩, h.2.2⟩) (run_read (F := Bits) m ρ (fit_of_pre m h))

end Cert.KernelIdeal.Frames

end
-- ==== Proof.Spec.Sums.lean ====
/- Sums over the extended reals: an accumulator after its steps, the lanes, the tiles, and the total at a graph. -/
module

public import proofs.«01_k».proof.Proof.Launch.Frames

@[expose] public section

noncomputable section

namespace Cert.KernelIdeal.Spec

open Cert.KernelIdeal Cert.KernelIdeal.Gen Cert.KernelIdeal.Run Cert.KernelIdeal.Tile Cert.KernelIdeal.Finish Cert.KernelIdeal.Whole

open Idealize.ShloMosaic Idealize.SL.Sem
open Idealize.ShloMosaic.ValueIdx

/-- The zero of the accumulators is zero. -/
theorem zeroF_eq : (zeroF : Ideal .f32) = 0 := Ideal.ofBits_zero_f32

/-- An accumulator after `n` steps: the sum of what its lane adds at its bin. -/
theorem steps_sum (ids : ℕ → IVec S16 32) (w : ℕ → FVec Ideal S16 .f32) (x : S16x528.Idx) : ∀ n,
    steps ids w n x = ∑ j ∈ Finset.range n, if (ids j (lane x)).toNat = (x 1).val then (w j (lane x) : EReal) else 0
  | 0 => zeroF_eq
  | n + 1 => by
    rw [Finset.sum_range_succ, ← steps_sum ids w x n]
    show scat (ids n) (w n) (steps ids w n) x = _
    unfold scat
    split
    · rfl
    · exact (add_zero _).symm

/-- The sum over the lanes. -/
theorem laneSum_sum (A : S16x528.Idx → Ideal .f32) (y : Fin 528) :
    laneSum A y = ∑ l ∈ Finset.range 16, (A (ix2 (⟨l % 16, Nat.mod_lt _ (by omega)⟩ : Fin 16) y) : EReal) := by
  have key : ∀ n, rowSum A y n = ∑ l ∈ Finset.range (n + 1), (A (ix2 (⟨l % 16, Nat.mod_lt _ (by omega)⟩ : Fin 16) y) : EReal) := by
    intro n
    induction n with
    | zero => rw [Finset.sum_range_one]; rfl
    | succ n ih => rw [Finset.sum_range_succ, ← ih]; rfl
  exact key 15

/-- A sum over `a` blocks of `b`. -/
theorem sum_blocks (f : ℕ → EReal) (b : ℕ) : ∀ a : ℕ,
    ∑ i ∈ Finset.range (a * b), f i = ∑ w ∈ Finset.range a, ∑ r ∈ Finset.range b, f (w * b + r)
  | 0 => by rw [Nat.zero_mul]; rfl
  | a + 1 => by rw [Nat.succ_mul, Finset.sum_range_add, sum_blocks f b a, Finset.sum_range_succ]

/-- The tiles, the lanes and the steps together go once over all the items. -/
theorem sum_tiles (f : ℕ → EReal) (n : ℕ) :
    ∑ w ∈ Finset.range 32, ∑ l ∈ Finset.range 16, ∑ j ∈ Finset.range n, f (w * (n * 16) + (j * 16 + l))
      = ∑ i ∈ Finset.range (32 * (n * 16)), f i := by
  rw [sum_blocks f (n * 16) 32]
  refine Finset.sum_congr rfl fun w _ => ?_
  rw [Finset.sum_comm, sum_blocks (fun i => f (w * (n * 16) + i)) 16 n]

/-- The total of `v` at graph `y`: over the items whose graph is `y`. -/
def total {s : Shape} (g : s.Idx → BitVec 32) (v : s.Idx → EReal) (y : ℕ) : EReal := ∑ i, if (g i).toNat = y then v i else 0

/-- A sum over the indices of a vector is a sum over their numbers. -/
theorem sum_idx {n : ℕ} (h : ∀ a, 0 < (⟨1, ![n]⟩ : Shape).size a) (f : (⟨1, ![n]⟩ : Shape).Idx → EReal) :
    ∑ i, f i = ∑ k ∈ Finset.range n, f (at1 h k) := by
  rw [Finset.sum_range (fun k => f (at1 h k))]
  refine Fintype.sum_equiv ⟨fun i => i 0, fun k => at1 h k.val, fun i => (eq_at1 h i _ rfl).symm, fun k => Fin.ext (at1_val h k.val k.isLt)⟩ _ _ fun i => ?_
  exact congrArg f (eq_at1 h i _ rfl)

end Cert.KernelIdeal.Spec

end
-- ==== Proof.Spec.Finish.lean ====
/- The last step over the extended reals: the partial sums added up, then the roots, quotients and sums the reference takes. -/
module

public import proofs.«01_k».proof.Proof.Launch.Region
public import proofs.«01_k».proof.Proof.Gen.ReferenceIdeal
public import Idealize.ShloMosaic.Lib.Pointwise

@[expose] public section

noncomputable section

namespace Cert.KernelIdeal.Spec

open Cert.KernelIdeal Cert.KernelIdeal.Gen Cert.KernelIdeal.Finish

open Idealize.ShloMosaic

variable (v : FVec Ideal S32x7x528 .f32) (c : Fin 7 → FVec Ideal Cert.ReferenceIdeal.S512 .f32)

/-- `c q` holds, at each graph, the sum of the partials of quantity `q`. -/
def Adds : Prop := ∀ (q : Fin 7) (y : Fin 512), ∑ w : Fin 32, (v (ix3 w q (⟨y.val, by omega⟩ : Fin 528)) : EReal) = c q (ix1 y)

open Cert.ReferenceIdeal.Facts₀ in
/-- The sum over the graphs, as the reference stacks it. -/
def one (f : FVec Ideal Cert.ReferenceIdeal.S512 .f32) : FVec Ideal Cert.ReferenceIdeal.S1 .f32 :=
  broadcastInDim Cert.ReferenceIdeal.S1 ![] bcast_S_S1 (Host.reduceAdd f (constant Cert.ReferenceIdeal.S_ .f32 0x00000000#32)
    reducesTo_S512_S_d0 Cert.ReferenceIdeal.Facts₀.h_S_)

theorem one_apply (f : FVec Ideal Cert.ReferenceIdeal.S512 .f32) (j) : (one f j : EReal) = ∑ y : Fin 512, f (ix1 y) := by
  unfold one
  pointwise

/-- The kernel's sum over the graphs. -/
def summ (f : FVec Ideal S1x512 .f32) : Ideal .f32 :=
  extractAt ![0, 0, 0] (shapeCast S1x1x1 (multiReduction .add [1, 2] S1
    (shapeCast S1x1x512 f shapeCasts_S1x512_S1x1x512) 0x00000000#32 reduces_S1x1x512_S1 (.inl rfl) rfl)
    shapeCasts_S1_S1x1x1) inpos_S1x1x1_p0_0_0

theorem summed (f : FVec Ideal S1x512 .f32) (g : FVec Ideal Cert.ReferenceIdeal.S512 .f32)
    (hfg : ∀ y : Fin 512, (f (ix2 (0 : Fin 1) y) : EReal) = g (ix1 y)) : broadcast S1 (summ f) = one g := by
  funext j
  rw [one_apply]
  unfold summ
  pointwise
  rw [Fin.sum_univ_one]
  exact Finset.sum_congr rfl fun y _ => hfg y

theorem root (a : FVec Ideal Cert.ReferenceIdeal.S512 .f32) (i) : (Host.sqrt a i : EReal) = Ideal.sqrt (a i) := by pointwise
theorem quot (a b : FVec Ideal Cert.ReferenceIdeal.S512 .f32) (i) : (Host.divf a b i : EReal) = Ideal.div (a i) (b i) := by pointwise

theorem root1 (a : FVec Ideal S1x512 .f32) (i) : (sqrt a i : EReal) = Ideal.sqrt (a i) := by pointwise
theorem quot1 (a b : FVec Ideal S1x512 .f32) (i) : (divf a b i : EReal) = Ideal.div (a i) (b i) := by pointwise

variable {v c} (h : Adds v c)

include h

theorem pay2 (q : Fin 7) (y : Fin 512) : (k1_pay2 (F := Ideal) v (ix2 q y) : EReal) = c q (ix1 y) := by
  rw [← h q y]
  pointwise [k1_pay2]

theorem pay3 (y : Fin 512) : (k1_pay3 (F := Ideal) v (ix2 (0 : Fin 1) y) : EReal) = c 3 (ix1 y) := by
  pointwise [k1_pay3]
  exact pay2 h 3 y

theorem pay4 (y : Fin 512) : (k1_pay4 (F := Ideal) v (ix2 (0 : Fin 1) y) : EReal) = Ideal.sqrt (Ideal.div (c 0 (ix1 y)) (c 3 (ix1 y))) := by
  pointwise [k1_pay4]
  exact congrArg₂ (fun a b => Ideal.sqrt (Ideal.div a b)) (pay2 h 0 y) (pay3 h y)

theorem pay5 (y : Fin 512) : (k1_pay5 (F := Ideal) v (ix2 (0 : Fin 1) y) : EReal) = Ideal.sqrt (Ideal.div (c 1 (ix1 y)) (c 3 (ix1 y))) := by
  pointwise [k1_pay5]
  exact congrArg₂ (fun a b => Ideal.sqrt (Ideal.div a b)) (pay2 h 1 y) (pay3 h y)

theorem pay6 (y : Fin 512) : (k1_pay6 (F := Ideal) v (ix2 (0 : Fin 1) y) : EReal) = Ideal.sqrt (c 4 (ix1 y)) := by
  pointwise [k1_pay6]
  exact congrArg Ideal.sqrt (pay2 h 4 y)

theorem pay7 (y : Fin 512) : (k1_pay7 (F := Ideal) v (ix2 (0 : Fin 1) y) : EReal) = Ideal.sqrt (c 5 (ix1 y)) := by
  pointwise [k1_pay7]
  exact congrArg Ideal.sqrt (pay2 h 5 y)

theorem slice2 (y : Fin 512) : (extractStridedSlice S1x512 ![2, 0] (k1_pay2 (F := Ideal) v) slices_S7x512_o2_0_S1x512 (ix2 (0 : Fin 1) y) : EReal) = c 2 (ix1 y) := by
  pointwise
  exact pay2 h 2 y

theorem slice6 (y : Fin 512) : (extractStridedSlice S1x512 ![6, 0] (k1_pay2 (F := Ideal) v) slices_S7x512_o6_0_S1x512 (ix2 (0 : Fin 1) y) : EReal) = c 6 (ix1 y) := by
  pointwise
  exact pay2 h 6 y

theorem sum8 : broadcast S1 (k1_pay8 (F := Ideal) v) = one (Host.sqrt (Host.divf (c 0) (c 3))) := by
  have e : (k1_pay8 (F := Ideal) v) = summ (k1_pay4 v) := rfl
  rw [e]
  exact summed _ _ fun y => by rw [pay4 h, root, quot]

theorem sum9 : broadcast S1 (k1_pay9 (F := Ideal) v) = one (Host.divf (Host.sqrt (Host.divf (c 0) (c 3))) (Host.sqrt (Host.divf (c 1) (c 3)))) := by
  have e : (k1_pay9 (F := Ideal) v) = summ (divf (k1_pay4 v) (k1_pay5 v)) := rfl
  rw [e]
  exact summed _ _ fun y => by rw [quot1, pay4 h, pay5 h, quot, root, quot, root, quot]

theorem sum10 : broadcast S1 (k1_pay10 (F := Ideal) v) = one (Host.sqrt (Host.divf (c 2) (c 3))) := by
  have e : (k1_pay10 (F := Ideal) v) = summ (sqrt (divf (extractStridedSlice S1x512 ![2, 0] (k1_pay2 v) slices_S7x512_o2_0_S1x512) (k1_pay3 v))) := rfl
  rw [e]
  exact summed _ _ fun y => by rw [root1, quot1, slice2 h, pay3 h, root, quot]

theorem sum11 : broadcast S1 (k1_pay11 (F := Ideal) v) = one (Host.sqrt (Host.divf (c 1) (c 3))) := by
  have e : (k1_pay11 (F := Ideal) v) = summ (k1_pay5 v) := rfl
  rw [e]
  exact summed _ _ fun y => by rw [pay5 h, root, quot]

theorem sum12 : broadcast S1 (k1_pay12 (F := Ideal) v) = one (Host.sqrt (c 4)) := by
  have e : (k1_pay12 (F := Ideal) v) = summ (k1_pay6 v) := rfl
  rw [e]
  exact summed _ _ fun y => by rw [pay6 h, root]

theorem sum13 : broadcast S1 (k1_pay13 (F := Ideal) v) = one (Host.divf (Host.sqrt (c 4)) (Host.sqrt (c 5))) := by
  have e : (k1_pay13 (F := Ideal) v) = summ (divf (k1_pay6 v) (k1_pay7 v)) := rfl
  rw [e]
  exact summed _ _ fun y => by rw [quot1, pay6 h, pay7 h, quot, root, root]

theorem sum14 : broadcast S1 (extractAt ![0, 0, 0] (k1_pay14 (F := Ideal) v) inpos_S1x1x1_p0_0_0) = one (Host.sqrt (c 6)) := by
  have e : (extractAt ![0, 0, 0] (k1_pay14 (F := Ideal) v) inpos_S1x1x1_p0_0_0) = summ (sqrt (extractStridedSlice S1x512 ![6, 0] (k1_pay2 v) slices_S7x512_o6_0_S1x512)) := rfl
  rw [e]
  exact summed _ _ fun y => by rw [root1, slice6 h, root]

theorem sum15 : broadcast S1 (extractAt ![0, 0, 0] (shapeCast S1x1x1 (multiReduction .add [1, 2] S1
    (shapeCast S1x1x512 (k1_pay7 (F := Ideal) v) shapeCasts_S1x512_S1x1x512) 0x00000000#32 reduces_S1x1x512_S1 (.inl rfl) rfl)
    shapeCasts_S1_S1x1x1) inpos_S1x1x1_p0_0_0) = one (Host.sqrt (c 5)) := by
  have e : (extractAt ![0, 0, 0] (shapeCast S1x1x1 (multiReduction .add [1, 2] S1
    (shapeCast S1x1x512 (k1_pay7 (F := Ideal) v) shapeCasts_S1x512_S1x1x512) 0x00000000#32 reduces_S1x1x512_S1 (.inl rfl) rfl)
    shapeCasts_S1_S1x1x1) inpos_S1x1x1_p0_0_0) = summ (k1_pay7 v) := rfl
  rw [e]
  exact summed _ _ fun y => by rw [pay7 h, root]

/-- The eight numbers are the reference's eight, taken from the same seven totals. -/
theorem finish_eq : finish (F := Ideal) v = concatenate Cert.ReferenceIdeal.S8 0
    [⟨Cert.ReferenceIdeal.S1, one (Host.sqrt (Host.divf (c 0) (c 3)))⟩,
      ⟨Cert.ReferenceIdeal.S1, one (Host.divf (Host.sqrt (Host.divf (c 0) (c 3))) (Host.sqrt (Host.divf (c 1) (c 3))))⟩,
      ⟨Cert.ReferenceIdeal.S1, one (Host.sqrt (Host.divf (c 2) (c 3)))⟩,
      ⟨Cert.ReferenceIdeal.S1, one (Host.sqrt (Host.divf (c 1) (c 3)))⟩,
      ⟨Cert.ReferenceIdeal.S1, one (Host.sqrt (c 4))⟩,
      ⟨Cert.ReferenceIdeal.S1, one (Host.divf (Host.sqrt (c 4)) (Host.sqrt (c 5)))⟩,
      ⟨Cert.ReferenceIdeal.S1, one (Host.sqrt (c 6))⟩,
      ⟨Cert.ReferenceIdeal.S1, one (Host.sqrt (c 5))⟩]
    Cert.ReferenceIdeal.Facts₀.concatenates_S1_S1_S1_S1_S1_S1_S1_S1_S8_d0 := by
  rw [← sum8 h, ← sum9 h, ← sum10 h, ← sum11 h, ← sum12 h, ← sum13 h, ← sum14 h, ← sum15 h]
  rfl

end Cert.KernelIdeal.Spec

end
-- ==== Proof.Spec.Reference.lean ====
/- The reference's sums over the extended reals: each scatter is the total at a graph. -/
module

public import proofs.«01_k».proof.Proof.Spec.Sums
public import proofs.«01_k».proof.Proof.Spec.Finish

@[expose] public section

noncomputable section

namespace Cert.KernelIdeal.Spec

open Idealize.ShloMosaic
open Cert.ReferenceIdeal (S512 S_ S100000 S100000x1 S100000x3 S3200000 S3200000x1)
open Cert.ReferenceIdeal.Facts₀

/-- The dimensions of a scatter of `n` numbers into the graphs, one id each. -/
abbrev into (n : ℕ) (wf : ScatterDims.WF (⟨1, ![512]⟩ : Shape) (⟨2, ![n, 1]⟩ : Shape) (⟨1, ![n]⟩ : Shape) [] [0] [0] 1) :
    ScatterDims (⟨1, ![512]⟩ : Shape) (⟨2, ![n, 1]⟩ : Shape) (⟨1, ![n]⟩ : Shape) := ⟨[], [0], [0], 1, wf⟩

/-- Where the id of item `j` stands. -/
def idOf {n : ℕ} (j : (⟨1, ![n]⟩ : Shape).Idx) : (⟨2, ![n, 1]⟩ : Shape).Idx := ix2 (j 0) 0

/-- A number lands at the graph its id names. -/
theorem lands {n : ℕ} (wf) (j : (⟨1, ![n]⟩ : Shape).Idx) (I : IVec (⟨2, ![n, 1]⟩ : Shape) 32) (hI : (I (idOf j)).toNat < 512)
    (y : (⟨1, ![512]⟩ : Shape).Idx) : (into n wf).resultIdx? j I = some y ↔ (I (idOf j)).toNat = (y 0).val := by
  have hs : (into n wf).siIdx j ⟨0, Nat.one_pos⟩ = idOf j := by
    funext b
    apply Fin.ext
    fin_cases b <;> rfl
  have hw : (into n wf).window j 0 = 0 := rfl
  have ht : (into n wf).start j I 0 = ((I (idOf j)).toNat : ℤ) := by
    have e : (into n wf).start j I 0 = (I ((into n wf).siIdx j ⟨0, Nat.one_pos⟩)).toInt := rfl
    rw [e, hs, BitVec.toInt_eq_toNat_cond, if_pos (by omega)]
  have hy : (y 0).val < 512 := (y 0).isLt
  unfold ScatterDims.resultIdx?
  split
  · rename_i hin
    refine Option.some_inj.trans ⟨fun e => ?_, fun e => funext fun a => Fin.ext ?_⟩
    · have e0 : ((into n wf).start j I 0 + ((into n wf).window j 0 : ℤ)).toNat = (y 0).val := congrArg Fin.val (congrFun e 0)
      rw [hw, ht] at e0
      omega
    · obtain rfl := Fin.eq_zero a
      show ((into n wf).start j I 0 + ((into n wf).window j 0 : ℤ)).toNat = (y 0).val
      rw [hw, ht]
      omega
  · rename_i hout
    refine absurd (fun a => ?_) hout
    obtain rfl := Fin.eq_zero a
    show 0 ≤ (into n wf).start j I 0 + ((into n wf).window j 0 : ℤ) ∧ (into n wf).start j I 0 + ((into n wf).window j 0 : ℤ) < 512
    rw [hw, ht]
    omega

/-- A scatter onto zeros is the total at each graph. -/
theorem scatter_total {n : ℕ} (wf) (z : FVec Ideal (⟨1, ![512]⟩ : Shape) .f32) (hz : ∀ y, z y = (0 : EReal))
    (I : IVec (⟨2, ![n, 1]⟩ : Shape) 32) (g : (⟨1, ![n]⟩ : Shape).Idx → BitVec 32) (hg : ∀ j : (⟨1, ![n]⟩ : Shape).Idx, I (idOf j) = g j)
    (hlt : ∀ j, (g j).toNat < 512) (u : FVec Ideal (⟨1, ![n]⟩ : Shape) .f32) (y : (⟨1, ![512]⟩ : Shape).Idx) :
    Host.scatterAdd (into n wf) z I u y = total g u (y 0).val := by
  show z y + ∑ j ∈ Finset.univ.filter (fun j => (into n wf).resultIdx? j I = some y), (u j : EReal) = _
  rw [hz, zero_add, Finset.sum_filter]
  unfold total
  refine Finset.sum_congr rfl fun j _ => ?_
  have hj := lands wf j I (by rw [hg]; exact hlt j) y
  rw [hg] at hj
  simp only [hj]

/-- The nodes' scatter. -/
theorem node_total (g : IVec S100000 32) (hg : ∀ j, (g j).toNat < 512) (u : FVec Ideal S100000 .f32) :
    Host.scatterAdd Cert.ReferenceIdeal.scatter_S512_S100000x1_S100000_n_0_0_1
      (broadcastInDim S512 ![] bcast_S_S512 (constant (F := Ideal) S_ .f32 0x00000000#32))
      (broadcastInDim S100000x1 ![0] bcast_S100000_S100000x1_0 g) u = fun y => total g u (y 0).val :=
  funext fun y => scatter_total _ _ (fun _ => Ideal.ofBits_zero_f32) _ g
    (fun j => congrArg g (funext fun a => by obtain rfl := Fin.eq_zero a; exact Fin.ext rfl)) hg u y

/-- The edges' scatter. -/
theorem edge_total (g : IVec S3200000 32) (hg : ∀ j, (g j).toNat < 512) (u : FVec Ideal S3200000 .f32) :
    Host.scatterAdd Cert.ReferenceIdeal.scatter_S512_S3200000x1_S3200000_n_0_0_1
      (broadcastInDim S512 ![] bcast_S_S512 (constant (F := Ideal) S_ .f32 0x00000000#32))
      (broadcastInDim S3200000x1 ![0] bcast_S3200000_S3200000x1_0 g) u = fun y => total g u (y 0).val :=
  funext fun y => scatter_total _ _ (fun _ => Ideal.ofBits_zero_f32) _ g
    (fun j => congrArg g (funext fun a => by obtain rfl := Fin.eq_zero a; exact Fin.ext rfl)) hg u y

/-- A node's sum over its three coordinates. -/
theorem node_sum (v : FVec Ideal S100000x3 .f32) (j : S100000.Idx) :
    (Host.reduceAdd v (constant S_ .f32 0x00000000#32) reducesTo_S100000x3_S100000_d1 Cert.ReferenceIdeal.Facts₀.h_S_ j : EReal)
      = v (ix2 (j 0) (0 : Fin 3)) + v (ix2 (j 0) (1 : Fin 3)) + v (ix2 (j 0) (2 : Fin 3)) := by
  pointwise
  rw [Fin.sum_univ_three]

end Cert.KernelIdeal.Spec

end
-- ==== Proof.Spec.Tiles.lean ====
/- The partial sums added up over the tiles: each of the seven quantities is its total at a graph. -/
module

public import proofs.«01_k».proof.Proof.Spec.Reference

@[expose] public section

noncomputable section

namespace Cert.KernelIdeal.Spec

open Cert.KernelIdeal Cert.KernelIdeal.Gen Cert.KernelIdeal.Run Cert.KernelIdeal.Tile Cert.KernelIdeal.Finish Cert.KernelIdeal.Whole
open Cert.KernelIdeal.Frames (flatPad idPad)

open Idealize.ShloMosaic

variable (N : NodeArrs Ideal) (E : EdgeVals Ideal)

/-- The partials of a quantity, added up: once over all the items the tiles go through. -/
theorem part_sum (q : Fin 7) (y : Fin 528) (n : ℕ) (ids : ℕ → ℕ → IVec S16 32) (val : ℕ → ℕ → FVec Ideal S16 .f32)
    (hq : ∀ w : ℕ, accsOf w N E q = steps (ids w) (val w) n) (f : ℕ → EReal)
    (hf : ∀ w j (l : S16.Idx), w < 32 → j < n → (l 0).val < 16 →
      (if (ids w j l).toNat = y.val then (val w j l : EReal) else 0) = f (w * (n * 16) + (j * 16 + (l 0).val))) :
    ∑ w : Fin 32, (parts N E (ix3 w q y) : EReal) = ∑ i ∈ Finset.range (32 * (n * 16)), f i := by
  rw [← sum_tiles f n, Finset.sum_range (n := 32)]
  refine Finset.sum_congr rfl fun w _ => ?_
  have e : parts N E (ix3 w q y) = laneSum (accsOf w.val N E q) y := rfl
  rw [e, laneSum_sum, hq]
  refine Finset.sum_congr rfl fun l hl => ?_
  have hl16 : l < 16 := Finset.mem_range.mp hl
  rw [steps_sum]
  refine Finset.sum_congr rfl fun j hj => ?_
  have hv : ((lane (ValueIdx.ix2 (⟨l % 16, Nat.mod_lt _ (by omega)⟩ : Fin 16) y)) 0).val = l := Nat.mod_eq_of_lt hl16
  have h := hf w.val j (lane (ValueIdx.ix2 (⟨l % 16, Nat.mod_lt _ (by omega)⟩ : Fin 16) y)) w.isLt (Finset.mem_range.mp hj) (by rw [hv]; exact hl16)
  rw [hv] at h
  exact h

/-! ## The edges -/

theorem edge_place (w j l : ℕ) : w * (6250 * 16) + (j * 16 + l) = w * 100000 + 16 * j + l := by omega

theorem edge_sum (q : Fin 7) (y : Fin 528) (val : ℕ → ℕ → FVec Ideal S16 .f32)
    (hq : ∀ w : ℕ, accsOf w N E q = steps (eAt E.g w) (val w) 6250) (u : S3200000.Idx → EReal)
    (hu : ∀ w j (l : S16.Idx), (val w j l : EReal) = u (at1 pos_e (w * 100000 + 16 * j + (l 0).val))) :
    ∑ w : Fin 32, (parts N E (ix3 w q y) : EReal) = total E.g u y.val := by
  unfold total
  rw [sum_idx pos_e]
  refine part_sum N E q y 6250 (fun w => eAt E.g w) val hq (fun i => if (E.g (at1 pos_e i)).toNat = y.val then u (at1 pos_e i) else 0) ?_
  intro w j l _ _ _
  rw [edge_place, hu]
  rfl

/-! ## The nodes -/

theorem node_item (q : Fin 7) (y : Fin 528) (val : ℕ → ℕ → FVec Ideal S16 .f32)
    (hq : ∀ w : ℕ, accsOf w N E q = steps (nGr (nodesOf w N).g) (val w) 196) (u : ℕ → EReal)
    (hu : ∀ w j (l : S16.Idx), w < 32 → j < 196 → (l 0).val < 16 → (val w j l : EReal) = u (w * (196 * 16) + (j * 16 + (l 0).val))) :
    ∑ w : Fin 32, (parts N E (ix3 w q y) : EReal)
      = ∑ i ∈ Finset.range (32 * (196 * 16)), if (N.g (at1 pos_pn i)).toNat = y.val then u i else 0 := by
  refine part_sum N E q y 196 (fun w => nGr (nodesOf w N).g) val hq (fun i => if (N.g (at1 pos_pn i)).toNat = y.val then u i else 0) ?_
  intro w j l hw hj hl
  have e : nGr (nodesOf w N).g j l = N.g (at1 pos_pn (w * (196 * 16) + (j * 16 + (l 0).val))) := by
    show N.g (at1 pos_pn (w * 3136 + (at1 pos_n (16 * j + (l 0).val) 0).val)) = _
    rw [at1_val pos_n _ (by omega)]
    congr 2
    omega
  rw [e, hu w j l hw hj hl]

/-- A coordinate of a tile's node is a coordinate of the node. -/
theorem node_coord (v : S301056.Idx → EReal) (w j c : ℕ) (l : S16.Idx) (hj : j < 196) (hl : (l 0).val < 16) (hc : c < 3) :
    nCo (fun x : S9408.Idx => v (at1 pos_px (w * 9408 + (x 0).val))) c j l
      = v (at1 pos_px (3 * (w * (196 * 16) + (j * 16 + (l 0).val)) + c)) := by
  show v (at1 pos_px (w * 9408 + (at1 pos_x (3 * (16 * j + (l 0).val) + c) 0).val)) = _
  rw [at1_val pos_x _ (by omega)]
  congr 2
  omega

theorem pos_v : ∀ a, 0 < S100000.size a := fun a => by rw [Fin.eq_zero a]; decide

theorem at1_ix1 {n : ℕ} (h : ∀ a, 0 < (⟨1, ![n]⟩ : Shape).size a) (k : ℕ) (hk : k < n) : at1 (s := ⟨1, ![n]⟩) h k = ix1 (⟨k, hk⟩ : Fin n) :=
  (eq_at1 h (ix1 (⟨k, hk⟩ : Fin n)) k rfl).symm

theorem idPad_in (g : S100000.Idx → BitVec 32) (i : ℕ) (hi : i < 100000) : idPad g (at1 pos_pn i) = g (at1 pos_v i) := by
  rw [at1_ix1 pos_pn i (by omega), at1_ix1 pos_v i hi]
  pointwise [idPad]
  exact dif_pos hi

theorem idPad_out (g : S100000.Idx → BitVec 32) (i : ℕ) (hi : 100000 ≤ i) (hi' : i < 100352) : idPad g (at1 pos_pn i) = 512#32 := by
  rw [at1_ix1 pos_pn i hi']
  pointwise [idPad]
  exact dif_neg (by omega)

theorem flatPad_in (v : FVec Ideal S100000x3 .f32) (i c : ℕ) (hi : i < 100000) (hc : c < 3) :
    (flatPad v (at1 pos_px (3 * i + c)) : EReal) = v (ix2 (⟨i, hi⟩ : Fin 100000) (⟨c, hc⟩ : Fin 3)) := by
  rw [at1_ix1 pos_px (3 * i + c) (by omega)]
  pointwise [flatPad]
  rw [dif_pos (show 3 * i + c < 300000 by omega)]
  congr 2
  · exact Fin.ext (show (3 * i + c) / 3 = i by omega)
  · exact Fin.ext (show (3 * i + c) % 3 = c by omega)

/-- The padding's nodes lie at no graph, so the nodes' sum is the total over the nodes. -/
theorem node_total_of (g : S100000.Idx → BitVec 32) (y : ℕ) (hy : y < 512) (u : ℕ → EReal) (v : S100000.Idx → EReal)
    (huv : ∀ i, i < 100000 → u i = v (at1 pos_v i)) :
    (∑ i ∈ Finset.range (32 * (196 * 16)), if (idPad g (at1 pos_pn i)).toNat = y then u i else 0) = total g v y := by
  unfold total
  rw [sum_idx pos_v, show 32 * (196 * 16) = 100000 + 352 from rfl, Finset.sum_range_add]
  have h0 : ∑ i ∈ Finset.range 352, (if (idPad g (at1 pos_pn (100000 + i))).toNat = y then u (100000 + i) else 0) = 0 := by
    refine Finset.sum_eq_zero fun i hi => if_neg ?_
    have := Finset.mem_range.mp hi
    rw [idPad_out g (100000 + i) (by omega) (by omega)]
    show ¬ 512 = y
    omega
  rw [h0, add_zero]
  refine Finset.sum_congr rfl fun i hi => ?_
  have hi' := Finset.mem_range.mp hi
  rw [idPad_in g i hi', huv i hi']

/-- A quantity of the nodes, added up: the total of what one node gives. -/
theorem node_adds (a0 a2 : FVec Ideal S100000x3 .f32) (g : S100000.Idx → BitVec 32) (q : Fin 7) (y : Fin 528) (hy : y.val < 512)
    (val : ℕ → ℕ → FVec Ideal S16 .f32) (give : (Fin 3 → EReal) → (Fin 3 → EReal) → EReal)
    (hq : ∀ w : ℕ, accsOf w ⟨flatPad a0, flatPad a2, idPad g⟩ E q
      = steps (nGr (nodesOf w (⟨flatPad a0, flatPad a2, idPad g⟩ : NodeArrs Ideal)).g) (val w) 196)
    (hval : ∀ w j l, (val w j l : EReal)
      = give (fun c => nCo (nodesOf w (⟨flatPad a0, flatPad a2, idPad g⟩ : NodeArrs Ideal)).x c.val j l)
          (fun c => nCo (nodesOf w (⟨flatPad a0, flatPad a2, idPad g⟩ : NodeArrs Ideal)).y c.val j l))
    (v : FVec Ideal S100000 .f32)
    (hv : ∀ i : Fin 100000, (v (ix1 i) : EReal) = give (fun c => a0 (ix2 i c)) (fun c => a2 (ix2 i c))) :
    ∑ w : Fin 32, (parts ⟨flatPad a0, flatPad a2, idPad g⟩ E (ix3 w q y) : EReal) = total g v y.val := by
  rw [node_item ⟨flatPad a0, flatPad a2, idPad g⟩ E q y val hq
    (fun i => give (fun c => flatPad a0 (at1 pos_px (3 * i + c.val))) (fun c => flatPad a2 (at1 pos_px (3 * i + c.val)))) ?_]
  · refine node_total_of g y.val hy _ v fun i hi => ?_
    rw [at1_ix1 pos_v i hi, hv ⟨i, hi⟩]
    exact congrArg₂ give (funext fun c => flatPad_in a0 i c.val hi c.isLt) (funext fun c => flatPad_in a2 i c.val hi c.isLt)
  · intro w j l _ hj hl
    rw [hval]
    exact congrArg₂ give (funext fun c => node_coord (flatPad a0) w j c.val l hj hl c.isLt)
      (funext fun c => node_coord (flatPad a2) w j c.val l hj hl c.isLt)

end Cert.KernelIdeal.Spec

end
-- ==== Proof.Spec.Value.lean ====
/- The value: the kernel's eight numbers are the reference's. -/
module

public import proofs.«01_k».proof.Proof.Spec.Tiles

@[expose] public section

noncomputable section

namespace Cert.KernelIdeal.Spec

open Cert.KernelIdeal Cert.KernelIdeal.Gen Cert.KernelIdeal.Run Cert.KernelIdeal.Tile Cert.KernelIdeal.Finish Cert.KernelIdeal.Whole
open Cert.KernelIdeal.Frames (flatPad idPad)

open Idealize.ShloMosaic Idealize.SL.Sem

variable (a0 a2 : FVec Ideal S100000x3 .f32) (a1 a3 : FVec Ideal S3200000 .f32) (a4 : IVec S3200000 32) (a5 : IVec S100000 32)

open Cert.ReferenceIdeal.Facts₀ in
/-- What a node gives: the sum over its coordinates. -/
def over (v : FVec Ideal Cert.ReferenceIdeal.S100000x3 .f32) : FVec Ideal Cert.ReferenceIdeal.S100000 .f32 :=
  Host.reduceAdd v (constant Cert.ReferenceIdeal.S_ .f32 0x00000000#32) reducesTo_S100000x3_S100000_d1 Cert.ReferenceIdeal.Facts₀.h_S_

open Cert.ReferenceIdeal.Facts₀ in
/-- The ones that are counted. -/
def ones : FVec Ideal Cert.ReferenceIdeal.S100000 .f32 :=
  broadcastInDim Cert.ReferenceIdeal.S100000 ![] bcast_S_S100000 (constant Cert.ReferenceIdeal.S_ .f32 0x3F800000#32)

/-- The seven totals. -/
def totals : Fin 7 → FVec Ideal Cert.ReferenceIdeal.S512 .f32
  | 0 => fun y => total a5 (over (mulf (subf a0 a2) (subf a0 a2))) (y 0).val
  | 1 => fun y => total a5 (over (mulf a2 a2)) (y 0).val
  | 2 => fun y => total a5 (over (mulf a0 a0)) (y 0).val
  | 3 => fun y => total a5 ones (y 0).val
  | 4 => fun y => total a4 (mulf (subf a1 a3) (subf a1 a3)) (y 0).val
  | 5 => fun y => total a4 (mulf a3 a3) (y 0).val
  | 6 => fun y => total a4 (mulf a1 a1) (y 0).val

/-- The partial sums add up to the seven totals. -/
theorem adds : Adds (parts ⟨flatPad a0, flatPad a2, idPad a5⟩ ⟨a1, a3, a4⟩) (totals a0 a2 a1 a3 a4 a5) := by
  intro q y
  have hy := y.isLt
  fin_cases q
  · exact node_adds ⟨a1, a3, a4⟩ a0 a2 a5 0 ⟨y.val, by omega⟩ hy _
      (fun x t => (x 0 - t 0) * (x 0 - t 0) + (x 1 - t 1) * (x 1 - t 1) + (x 2 - t 2) * (x 2 - t 2)) (fun _ => rfl) (fun _ _ _ => rfl)
      (over (mulf (subf a0 a2) (subf a0 a2))) (fun i => node_sum _ _)
  · exact node_adds ⟨a1, a3, a4⟩ a0 a2 a5 1 ⟨y.val, by omega⟩ hy _
      (fun _ t => t 0 * t 0 + t 1 * t 1 + t 2 * t 2) (fun _ => rfl) (fun _ _ _ => rfl)
      (over (mulf a2 a2)) (fun i => node_sum _ _)
  · exact node_adds ⟨a1, a3, a4⟩ a0 a2 a5 2 ⟨y.val, by omega⟩ hy _
      (fun x _ => x 0 * x 0 + x 1 * x 1 + x 2 * x 2) (fun _ => rfl) (fun _ _ _ => rfl)
      (over (mulf a0 a0)) (fun i => node_sum _ _)
  · exact node_adds ⟨a1, a3, a4⟩ a0 a2 a5 3 ⟨y.val, by omega⟩ hy _
      (fun _ _ => Ideal.ofBits .f32 0x3F800000#32) (fun _ => rfl) (fun _ _ _ => rfl) ones (fun i => rfl)
  · exact edge_sum ⟨flatPad a0, flatPad a2, idPad a5⟩ ⟨a1, a3, a4⟩ 4 ⟨y.val, by omega⟩ _ (fun _ => rfl)
      (mulf (subf a1 a3) (subf a1 a3)) (fun _ _ _ => rfl)
  · exact edge_sum ⟨flatPad a0, flatPad a2, idPad a5⟩ ⟨a1, a3, a4⟩ 5 ⟨y.val, by omega⟩ _ (fun _ => rfl) (mulf a3 a3) (fun _ _ _ => rfl)
  · exact edge_sum ⟨flatPad a0, flatPad a2, idPad a5⟩ ⟨a1, a3, a4⟩ 6 ⟨y.val, by omega⟩ _ (fun _ => rfl) (mulf a1 a1) (fun _ _ _ => rfl)

open Cert.ReferenceIdeal.Facts₀ in
/-- The reference's sum over the nodes of each graph. -/
def nodeSum (g : IVec Cert.ReferenceIdeal.S100000 32) (u : FVec Ideal Cert.ReferenceIdeal.S100000 .f32) : FVec Ideal Cert.ReferenceIdeal.S512 .f32 :=
  Host.scatterAdd Cert.ReferenceIdeal.scatter_S512_S100000x1_S100000_n_0_0_1
    (broadcastInDim Cert.ReferenceIdeal.S512 ![] bcast_S_S512 (constant (F := Ideal) Cert.ReferenceIdeal.S_ .f32 0x00000000#32))
    (broadcastInDim Cert.ReferenceIdeal.S100000x1 ![0] bcast_S100000_S100000x1_0 g) u

open Cert.ReferenceIdeal.Facts₀ in
/-- The reference's sum over the edges of each graph. -/
def edgeSum (g : IVec Cert.ReferenceIdeal.S3200000 32) (u : FVec Ideal Cert.ReferenceIdeal.S3200000 .f32) : FVec Ideal Cert.ReferenceIdeal.S512 .f32 :=
  Host.scatterAdd Cert.ReferenceIdeal.scatter_S512_S3200000x1_S3200000_n_0_0_1
    (broadcastInDim Cert.ReferenceIdeal.S512 ![] bcast_S_S512 (constant (F := Ideal) Cert.ReferenceIdeal.S_ .f32 0x00000000#32))
    (broadcastInDim Cert.ReferenceIdeal.S3200000x1 ![0] bcast_S3200000_S3200000x1_0 g) u

/-- The reference's result, out of the seven totals. -/
theorem reference_eq (m' : (ℓ : Loc Cert.ReferenceIdeal.nD Cert.ReferenceIdeal.τ Cert.ReferenceIdeal.sig) → Buf (Elt Ideal) ℓ)
    (c : Dev Cert.ReferenceIdeal.nD)
    (e0 : m' ((c.tc : Thread Cert.ReferenceIdeal.nD Cert.ReferenceIdeal.τ).loc Cert.ReferenceIdeal.main_arg0) = a0)
    (e1 : m' ((c.tc : Thread Cert.ReferenceIdeal.nD Cert.ReferenceIdeal.τ).loc Cert.ReferenceIdeal.main_arg1) = a1)
    (e2 : m' ((c.tc : Thread Cert.ReferenceIdeal.nD Cert.ReferenceIdeal.τ).loc Cert.ReferenceIdeal.main_arg2) = a2)
    (e3 : m' ((c.tc : Thread Cert.ReferenceIdeal.nD Cert.ReferenceIdeal.τ).loc Cert.ReferenceIdeal.main_arg3) = a3)
    (e4 : m' ((c.tc : Thread Cert.ReferenceIdeal.nD Cert.ReferenceIdeal.τ).loc Cert.ReferenceIdeal.main_arg4) = a4)
    (e5 : m' ((c.tc : Thread Cert.ReferenceIdeal.nD Cert.ReferenceIdeal.τ).loc Cert.ReferenceIdeal.main_arg5) = a5)
    (h4 : ∀ x, (a4 x).toNat < 512) (h5 : ∀ x, (a5 x).toNat < 512) :
    Cert.ReferenceIdeal.Value.res_main_v68 m' c
      = finish (F := Ideal) (parts ⟨flatPad a0, flatPad a2, idPad a5⟩ ⟨a1, a3, a4⟩) := by
  rw [finish_eq (adds a0 a2 a1 a3 a4 a5)]
  unfold Cert.ReferenceIdeal.Value.res_main_v68
  rw [e0, e1, e2, e3, e4, e5]
  have n0 : totals a0 a2 a1 a3 a4 a5 0 = nodeSum a5 (over (mulf (subf a0 a2) (subf a0 a2))) := (node_total a5 h5 _).symm
  have n1 : totals a0 a2 a1 a3 a4 a5 1 = nodeSum a5 (over (mulf a2 a2)) := (node_total a5 h5 _).symm
  have n2 : totals a0 a2 a1 a3 a4 a5 2 = nodeSum a5 (over (mulf a0 a0)) := (node_total a5 h5 _).symm
  have n3 : totals a0 a2 a1 a3 a4 a5 3 = nodeSum a5 ones := (node_total a5 h5 _).symm
  have n4 : totals a0 a2 a1 a3 a4 a5 4 = edgeSum a4 (mulf (subf a1 a3) (subf a1 a3)) := (edge_total a4 h4 _).symm
  have n5 : totals a0 a2 a1 a3 a4 a5 5 = edgeSum a4 (mulf a3 a3) := (edge_total a4 h4 _).symm
  have n6 : totals a0 a2 a1 a3 a4 a5 6 = edgeSum a4 (mulf a1 a1) := (edge_total a4 h4 _).symm
  rw [n0, n1, n2, n3, n4, n5, n6]
  rfl

/-- `Cert.algebraic_KernelIdeal_ReferenceIdeal` (Defs.lean): the two programs leave the same eight numbers. -/
theorem same_value : Cert.algebraic_KernelIdeal_ReferenceIdeal := fun m g m' g' hpre he =>
  ⟨fun c => Res m c,
    (θ_run Cert.KernelIdeal.defs _ _).mono (fun _ h c => ⟨h.1 c, h.2.1.a0 c, h.2.1.a1 c, h.2.1.a2 c, h.2.1.a3 c, h.2.1.a4 c, h.2.1.a5 c,
      h.2.1.a6 c, h.2.1.a7 c, h.2.1.a8 c⟩) (Frames.run_read (F := Ideal) m g (Frames.fit_of_pre m hpre)),
    (θ_run Cert.ReferenceIdeal.defs _ _).mono (fun _ h c => ⟨(h c).1.trans (by
        obtain ⟨e0, e1, e2, e3, e4, e5, -⟩ := he c
        obtain ⟨h4, h5⟩ := Frames.ids_lt _ _ _ _ _ _ _ _ _ (hpre c)
        rw [reference_eq _ _ _ _ _ _ m' c e0 e1 e2 e3 e4 e5 h4 h5]
        show _ = finish (F := Ideal) (parts (Ns m c) (Es m c))
        rw [Frames.Ns_eq, Frames.Es_eq]), (h c).2⟩)
      (Cert.ReferenceIdeal.Value.run (F := Ideal) m' g')⟩

end Cert.KernelIdeal.Spec

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Launch.Same
public import proofs.«01_k».proof.Proof.Spec.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  Cert.KernelIdeal.Frames.frame_kernel, Cert.KernelIdeal.Frames.frame_kernelIdeal, Cert.KernelIdeal.Frames.frame_reference,
  fun m ρ _ => Cert.KernelIdeal.Frames.frame_reference m ρ trivial, trivial, Cert.KernelIdeal.Spec.same_value⟩

end Cert.Proof

end
